-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_laid_out : Cert.Pre_laid_out.Facts] (m : (ℓ : Loc Cert.Kernel2.nD Cert.Kernel2.τ Cert.Kernel2.sig) → Buf (Elt Bits) ℓ) : Prop :=
  ∀ c : Dev Cert.Kernel2.nD,
    (Cert.Pre_laid_out.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_laid_out : Cert.Pre_laid_out.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_laid_out.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_laid_out [hPre_laid_out : Cert.Pre_laid_out.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_laid_out.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_laid_out : Cert.Pre_laid_out.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_laid_out : Cert.Pre_laid_out.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_laid_out [hReference2Ideal : Cert.Reference2Ideal.Facts] [hPre_laid_out : Cert.Pre_laid_out.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_laid_out m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_on_in_busy_tile [hKernel2Ideal : Cert.Kernel2Ideal.Facts] [hReference2Ideal : Cert.Reference2Ideal.Facts] [hPre_laid_out : Cert.Pre_laid_out.Facts] [hOn_in_busy_tile : Cert.On_in_busy_tile.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![40960, 1024]⟩ : Shape).Idx, (Cert.On_in_busy_tile.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![40960, 1024]⟩ : Shape).Idx, (Cert.On_in_busy_tile.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Reference2Ideal.nD Cert.Reference2Ideal.τ).loc Cert.Reference2Ideal.main_v29) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v68) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v18_0)) (v1 : (c : Dev Cert.Kernel5Ideal.nD) → Buf (Elt Ideal) ((c.tc : Thread Cert.Kernel5Ideal.nD Cert.Kernel5Ideal.τ).loc Cert.Kernel5Ideal.main_v18_1)) (v2 : (c : Dev Cert.Kernel5Ideal.nD) → Buf (Elt Ideal) ((c.tc : Thread Cert.Kernel5Ideal.nD Cert.Kernel5Ideal.τ).loc Cert.Kernel5Ideal.main_v18_2)) (v3 : (c : Dev Cert.Kernel5Ideal.nD) → Buf (Elt Ideal) ((c.tc : Thread Cert.Kernel5Ideal.nD Cert.Kernel5Ideal.τ).loc Cert.Kernel5Ideal.main_v18_3)) (v4 : (c : Dev Cert.Kernel5Ideal.nD) → Buf (Elt Ideal) ((c.tc : Thread Cert.Kernel5Ideal.nD Cert.Kernel5Ideal.τ).loc Cert.Kernel5Ideal.main_v20)) (v5 : (c : Dev Cert.Kernel5Ideal.nD) → Buf (Elt Ideal) ((c.tc : Thread Cert.Kernel5Ideal.nD Cert.Kernel5Ideal.τ).loc Cert.Kernel5Ideal.main_v22)) (v6 : (c : Dev Cert.Kernel5Ideal.nD) → Buf (Elt Ideal) ((c.tc : Thread Cert.Kernel5Ideal.nD Cert.Kernel5Ideal.τ).loc Cert.Kernel5Ideal.main_v24)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18_0) = v0 c
          ∧ r.2.mem ((c.tc : Thread Cert.Kernel5Ideal.nD Cert.Kernel5Ideal.τ).loc Cert.Kernel5Ideal.main_v18_1) = v1 c
          ∧ r.2.mem ((c.tc : Thread Cert.Kernel5Ideal.nD Cert.Kernel5Ideal.τ).loc Cert.Kernel5Ideal.main_v18_2) = v2 c
          ∧ r.2.mem ((c.tc : Thread Cert.Kernel5Ideal.nD Cert.Kernel5Ideal.τ).loc Cert.Kernel5Ideal.main_v18_3) = v3 c
          ∧ r.2.mem ((c.tc : Thread Cert.Kernel5Ideal.nD Cert.Kernel5Ideal.τ).loc Cert.Kernel5Ideal.main_v20) = v4 c
          ∧ r.2.mem ((c.tc : Thread Cert.Kernel5Ideal.nD Cert.Kernel5Ideal.τ).loc Cert.Kernel5Ideal.main_v22) = v5 c
          ∧ r.2.mem ((c.tc : Thread Cert.Kernel5Ideal.nD Cert.Kernel5Ideal.τ).loc Cert.Kernel5Ideal.main_v24) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v56) = v0 c
          ∧ r.2.mem ((c.tc : Thread Cert.Reference5Ideal.nD Cert.Reference5Ideal.τ).loc Cert.Reference5Ideal.main_v60) = v1 c
          ∧ r.2.mem ((c.tc : Thread Cert.Reference5Ideal.nD Cert.Reference5Ideal.τ).loc Cert.Reference5Ideal.main_v61) = v2 c
          ∧ r.2.mem ((c.tc : Thread Cert.Reference5Ideal.nD Cert.Reference5Ideal.τ).loc Cert.Reference5Ideal.main_v62) = v3 c
          ∧ r.2.mem ((c.tc : Thread Cert.Reference5Ideal.nD Cert.Reference5Ideal.τ).loc Cert.Reference5Ideal.main_v63) = v4 c
          ∧ r.2.mem ((c.tc : Thread Cert.Reference5Ideal.nD Cert.Reference5Ideal.τ).loc Cert.Reference5Ideal.main_v64) = v5 c
          ∧ r.2.mem ((c.tc : Thread Cert.Reference5Ideal.nD Cert.Reference5Ideal.τ).loc Cert.Reference5Ideal.main_v65) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v15_0)) (v1 : (c : Dev Cert.Kernel7Ideal.nD) → Buf (Elt Ideal) ((c.tc : Thread Cert.Kernel7Ideal.nD Cert.Kernel7Ideal.τ).loc Cert.Kernel7Ideal.main_v15_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15_0) = v0 c
          ∧ r.2.mem ((c.tc : Thread Cert.Kernel7Ideal.nD Cert.Kernel7Ideal.τ).loc Cert.Kernel7Ideal.main_v15_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v70) = v0 c
          ∧ r.2.mem ((c.tc : Thread Cert.Reference7Ideal.nD Cert.Reference7Ideal.τ).loc Cert.Reference7Ideal.main_v72) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v60) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v18_1)) (v1 : (c : Dev Cert.Kernel9Ideal.nD) → Buf (Elt Ideal) ((c.tc : Thread Cert.Kernel9Ideal.nD Cert.Kernel9Ideal.τ).loc Cert.Kernel9Ideal.main_v21)) (v2 : (c : Dev Cert.Kernel9Ideal.nD) → Buf (Elt Ideal) ((c.tc : Thread Cert.Kernel9Ideal.nD Cert.Kernel9Ideal.τ).loc Cert.Kernel9Ideal.main_v24)) (v3 : (c : Dev Cert.Kernel9Ideal.nD) → Buf (Elt Ideal) ((c.tc : Thread Cert.Kernel9Ideal.nD Cert.Kernel9Ideal.τ).loc Cert.Kernel9Ideal.main_v27)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v18_1) = v0 c
          ∧ r.2.mem ((c.tc : Thread Cert.Kernel9Ideal.nD Cert.Kernel9Ideal.τ).loc Cert.Kernel9Ideal.main_v21) = v1 c
          ∧ r.2.mem ((c.tc : Thread Cert.Kernel9Ideal.nD Cert.Kernel9Ideal.τ).loc Cert.Kernel9Ideal.main_v24) = v2 c
          ∧ r.2.mem ((c.tc : Thread Cert.Kernel9Ideal.nD Cert.Kernel9Ideal.τ).loc Cert.Kernel9Ideal.main_v27) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v58) = v0 c
          ∧ r.2.mem ((c.tc : Thread Cert.Reference9Ideal.nD Cert.Reference9Ideal.τ).loc Cert.Reference9Ideal.main_v61) = v1 c
          ∧ r.2.mem ((c.tc : Thread Cert.Reference9Ideal.nD Cert.Reference9Ideal.τ).loc Cert.Reference9Ideal.main_v64) = v2 c
          ∧ r.2.mem ((c.tc : Thread Cert.Reference9Ideal.nD Cert.Reference9Ideal.τ).loc Cert.Reference9Ideal.main_v67) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_laid_out : Cert.Pre_laid_out.Facts) (hPre_finite : Cert.Pre_finite.Facts) (hPre_finite9 : Cert.Pre_finite9.Facts) (hOn_in_busy_tile : Cert.On_in_busy_tile.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_laid_out := hPre_laid_out)
    ∧ quiescent_Kernel2Ideal (hKernel2Ideal := hKernel2Ideal) (hPre_laid_out := hPre_laid_out)
    ∧ quiescent_Reference2Ideal (hReference2Ideal := hReference2Ideal)
    ∧ quiescent_Reference2Ideal_pre_laid_out (hReference2Ideal := hReference2Ideal) (hPre_laid_out := hPre_laid_out)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_on_in_busy_tile (hKernel2Ideal := hKernel2Ideal) (hReference2Ideal := hReference2Ideal) (hPre_laid_out := hPre_laid_out) (hOn_in_busy_tile := hOn_in_busy_tile)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
-- ==== On_in_busy_tile.lean ====
abbrev S40 : Shape := ⟨1, ![40]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S40x1 : Shape := ⟨2, ![40, 1]⟩
abbrev S40x1024 : Shape := ⟨2, ![40, 1024]⟩
abbrev S40960 : Shape := ⟨1, ![40960]⟩
abbrev S_ : Shape := ⟨0, ![]⟩
abbrev S40960x1 : Shape := ⟨2, ![40960, 1]⟩

class Facts : Prop where
  bcast_S40_S40x1_0 : S40.BroadcastsInDim S40x1 (![0] : Fin 1 → Fin S40x1.rank)
  bcast_S40x1_S40x1024_0_1 : S40x1.BroadcastsInDim S40x1024 (![0, 1] : Fin 2 → Fin S40x1024.rank)
  shapeCasts_S40x1024_S40960 : S40x1024.ShapeCasts S40960
  bcast_S_S40960 : S_.BroadcastsInDim S40960 (![] : Fin 0 → Fin S40960.rank)
  bcast_S40960_S40960x1_0 : S40960.BroadcastsInDim S40960x1 (![0] : Fin 1 → Fin S40960x1.rank)
  bcast_S40960x1_S40960x1024_0_1 : S40960x1.BroadcastsInDim S40960x1024 (![0, 1] : Fin 2 → Fin S40960x1024.rank)

variable [Facts]

def fn {F : FTy → Type} [FloatOps F] (main_arg0 : IVec S40 32) (main_arg1 : IVec S40 32) (main_arg2 : IVec S40 32) (main_arg3 : FVec F S40960x1024 .f32) (main_arg4 : FVec F S8x1024x3584 .f32) (main_arg5 : FVec F S8x1024x3584 .f32) (main_arg6 : FVec F S8x3584x1024 .f32) : IVec S40960x1024 1 :=
  let main_v0 : IVec S40x1 32 := broadcastInDim S40x1 ![0] bcast_S40_S40x1_0 main_arg2
  let main_v1 : IVec S40x1024 32 := broadcastInDim S40x1024 ![0, 1] bcast_S40x1_S40x1024_0_1 main_v0
  let main_v2 : IVec S40960 32 := shapeCast S40960 main_v1 shapeCasts_S40x1024_S40960
  let main_c : IVec S_ 32 := constantI S_ 32 0#32
  let main_v3 : IVec S40960 32 := broadcastInDim S40960 ![] bcast_S_S40960 main_c
  let main_v4 : IVec S40960 1 := cmpi .sgt main_v2 main_v3
  let main_v5 : IVec S40960x1 1 := broadcastInDim S40960x1 ![0] bcast_S40960_S40960x1_0 main_v4
  let main_v6 : IVec S40960x1024 1 := broadcastInDim S40960x1024 ![0, 1] bcast_S40960x1_S40960x1024_0_1 main_v5
  main_v6
-- ==== Pre_finite.lean ====
abbrev S16384x1024 : Shape := ⟨2, ![16384, 1024]⟩
abbrev S1024 : Shape := ⟨1, ![1024]⟩
abbrev S1024x1792 : Shape := ⟨2, ![1024, 1792]⟩
abbrev S64 : Shape := ⟨1, ![64]⟩
abbrev S1024x640 : Shape := ⟨2, ![1024, 640]⟩
abbrev S1024x1 : Shape := ⟨2, ![1024, 1]⟩
abbrev S1024x641 : Shape := ⟨2, ![1024, 641]⟩
abbrev S_ : Shape := ⟨0, ![]⟩

class Facts : Prop where
  slices_S1024x1792_S1024x640_0_1024 : S1024x1792.Slices ![0, 1024] S1024x640
  bcast_S1024_S1024x1_0 : S1024.BroadcastsInDim S1024x1 (![0] : Fin 1 → Fin S1024x1.rank)
  concatenates_S1024x1_S1024x640_S1024x641_d1 : Shape.Concatenates [S1024x1, S1024x640] S1024x641 1
  bcast_S_S1024x641 : S_.BroadcastsInDim S1024x641 (![] : Fin 0 → Fin S1024x641.rank)

variable [Facts]

def fn {F : FTy → Type} [FloatOps F] (main_arg0 : FVec F S16384x1024 .f32) (main_arg1 : FVec F S1024 .f32) (main_arg2 : FVec F S1024x1792 .f32) (main_arg3 : FVec F S64 .f32) (main_arg4 : FVec F S64 .f32) : IVec S1024x641 1 :=
  let main_v0 : FVec F S1024x640 .f32 := (extractStridedSlice S1024x640 ![0, 1024] · slices_S1024x1792_S1024x640_0_1024) main_arg2
  let main_v1 : FVec F S1024x1 .f32 := broadcastInDim S1024x1 ![0] bcast_S1024_S1024x1_0 main_arg1
  let main_v2 : FVec F S1024x641 .f32 := (fun a b => concatenate S1024x641 1 [⟨S1024x1, a⟩, ⟨S1024x640, b⟩] concatenates_S1024x1_S1024x640_S1024x641_d1) main_v1 main_v0
  let main_v3 : FVec F S1024x641 .f32 := Host.absf main_v2
  let main_cst : FVec F S_ .f32 := constant S_ .f32 0x7F800000#32
  let main_v4 : FVec F S1024x641 .f32 := broadcastInDim S1024x641 ![] bcast_S_S1024x641 main_cst
  let main_v5 : IVec S1024x641 1 := cmpf .olt main_v3 main_v4
  main_v5
-- ==== Pre_finite9.lean ====
abbrev S128x1024 : Shape := ⟨2, ![128, 1024]⟩
abbrev S128x30x512 : Shape := ⟨3, ![128, 30, 512]⟩
abbrev S128x128x2x64 : Shape := ⟨4, ![128, 128, 2, 64]⟩
abbrev S1024 : Shape := ⟨1, ![1024]⟩
abbrev S1024x1792 : Shape := ⟨2, ![1024, 1792]⟩
abbrev S64 : Shape := ⟨1, ![64]⟩
abbrev S1024x640 : Shape := ⟨2, ![1024, 640]⟩
abbrev S1024x1 : Shape := ⟨2, ![1024, 1]⟩
abbrev S1024x641 : Shape := ⟨2, ![1024, 641]⟩
abbrev S_ : Shape := ⟨0, ![]⟩

class Facts : Prop where
  slices_S1024x1792_S1024x640_0_1024 : S1024x1792.Slices ![0, 1024] S1024x640
  bcast_S1024_S1024x1_0 : S1024.BroadcastsInDim S1024x1 (![0] : Fin 1 → Fin S1024x1.rank)
  concatenates_S1024x1_S1024x640_S1024x641_d1 : Shape.Concatenates [S1024x1, S1024x640] S1024x641 1
  bcast_S_S1024x641 : S_.BroadcastsInDim S1024x641 (![] : Fin 0 → Fin S1024x641.rank)

variable [Facts]

def fn {F : FTy → Type} [FloatOps F] (main_arg0 : FVec F S128x1024 .f32) (main_arg1 : FVec F S128x30x512 .f32) (main_arg2 : FVec F S128x128x2x64 .f32) (main_arg3 : FVec F S128x128x2x64 .f32) (main_arg4 : FVec F S1024 .f32) (main_arg5 : FVec F S1024x1792 .f32) (main_arg6 : FVec F S64 .f32) (main_arg7 : FVec F S64 .f32) : IVec S1024x641 1 :=
  let main_v0 : FVec F S1024x640 .f32 := (extractStridedSlice S1024x640 ![0, 1024] · slices_S1024x1792_S1024x640_0_1024) main_arg5
  let main_v1 : FVec F S1024x1 .f32 := broadcastInDim S1024x1 ![0] bcast_S1024_S1024x1_0 main_arg4
  let main_v2 : FVec F S1024x641 .f32 := (fun a b => concatenate S1024x641 1 [⟨S1024x1, a⟩, ⟨S1024x640, b⟩] concatenates_S1024x1_S1024x640_S1024x641_d1) main_v1 main_v0
  let main_v3 : FVec F S1024x641 .f32 := Host.absf main_v2
  let main_cst : FVec F S_ .f32 := constant S_ .f32 0x7F800000#32
  let main_v4 : FVec F S1024x641 .f32 := broadcastInDim S1024x641 ![] bcast_S_S1024x641 main_cst
  let main_v5 : IVec S1024x641 1 := cmpf .olt main_v3 main_v4
  main_v5
-- ==== Pre_laid_out.lean ====
abbrev S40 : Shape := ⟨1, ![40]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S1 : Shape := ⟨1, ![1]⟩
abbrev S39 : Shape := ⟨1, ![39]⟩
abbrev S_ : Shape := ⟨0, ![]⟩

class Facts : Prop where
  slices_S40_S1_0 : S40.Slices ![0] S1
  slices_S40_S39_0 : S40.Slices ![0] S39
  concatenates_S1_S39_S40_d0 : Shape.Concatenates [S1, S39] S40 0
  bcast_S_S40 : S_.BroadcastsInDim S40 (![] : Fin 0 → Fin S40.rank)

variable [Facts]

def fn_part1 {F : FTy → Type} [FloatOps F] (main_arg0 : IVec S40 32) (main_v15 : IVec S40 1) (main_v17 : IVec S40 1) (main_v18 : IVec S40 32) : IVec S40 1 :=
  let main_v19 : IVec S40 1 := cmpi .slt main_arg0 main_v18
  let main_v20 : IVec S40 1 := andi main_v17 main_v19
  let main_v21 : IVec S40 1 := andi main_v20 main_v15
  main_v21

def fn {F : FTy → Type} [FloatOps F] (main_arg0 : IVec S40 32) (main_arg1 : IVec S40 32) (main_arg2 : IVec S40 32) (main_arg3 : FVec F S40960x1024 .f32) (main_arg4 : FVec F S8x1024x3584 .f32) (main_arg5 : FVec F S8x1024x3584 .f32) (main_arg6 : FVec F S8x3584x1024 .f32) : IVec S40 1 :=
  let main_v0 : IVec S40 32 := iotaInDim S40 32 0
  let main_v1 : IVec S1 32 := (extractStridedSlice S1 ![0] · slices_S40_S1_0) main_arg1
  let main_v2 : IVec S39 32 := (extractStridedSlice S39 ![0] · slices_S40_S39_0) main_arg1
  let main_v3 : IVec S40 32 := (fun a b => concatenate S40 0 [⟨S1, a⟩, ⟨S39, b⟩] concatenates_S1_S39_S40_d0) main_v1 main_v2
  let main_c : IVec S_ 32 := constantI S_ 32 0#32
  let main_v4 : IVec S40 32 := broadcastInDim S40 ![] bcast_S_S40 main_c
  let main_v5 : IVec S40 1 := cmpi .sgt main_arg2 main_v4
  let main_v6 : IVec S40 1 := cmpi .eq main_arg1 main_v0
  let main_v7 : IVec S40 1 := andi main_v5 main_v6
  let main_c_0 : IVec S_ 32 := constantI S_ 32 0#32
  let main_v8 : IVec S40 32 := broadcastInDim S40 ![] bcast_S_S40 main_c_0
  let main_v9 : IVec S40 1 := cmpi .sle main_arg2 main_v8
  let main_c_1 : IVec S_ 32 := constantI S_ 32 0#32
  let main_v10 : IVec S40 32 := broadcastInDim S40 ![] bcast_S_S40 main_c_1
  let main_v11 : IVec S40 1 := cmpi .sgt main_v0 main_v10
  let main_v12 : IVec S40 1 := andi main_v9 main_v11
  let main_v13 : IVec S40 1 := cmpi .eq main_arg1 main_v3
  let main_v14 : IVec S40 1 := andi main_v12 main_v13
  let main_v15 : IVec S40 1 := ori main_v7 main_v14
  let main_c_2 : IVec S_ 32 := constantI S_ 32 0#32
  let main_v16 : IVec S40 32 := broadcastInDim S40 ![] bcast_S_S40 main_c_2
  let main_v17 : IVec S40 1 := cmpi .sge main_arg0 main_v16
  let main_c_3 : IVec S_ 32 := constantI S_ 32 8#32
  let main_v18 : IVec S40 32 := broadcastInDim S40 ![] bcast_S_S40 main_c_3
  fn_part1 (F := F) main_arg0 main_v15 main_v17 main_v18
-- ==== Kernel.lean ====
abbrev S16384x512 : Shape := ⟨2, ![16384, 512]⟩
abbrev S16384x128 : Shape := ⟨2, ![16384, 128]⟩
abbrev S8 : Shape := ⟨1, ![8]⟩
abbrev S128x512 : Shape := ⟨2, ![128, 512]⟩
abbrev S128x128 : Shape := ⟨2, ![128, 128]⟩
abbrev S256x128 : Shape := ⟨2, ![256, 128]⟩
abbrev S128x256 : Shape := ⟨2, ![128, 256]⟩
abbrev S128x64 : Shape := ⟨2, ![128, 64]⟩
abbrev S256x64 : Shape := ⟨2, ![256, 64]⟩
abbrev S1 : Shape := ⟨1, ![1]⟩
abbrev S128 : Shape := ⟨1, ![128]⟩
abbrev S128x1 : Shape := ⟨2, ![128, 1]⟩

abbrev nBuf : Space → Nat
  | .hbm => 5
  | .vmem => 12
  | .smem => 1
  | _ => 0

abbrev bufTy : (tb : Table) → Fin (tcTables nBuf tb) → BufTy
  | .hbm, ⟨0, _⟩ => ⟨S16384x512, .bf16⟩
  | .hbm, ⟨1, _⟩ => ⟨S16384x128, .f32⟩
  | .hbm, ⟨2, _⟩ => ⟨S16384x128, .f32⟩
  | .hbm, ⟨3, _⟩ => ⟨S8, .f32⟩
  | .hbm, ⟨4, _⟩ => ⟨S16384x512, .bf16⟩
  | .local _ .vmem, ⟨0, _⟩ => ⟨S128x512, .bf16⟩
  | .local _ .vmem, ⟨1, _⟩ => ⟨S128x512, .bf16⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x512, .bf16⟩
  | .local _ .vmem, ⟨11, _⟩ => ⟨S128x512, .bf16⟩
  | .local _ .smem, ⟨0, _⟩ => ⟨S8, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16384x512 : Shape := ⟨2, ![16384, 512]⟩
abbrev S16384x128 : Shape := ⟨2, ![16384, 128]⟩
abbrev S8 : Shape := ⟨1, ![8]⟩
abbrev S8x16x128x2x4x64 : Shape := ⟨6, ![8, 16, 128, 2, 4, 64]⟩
abbrev S8x2048x2x64 : Shape := ⟨4, ![8, 2048, 2, 64]⟩
abbrev S8x128x2x64 : Shape := ⟨4, ![8, 128, 2, 64]⟩
abbrev S_ : Shape := ⟨0, ![]⟩
abbrev S8x2176x2x64 : Shape := ⟨4, ![8, 2176, 2, 64]⟩
abbrev S8x17x128x2x64 : Shape := ⟨5, ![8, 17, 128, 2, 64]⟩
abbrev S8x16x128x2x64 : Shape := ⟨5, ![8, 16, 128, 2, 64]⟩
abbrev S8x16x256x2x64 : Shape := ⟨5, ![8, 16, 256, 2, 64]⟩
abbrev S8x16x2x256x128x4 : Shape := ⟨6, ![8, 16, 2, 256, 128, 4]⟩
abbrev S8x16x2x4x128x256 : Shape := ⟨6, ![8, 16, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S1x1x2x4x128x256 : Shape := ⟨6, ![1, 1, 2, 4, 128, 256]⟩
abbrev S1x16x1x1x128x256 : Shape := ⟨6, ![1, 16, 1, 1, 128, 256]⟩
abbrev S8x16x2x4x128 : Shape := ⟨5, ![8, 16, 2, 4, 128]⟩
abbrev S8x16x2x4x128x1 : Shape := ⟨6, ![8, 16, 2, 4, 128, 1]⟩
abbrev S1x1x2x4x1x1 : Shape := ⟨6, ![1, 1, 2, 4, 1, 1]⟩
abbrev S8x16x2x64x4x128 : Shape := ⟨6, ![8, 16, 2, 64, 4, 128]⟩

abbrev nBuf : Space → Nat
  | .hbm => 109
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x128, .f32⟩
  | .hbm, ⟨2, _⟩ => ⟨S16384x128, .f32⟩
  | .hbm, ⟨3, _⟩ => ⟨S8, .f32⟩
  | .hbm, ⟨4, _⟩ => ⟨S16384x512, .f32⟩
  | .hbm, ⟨5, _⟩ => ⟨S8x16x128x2x4x64, .f32⟩
  | .hbm, ⟨6, _⟩ => ⟨S8x2048x2x64, .f32⟩
  | .hbm, ⟨7, _⟩ => ⟨S8x2048x2x64, .f32⟩
  | .hbm, ⟨8, _⟩ => ⟨S8x128x2x64, .f32⟩
  | .hbm, ⟨9, _⟩ => ⟨S_, .f32⟩
  | .hbm, ⟨10, _⟩ => ⟨S8x128x2x64, .f32⟩
  | .hbm, ⟨11, _⟩ => ⟨S8x2176x2x64, .f32⟩
  | .hbm, ⟨12, _⟩ => ⟨S8x17x128x2x64, .f32⟩
  | .hbm, ⟨13, _⟩ => ⟨S8x128x2x64, .f32⟩
  | .hbm, ⟨14, _⟩ => ⟨S_, .f32⟩
  | .hbm, ⟨15, _⟩ => ⟨S8x128x2x64, .f32⟩
  | .hbm, ⟨16, _⟩ => ⟨S8x2176x2x64, .f32⟩
  | .hbm, ⟨17, _⟩ => ⟨S8x17x128x2x64, .f32⟩
  | .hbm, ⟨18, _⟩ => ⟨S8x16x128x2x64, .f32⟩
  | .hbm, ⟨19, _⟩ => ⟨S8x16x128x2x64, .f32⟩
  | .hbm, ⟨20, _⟩ => ⟨S8x16x256x2x64, .f32⟩
  | .hbm, ⟨21, _⟩ => ⟨S8x16x128x2x64, .f32⟩
  | .hbm, ⟨22, _⟩ => ⟨S8x16x128x2x64, .f32⟩
  | .hbm, ⟨23, _⟩ => ⟨S8x16x256x2x64, .f32⟩
  | .hbm, ⟨24, _⟩ => ⟨S8x16x2x256x128x4, .f32⟩
  | .hbm, ⟨25, _⟩ => ⟨S8x16x2x4x128x256, .f32⟩
  | .hbm, ⟨26, _⟩ => ⟨S128, .i32⟩
  | .hbm, ⟨27, _⟩ => ⟨S128x1, .i32⟩
  | .hbm, ⟨28, _⟩ => ⟨S256, .i32⟩
  | .hbm, ⟨29, _⟩ => ⟨S1x256, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S128x256, .i32⟩
  | .hbm, ⟨34, _⟩ => ⟨S128x256, .i32⟩
  | .hbm, ⟨35, _⟩ => ⟨S128x256, .i32⟩
  | .hbm, ⟨36, _⟩ => ⟨S128x256, .f32⟩
  | .hbm, ⟨37, _⟩ => ⟨S_, .f32⟩
  | .hbm, ⟨38, _⟩ => ⟨S128x256, .f32⟩
  | .hbm, ⟨39, _⟩ => ⟨S128x256, .i1⟩
  | .hbm, ⟨40, _⟩ => ⟨S_, .f32⟩
  | .hbm, ⟨41, _⟩ => ⟨S128x256, .f32⟩
  | .hbm, ⟨42, _⟩ => ⟨S128x256, .i1⟩
  | .hbm, ⟨43, _⟩ => ⟨S128x256, .i1⟩
  | .hbm, ⟨44, _⟩ => ⟨S16, .i32⟩
  | .hbm, ⟨45, _⟩ => ⟨S16x1x1, .i32⟩
  | .hbm, ⟨46, _⟩ => ⟨S_, .i32⟩
  | .hbm, ⟨47, _⟩ => ⟨S16x1x1, .i32⟩
  | .hbm, ⟨48, _⟩ => ⟨S16x1x1, .i1⟩
  | .hbm, ⟨49, _⟩ => ⟨S_, .i32⟩
  | .hbm, ⟨50, _⟩ => ⟨S1x256, .i32⟩
  | .hbm, ⟨51, _⟩ => ⟨S1x256, .i1⟩
  | .hbm, ⟨52, _⟩ => ⟨S1x1x256, .i1⟩
  | .hbm, ⟨53, _⟩ => ⟨S16x1x256, .i1⟩
  | .hbm, ⟨54, _⟩ => ⟨S16x1x256, .i1⟩
  | .hbm, ⟨55, _⟩ => ⟨S16x1x256, .i1⟩
  | .hbm, ⟨56, _⟩ => ⟨S1x128x256, .i1⟩
  | .hbm, ⟨57, _⟩ => ⟨S16x128x256, .i1⟩
  | .hbm, ⟨58, _⟩ => ⟨S16x128x256, .i1⟩
  | .hbm, ⟨59, _⟩ => ⟨S16x128x256, .i1⟩
  | .hbm, ⟨60, _⟩ => ⟨S8, .i32⟩
  | .hbm, ⟨61, _⟩ => ⟨S_, .i32⟩
  | .hbm, ⟨62, _⟩ => ⟨S8, .i32⟩
  | .hbm, ⟨63, _⟩ => ⟨S8, .i32⟩
  | .hbm, ⟨64, _⟩ => ⟨S_, .i32⟩
  | .hbm, ⟨65, _⟩ => ⟨S8, .i32⟩
  | .hbm, ⟨66, _⟩ => ⟨S8, .i32⟩
  | .hbm, ⟨67, _⟩ => ⟨S8, .f32⟩
  | .hbm, ⟨68, _⟩ => ⟨S_, .f32⟩
  | .hbm, ⟨69, _⟩ => ⟨S8, .f32⟩
  | .hbm, ⟨70, _⟩ => ⟨S8, .f32⟩
  | .hbm, ⟨71, _⟩ => ⟨S2x4x1x1, .f32⟩
  | .hbm, ⟨72, _⟩ => ⟨S1x1x128x256, .f32⟩
  | .hbm, ⟨73, _⟩ => ⟨S2x4x128x256, .f32⟩
  | .hbm, ⟨74, _⟩ => ⟨S2x4x128x256, .f32⟩
  | .hbm, ⟨75, _⟩ => ⟨S2x4x128x256, .f32⟩
  | .hbm, ⟨76, _⟩ => ⟨S1x1x2x4x128x256, .f32⟩
  | .hbm, ⟨77, _⟩ => ⟨S8x16x2x4x128x256, .f32⟩
  | .hbm, ⟨78, _⟩ => ⟨S8x16x2x4x128x256, .f32⟩
  | .hbm, ⟨79, _⟩ => ⟨S1x16x1x1x128x256, .i1⟩
  | .hbm, ⟨80, _⟩ => ⟨S_, .f32⟩
  | .hbm, ⟨81, _⟩ => ⟨S_, .f32⟩
  | .hbm, ⟨82, _⟩ => ⟨S8x16x2x4x128x256, .i1⟩
  | .hbm, ⟨83, _⟩ => ⟨S8x16x2x4x128x256, .f32⟩
  | .hbm, ⟨84, _⟩ => ⟨S8x16x2x4x128x256, .f32⟩
  | .hbm, ⟨85, _⟩ => ⟨S2x4x1x1, .f32⟩
  | .hbm, ⟨86, _⟩ => ⟨S_, .f32⟩
  | .hbm, ⟨87, _⟩ => ⟨S8x16x2x4x128, .f32⟩
  | .hbm, ⟨88, _⟩ => ⟨S8x16x2x4x128x1, .f32⟩
  | .hbm, ⟨89, _⟩ => ⟨S1x1x2x4x1x1, .f32⟩
  | .hbm, ⟨90, _⟩ => ⟨S8x16x2x4x128x1, .f32⟩
  | .hbm, ⟨91, _⟩ => ⟨S8x16x2x4x128x1, .f32⟩
  | .hbm, ⟨92, _⟩ => ⟨S8x16x2x4x128x256, .f32⟩
  | .hbm, ⟨93, _⟩ => ⟨S8x16x2x4x128x256, .f32⟩
  | .hbm, ⟨94, _⟩ => ⟨S8x16x2x4x128x256, .f32⟩
  | .hbm, ⟨95, _⟩ => ⟨S_, .f32⟩
  | .hbm, ⟨96, _⟩ => ⟨S8x16x2x4x128, .f32⟩
  | .hbm, ⟨97, _⟩ => ⟨S8x16x2x4x128x1, .f32⟩
  | .hbm, ⟨98, _⟩ => ⟨S1x1x2x4x1x1, .f32⟩
  | .hbm, ⟨99, _⟩ => ⟨S8x16x2x4x128x1, .f32⟩
  | .hbm, ⟨100, _⟩ => ⟨S8x16x2x4x128x1, .f32⟩
  | .hbm, ⟨101, _⟩ => ⟨S8x16x2x4x128x1, .f32⟩
  | .hbm, ⟨102, _⟩ => ⟨S8x16x2x4x128x1, .f32⟩
  | .hbm, ⟨103, _⟩ => ⟨S8x16x2x4x128x256, .f32⟩
  | .hbm, ⟨104, _⟩ => ⟨S8x16x2x4x128x256, .f32⟩
  | .hbm, ⟨105, _⟩ => ⟨S8x16x2x64x4x128, .f32⟩
  | .hbm, ⟨106, _⟩ => ⟨S8x16x128x2x4x64, .f32⟩
  | .hbm, ⟨107, _⟩ => ⟨S16384x512, .f32⟩
  | .hbm, ⟨108, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_3 : Ref sig .tc := ⟨.hbm, 46, rfl⟩
abbrev main_v37 : Ref sig .tc := ⟨.hbm, 47, rfl⟩
abbrev main_v38 : Ref sig .tc := ⟨.hbm, 48, rfl⟩
abbrev main_c_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c_5 : Ref sig .tc := ⟨.hbm, 61, rfl⟩
abbrev main_v50 : Ref sig .tc := ⟨.hbm, 62, rfl⟩
abbrev main_v51 : Ref sig .tc := ⟨.hbm, 63, rfl⟩
abbrev main_c_6 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_8 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_v66 : Ref sig .tc := ⟨.hbm, 84, rfl⟩
abbrev main_v67 : Ref sig .tc := ⟨.hbm, 85, rfl⟩
abbrev main_cst_9 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_10 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩

abbrev nD : Nat := 1
abbrev τ : Topo := Topo.v7x

variable {F : FTy → Type} [FloatOps F]
-- ==== Kernel2.lean ====
abbrev S40 : Shape := ⟨1, ![40]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1 : Shape := ⟨1, ![1]⟩
abbrev S1x1024x512 : Shape := ⟨3, ![1, 1024, 512]⟩
abbrev S1x512x1024 : Shape := ⟨3, ![1, 512, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 5
  | .vmem => 12
  | .smem => 3
  | _ => 0

abbrev bufTy : (tb : Table) → Fin (tcTables nBuf tb) → BufTy
  | .hbm, ⟨0, _⟩ => ⟨S40960x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S40960x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | .local _ .smem, ⟨0, _⟩ => ⟨S40, .i32⟩
  | .local _ .smem, ⟨1, _⟩ => ⟨S40, .i32⟩
  | .local _ .smem, ⟨2, _⟩ => ⟨S40, .i32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 7], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond5 (i : grid0.Coords) (v1 : BitVec 32) : BitVec 1 :=
  let c0_i32_4 : BitVec 32 := 0#32
  let v10 : BitVec 1 := Scalar.cmpi .sgt v1 c0_i32_4
  let arg1 : BitVec 32 := BitVec.ofNat 32 (i 1).val
  let c6_i32 : BitVec 32 := 6#32
  let v11 : BitVec 1 := Scalar.cmpi .eq arg1 c6_i32
  let v12 : BitVec 1 := Scalar.andi v10 v11
  let v13 : BitVec 32 := Scalar.extui v12
  let c0_i32_5 : BitVec 32 := 0#32
  let v14 : BitVec 1 := Scalar.cmpi .ne v13 c0_i32_5
  v14

def cc0_transform_0 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S40) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 2 (Rect.unit (s := S40) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg1 c6_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 2 (Rect.unit (s := S40) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg1 c6_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 2 (Rect.unit (s := S40) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg1 c6_i32
  let c0_i32_0 : BitVec 32 := 0#32
  let c0_i32_1 : BitVec 32 := 0#32
  ![v1.toNat, v5.toNat, c0_i32_0.toNat]

def cc0_transform_4 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S40) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S40 : Shape := ⟨1, ![40]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S40960 : Shape := ⟨1, ![40960]⟩
abbrev S_ : Shape := ⟨0, ![]⟩
abbrev S40x1 : Shape := ⟨2, ![40, 1]⟩
abbrev S40x1024 : Shape := ⟨2, ![40, 1024]⟩
abbrev S8 : Shape := ⟨1, ![8]⟩
abbrev S8x1 : Shape := ⟨2, ![8, 1]⟩
abbrev S1x40960 : Shape := ⟨2, ![1, 40960]⟩
abbrev S8x40960 : Shape := ⟨2, ![8, 40960]⟩
abbrev S8x3584x40960 : Shape := ⟨3, ![8, 3584, 40960]⟩
abbrev S8x40960x3584 : Shape := ⟨3, ![8, 40960, 3584]⟩
abbrev S8x40960x1024 : Shape := ⟨3, ![8, 40960, 1024]⟩
abbrev S8x40960x1 : Shape := ⟨3, ![8, 40960, 1]⟩

abbrev nBuf : Space → Nat
  | .hbm => 67
  | .vmem => 0
  | .smem => 0
  | _ => 0

abbrev bufTy : (tb : Table) → Fin (tcTables nBuf tb) → BufTy
  | .hbm, ⟨0, _⟩ => ⟨S40, .i32⟩
  | .hbm, ⟨1, _⟩ => ⟨S40, .i32⟩
  | .hbm, ⟨2, _⟩ => ⟨S40, .i32⟩
  | .hbm, ⟨3, _⟩ => ⟨S40960x1024, .f32⟩
  | .hbm, ⟨4, _⟩ => ⟨S8x1024x3584, .f32⟩
  | .hbm, ⟨5, _⟩ => ⟨S8x1024x3584, .f32⟩
  | .hbm, ⟨6, _⟩ => ⟨S8x3584x1024, .f32⟩
  | .hbm, ⟨7, _⟩ => ⟨S40960, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S40960, .i32⟩
  | .hbm, ⟨15, _⟩ => ⟨S40960, .i32⟩
  | .hbm, ⟨16, _⟩ => ⟨S_, .i32⟩
  | .hbm, ⟨17, _⟩ => ⟨S40960, .i32⟩
  | .hbm, ⟨18, _⟩ => ⟨S40960, .i1⟩
  | .hbm, ⟨19, _⟩ => ⟨S_, .i32⟩
  | .hbm, ⟨20, _⟩ => ⟨S40960, .i32⟩
  | .hbm, ⟨21, _⟩ => ⟨S40960, .i1⟩
  | .hbm, ⟨22, _⟩ => ⟨S_, .i32⟩
  | .hbm, ⟨23, _⟩ => ⟨S_, .i1⟩
  | .hbm, ⟨24, _⟩ => ⟨S40960, .i1⟩
  | .hbm, ⟨25, _⟩ => ⟨S40960, .i1⟩
  | .hbm, ⟨26, _⟩ => ⟨S40960, .i1⟩
  | .hbm, ⟨27, _⟩ => ⟨S40960, .i32⟩
  | .hbm, ⟨28, _⟩ => ⟨S40960, .i32⟩
  | .hbm, ⟨29, _⟩ => ⟨S40960, .i32⟩
  | .hbm, ⟨30, _⟩ => ⟨S40x1, .i32⟩
  | .hbm, ⟨31, _⟩ => ⟨S40x1024, .i32⟩
  | .hbm, ⟨32, _⟩ => ⟨S40960, .i32⟩
  | .hbm, ⟨33, _⟩ => ⟨S40960, .i1⟩
  | .hbm, ⟨34, _⟩ => ⟨S8, .i32⟩
  | .hbm, ⟨35, _⟩ => ⟨S8x1, .i32⟩
  | .hbm, ⟨36, _⟩ => ⟨S40x1, .i32⟩
  | .hbm, ⟨37, _⟩ => ⟨S40x1024, .i32⟩
  | .hbm, ⟨38, _⟩ => ⟨S40960, .i32⟩
  | .hbm, ⟨39, _⟩ => ⟨S1x40960, .i32⟩
  | .hbm, ⟨40, _⟩ => ⟨S8x40960, .i32⟩
  | .hbm, ⟨41, _⟩ => ⟨S8x40960, .i32⟩
  | .hbm, ⟨42, _⟩ => ⟨S8x40960, .i1⟩
  | .hbm, ⟨43, _⟩ => ⟨S1x40960, .i1⟩
  | .hbm, ⟨44, _⟩ => ⟨S8x40960, .i1⟩
  | .hbm, ⟨45, _⟩ => ⟨S8x40960, .i1⟩
  | .hbm, ⟨46, _⟩ => ⟨S8x40960, .f32⟩
  | .hbm, ⟨47, _⟩ => ⟨S8x3584x40960, .f32⟩
  | .hbm, ⟨48, _⟩ => ⟨S8x40960x3584, .f32⟩
  | .hbm, ⟨49, _⟩ => ⟨S8x40960x3584, .f32⟩
  | .hbm, ⟨50, _⟩ => ⟨S8x40960x3584, .f32⟩
  | .hbm, ⟨51, _⟩ => ⟨S_, .f32⟩
  | .hbm, ⟨52, _⟩ => ⟨S8x40960x3584, .f32⟩
  | .hbm, ⟨53, _⟩ => ⟨S8x40960x3584, .f32⟩
  | .hbm, ⟨54, _⟩ => ⟨S_, .f32⟩
  | .hbm, ⟨55, _⟩ => ⟨S8x40960x3584, .f32⟩
  | .hbm, ⟨56, _⟩ => ⟨S8x40960x3584, .f32⟩
  | .hbm, ⟨57, _⟩ => ⟨S8x40960x3584, .f32⟩
  | .hbm, ⟨58, _⟩ => ⟨S8x3584x40960, .f32⟩
  | .hbm, ⟨59, _⟩ => ⟨S8x40960x3584, .f32⟩
  | .hbm, ⟨60, _⟩ => ⟨S8x40960x3584, .f32⟩
  | .hbm, ⟨61, _⟩ => ⟨S8x40960x1024, .f32⟩
  | .hbm, ⟨62, _⟩ => ⟨S8x40960x1, .f32⟩
  | .hbm, ⟨63, _⟩ => ⟨S8x40960x1024, .f32⟩
  | .hbm, ⟨64, _⟩ => ⟨S8x40960x1024, .f32⟩
  | .hbm, ⟨65, _⟩ => ⟨S_, .f32⟩
  | .hbm, ⟨66, _⟩ => ⟨S40960x1024, .f32⟩
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst : Ref sig .tc := ⟨.hbm, 65, rfl⟩
abbrev main_v29 : Ref sig .tc := ⟨.hbm, 66, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x512 : Shape := ⟨2, ![1024, 512]⟩
abbrev S_ : Shape := ⟨0, ![]⟩
abbrev S512x1024 : Shape := ⟨2, ![512, 1024]⟩
abbrev S1024x1 : Shape := ⟨2, ![1024, 1]⟩
abbrev S1024x1408 : Shape := ⟨2, ![1024, 1408]⟩
abbrev S1408x1024 : Shape := ⟨2, ![1408, 1024]⟩

abbrev nBuf : Space → Nat
  | .hbm => 14
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x1024, .bf16⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S16384x512, .f32⟩
  | .hbm, ⟨9, _⟩ => ⟨S16384x512, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x1024, .f32⟩
  | .hbm, ⟨42, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S1x1024 : Shape := ⟨2, ![1, 1024]⟩
abbrev S128x8 : Shape := ⟨2, ![128, 8]⟩
abbrev S1024x1 : Shape := ⟨2, ![1024, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 15
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S1x1024, .f32⟩
  | .hbm, ⟨9, _⟩ => ⟨S1024x2048, .bf16⟩
  | .hbm, ⟨10, _⟩ => ⟨S1x1024, .f32⟩
  | .hbm, ⟨11, _⟩ => ⟨S1x1024, .f32⟩
  | .hbm, ⟨12, _⟩ => ⟨S128x8, .f32⟩
  | .hbm, ⟨13, _⟩ => ⟨S1024x1024, .bf16⟩
  | .hbm, ⟨14, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x8, .f32⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16384x1024 : Shape := ⟨2, ![16384, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩
abbrev S8x16x128x8x128 : Shape := ⟨5, ![8, 16, 128, 8, 128]⟩
abbrev S128x128 : Shape := ⟨2, ![128, 128]⟩
abbrev S1x128x128 : Shape := ⟨3, ![1, 128, 128]⟩
abbrev S8x8x16x128x128 : Shape := ⟨5, ![8, 8, 16, 128, 128]⟩
abbrev S128x8 : Shape := ⟨2, ![128, 8]⟩
abbrev S1x1x128x8x1 : Shape := ⟨5, ![1, 1, 128, 8, 1]⟩

abbrev nBuf : Space → Nat
  | .hbm => 98
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S8x2048x1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S8x2048x1024, .f32⟩
  | .hbm, ⟨44, _⟩ => ⟨S8x2048x1024, .f32⟩
  | .hbm, ⟨45, _⟩ => ⟨S_, .f32⟩
  | .hbm, ⟨46, _⟩ => ⟨S8x2048, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S8x2048x1024, .f32⟩
  | .hbm, ⟨52, _⟩ => ⟨S8x2048x1024, .f32⟩
  | .hbm, ⟨53, _⟩ => ⟨S8x2048x1024, .f32⟩
  | .hbm, ⟨54, _⟩ => ⟨S_, .f32⟩
  | .hbm, ⟨55, _⟩ => ⟨S8x2048, .f32⟩
  | .hbm, ⟨56, _⟩ => ⟨S8x2048x1, .f32⟩
  | .hbm, ⟨57, _⟩ => ⟨S_, .f32⟩
  | .hbm, ⟨58, _⟩ => ⟨S8x2048x1, .f32⟩
  | .hbm, ⟨59, _⟩ => ⟨S8x2048x1, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S8x2048x1, .f32⟩
  | .hbm, ⟨64, _⟩ => ⟨S8x2048x1024, .f32⟩
  | .hbm, ⟨65, _⟩ => ⟨S8x2048x1024, .f32⟩
  | .hbm, ⟨66, _⟩ => ⟨S1x1x1024, .f32⟩
  | .hbm, ⟨67, _⟩ => ⟨S8x2048x1024, .f32⟩
  | .hbm, ⟨68, _⟩ => ⟨S8x2048x1024, .f32⟩
  | .hbm, ⟨69, _⟩ => ⟨S1x1x1024, .f32⟩
  | .hbm, ⟨70, _⟩ => ⟨S8x2048x1024, .f32⟩
  | .hbm, ⟨71, _⟩ => ⟨S8x2048x1024, .f32⟩
  | .hbm, ⟨72, _⟩ => ⟨S8x16x128x8x128, .f32⟩
  | .hbm, ⟨73, _⟩ => ⟨S_, .f32⟩
  | .hbm, ⟨74, _⟩ => ⟨S128x128, .f32⟩
  | .hbm, ⟨75, _⟩ => ⟨S128x128, .i32⟩
  | .hbm, ⟨76, _⟩ => ⟨S_, .i32⟩
  | .hbm, ⟨77, _⟩ => ⟨S128x128, .i32⟩
  | .hbm, ⟨78, _⟩ => ⟨S128x128, .i32⟩
  | .hbm, ⟨79, _⟩ => ⟨S128x128, .i32⟩
  | .hbm, ⟨80, _⟩ => ⟨S128x128, .i1⟩
  | .hbm, ⟨81, _⟩ => ⟨S_, .f32⟩
  | .hbm, ⟨82, _⟩ => ⟨S128x128, .f32⟩
  | .hbm, ⟨83, _⟩ => ⟨S128x128, .f32⟩
  | .hbm, ⟨84, _⟩ => ⟨S1x128x128, .f32⟩
  | .hbm, ⟨85, _⟩ => ⟨S8x128x128, .f32⟩
  | .hbm, ⟨86, _⟩ => ⟨S8x128x128, .f32⟩
  | .hbm, ⟨87, _⟩ => ⟨S8x8x16x128x128, .f32⟩
  | .hbm, ⟨88, _⟩ => ⟨S8x16x128x8x128, .f32⟩
  | .hbm, ⟨89, _⟩ => ⟨S128x8, .f32⟩
  | .hbm, ⟨90, _⟩ => ⟨S1x1x128x8x1, .f32⟩
  | .hbm, ⟨91, _⟩ => ⟨S8x16x128x8x128, .f32⟩
  | .hbm, ⟨92, _⟩ => ⟨S8x16x128x8x128, .f32⟩
  | .hbm, ⟨93, _⟩ => ⟨S8x2048x1024, .f32⟩
  | .hbm, ⟨94, _⟩ => ⟨S8x2048x1024, .f32⟩
  | .hbm, ⟨95, _⟩ => ⟨S8x2048x1024, .f32⟩
  | .hbm, ⟨96, _⟩ => ⟨S8x2048x1024, .f32⟩
  | .hbm, ⟨97, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_call0_v0 : Ref sig .tc := ⟨.hbm, 75, rfl⟩
abbrev main_call0_c : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_cst : Ref sig .tc := ⟨.hbm, 81, rfl⟩
abbrev main_call0_v5 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x1792 : Shape := ⟨2, ![1024, 1792]⟩
abbrev S64 : Shape := ⟨1, ![64]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S1x64 : Shape := ⟨2, ![1, 64]⟩
abbrev S8x64 : Shape := ⟨2, ![8, 64]⟩
abbrev S2x64 : Shape := ⟨2, ![2, 64]⟩
abbrev S128 : Shape := ⟨1, ![128]⟩
abbrev S1x128 : Shape := ⟨2, ![1, 128]⟩
abbrev S16384x512 : Shape := ⟨2, ![16384, 512]⟩
abbrev S16384x128 : Shape := ⟨2, ![16384, 128]⟩
abbrev S1024x1024 : Shape := ⟨2, ![1024, 1024]⟩
abbrev S1024x512 : Shape := ⟨2, ![1024, 512]⟩
abbrev S1024x128 : Shape := ⟨2, ![1024, 128]⟩
abbrev S1024x1 : Shape := ⟨2, ![1024, 1]⟩
abbrev S128x128 : Shape := ⟨2, ![128, 128]⟩
abbrev S8x2048x512 : Shape := ⟨3, ![8, 2048, 512]⟩
abbrev S8x30x512 : Shape := ⟨3, ![8, 30, 512]⟩
abbrev S8x2048x2x64 : Shape := ⟨4, ![8, 2048, 2, 64]⟩
abbrev S8x128x2x64 : Shape := ⟨4, ![8, 128, 2, 64]⟩

abbrev nBuf : Space → Nat
  | .hbm => 50
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1792, .f32⟩
  | .hbm, ⟨3, _⟩ => ⟨S64, .f32⟩
  | .hbm, ⟨4, _⟩ => ⟨S64, .f32⟩
  | .hbm, ⟨5, _⟩ => ⟨S512, .i32⟩
  | .hbm, ⟨6, _⟩ => ⟨S_, .i32⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S_, .i32⟩
  | .hbm, ⟨12, _⟩ => ⟨S512, .i32⟩
  | .hbm, ⟨13, _⟩ => ⟨S512, .i1⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S512x1, .i32⟩
  | .hbm, ⟨25, _⟩ => ⟨S1x512, .i32⟩
  | .hbm, ⟨26, _⟩ => ⟨S512x512, .i32⟩
  | .hbm, ⟨27, _⟩ => ⟨S512x512, .i32⟩
  | .hbm, ⟨28, _⟩ => ⟨S512x512, .i1⟩
  | .hbm, ⟨29, _⟩ => ⟨S512x512, .bf16⟩
  | .hbm, ⟨30, _⟩ => ⟨S1x1024, .f32⟩
  | .hbm, ⟨31, _⟩ => ⟨S1024x1792, .bf16⟩
  | .hbm, ⟨32, _⟩ => ⟨S1x64, .f32⟩
  | .hbm, ⟨33, _⟩ => ⟨S8x64, .f32⟩
  | .hbm, ⟨34, _⟩ => ⟨S512, .f32⟩
  | .hbm, ⟨35, _⟩ => ⟨S1x512, .f32⟩
  | .hbm, ⟨36, _⟩ => ⟨S1x64, .f32⟩
  | .hbm, ⟨37, _⟩ => ⟨S2x64, .f32⟩
  | .hbm, ⟨38, _⟩ => ⟨S128, .f32⟩
  | .hbm, ⟨39, _⟩ => ⟨S1x128, .f32⟩
  | .hbm, ⟨40, _⟩ => ⟨S16384x512, .f32⟩
  | .hbm, ⟨41, _⟩ => ⟨S16384x512, .bf16⟩
  | .hbm, ⟨42, _⟩ => ⟨S16384x128, .f32⟩
  | .hbm, ⟨43, _⟩ => ⟨S16384x128, .f32⟩
  | .hbm, ⟨44, _⟩ => ⟨S8x2048x512, .f32⟩
  | .hbm, ⟨45, _⟩ => ⟨S8x30x512, .f32⟩
  | .hbm, ⟨46, _⟩ => ⟨S8x2048x2x64, .f32⟩
  | .hbm, ⟨47, _⟩ => ⟨S8x128x2x64, .f32⟩
  | .hbm, ⟨48, _⟩ => ⟨S8x2048x2x64, .f32⟩
  | .hbm, ⟨49, _⟩ => ⟨S8x128x2x64, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1792, .bf16⟩
  | .local _ .vmem, ⟨4, _⟩ => ⟨S1x512, .f32⟩
  | .local _ .vmem, ⟨5, _⟩ => ⟨S1x128, .f32⟩
  | .local _ .vmem, ⟨6, _⟩ => ⟨S512x512, .bf16⟩
  | .local _ .vmem, ⟨7, _⟩ => ⟨S1024x512, .f32⟩
  | .local _ .vmem, ⟨8, _⟩ => ⟨S1024x512, .f32⟩
  | .local _ .vmem, ⟨9, _⟩ => ⟨S1024x512, .bf16⟩
  | .local _ .vmem, ⟨10, _⟩ => ⟨S1024x512, .bf16⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18_0 : Ref sig .tc := ⟨.hbm, 40, rfl⟩
abbrev main_v18_1 : Ref sig .tc := ⟨.hbm, 41, rfl⟩
abbrev main_v18_2 : Ref sig .tc := ⟨.hbm, 42, rfl⟩
abbrev main_v18_3 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S16384x1024 : Shape := ⟨2, ![16384, 1024]⟩
abbrev S1024 : Shape := ⟨1, ![1024]⟩
abbrev S1024x1792 : Shape := ⟨2, ![1024, 1792]⟩
abbrev S64 : Shape := ⟨1, ![64]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x1792 : Shape := ⟨3, ![8, 2048, 1792]⟩
abbrev S8x2048x512 : Shape := ⟨3, ![8, 2048, 512]⟩
abbrev S8x2048x8x64 : Shape := ⟨4, ![8, 2048, 8, 64]⟩
abbrev S8x2048x128 : Shape := ⟨3, ![8, 2048, 128]⟩
abbrev S8x2048x2x64 : Shape := ⟨4, ![8, 2048, 2, 64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8x2048x2 : Shape := ⟨3, ![8, 2048, 2]⟩
abbrev S8x2048x2x1 : Shape := ⟨4, ![8, 2048, 2, 1]⟩
abbrev S16384x512 : Shape := ⟨2, ![16384, 512]⟩
abbrev S16384x128 : Shape := ⟨2, ![16384, 128]⟩
abbrev S8x30x512 : Shape := ⟨3, ![8, 30, 512]⟩
abbrev S8x128x2x64 : Shape := ⟨4, ![8, 128, 2, 64]⟩

abbrev nBuf : Space → Nat
  | .hbm => 83
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1792, .f32⟩
  | .hbm, ⟨3, _⟩ => ⟨S64, .f32⟩
  | .hbm, ⟨4, _⟩ => ⟨S64, .f32⟩
  | .hbm, ⟨5, _⟩ => ⟨S8x2048x1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x1792, .f32⟩
  | .hbm, ⟨23, _⟩ => ⟨S8x2048x512, .f32⟩
  | .hbm, ⟨24, _⟩ => ⟨S8x2048x512, .f32⟩
  | .hbm, ⟨25, _⟩ => ⟨S8x2048x512, .f32⟩
  | .hbm, ⟨26, _⟩ => ⟨S8x2048x512, .f32⟩
  | .hbm, ⟨27, _⟩ => ⟨S_, .f32⟩
  | .hbm, ⟨28, _⟩ => ⟨S8x2048x512, .f32⟩
  | .hbm, ⟨29, _⟩ => ⟨S8x2048x512, .f32⟩
  | .hbm, ⟨30, _⟩ => ⟨S_, .f32⟩
  | .hbm, ⟨31, _⟩ => ⟨S8x2048x512, .f32⟩
  | .hbm, ⟨32, _⟩ => ⟨S8x2048x512, .f32⟩
  | .hbm, ⟨33, _⟩ => ⟨S8x2048x512, .f32⟩
  | .hbm, ⟨34, _⟩ => ⟨S8x2048x512, .f32⟩
  | .hbm, ⟨35, _⟩ => ⟨S8x2048x8x64, .f32⟩
  | .hbm, ⟨36, _⟩ => ⟨S8x2048x128, .f32⟩
  | .hbm, ⟨37, _⟩ => ⟨S8x2048x2x64, .f32⟩
  | .hbm, ⟨38, _⟩ => ⟨S8x2048x128, .f32⟩
  | .hbm, ⟨39, _⟩ => ⟨S8x2048x2x64, .f32⟩
  | .hbm, ⟨40, _⟩ => ⟨S8x2048x8x64, .f32⟩
  | .hbm, ⟨41, _⟩ => ⟨S_, .f32⟩
  | .hbm, ⟨42, _⟩ => ⟨S8x2048x8, .f32⟩
  | .hbm, ⟨43, _⟩ => ⟨S8x2048x8x1, .f32⟩
  | .hbm, ⟨44, _⟩ => ⟨S_, .f32⟩
  | .hbm, ⟨45, _⟩ => ⟨S8x2048x8x1, .f32⟩
  | .hbm, ⟨46, _⟩ => ⟨S8x2048x8x1, .f32⟩
  | .hbm, ⟨47, _⟩ => ⟨S_, .f32⟩
  | .hbm, ⟨48, _⟩ => ⟨S8x2048x8x1, .f32⟩
  | .hbm, ⟨49, _⟩ => ⟨S8x2048x8x1, .f32⟩
  | .hbm, ⟨50, _⟩ => ⟨S8x2048x8x1, .f32⟩
  | .hbm, ⟨51, _⟩ => ⟨S8x2048x8x64, .f32⟩
  | .hbm, ⟨52, _⟩ => ⟨S8x2048x8x64, .f32⟩
  | .hbm, ⟨53, _⟩ => ⟨S1x1x1x64, .f32⟩
  | .hbm, ⟨54, _⟩ => ⟨S8x2048x8x64, .f32⟩
  | .hbm, ⟨55, _⟩ => ⟨S8x2048x8x64, .f32⟩
  | .hbm, ⟨56, _⟩ => ⟨S8x2048x2x64, .f32⟩
  | .hbm, ⟨57, _⟩ => ⟨S_, .f32⟩
  | .hbm, ⟨58, _⟩ => ⟨S8x2048x2, .f32⟩
  | .hbm, ⟨59, _⟩ => ⟨S8x2048x2x1, .f32⟩
  | .hbm, ⟨60, _⟩ => ⟨S_, .f32⟩
  | .hbm, ⟨61, _⟩ => ⟨S8x2048x2x1, .f32⟩
  | .hbm, ⟨62, _⟩ => ⟨S8x2048x2x1, .f32⟩
  | .hbm, ⟨63, _⟩ => ⟨S_, .f32⟩
  | .hbm, ⟨64, _⟩ => ⟨S8x2048x2x1, .f32⟩
  | .hbm, ⟨65, _⟩ => ⟨S8x2048x2x1, .f32⟩
  | .hbm, ⟨66, _⟩ => ⟨S8x2048x2x1, .f32⟩
  | .hbm, ⟨67, _⟩ => ⟨S8x2048x2x64, .f32⟩
  | .hbm, ⟨68, _⟩ => ⟨S8x2048x2x64, .f32⟩
  | .hbm, ⟨69, _⟩ => ⟨S1x1x1x64, .f32⟩
  | .hbm, ⟨70, _⟩ => ⟨S8x2048x2x64, .f32⟩
  | .hbm, ⟨71, _⟩ => ⟨S8x2048x2x64, .f32⟩
  | .hbm, ⟨72, _⟩ => ⟨S16384x512, .f32⟩
  | .hbm, ⟨73, _⟩ => ⟨S_, .f32⟩
  | .hbm, ⟨74, _⟩ => ⟨S8x2048x8x64, .f32⟩
  | .hbm, ⟨75, _⟩ => ⟨S8x2048x8x64, .f32⟩
  | .hbm, ⟨76, _⟩ => ⟨S16384x512, .f32⟩
  | .hbm, ⟨77, _⟩ => ⟨S16384x512, .bf16⟩
  | .hbm, ⟨78, _⟩ => ⟨S16384x128, .f32⟩
  | .hbm, ⟨79, _⟩ => ⟨S16384x128, .f32⟩
  | .hbm, ⟨80, _⟩ => ⟨S8x30x512, .f32⟩
  | .hbm, ⟨81, _⟩ => ⟨S8x128x2x64, .f32⟩
  | .hbm, ⟨82, _⟩ => ⟨S8x128x2x64, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩

abbrev nD : Nat := 1
abbrev τ : Topo := Topo.v7x

variable {F : FTy → Type} [FloatOps F]
-- ==== Kernel6.lean ====
abbrev S128x512 : Shape := ⟨2, ![128, 512]⟩
abbrev S128x30x512 : Shape := ⟨3, ![128, 30, 512]⟩
abbrev S31x512 : Shape := ⟨2, ![31, 512]⟩
abbrev S512 : Shape := ⟨1, ![512]⟩
abbrev S30x128x512 : Shape := ⟨3, ![30, 128, 512]⟩
abbrev S1x512 : Shape := ⟨2, ![1, 512]⟩
abbrev S1x128x512 : Shape := ⟨3, ![1, 128, 512]⟩
abbrev S128 : Shape := ⟨1, ![128]⟩
abbrev S128x1 : Shape := ⟨2, ![128, 1]⟩

abbrev nBuf : Space → Nat
  | .hbm => 11
  | .vmem => 7
  | .smem => 0
  | _ => 0

abbrev bufTy : (tb : Table) → Fin (tcTables nBuf tb) → BufTy
  | .hbm, ⟨0, _⟩ => ⟨S128x512, .f32⟩
  | .hbm, ⟨1, _⟩ => ⟨S128x30x512, .f32⟩
  | .hbm, ⟨2, _⟩ => ⟨S31x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S30x128x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S128x512, .bf16⟩
  | .local _ .vmem, ⟨0, _⟩ => ⟨S128x512, .f32⟩
  | .local _ .vmem, ⟨1, _⟩ => ⟨S30x128x512, .f32⟩
  | .local _ .vmem, ⟨2, _⟩ => ⟨S31x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S128x512, .bf16⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S30x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S128x512 : Shape := ⟨2, ![128, 512]⟩
abbrev S128x30x512 : Shape := ⟨3, ![128, 30, 512]⟩
abbrev S31x512 : Shape := ⟨2, ![31, 512]⟩
abbrev S512 : Shape := ⟨1, ![512]⟩
abbrev S128x1x512 : Shape := ⟨3, ![128, 1, 512]⟩
abbrev S128x31x512 : Shape := ⟨3, ![128, 31, 512]⟩
abbrev S1x31x512 : Shape := ⟨3, ![1, 31, 512]⟩
abbrev S_ : Shape := ⟨0, ![]⟩
abbrev S1x512 : Shape := ⟨2, ![1, 512]⟩
abbrev S128 : Shape := ⟨1, ![128]⟩
abbrev S128x1 : Shape := ⟨2, ![128, 1]⟩

abbrev nBuf : Space → Nat
  | .hbm => 53
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x30x512, .f32⟩
  | .hbm, ⟨2, _⟩ => ⟨S31x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S128x1x512, .f32⟩
  | .hbm, ⟨7, _⟩ => ⟨S128x31x512, .f32⟩
  | .hbm, ⟨8, _⟩ => ⟨S1x31x512, .f32⟩
  | .hbm, ⟨9, _⟩ => ⟨S128x31x512, .f32⟩
  | .hbm, ⟨10, _⟩ => ⟨S128x31x512, .f32⟩
  | .hbm, ⟨11, _⟩ => ⟨S_, .f32⟩
  | .hbm, ⟨12, _⟩ => ⟨S128x512, .f32⟩
  | .hbm, ⟨13, _⟩ => ⟨S1x512, .f32⟩
  | .hbm, ⟨14, _⟩ => ⟨S128x512, .f32⟩
  | .hbm, ⟨15, _⟩ => ⟨S128x512, .f32⟩
  | .hbm, ⟨16, _⟩ => ⟨S_, .f32⟩
  | .hbm, ⟨17, _⟩ => ⟨S128, .f32⟩
  | .hbm, ⟨18, _⟩ => ⟨S128x1, .f32⟩
  | .hbm, ⟨19, _⟩ => ⟨S_, .f32⟩
  | .hbm, ⟨20, _⟩ => ⟨S128x1, .f32⟩
  | .hbm, ⟨21, _⟩ => ⟨S128x1, .f32⟩
  | .hbm, ⟨22, _⟩ => ⟨S128x512, .f32⟩
  | .hbm, ⟨23, _⟩ => ⟨S128x512, .f32⟩
  | .hbm, ⟨24, _⟩ => ⟨S128x512, .f32⟩
  | .hbm, ⟨25, _⟩ => ⟨S_, .f32⟩
  | .hbm, ⟨26, _⟩ => ⟨S128, .f32⟩
  | .hbm, ⟨27, _⟩ => ⟨S128x1, .f32⟩
  | .hbm, ⟨28, _⟩ => ⟨S_, .f32⟩
  | .hbm, ⟨29, _⟩ => ⟨S128x1, .f32⟩
  | .hbm, ⟨30, _⟩ => ⟨S128x1, .f32⟩
  | .hbm, ⟨31, _⟩ => ⟨S_, .f32⟩
  | .hbm, ⟨32, _⟩ => ⟨S128x1, .f32⟩
  | .hbm, ⟨33, _⟩ => ⟨S128x1, .f32⟩
  | .hbm, ⟨34, _⟩ => ⟨S128x1, .f32⟩
  | .hbm, ⟨35, _⟩ => ⟨S128x512, .f32⟩
  | .hbm, ⟨36, _⟩ => ⟨S128x512, .f32⟩
  | .hbm, ⟨37, _⟩ => ⟨S1x512, .f32⟩
  | .hbm, ⟨38, _⟩ => ⟨S128x512, .f32⟩
  | .hbm, ⟨39, _⟩ => ⟨S128x512, .f32⟩
  | .hbm, ⟨40, _⟩ => ⟨S1x512, .f32⟩
  | .hbm, ⟨41, _⟩ => ⟨S128x512, .f32⟩
  | .hbm, ⟨42, _⟩ => ⟨S128x512, .f32⟩
  | .hbm, ⟨43, _⟩ => ⟨S128x512, .f32⟩
  | .hbm, ⟨44, _⟩ => ⟨S128x512, .f32⟩
  | .hbm, ⟨45, _⟩ => ⟨S_, .f32⟩
  | .hbm, ⟨46, _⟩ => ⟨S128x512, .f32⟩
  | .hbm, ⟨47, _⟩ => ⟨S128x512, .f32⟩
  | .hbm, ⟨48, _⟩ => ⟨S_, .f32⟩
  | .hbm, ⟨49, _⟩ => ⟨S128x512, .f32⟩
  | .hbm, ⟨50, _⟩ => ⟨S128x512, .f32⟩
  | .hbm, ⟨51, _⟩ => ⟨S128x512, .f32⟩
  | .hbm, ⟨52, _⟩ => ⟨S128x512, .bf16⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel7.lean ====
abbrev S128x1024 : Shape := ⟨2, ![128, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S8x1x1 : Shape := ⟨3, ![8, 1, 1]⟩
abbrev S8 : Shape := ⟨1, ![8]⟩
abbrev S1x1024 : Shape := ⟨2, ![1, 1024]⟩
abbrev S8x1 : Shape := ⟨2, ![8, 1]⟩
abbrev S128 : Shape := ⟨1, ![128]⟩
abbrev S128x1 : Shape := ⟨2, ![128, 1]⟩
abbrev S128x2048 : Shape := ⟨2, ![128, 2048]⟩

abbrev nBuf : Space → Nat
  | .hbm => 25
  | .vmem => 10
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S8x1x1, .f32⟩
  | .hbm, ⟨9, _⟩ => ⟨S8, .f32⟩
  | .hbm, ⟨10, _⟩ => ⟨S8x128, .f32⟩
  | .hbm, ⟨11, _⟩ => ⟨S1024, .f32⟩
  | .hbm, ⟨12, _⟩ => ⟨S1x1024, .f32⟩
  | .hbm, ⟨13, _⟩ => ⟨S8x1, .f32⟩
  | .hbm, ⟨14, _⟩ => ⟨S8, .f32⟩
  | .hbm, ⟨15, _⟩ => ⟨S8x128, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S1024x2048, .bf16⟩
  | .hbm, ⟨20, _⟩ => ⟨S1x1024, .f32⟩
  | .hbm, ⟨21, _⟩ => ⟨S1x1024, .f32⟩
  | .hbm, ⟨22, _⟩ => ⟨S1024x1024, .bf16⟩
  | .hbm, ⟨23, _⟩ => ⟨S128x1024, .f32⟩
  | .hbm, ⟨24, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x2048, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S128x1024, .f32⟩
  | .local _ .vmem, ⟨9, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference7Ideal.lean ====
abbrev S128x1024 : Shape := ⟨2, ![128, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S128x1x1024 : Shape := ⟨3, ![128, 1, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x2048 : Shape := ⟨3, ![128, 1, 2048]⟩
abbrev S128x128x2048 : Shape := ⟨3, ![128, 128, 2048]⟩
abbrev S128x128x1024 : Shape := ⟨3, ![128, 128, 1024]⟩
abbrev S128x128 : Shape := ⟨2, ![128, 128]⟩
abbrev S128x128x1 : Shape := ⟨3, ![128, 128, 1]⟩
abbrev S128x1x128x8x128 : Shape := ⟨5, ![128, 1, 128, 8, 128]⟩
abbrev S1x128x128 : Shape := ⟨3, ![1, 128, 128]⟩
abbrev S8x128x1x128x128 : Shape := ⟨5, ![8, 128, 1, 128, 128]⟩
abbrev S128x8 : Shape := ⟨2, ![128, 8]⟩
abbrev S1x1x128x8x1 : Shape := ⟨5, ![1, 1, 128, 8, 1]⟩

abbrev nBuf : Space → Nat
  | .hbm => 104
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S128x1x1024, .f32⟩
  | .hbm, ⟨9, _⟩ => ⟨S128x1x1024, .f32⟩
  | .hbm, ⟨10, _⟩ => ⟨S_, .f32⟩
  | .hbm, ⟨11, _⟩ => ⟨S128x1, .f32⟩
  | .hbm, ⟨12, _⟩ => ⟨S128x1x1, .f32⟩
  | .hbm, ⟨13, _⟩ => ⟨S_, .f32⟩
  | .hbm, ⟨14, _⟩ => ⟨S128x1x1, .f32⟩
  | .hbm, ⟨15, _⟩ => ⟨S128x1x1, .f32⟩
  | .hbm, ⟨16, _⟩ => ⟨S_, .f32⟩
  | .hbm, ⟨17, _⟩ => ⟨S128x1x1, .f32⟩
  | .hbm, ⟨18, _⟩ => ⟨S128x1x1, .f32⟩
  | .hbm, ⟨19, _⟩ => ⟨S128x1x1, .f32⟩
  | .hbm, ⟨20, _⟩ => ⟨S128x1x1024, .f32⟩
  | .hbm, ⟨21, _⟩ => ⟨S128x1x1024, .f32⟩
  | .hbm, ⟨22, _⟩ => ⟨S1x1x1024, .f32⟩
  | .hbm, ⟨23, _⟩ => ⟨S128x1x1024, .f32⟩
  | .hbm, ⟨24, _⟩ => ⟨S128x1x1024, .f32⟩
  | .hbm, ⟨25, _⟩ => ⟨S128x1x2048, .f32⟩
  | .hbm, ⟨26, _⟩ => ⟨S128x1x2048, .f32⟩
  | .hbm, ⟨27, _⟩ => ⟨S128x1x2048, .f32⟩
  | .hbm, ⟨28, _⟩ => ⟨S_, .f32⟩
  | .hbm, ⟨29, _⟩ => ⟨S128x1x2048, .f32⟩
  | .hbm, ⟨30, _⟩ => ⟨S128x1x2048, .f32⟩
  | .hbm, ⟨31, _⟩ => ⟨S128x1x2048, .f32⟩
  | .hbm, ⟨32, _⟩ => ⟨S_, .f32⟩
  | .hbm, ⟨33, _⟩ => ⟨S128x1x2048, .f32⟩
  | .hbm, ⟨34, _⟩ => ⟨S128x1x2048, .f32⟩
  | .hbm, ⟨35, _⟩ => ⟨S128x1x2048, .f32⟩
  | .hbm, ⟨36, _⟩ => ⟨S_, .f32⟩
  | .hbm, ⟨37, _⟩ => ⟨S128x1x2048, .f32⟩
  | .hbm, ⟨38, _⟩ => ⟨S128x1x2048, .f32⟩
  | .hbm, ⟨39, _⟩ => ⟨S_, .f32⟩
  | .hbm, ⟨40, _⟩ => ⟨S128x1x2048, .f32⟩
  | .hbm, ⟨41, _⟩ => ⟨S128x1x2048, .f32⟩
  | .hbm, ⟨42, _⟩ => ⟨S128x1x2048, .f32⟩
  | .hbm, ⟨43, _⟩ => ⟨S_, .i32⟩
  | .hbm, ⟨44, _⟩ => ⟨S_, .f32⟩
  | .hbm, ⟨45, _⟩ => ⟨S128x128x2048, .f32⟩
  | .hbm, ⟨46, _⟩ => ⟨S128x128x1024, .f32⟩
  | .hbm, ⟨47, _⟩ => ⟨S128x128x1024, .f32⟩
  | .hbm, ⟨48, _⟩ => ⟨S_, .f32⟩
  | .hbm, ⟨49, _⟩ => ⟨S128x128, .f32⟩
  | .hbm, ⟨50, _⟩ => ⟨S128x128x1, .f32⟩
  | .hbm, ⟨51, _⟩ => ⟨S_, .f32⟩
  | .hbm, ⟨52, _⟩ => ⟨S128x128x1, .f32⟩
  | .hbm, ⟨53, _⟩ => ⟨S128x128x1, .f32⟩
  | .hbm, ⟨54, _⟩ => ⟨S128x128x1024, .f32⟩
  | .hbm, ⟨55, _⟩ => ⟨S128x128x1024, .f32⟩
  | .hbm, ⟨56, _⟩ => ⟨S128x128x1024, .f32⟩
  | .hbm, ⟨57, _⟩ => ⟨S_, .f32⟩
  | .hbm, ⟨58, _⟩ => ⟨S128x128, .f32⟩
  | .hbm, ⟨59, _⟩ => ⟨S128x128x1, .f32⟩
  | .hbm, ⟨60, _⟩ => ⟨S_, .f32⟩
  | .hbm, ⟨61, _⟩ => ⟨S128x128x1, .f32⟩
  | .hbm, ⟨62, _⟩ => ⟨S128x128x1, .f32⟩
  | .hbm, ⟨63, _⟩ => ⟨S_, .f32⟩
  | .hbm, ⟨64, _⟩ => ⟨S128x128x1, .f32⟩
  | .hbm, ⟨65, _⟩ => ⟨S128x128x1, .f32⟩
  | .hbm, ⟨66, _⟩ => ⟨S128x128x1, .f32⟩
  | .hbm, ⟨67, _⟩ => ⟨S128x128x1024, .f32⟩
  | .hbm, ⟨68, _⟩ => ⟨S128x128x1024, .f32⟩
  | .hbm, ⟨69, _⟩ => ⟨S1x1x1024, .f32⟩
  | .hbm, ⟨70, _⟩ => ⟨S128x128x1024, .f32⟩
  | .hbm, ⟨71, _⟩ => ⟨S128x128x1024, .f32⟩
  | .hbm, ⟨72, _⟩ => ⟨S1x1x1024, .f32⟩
  | .hbm, ⟨73, _⟩ => ⟨S128x128x1024, .f32⟩
  | .hbm, ⟨74, _⟩ => ⟨S128x128x1024, .f32⟩
  | .hbm, ⟨75, _⟩ => ⟨S128x1x128x8x128, .f32⟩
  | .hbm, ⟨76, _⟩ => ⟨S_, .f32⟩
  | .hbm, ⟨77, _⟩ => ⟨S128x128, .f32⟩
  | .hbm, ⟨78, _⟩ => ⟨S128x128, .i32⟩
  | .hbm, ⟨79, _⟩ => ⟨S_, .i32⟩
  | .hbm, ⟨80, _⟩ => ⟨S128x128, .i32⟩
  | .hbm, ⟨81, _⟩ => ⟨S128x128, .i32⟩
  | .hbm, ⟨82, _⟩ => ⟨S128x128, .i32⟩
  | .hbm, ⟨83, _⟩ => ⟨S128x128, .i1⟩
  | .hbm, ⟨84, _⟩ => ⟨S_, .f32⟩
  | .hbm, ⟨85, _⟩ => ⟨S128x128, .f32⟩
  | .hbm, ⟨86, _⟩ => ⟨S128x128, .f32⟩
  | .hbm, ⟨87, _⟩ => ⟨S1x128x128, .f32⟩
  | .hbm, ⟨88, _⟩ => ⟨S8x128x128, .f32⟩
  | .hbm, ⟨89, _⟩ => ⟨S8x128x128, .f32⟩
  | .hbm, ⟨90, _⟩ => ⟨S8x128x1x128x128, .f32⟩
  | .hbm, ⟨91, _⟩ => ⟨S128x1x128x8x128, .f32⟩
  | .hbm, ⟨92, _⟩ => ⟨S128x8, .f32⟩
  | .hbm, ⟨93, _⟩ => ⟨S1x1x128x8x1, .f32⟩
  | .hbm, ⟨94, _⟩ => ⟨S128x1x128x8x128, .f32⟩
  | .hbm, ⟨95, _⟩ => ⟨S128x1x128x8x128, .f32⟩
  | .hbm, ⟨96, _⟩ => ⟨S128x128x1024, .f32⟩
  | .hbm, ⟨97, _⟩ => ⟨S128x128x1024, .f32⟩
  | .hbm, ⟨98, _⟩ => ⟨S128x1x1024, .f32⟩
  | .hbm, ⟨99, _⟩ => ⟨S128x1x1024, .f32⟩
  | .hbm, ⟨100, _⟩ => ⟨S128x1x1024, .f32⟩
  | .hbm, ⟨101, _⟩ => ⟨S128x1024, .f32⟩
  | .hbm, ⟨102, _⟩ => ⟨S128x1x1024, .f32⟩
  | .hbm, ⟨103, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c : Ref sig .tc := ⟨.hbm, 43, rfl⟩
abbrev main_call0_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_call1_v0 : Ref sig .tc := ⟨.hbm, 78, rfl⟩
abbrev main_call1_c : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_cst : Ref sig .tc := ⟨.hbm, 84, rfl⟩
abbrev main_call1_v5 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]
-- ==== Kernel8.lean ====
abbrev S128x512 : Shape := ⟨2, ![128, 512]⟩
abbrev S128x128 : Shape := ⟨2, ![128, 128]⟩
abbrev S128x128x2x64 : Shape := ⟨4, ![128, 128, 2, 64]⟩
abbrev S8 : Shape := ⟨1, ![8]⟩
abbrev S2x4x1 : Shape := ⟨3, ![2, 4, 1]⟩
abbrev S2x4x128 : Shape := ⟨3, ![2, 4, 128]⟩
abbrev S128x2x4x64 : Shape := ⟨4, ![128, 2, 4, 64]⟩
abbrev S128x2x64 : Shape := ⟨3, ![128, 2, 64]⟩
abbrev S128x128x128 : Shape := ⟨3, ![128, 128, 128]⟩
abbrev S32x2x4x64 : Shape := ⟨4, ![32, 2, 4, 64]⟩
abbrev S32x2x64 : Shape := ⟨3, ![32, 2, 64]⟩
abbrev S32x128x128 : Shape := ⟨3, ![32, 128, 128]⟩
abbrev S1x1x128 : Shape := ⟨3, ![1, 1, 128]⟩
abbrev S1x4x1 : Shape := ⟨3, ![1, 4, 1]⟩
abbrev S32x1x4x64 : Shape := ⟨4, ![32, 1, 4, 64]⟩
abbrev S32x4x64 : Shape := ⟨3, ![32, 4, 64]⟩
abbrev S32x128x64 : Shape := ⟨3, ![32, 128, 64]⟩
abbrev S32x4x128 : Shape := ⟨3, ![32, 4, 128]⟩
abbrev S1x4x128 : Shape := ⟨3, ![1, 4, 128]⟩
abbrev S32x1x64 : Shape := ⟨3, ![32, 1, 64]⟩
abbrev S32x64 : Shape := ⟨2, ![32, 64]⟩
abbrev S32x4 : Shape := ⟨2, ![32, 4]⟩
abbrev S32x4x1 : Shape := ⟨3, ![32, 4, 1]⟩
abbrev S4x128 : Shape := ⟨2, ![4, 128]⟩
abbrev S4x1 : Shape := ⟨2, ![4, 1]⟩

abbrev nBuf : Space → Nat
  | .hbm => 14
  | .vmem => 13
  | .smem => 0
  | _ => 0

abbrev bufTy : (tb : Table) → Fin (tcTables nBuf tb) → BufTy
  | .hbm, ⟨0, _⟩ => ⟨S128x512, .bf16⟩
  | .hbm, ⟨1, _⟩ => ⟨S128x128, .f32⟩
  | .hbm, ⟨2, _⟩ => ⟨S128x128, .f32⟩
  | .hbm, ⟨3, _⟩ => ⟨S128x128x2x64, .f32⟩
  | .hbm, ⟨4, _⟩ => ⟨S128x128x2x64, .f32⟩
  | .hbm, ⟨5, _⟩ => ⟨S8, .f32⟩
  | .hbm, ⟨6, _⟩ => ⟨S2x4x1, .f32⟩
  | .hbm, ⟨7, _⟩ => ⟨S2x4x128, .f32⟩
  | .hbm, ⟨8, _⟩ => ⟨S128x2x4x64, .bf16⟩
  | .hbm, ⟨9, _⟩ => ⟨S128x2x64, .f32⟩
  | .hbm, ⟨10, _⟩ => ⟨S128x2x64, .f32⟩
  | .hbm, ⟨11, _⟩ => ⟨S128x128x128, .f32⟩
  | .hbm, ⟨12, _⟩ => ⟨S128x128x128, .f32⟩
  | .hbm, ⟨13, _⟩ => ⟨S128x2x4x64, .bf16⟩
  | .local _ .vmem, ⟨0, _⟩ => ⟨S2x4x128, .f32⟩
  | .local _ .vmem, ⟨1, _⟩ => ⟨S32x2x4x64, .bf16⟩
  | .local _ .vmem, ⟨2, _⟩ => ⟨S32x2x4x64, .bf16⟩
  | .local _ .vmem, ⟨3, _⟩ => ⟨S32x2x64, .f32⟩
  | .local _ .vmem, ⟨4, _⟩ => ⟨S32x2x64, .f32⟩
  | .local _ .vmem, ⟨5, _⟩ => ⟨S32x2x64, .f32⟩
  | .local _ .vmem, ⟨6, _⟩ => ⟨S32x2x64, .f32⟩
  | .local _ .vmem, ⟨7, _⟩ => ⟨S32x128x128, .f32⟩
  | .local _ .vmem, ⟨8, _⟩ => ⟨S32x128x128, .f32⟩
  | .local _ .vmem, ⟨9, _⟩ => ⟨S32x128x128, .f32⟩
  | .local _ .vmem, ⟨10, _⟩ => ⟨S32x128x128, .f32⟩
  | .local _ .vmem, ⟨11, _⟩ => ⟨S32x2x4x64, .bf16⟩
  | .local _ .vmem, ⟨12, _⟩ => ⟨S32x2x4x64, .bf16⟩
  | _, _ => ⟨S128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S2x4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x2x4x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x2x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x2x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x2x4x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S128x512 : Shape := ⟨2, ![128, 512]⟩
abbrev S128x128 : Shape := ⟨2, ![128, 128]⟩
abbrev S128x128x2x64 : Shape := ⟨4, ![128, 128, 2, 64]⟩
abbrev S8 : Shape := ⟨1, ![8]⟩
abbrev S128x1x2x64 : Shape := ⟨4, ![128, 1, 2, 64]⟩
abbrev S128x129x2x64 : Shape := ⟨4, ![128, 129, 2, 64]⟩
abbrev S128x1x2x4x64 : Shape := ⟨5, ![128, 1, 2, 4, 64]⟩
abbrev S128x2x129x1x4 : Shape := ⟨5, ![128, 2, 129, 1, 4]⟩
abbrev S128x2x4x1x129 : Shape := ⟨5, ![128, 2, 4, 1, 129]⟩
abbrev S1 : Shape := ⟨1, ![1]⟩
abbrev S1x1 : Shape := ⟨2, ![1, 1]⟩
abbrev S129 : Shape := ⟨1, ![129]⟩
abbrev S1x129 : Shape := ⟨2, ![1, 129]⟩
abbrev S_ : Shape := ⟨0, ![]⟩
abbrev S2x4x1x1 : Shape := ⟨4, ![2, 4, 1, 1]⟩
abbrev S1x1x1x129 : Shape := ⟨4, ![1, 1, 1, 129]⟩
abbrev S2x4x1x129 : Shape := ⟨4, ![2, 4, 1, 129]⟩
abbrev S1x2x4x1x129 : Shape := ⟨5, ![1, 2, 4, 1, 129]⟩
abbrev S128x2x4x1 : Shape := ⟨4, ![128, 2, 4, 1]⟩
abbrev S128x2x4x1x1 : Shape := ⟨5, ![128, 2, 4, 1, 1]⟩
abbrev S1x2x4x1x1 : Shape := ⟨5, ![1, 2, 4, 1, 1]⟩
abbrev S128x2x64x4x1 : Shape := ⟨5, ![128, 2, 64, 4, 1]⟩
abbrev S128x2x4x64 : Shape := ⟨4, ![128, 2, 4, 64]⟩

abbrev nBuf : Space → Nat
  | .hbm => 79
  | .vmem => 0
  | .smem => 0
  | _ => 0

abbrev bufTy : (tb : Table) → Fin (tcTables nBuf tb) → BufTy
  | .hbm, ⟨0, _⟩ => ⟨S128x512, .bf16⟩
  | .hbm, ⟨1, _⟩ => ⟨S128x128, .f32⟩
  | .hbm, ⟨2, _⟩ => ⟨S128x128, .f32⟩
  | .hbm, ⟨3, _⟩ => ⟨S128x128x2x64, .f32⟩
  | .hbm, ⟨4, _⟩ => ⟨S128x128x2x64, .f32⟩
  | .hbm, ⟨5, _⟩ => ⟨S8, .f32⟩
  | .hbm, ⟨6, _⟩ => ⟨S128x1x2x64, .f32⟩
  | .hbm, ⟨7, _⟩ => ⟨S128x129x2x64, .f32⟩
  | .hbm, ⟨8, _⟩ => ⟨S128x1x2x64, .f32⟩
  | .hbm, ⟨9, _⟩ => ⟨S128x129x2x64, .f32⟩
  | .hbm, ⟨10, _⟩ => ⟨S128x512, .f32⟩
  | .hbm, ⟨11, _⟩ => ⟨S128x1x2x4x64, .f32⟩
  | .hbm, ⟨12, _⟩ => ⟨S128x2x129x1x4, .f32⟩
  | .hbm, ⟨13, _⟩ => ⟨S128x2x4x1x129, .f32⟩
  | .hbm, ⟨14, _⟩ => ⟨S1, .i32⟩
  | .hbm, ⟨15, _⟩ => ⟨S1x1, .i32⟩
  | .hbm, ⟨16, _⟩ => ⟨S129, .i32⟩
  | .hbm, ⟨17, _⟩ => ⟨S1x129, .i32⟩
  | .hbm, ⟨18, _⟩ => ⟨S_, .i32⟩
  | .hbm, ⟨19, _⟩ => ⟨S1x1, .i32⟩
  | .hbm, ⟨20, _⟩ => ⟨S1x1, .i32⟩
  | .hbm, ⟨21, _⟩ => ⟨S1x129, .i32⟩
  | .hbm, ⟨22, _⟩ => ⟨S1x129, .i32⟩
  | .hbm, ⟨23, _⟩ => ⟨S1x129, .f32⟩
  | .hbm, ⟨24, _⟩ => ⟨S_, .f32⟩
  | .hbm, ⟨25, _⟩ => ⟨S1x129, .f32⟩
  | .hbm, ⟨26, _⟩ => ⟨S1x129, .i1⟩
  | .hbm, ⟨27, _⟩ => ⟨S_, .f32⟩
  | .hbm, ⟨28, _⟩ => ⟨S1x129, .f32⟩
  | .hbm, ⟨29, _⟩ => ⟨S1x129, .i1⟩
  | .hbm, ⟨30, _⟩ => ⟨S1x129, .i1⟩
  | .hbm, ⟨31, _⟩ => ⟨S8, .i32⟩
  | .hbm, ⟨32, _⟩ => ⟨S_, .i32⟩
  | .hbm, ⟨33, _⟩ => ⟨S8, .i32⟩
  | .hbm, ⟨34, _⟩ => ⟨S8, .i32⟩
  | .hbm, ⟨35, _⟩ => ⟨S_, .i32⟩
  | .hbm, ⟨36, _⟩ => ⟨S8, .i32⟩
  | .hbm, ⟨37, _⟩ => ⟨S8, .i32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S2x4x1x1, .f32⟩
  | .hbm, ⟨43, _⟩ => ⟨S1x1x1x129, .f32⟩
  | .hbm, ⟨44, _⟩ => ⟨S2x4x1x129, .f32⟩
  | .hbm, ⟨45, _⟩ => ⟨S2x4x1x129, .f32⟩
  | .hbm, ⟨46, _⟩ => ⟨S2x4x1x129, .f32⟩
  | .hbm, ⟨47, _⟩ => ⟨S1x2x4x1x129, .f32⟩
  | .hbm, ⟨48, _⟩ => ⟨S128x2x4x1x129, .f32⟩
  | .hbm, ⟨49, _⟩ => ⟨S128x2x4x1x129, .f32⟩
  | .hbm, ⟨50, _⟩ => ⟨S_, .f32⟩
  | .hbm, ⟨51, _⟩ => ⟨S_, .f32⟩
  | .hbm, ⟨52, _⟩ => ⟨S128x2x4x1x129, .i1⟩
  | .hbm, ⟨53, _⟩ => ⟨S128x2x4x1x129, .f32⟩
  | .hbm, ⟨54, _⟩ => ⟨S128x2x4x1x129, .f32⟩
  | .hbm, ⟨55, _⟩ => ⟨S2x4x1x1, .f32⟩
  | .hbm, ⟨56, _⟩ => ⟨S_, .f32⟩
  | .hbm, ⟨57, _⟩ => ⟨S128x2x4x1, .f32⟩
  | .hbm, ⟨58, _⟩ => ⟨S128x2x4x1x1, .f32⟩
  | .hbm, ⟨59, _⟩ => ⟨S1x2x4x1x1, .f32⟩
  | .hbm, ⟨60, _⟩ => ⟨S128x2x4x1x1, .f32⟩
  | .hbm, ⟨61, _⟩ => ⟨S128x2x4x1x1, .f32⟩
  | .hbm, ⟨62, _⟩ => ⟨S128x2x4x1x129, .f32⟩
  | .hbm, ⟨63, _⟩ => ⟨S128x2x4x1x129, .f32⟩
  | .hbm, ⟨64, _⟩ => ⟨S128x2x4x1x129, .f32⟩
  | .hbm, ⟨65, _⟩ => ⟨S_, .f32⟩
  | .hbm, ⟨66, _⟩ => ⟨S128x2x4x1, .f32⟩
  | .hbm, ⟨67, _⟩ => ⟨S128x2x4x1x1, .f32⟩
  | .hbm, ⟨68, _⟩ => ⟨S1x2x4x1x1, .f32⟩
  | .hbm, ⟨69, _⟩ => ⟨S128x2x4x1x1, .f32⟩
  | .hbm, ⟨70, _⟩ => ⟨S128x2x4x1x1, .f32⟩
  | .hbm, ⟨71, _⟩ => ⟨S128x2x4x1x1, .f32⟩
  | .hbm, ⟨72, _⟩ => ⟨S128x2x4x1x1, .f32⟩
  | .hbm, ⟨73, _⟩ => ⟨S128x2x4x1x129, .f32⟩
  | .hbm, ⟨74, _⟩ => ⟨S128x2x4x1x129, .f32⟩
  | .hbm, ⟨75, _⟩ => ⟨S128x2x64x4x1, .f32⟩
  | .hbm, ⟨76, _⟩ => ⟨S128x1x2x4x64, .f32⟩
  | .hbm, ⟨77, _⟩ => ⟨S128x2x4x64, .f32⟩
  | .hbm, ⟨78, _⟩ => ⟨S128x2x4x64, .bf16⟩
  | _, _ => ⟨S128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_1 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Kernel9.lean ====
abbrev S128x1024 : Shape := ⟨2, ![128, 1024]⟩
abbrev S128x30x512 : Shape := ⟨3, ![128, 30, 512]⟩
abbrev S128x128x2x64 : Shape := ⟨4, ![128, 128, 2, 64]⟩
abbrev S1024 : Shape := ⟨1, ![1024]⟩
abbrev S1024x1792 : Shape := ⟨2, ![1024, 1792]⟩
abbrev S64 : Shape := ⟨1, ![64]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S1x64 : Shape := ⟨2, ![1, 64]⟩
abbrev S8x64 : Shape := ⟨2, ![8, 64]⟩
abbrev S2x64 : Shape := ⟨2, ![2, 64]⟩
abbrev S128 : Shape := ⟨1, ![128]⟩
abbrev S1x128 : Shape := ⟨2, ![1, 128]⟩
abbrev S128x512 : Shape := ⟨2, ![128, 512]⟩
abbrev S128x128 : Shape := ⟨2, ![128, 128]⟩
abbrev S128x1 : Shape := ⟨2, ![128, 1]⟩
abbrev S128x1792 : Shape := ⟨2, ![128, 1792]⟩
abbrev S128x29x512 : Shape := ⟨3, ![128, 29, 512]⟩
abbrev S128x1x512 : Shape := ⟨3, ![128, 1, 512]⟩
abbrev S128x127x2x64 : Shape := ⟨4, ![128, 127, 2, 64]⟩
abbrev S128x1x2x64 : Shape := ⟨4, ![128, 1, 2, 64]⟩

abbrev nBuf : Space → Nat
  | .hbm => 56
  | .vmem => 10
  | .smem => 0
  | _ => 0

abbrev bufTy : (tb : Table) → Fin (tcTables nBuf tb) → BufTy
  | .hbm, ⟨0, _⟩ => ⟨S128x1024, .f32⟩
  | .hbm, ⟨1, _⟩ => ⟨S128x30x512, .f32⟩
  | .hbm, ⟨2, _⟩ => ⟨S128x128x2x64, .f32⟩
  | .hbm, ⟨3, _⟩ => ⟨S128x128x2x64, .f32⟩
  | .hbm, ⟨4, _⟩ => ⟨S1024, .f32⟩
  | .hbm, ⟨5, _⟩ => ⟨S1024x1792, .f32⟩
  | .hbm, ⟨6, _⟩ => ⟨S64, .f32⟩
  | .hbm, ⟨7, _⟩ => ⟨S64, .f32⟩
  | .hbm, ⟨8, _⟩ => ⟨S512, .i32⟩
  | .hbm, ⟨9, _⟩ => ⟨S_, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S1x512, .i32⟩
  | .hbm, ⟨29, _⟩ => ⟨S512x512, .i32⟩
  | .hbm, ⟨30, _⟩ => ⟨S512x512, .i32⟩
  | .hbm, ⟨31, _⟩ => ⟨S512x512, .i1⟩
  | .hbm, ⟨32, _⟩ => ⟨S512x512, .bf16⟩
  | .hbm, ⟨33, _⟩ => ⟨S1x1024, .f32⟩
  | .hbm, ⟨34, _⟩ => ⟨S1024x1792, .bf16⟩
  | .hbm, ⟨35, _⟩ => ⟨S1x64, .f32⟩
  | .hbm, ⟨36, _⟩ => ⟨S8x64, .f32⟩
  | .hbm, ⟨37, _⟩ => ⟨S512, .f32⟩
  | .hbm, ⟨38, _⟩ => ⟨S1x512, .f32⟩
  | .hbm, ⟨39, _⟩ => ⟨S1x64, .f32⟩
  | .hbm, ⟨40, _⟩ => ⟨S2x64, .f32⟩
  | .hbm, ⟨41, _⟩ => ⟨S128, .f32⟩
  | .hbm, ⟨42, _⟩ => ⟨S1x128, .f32⟩
  | .hbm, ⟨43, _⟩ => ⟨S128x512, .f32⟩
  | .hbm, ⟨44, _⟩ => ⟨S128x512, .bf16⟩
  | .hbm, ⟨45, _⟩ => ⟨S128x128, .f32⟩
  | .hbm, ⟨46, _⟩ => ⟨S128x128, .f32⟩
  | .hbm, ⟨47, _⟩ => ⟨S128x29x512, .f32⟩
  | .hbm, ⟨48, _⟩ => ⟨S128x1x512, .f32⟩
  | .hbm, ⟨49, _⟩ => ⟨S128x30x512, .f32⟩
  | .hbm, ⟨50, _⟩ => ⟨S128x127x2x64, .f32⟩
  | .hbm, ⟨51, _⟩ => ⟨S128x1x2x64, .f32⟩
  | .hbm, ⟨52, _⟩ => ⟨S128x128x2x64, .f32⟩
  | .hbm, ⟨53, _⟩ => ⟨S128x127x2x64, .f32⟩
  | .hbm, ⟨54, _⟩ => ⟨S128x1x2x64, .f32⟩
  | .hbm, ⟨55, _⟩ => ⟨S128x128x2x64, .f32⟩
  | .local _ .vmem, ⟨0, _⟩ => ⟨S128x1024, .f32⟩
  | .local _ .vmem, ⟨1, _⟩ => ⟨S1x1024, .f32⟩
  | .local _ .vmem, ⟨2, _⟩ => ⟨S1024x1792, .bf16⟩
  | .local _ .vmem, ⟨3, _⟩ => ⟨S1x512, .f32⟩
  | .local _ .vmem, ⟨4, _⟩ => ⟨S1x128, .f32⟩
  | .local _ .vmem, ⟨5, _⟩ => ⟨S512x512, .bf16⟩
  | .local _ .vmem, ⟨6, _⟩ => ⟨S128x512, .f32⟩
  | .local _ .vmem, ⟨7, _⟩ => ⟨S128x512, .bf16⟩
  | .local _ .vmem, ⟨8, _⟩ => ⟨S128x128, .f32⟩
  | .local _ .vmem, ⟨9, _⟩ => ⟨S128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18_0 : Ref sig .tc := ⟨.hbm, 43, rfl⟩
abbrev main_v18_1 : Ref sig .tc := ⟨.hbm, 44, rfl⟩
abbrev main_v18_2 : Ref sig .tc := ⟨.hbm, 45, rfl⟩
abbrev main_v18_3 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference9Ideal.lean ====
abbrev S128x1024 : Shape := ⟨2, ![128, 1024]⟩
abbrev S128x30x512 : Shape := ⟨3, ![128, 30, 512]⟩
abbrev S128x128x2x64 : Shape := ⟨4, ![128, 128, 2, 64]⟩
abbrev S1024 : Shape := ⟨1, ![1024]⟩
abbrev S1024x1792 : Shape := ⟨2, ![1024, 1792]⟩
abbrev S64 : Shape := ⟨1, ![64]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x1792 : Shape := ⟨2, ![128, 1792]⟩
abbrev S128x512 : Shape := ⟨2, ![128, 512]⟩
abbrev S128x8x64 : Shape := ⟨3, ![128, 8, 64]⟩
abbrev S128x128 : Shape := ⟨2, ![128, 128]⟩
abbrev S128x2x64 : Shape := ⟨3, ![128, 2, 64]⟩
abbrev S128x8 : Shape := ⟨2, ![128, 8]⟩
abbrev S128x8x1 : Shape := ⟨3, ![128, 8, 1]⟩
abbrev S1x1x64 : Shape := ⟨3, ![1, 1, 64]⟩
abbrev S128x2 : Shape := ⟨2, ![128, 2]⟩
abbrev S128x2x1 : Shape := ⟨3, ![128, 2, 1]⟩
abbrev S128x1x512 : Shape := ⟨3, ![128, 1, 512]⟩
abbrev S128x31x512 : Shape := ⟨3, ![128, 31, 512]⟩
abbrev S128x1x2x64 : Shape := ⟨4, ![128, 1, 2, 64]⟩
abbrev S128x129x2x64 : Shape := ⟨4, ![128, 129, 2, 64]⟩

abbrev nBuf : Space → Nat
  | .hbm => 88
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x30x512, .f32⟩
  | .hbm, ⟨2, _⟩ => ⟨S128x128x2x64, .f32⟩
  | .hbm, ⟨3, _⟩ => ⟨S128x128x2x64, .f32⟩
  | .hbm, ⟨4, _⟩ => ⟨S1024, .f32⟩
  | .hbm, ⟨5, _⟩ => ⟨S1024x1792, .f32⟩
  | .hbm, ⟨6, _⟩ => ⟨S64, .f32⟩
  | .hbm, ⟨7, _⟩ => ⟨S64, .f32⟩
  | .hbm, ⟨8, _⟩ => ⟨S128x1024, .f32⟩
  | .hbm, ⟨9, _⟩ => ⟨S_, .f32⟩
  | .hbm, ⟨10, _⟩ => ⟨S128, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S128x1, .f32⟩
  | .hbm, ⟨19, _⟩ => ⟨S128x1024, .f32⟩
  | .hbm, ⟨20, _⟩ => ⟨S128x1024, .f32⟩
  | .hbm, ⟨21, _⟩ => ⟨S1x1024, .f32⟩
  | .hbm, ⟨22, _⟩ => ⟨S128x1024, .f32⟩
  | .hbm, ⟨23, _⟩ => ⟨S128x1024, .f32⟩
  | .hbm, ⟨24, _⟩ => ⟨S128x1792, .f32⟩
  | .hbm, ⟨25, _⟩ => ⟨S128x512, .f32⟩
  | .hbm, ⟨26, _⟩ => ⟨S128x512, .f32⟩
  | .hbm, ⟨27, _⟩ => ⟨S128x512, .f32⟩
  | .hbm, ⟨28, _⟩ => ⟨S128x512, .f32⟩
  | .hbm, ⟨29, _⟩ => ⟨S_, .f32⟩
  | .hbm, ⟨30, _⟩ => ⟨S128x512, .f32⟩
  | .hbm, ⟨31, _⟩ => ⟨S128x512, .f32⟩
  | .hbm, ⟨32, _⟩ => ⟨S_, .f32⟩
  | .hbm, ⟨33, _⟩ => ⟨S128x512, .f32⟩
  | .hbm, ⟨34, _⟩ => ⟨S128x512, .f32⟩
  | .hbm, ⟨35, _⟩ => ⟨S128x512, .f32⟩
  | .hbm, ⟨36, _⟩ => ⟨S128x512, .f32⟩
  | .hbm, ⟨37, _⟩ => ⟨S128x8x64, .f32⟩
  | .hbm, ⟨38, _⟩ => ⟨S128x128, .f32⟩
  | .hbm, ⟨39, _⟩ => ⟨S128x2x64, .f32⟩
  | .hbm, ⟨40, _⟩ => ⟨S128x128, .f32⟩
  | .hbm, ⟨41, _⟩ => ⟨S128x2x64, .f32⟩
  | .hbm, ⟨42, _⟩ => ⟨S128x8x64, .f32⟩
  | .hbm, ⟨43, _⟩ => ⟨S_, .f32⟩
  | .hbm, ⟨44, _⟩ => ⟨S128x8, .f32⟩
  | .hbm, ⟨45, _⟩ => ⟨S128x8x1, .f32⟩
  | .hbm, ⟨46, _⟩ => ⟨S_, .f32⟩
  | .hbm, ⟨47, _⟩ => ⟨S128x8x1, .f32⟩
  | .hbm, ⟨48, _⟩ => ⟨S128x8x1, .f32⟩
  | .hbm, ⟨49, _⟩ => ⟨S_, .f32⟩
  | .hbm, ⟨50, _⟩ => ⟨S128x8x1, .f32⟩
  | .hbm, ⟨51, _⟩ => ⟨S128x8x1, .f32⟩
  | .hbm, ⟨52, _⟩ => ⟨S128x8x1, .f32⟩
  | .hbm, ⟨53, _⟩ => ⟨S128x8x64, .f32⟩
  | .hbm, ⟨54, _⟩ => ⟨S128x8x64, .f32⟩
  | .hbm, ⟨55, _⟩ => ⟨S1x1x64, .f32⟩
  | .hbm, ⟨56, _⟩ => ⟨S128x8x64, .f32⟩
  | .hbm, ⟨57, _⟩ => ⟨S128x8x64, .f32⟩
  | .hbm, ⟨58, _⟩ => ⟨S128x2x64, .f32⟩
  | .hbm, ⟨59, _⟩ => ⟨S_, .f32⟩
  | .hbm, ⟨60, _⟩ => ⟨S128x2, .f32⟩
  | .hbm, ⟨61, _⟩ => ⟨S128x2x1, .f32⟩
  | .hbm, ⟨62, _⟩ => ⟨S_, .f32⟩
  | .hbm, ⟨63, _⟩ => ⟨S128x2x1, .f32⟩
  | .hbm, ⟨64, _⟩ => ⟨S128x2x1, .f32⟩
  | .hbm, ⟨65, _⟩ => ⟨S_, .f32⟩
  | .hbm, ⟨66, _⟩ => ⟨S128x2x1, .f32⟩
  | .hbm, ⟨67, _⟩ => ⟨S128x2x1, .f32⟩
  | .hbm, ⟨68, _⟩ => ⟨S128x2x1, .f32⟩
  | .hbm, ⟨69, _⟩ => ⟨S128x2x64, .f32⟩
  | .hbm, ⟨70, _⟩ => ⟨S128x2x64, .f32⟩
  | .hbm, ⟨71, _⟩ => ⟨S1x1x64, .f32⟩
  | .hbm, ⟨72, _⟩ => ⟨S128x2x64, .f32⟩
  | .hbm, ⟨73, _⟩ => ⟨S128x2x64, .f32⟩
  | .hbm, ⟨74, _⟩ => ⟨S_, .f32⟩
  | .hbm, ⟨75, _⟩ => ⟨S128x8x64, .f32⟩
  | .hbm, ⟨76, _⟩ => ⟨S128x8x64, .f32⟩
  | .hbm, ⟨77, _⟩ => ⟨S128x512, .f32⟩
  | .hbm, ⟨78, _⟩ => ⟨S128x512, .bf16⟩
  | .hbm, ⟨79, _⟩ => ⟨S128x1x512, .f32⟩
  | .hbm, ⟨80, _⟩ => ⟨S128x31x512, .f32⟩
  | .hbm, ⟨81, _⟩ => ⟨S128x30x512, .f32⟩
  | .hbm, ⟨82, _⟩ => ⟨S128x1x2x64, .f32⟩
  | .hbm, ⟨83, _⟩ => ⟨S128x129x2x64, .f32⟩
  | .hbm, ⟨84, _⟩ => ⟨S128x128x2x64, .f32⟩
  | .hbm, ⟨85, _⟩ => ⟨S128x1x2x64, .f32⟩
  | .hbm, ⟨86, _⟩ => ⟨S128x129x2x64, .f32⟩
  | .hbm, ⟨87, _⟩ => ⟨S128x128x2x64, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩

abbrev nD : Nat := 1
abbrev τ : Topo := Topo.v7x

variable {F : FTy → Type} [FloatOps F]
-- ==== Kernel10.lean ====
abbrev S128x1024 : Shape := ⟨2, ![128, 1024]⟩
abbrev S128x512 : Shape := ⟨2, ![128, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S512x1024 : Shape := ⟨2, ![512, 1024]⟩
abbrev S128 : Shape := ⟨1, ![128]⟩
abbrev S128x1 : Shape := ⟨2, ![128, 1]⟩
abbrev S1024x1408 : Shape := ⟨2, ![1024, 1408]⟩
abbrev S128x1408 : Shape := ⟨2, ![128, 1408]⟩
abbrev S1408x1024 : Shape := ⟨2, ![1408, 1024]⟩

abbrev nBuf : Space → Nat
  | .hbm => 14
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S128x512, .bf16⟩
  | .hbm, ⟨2, _⟩ => ⟨S128x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x1024, .bf16⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S128x1024, .f32⟩
  | .local _ .vmem, ⟨0, _⟩ => ⟨S128x1024, .f32⟩
  | .local _ .vmem, ⟨1, _⟩ => ⟨S128x512, .bf16⟩
  | .local _ .vmem, ⟨2, _⟩ => ⟨S128x512, .bf16⟩
  | .local _ .vmem, ⟨3, _⟩ => ⟨S1x1024, .f32⟩
  | .local _ .vmem, ⟨4, _⟩ => ⟨S128x1024, .f32⟩
  | .local _ .vmem, ⟨5, _⟩ => ⟨S1024x1024, .bf16⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference10Ideal.lean ====
abbrev S128x1024 : Shape := ⟨2, ![128, 1024]⟩
abbrev S128x512 : Shape := ⟨2, ![128, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x2816 : Shape := ⟨2, ![128, 2816]⟩

abbrev nBuf : Space → Nat
  | .hbm => 43
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x512, .bf16⟩
  | .hbm, ⟨2, _⟩ => ⟨S128x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S128x512, .f32⟩
  | .hbm, ⟨9, _⟩ => ⟨S128x512, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128, .f32⟩
  | .hbm, ⟨16, _⟩ => ⟨S128x1, .f32⟩
  | .hbm, ⟨17, _⟩ => ⟨S_, .f32⟩
  | .hbm, ⟨18, _⟩ => ⟨S128x1, .f32⟩
  | .hbm, ⟨19, _⟩ => ⟨S128x1, .f32⟩
  | .hbm, ⟨20, _⟩ => ⟨S_, .f32⟩
  | .hbm, ⟨21, _⟩ => ⟨S128x1, .f32⟩
  | .hbm, ⟨22, _⟩ => ⟨S128x1, .f32⟩
  | .hbm, ⟨23, _⟩ => ⟨S128x1, .f32⟩
  | .hbm, ⟨24, _⟩ => ⟨S128x1024, .f32⟩
  | .hbm, ⟨25, _⟩ => ⟨S128x1024, .f32⟩
  | .hbm, ⟨26, _⟩ => ⟨S1x1024, .f32⟩
  | .hbm, ⟨27, _⟩ => ⟨S128x1024, .f32⟩
  | .hbm, ⟨28, _⟩ => ⟨S128x1024, .f32⟩
  | .hbm, ⟨29, _⟩ => ⟨S128x2816, .f32⟩
  | .hbm, ⟨30, _⟩ => ⟨S128x2816, .f32⟩
  | .hbm, ⟨31, _⟩ => ⟨S128x2816, .f32⟩
  | .hbm, ⟨32, _⟩ => ⟨S_, .f32⟩
  | .hbm, ⟨33, _⟩ => ⟨S128x2816, .f32⟩
  | .hbm, ⟨34, _⟩ => ⟨S128x2816, .f32⟩
  | .hbm, ⟨35, _⟩ => ⟨S_, .f32⟩
  | .hbm, ⟨36, _⟩ => ⟨S128x2816, .f32⟩
  | .hbm, ⟨37, _⟩ => ⟨S128x2816, .f32⟩
  | .hbm, ⟨38, _⟩ => ⟨S128x2816, .f32⟩
  | .hbm, ⟨39, _⟩ => ⟨S128x2816, .f32⟩
  | .hbm, ⟨40, _⟩ => ⟨S128x2816, .f32⟩
  | .hbm, ⟨41, _⟩ => ⟨S128x1024, .f32⟩
  | .hbm, ⟨42, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Proof.Head.lean ====
/-
  One head of the kernel's attention block, written once: the masked scores, the row maximum with the sink, the
  probabilities, and the weighted sum of the values. The body of the kernel is eight of these side by side.
-/
module

public import proofs.«01_k».proof.Proof.Gen.KernelIdeal.Value

@[expose] public section

set_option maxRecDepth 16384

noncomputable section

namespace Cert.Attn

open Cert.KernelIdeal Cert.KernelIdeal.Gen Idealize.ShloMosaic Idealize.SL.Sem

variable {F : FTy → Type} [FloatOps F]

/-- The scores of one head: the products of queries and keys, less the slope times the distance, `-∞` outside the window. -/
def scores (slope : BitVec 32) (valid : IVec S128x256 1) (dist : FVec F S128x256 .f32) (q : FVec F S128x64 .bf16)
    (kh : FVec F S256x64 .bf16) : FVec F S128x256 .f32 :=
  select valid
    (subf (matmul dot_S128x64_S256x64_S128x256_1_1_0_0_n_n none q kh (constant S128x256 .f32 0x00000000#32))
      (mulf (broadcast S128x256 (Scalar.ofBits .f32 slope)) dist))
    (broadcast S128x256 (Scalar.ofBits .f32 0xFF800000#32))

/-- The largest score of each row, the sink included. -/
def rowMax (s : FVec F S128x256 .f32) (sink : Elt F .f32) : FVec F S128x1 .f32 :=
  maximumf (shapeCast S128x1 (multiReduction .maximumf [1] S128 s 0xFF800000#32 reduces_S128x256_S128 (.inl rfl) rfl)
    shapeCasts_S128_S128x1) (broadcast S128x1 sink)

/-- The probabilities of one head from its scores, its row maxima and its sink. -/
def probs (s : FVec F S128x256 .f32) (mx : FVec F S128x1 .f32) (sink : Elt F .f32) : FVec F S128x256 .f32 :=
  divf (exp (subf s (broadcastTo S128x256 mx broadcasts_S128x1_S128x256)))
    (broadcastTo S128x256
      (addf (shapeCast S128x1 (multiReduction .add [1] S128 (exp (subf s (broadcastTo S128x256 mx broadcasts_S128x1_S128x256)))
          0x00000000#32 reduces_S128x256_S128 (.inl rfl) rfl) shapeCasts_S128_S128x1)
        (exp (subf (broadcast S128x1 sink) mx))) broadcasts_S128x1_S128x256)

/-- The weighted sum of the values. -/
def weighted (p : FVec F S128x256 .f32) (vh : FVec F S256x64 .bf16) : FVec F S128x64 .f32 :=
  matmul dot_S128x256_S256x64_S128x64_1_0_0_1_n_n none (truncf .bf16 p bitsLt_bf16_f32) vh
    (constant S128x64 .f32 0x00000000#32)

/-- One head of a block: from its scores and sink to its 64 output columns. -/
def headOf (s : FVec F S128x256 .f32) (sink : Elt F .f32) (vh : FVec F S256x64 .bf16) : FVec F S128x64 .f32 :=
  weighted (probs s (rowMax s sink) sink) vh

/-- Columns 0..63 of the keys or values: the first key-value head. -/
def lo64 (x : FVec F S256x128 .bf16) : FVec F S256x64 .bf16 :=
  extractStridedSlice S256x64 ![0, 0] x slices_S256x128_o0_0_S256x64

/-- Columns 64..127: the second key-value head. -/
def hi64 (x : FVec F S256x128 .bf16) : FVec F S256x64 .bf16 :=
  extractStridedSlice S256x64 ![0, 64] x slices_S256x128_o0_64_S256x64

section
variable (i : grid0.Coords) (v0 v1 : Vec F S128x128 .f32) (k v : FVec F S256x128 .bf16) (val : IVec S128x256 1)
  (d : FVec F S128x256 .f32) (q : Vec F S128x64 .bf16) (sink : Elt F .f32)

/-- The first head as the body computes it. -/
theorem head0_eq : k0_pay9 v (k0_pay7 i v0 v1 q) sink (k0_pay8 i v0 v1 q sink)
    = headOf (scores 0x3F000000#32 (k0_pay5 i) k0_pay6 q (lo64 (k0_pay2 v0 v1))) sink (lo64 v) := rfl

/-- The second head. -/
theorem head1_eq : k0_pay10 k v val d q sink = headOf (scores 0x3E800000#32 val d q (lo64 k)) sink (lo64 v) := rfl

/-- The third head. -/
theorem head2_eq : k0_pay13 v val d (k0_pay11 k q) k0_pay12 sink
    = headOf (scores 0x3E000000#32 val d q (lo64 k)) sink (lo64 v) := rfl

/-- The fourth head. -/
theorem head3_eq : k0_pay15 v (k0_pay14 k val d q sink)
    = headOf (scores 0x3D800000#32 val d q (lo64 k)) sink (lo64 v) := rfl

/-- The fifth head. -/
theorem head4_eq : k0_pay16 k v val d q sink = headOf (scores 0x3D000000#32 val d q (hi64 k)) sink (hi64 v) := rfl

/-- The sixth head. -/
theorem head5_eq : k0_pay19 v (k0_pay17 k val d q) sink (k0_pay18 k val d q sink)
    = headOf (scores 0x3C800000#32 val d q (hi64 k)) sink (hi64 v) := rfl

/-- The seventh head. -/
theorem head6_eq : k0_pay20 k v val d q sink = headOf (scores 0x3C000000#32 val d q (hi64 k)) sink (hi64 v) := rfl

/-- Eight heads side by side, as the block stores them. -/
def sideBySide (o0 o1 o2 o3 o4 o5 o6 o7 : FVec F S128x64 .f32) : FVec F S128x512 .bf16 :=
  truncf .bf16 (concatenate S128x512 1 [⟨S128x64, o0⟩, ⟨S128x64, o1⟩, ⟨S128x64, o2⟩, ⟨S128x64, o3⟩, ⟨S128x64, o4⟩,
    ⟨S128x64, o5⟩, ⟨S128x64, o6⟩, ⟨S128x64, o7⟩]
    concatenates_S128x64_S128x64_S128x64_S128x64_S128x64_S128x64_S128x64_S128x64_S128x512_d1) bitsLt_bf16_f32

/-- The last head and the stored block. -/
theorem store_eq (o0 o1 o2 o3 o4 o5 o6 : FVec F S128x64 .f32) :
    k0_pay1 v val d o0 o1 o2 o3 o4 o5 o6 (k0_pay21 k q) k0_pay22 sink
    = sideBySide o0 o1 o2 o3 o4 o5 o6 (headOf (scores 0x3B800000#32 val d q (hi64 k)) sink (hi64 v)) := rfl
end

end Cert.Attn

end
-- ==== Proof.Row.lean ====
/-
  One row of attention as a function of its 256 scores, its sink and its 256 values, over the extended reals; and the
  fact that a first block whose keys all lie outside the window may be filled with anything that the second block holds.
-/
module

public import Idealize.ShloMosaic.Lib.Pipeline.ValueKit
public import Idealize.ShloMosaic.Lib.Pointwise

@[expose] public section

set_option maxRecDepth 16384

noncomputable section

namespace Cert.Attn

open Idealize.ShloMosaic

/-- The score of a key outside the window: `-∞`. -/
def neg : EReal := Ideal.ofBits .f32 0xFF800000#32

theorem neg_eq : neg = ⊥ := by simp [neg, Ideal.ofBits, Ideal.ieee]

/-- The largest score of a row, the sink included. -/
def rowTop (s : Fin 256 → EReal) (sink : EReal) : EReal :=
  max (Finset.fold max neg (fun x => s x) Finset.univ) sink

/-- The denominator of a row: the exponentials of its scores, and that of the sink. -/
def denom (s : Fin 256 → EReal) (sink : EReal) : EReal :=
  ∑ x, Ideal.exp (s x - rowTop s sink) + Ideal.exp (sink - rowTop s sink)

/-- A row of attention: the values weighted by the probabilities. -/
def attRow (s : Fin 256 → EReal) (sink : EReal) (v : Fin 256 → EReal) : EReal :=
  ∑ x, Ideal.div (Ideal.exp (s x - rowTop s sink)) (denom s sink) * v x

/-- Masked keys weigh nothing, whatever the row's maximum is. -/
theorem exp_masked (m : EReal) : Ideal.exp (⊥ - m) = 0 := by
  rw [sub_eq_add_neg, EReal.bot_add, Ideal.exp_bot]

/-- Exponentials are not negative. -/
theorem exp_nonneg (x : EReal) : 0 ≤ Ideal.exp x := by
  induction x using EReal.rec with
  | bot => exact le_rfl
  | top => exact le_top
  | coe r => exact EReal.coe_nonneg.mpr (Real.exp_pos r).le

/-- `⊥` times anything is its own double. -/
theorem bot_mul_double (a : EReal) : ⊥ * a + ⊥ * a = ⊥ * a := by
  rcases lt_trichotomy a 0 with h | h | h
  · rw [EReal.bot_mul_of_neg h]; rfl
  · subst h; simp
  · rw [EReal.bot_mul_of_pos h]; rfl

/-- When no key of the first half is in the window, the first half's values may be zeros or the second half's own. -/
theorem attRow_first (s : Fin 256 → EReal) (sink : EReal) (v w : Fin 256 → EReal)
    (hs : ∀ x : Fin 256, (x : ℕ) < 128 → s x = neg)
    (hw : ∀ x : Fin 256, (x : ℕ) < 128 → w x = 0)
    (hv : ∀ (x : Fin 256) (h : (x : ℕ) < 128), v x = v ⟨128 + x, by omega⟩)
    (hvw : ∀ x : Fin 256, 128 ≤ (x : ℕ) → v x = w x) :
    attRow s sink v = attRow s sink w := by
  have half : ∀ u : Fin 256 → EReal, attRow s sink u
      = (∑ x : Fin 128, Ideal.div (Ideal.exp (s ⟨x, by omega⟩ - rowTop s sink)) (denom s sink) * u ⟨x, by omega⟩)
        + ∑ x : Fin 128, Ideal.div (Ideal.exp (s ⟨128 + x, by omega⟩ - rowTop s sink)) (denom s sink)
            * u ⟨128 + x, by omega⟩ :=
    fun u => Fin.sum_univ_two_halves 128 128 rfl _
  have hsecond : ∀ x : Fin 128, v ⟨128 + x, by omega⟩ = w ⟨128 + x, by omega⟩ := fun x => hvw _ (by simp)
  rw [half v, half w]
  have hs' : ∀ x : Fin 128, s ⟨x, by omega⟩ = ⊥ := fun x => (hs _ x.isLt).trans neg_eq
  have hw' : ∀ x : Fin 128, w ⟨x, by omega⟩ = 0 := fun x => hw _ x.isLt
  simp only [hsecond, hs', exp_masked, hw', mul_zero, Finset.sum_const_zero, zero_add]
  by_cases hd : denom s sink = 0
  · have hz : ∀ x : Fin 256, Ideal.exp (s x - rowTop s sink) = 0 := by
      have h1 : ∑ x, Ideal.exp (s x - rowTop s sink) = 0 := by
        have hnn := Finset.sum_nonneg (s := Finset.univ) fun (x : Fin 256) _ => exp_nonneg (s x - rowTop s sink)
        have hle : ∑ x, Ideal.exp (s x - rowTop s sink) ≤ denom s sink :=
          le_add_of_nonneg_right (exp_nonneg _)
        exact le_antisymm (hd ▸ hle) hnn
      intro x
      exact (Finset.sum_eq_zero_iff_of_nonneg fun x _ => exp_nonneg _).mp h1 x (Finset.mem_univ _)
    have hbot : Ideal.div 0 0 = ⊥ := by simp [Ideal.div]
    simp only [hz, hd, hbot]
    rw [← Finset.sum_add_distrib]
    refine Finset.sum_congr rfl fun x _ => ?_
    rw [hv ⟨x, by omega⟩ x.isLt, hsecond, bot_mul_double]
  · have hzero : Ideal.div 0 (denom s sink) = 0 := by simp [Ideal.div, hd]
    simp [hzero]

end Cert.Attn

end
-- ==== Proof.Spec.lean ====
/-
  Sliding-window attention of the prompt, entry by entry, over the extended reals: 8 sequences of 16 blocks of 128 queries,
  each block attending to itself and the block before it; 8 query heads on 2 key-value heads of 64 columns.
-/
module

public import proofs.«01_k».proof.Proof.Row

@[expose] public section

set_option maxRecDepth 16384

noncomputable section

namespace Cert.Attn

open Idealize.ShloMosaic

/-- The shape of the queries and of the output. -/
abbrev SQ : Shape := ⟨2, ![16384, 512]⟩
/-- The shape of the keys and of the values. -/
abbrev SK : Shape := ⟨2, ![16384, 128]⟩
/-- The shape of the sinks. -/
abbrev SS : Shape := ⟨1, ![8]⟩

/-- Key `s` of the two blocks is in the window of query `r` of block `blk`, and exists. -/
def inWin (r s blk : ℕ) : Prop := r < s ∧ s ≤ 128 + r ∧ (0 < blk ∨ 128 ≤ s)

instance (r s blk : ℕ) : Decidable (inWin r s blk) := by unfold inWin; infer_instance

/-- How far key `s` lies behind query `r`. -/
def dist (r s : ℕ) : EReal := (((128 + (r : ℤ) - (s : ℤ) : ℤ) : ℝ) : EReal)

/-- The slope of head `h`. -/
def slope (h : ℕ) : EReal := ((1 / 2 ^ (h + 1) : ℝ) : EReal)

/-- Column `c` of key (or value) `s` of block `n`: keys 0..127 are the block before, 128..255 the block itself; the first
    block of a sequence has zeros before it. -/
def keyAt (x : SK.Idx → EReal) (n : Fin 128) (s : Fin 256) (c : Fin 128) : EReal :=
  if h : (n : ℕ) % 16 = 0 ∧ (s : ℕ) < 128 then 0 else x (ix2 ⟨128 * n + s - 128, by omega⟩ c)

/-- The score of key `s` for query `R` in the head of column `C`. -/
def scoreAt (q : SQ.Idx → EReal) (k : SK.Idx → EReal) (R : Fin 16384) (C : Fin 512) (s : Fin 256) : EReal :=
  if inWin (R % 128) s (R / 128 % 16)
    then (∑ x : Fin 64, q (ix2 R ⟨64 * (C / 64) + x, by omega⟩) * keyAt k ⟨R / 128, by omega⟩ s ⟨64 * (C / 256) + x, by omega⟩)
      - slope (C / 64) * dist (R % 128) s
    else neg

/-- The attention's output at query `R` and column `C`. -/
def attAt (q : SQ.Idx → EReal) (k v : SK.Idx → EReal) (sinks : SS.Idx → EReal) (R : Fin 16384) (C : Fin 512) : EReal :=
  attRow (scoreAt q k R C) (sinks (ix1 ⟨C / 64, by omega⟩))
    (fun s => keyAt v ⟨R / 128, by omega⟩ s ⟨64 * (C / 256) + C % 64, by omega⟩)

/-- The attention's output. -/
def attention (q : SQ.Idx → EReal) (k v : SK.Idx → EReal) (sinks : SS.Idx → EReal) : SQ.Idx → EReal :=
  fun i => attAt q k v sinks (i 0) (i 1)

end Cert.Attn

end
-- ==== Proof.Block.lean ====
/-
  The block of 128 queries that one grid point stores, read at a row and a column: a row of attention over the two
  blocks of keys it holds.
-/
module

public import proofs.«01_k».proof.Proof.Head
public import proofs.«01_k».proof.Proof.Spec

@[expose] public section

set_option maxRecDepth 16384

noncomputable section

namespace Cert.Attn

open Cert.KernelIdeal Cert.KernelIdeal.Gen Idealize.ShloMosaic Idealize.SL.Sem

/-- The slopes as the kernel writes them. -/
def slopeWord : Fin 8 → BitVec 32 :=
  ![0x3F000000#32, 0x3E800000#32, 0x3E000000#32, 0x3D800000#32, 0x3D000000#32, 0x3C800000#32, 0x3C000000#32, 0x3B800000#32]

/-- They are the slopes exactly. -/
theorem slopeWord_eq (h : Fin 8) : Ideal.ofBits .f32 (slopeWord h) = slope h := by
  fin_cases h <;> simp [slopeWord, slope, Ideal.ofBits, Ideal.ieee, -EReal.coe_mul] <;> norm_num

/-- A small number, read back from its word. -/
theorem toInt_small {n : ℕ} (h : n < 2147483648) : (BitVec.ofNat 32 n).toInt = n := by
  rw [BitVec.toInt_ofNat', Int.bmod_def]
  omega

/-- The distance as the integers of the program compute it. -/
theorem dist_int (r : Fin 128) (s : Fin 256) :
    (IntOp.subi (IntOp.addi 128#32 (BitVec.ofNat 32 r)) (BitVec.ofNat 32 s)).toInt = 128 + (r : ℤ) - (s : ℤ) := by
  have hr := r.isLt
  have hs := s.isLt
  simp only [IntOp.subi, IntOp.addi, BitVec.toInt_sub, BitVec.toInt_add,
    toInt_small (show (r : ℕ) < 2147483648 by omega), toInt_small (show (s : ℕ) < 2147483648 by omega),
    show (128#32 : BitVec 32).toInt = 128 from rfl]
  simp only [Int.bmod_def]
  omega

/-- The mask of a block. -/
theorem mask_at (i : grid0.Coords) (r : Fin 128) (s : Fin 256) :
    k0_pay5 i (ix2 r s) = 1#1 ↔ inWin r s (i 1).val := by
  have hi : (i 1).val < 16 := (i 1).isLt
  have hlo : (Scalar.select (Scalar.cmpi CmpIPredicate.sgt (BitVec.ofNat 32 (i 1).val) 0#32) 0#32 128#32).toInt
      = if 0 < (i 1).val then 0 else 128 := by
    unfold Scalar.select
    have hc : Scalar.cmpi CmpIPredicate.sgt (BitVec.ofNat 32 (i 1).val) 0#32 = 1 ↔ 0 < (i 1).val := by
      rw [Scalar.cmpi]
      refine IntOp.cmpi_sgt.trans ?_
      rw [toInt_small (n := (i 1).val) (by omega)]
      exact Int.natCast_pos
    simp only [hc]
    split <;> rfl
  pointwise [k0_pay5, k0_pay4]
  simp only [IntOp.andi_eq_one, IntOp.cmpi_sge, IntOp.cmpi_slt, dist_int, hlo, toInt_small (show (s : ℕ) < 2147483648 by omega),
    show (128#32 : BitVec 32).toInt = 128 from rfl, show (0#32 : BitVec 32).toInt = 0 from rfl, inWin]
  split <;> omega

/-- The distance of a block. -/
theorem dist_at (r : Fin 128) (s : Fin 256) : k0_pay6 (F := Ideal) (ix2 r s) = dist r s := by
  pointwise [k0_pay6, k0_pay4]
  show (((_ : BitVec 32).toInt : ℝ) : EReal) = _
  rw [dist_int]; rfl

/-- The scores of a head, at a query and a key. -/
theorem scores_at (h : Fin 8) (i : grid0.Coords) (q : FVec Ideal S128x64 .bf16) (kh : FVec Ideal S256x64 .bf16)
    (r : Fin 128) (s : Fin 256) : scores (slopeWord h) (k0_pay5 i) k0_pay6 q kh (ix2 r s)
      = if inWin r s (i 1).val then (∑ x : Fin 64, q (ix2 r x) * kh (ix2 s x)) - slope h * dist r s else neg := by
  pointwise [scores]
  rw [dist_at, slopeWord_eq]
  unfold Scalar.select
  exact if_congr (mask_at i r s) rfl rfl

/-- A head, at a query and a column: a row of attention. -/
theorem head_at (s : FVec Ideal S128x256 .f32) (sink : Elt Ideal .f32) (vh : FVec Ideal S256x64 .bf16) (r : Fin 128)
    (d : Fin 64) : headOf s sink vh (ix2 r d) = attRow (fun x => s (ix2 r x)) sink (fun x => vh (ix2 x d)) := by
  pointwise [headOf, weighted, probs, rowMax]
  rfl

/-- Column `c` of the two key (or value) blocks at key `s`. -/
def twoBlocks (a b : Vec Ideal S128x128 .f32) (s : Fin 256) (c : Fin 128) : EReal :=
  if h : (s : ℕ) < 128 then a (ix2 ⟨s, h⟩ c) else b (ix2 ⟨s - 128, by omega⟩ c)

/-- What a head of the first key-value head reads, at a key and a column. -/
theorem lo_at (a b : Vec Ideal S128x128 .f32) (h : ℕ) (hh : h / 4 = 0) (s : Fin 256) (d : Fin 64) :
    lo64 (k0_pay2 a b) (ix2 s d) = twoBlocks a b s ⟨64 * (h / 4) + d, by omega⟩ := by
  simp only [hh]
  pointwise [lo64, k0_pay2, twoBlocks]

/-- What a head of the second key-value head reads. -/
theorem hi_at (a b : Vec Ideal S128x128 .f32) (h : ℕ) (hh : h / 4 = 1) (s : Fin 256) (d : Fin 64) :
    hi64 (k0_pay2 a b) (ix2 s d) = twoBlocks a b s ⟨64 * (h / 4) + d, by omega⟩ := by
  simp only [hh]
  pointwise [hi64, k0_pay2, twoBlocks]

section
variable (i : grid0.Coords) (x0 : Vec Ideal S8 .f32) (x1 : Vec Ideal S128x512 .bf16) (x2 x3 x4 x5 : Vec Ideal S128x128 .f32)

/-- The score of key `s` for query `r` in the head of column `c`. -/
def blockScore (r : Fin 128) (c : Fin 512) (s : Fin 256) : EReal :=
  if inWin r s (i 1).val
    then (∑ x : Fin 64, x1 (ix2 r ⟨64 * (c / 64) + x, by omega⟩) * twoBlocks x2 x3 s ⟨64 * (c / 256) + x, by omega⟩)
      - slope (c / 64) * dist r s
    else neg

/-- What a block stores at query `r` and column `c`: head `c / 64`'s row of attention. -/
def blockAt (r : Fin 128) (c : Fin 512) : EReal :=
  attRow (blockScore i x1 x2 x3 r c) (x0 (ix1 ⟨c / 64, by omega⟩))
    (fun s => twoBlocks x4 x5 s ⟨64 * (c / 256) + c % 64, by omega⟩)

/-- One of the heads, at query `r` and its column `d`. -/
theorem one_head (h : Fin 8) (q : FVec Ideal S128x64 .bf16) (kh vh : FVec Ideal S256x64 .bf16) (sink : EReal)
    (hq : ∀ (r : Fin 128) (x : Fin 64), q (ix2 r x) = x1 (ix2 r ⟨64 * h + x, by omega⟩)) (hsink : sink = x0 (ix1 h))
    (hk : ∀ (s : Fin 256) (x : Fin 64), kh (ix2 s x) = twoBlocks x2 x3 s ⟨64 * (h / 4) + x, by omega⟩)
    (hv : ∀ (s : Fin 256) (x : Fin 64), vh (ix2 s x) = twoBlocks x4 x5 s ⟨64 * (h / 4) + x, by omega⟩)
    (r : Fin 128) (c : Fin 512) (d : Fin 64) (hc : (c : ℕ) = 64 * h + d) :
    headOf (scores (slopeWord h) (k0_pay5 i) k0_pay6 q kh) sink vh (ix2 r d) = blockAt i x0 x1 x2 x3 x4 x5 r c := by
  have e1 : (c : ℕ) / 64 = h := by omega
  have e2 : (c : ℕ) / 256 = h / 4 := by omega
  have e3 : (c : ℕ) % 64 = d := by omega
  have hs : blockScore i x1 x2 x3 r c = fun x => scores (slopeWord h) (k0_pay5 i) k0_pay6 q kh (ix2 r x) := by
    funext s
    simp only [blockScore, scores_at, hq, hk, e1, e2]
  rw [head_at, blockAt, hs]
  simp only [hq, hk, hv, hsink, e1, e2, e3]

/-- The eight heads of a block side by side. -/
def stored : FVec Ideal S128x512 .bf16 :=
  sideBySide
    (headOf (scores (slopeWord 0) (k0_pay5 i) k0_pay6 (View.ld x1 (Rect.unit ![0, 0] ![128, 64] inb_S128x512_S128x64_0_0)) (lo64 (k0_pay2 x2 x3)))
      (View.ld x0 (Rect.unit ![0] ![1] inb_S8_S1_0) (Shape.Idx.first (by decide))) (lo64 (k0_pay2 x4 x5)))
    (headOf (scores (slopeWord 1) (k0_pay5 i) k0_pay6 (View.ld x1 (Rect.unit ![0, 64] ![128, 64] inb_S128x512_S128x64_0_64)) (lo64 (k0_pay2 x2 x3)))
      (View.ld x0 (Rect.unit ![1] ![1] inb_S8_S1_1) (Shape.Idx.first (by decide))) (lo64 (k0_pay2 x4 x5)))
    (headOf (scores (slopeWord 2) (k0_pay5 i) k0_pay6 (View.ld x1 (Rect.unit ![0, 128] ![128, 64] inb_S128x512_S128x64_0_128)) (lo64 (k0_pay2 x2 x3)))
      (View.ld x0 (Rect.unit ![2] ![1] inb_S8_S1_2) (Shape.Idx.first (by decide))) (lo64 (k0_pay2 x4 x5)))
    (headOf (scores (slopeWord 3) (k0_pay5 i) k0_pay6 (View.ld x1 (Rect.unit ![0, 192] ![128, 64] inb_S128x512_S128x64_0_192)) (lo64 (k0_pay2 x2 x3)))
      (View.ld x0 (Rect.unit ![3] ![1] inb_S8_S1_3) (Shape.Idx.first (by decide))) (lo64 (k0_pay2 x4 x5)))
    (headOf (scores (slopeWord 4) (k0_pay5 i) k0_pay6 (View.ld x1 (Rect.unit ![0, 256] ![128, 64] inb_S128x512_S128x64_0_256)) (hi64 (k0_pay2 x2 x3)))
      (View.ld x0 (Rect.unit ![4] ![1] inb_S8_S1_4) (Shape.Idx.first (by decide))) (hi64 (k0_pay2 x4 x5)))
    (headOf (scores (slopeWord 5) (k0_pay5 i) k0_pay6 (View.ld x1 (Rect.unit ![0, 320] ![128, 64] inb_S128x512_S128x64_0_320)) (hi64 (k0_pay2 x2 x3)))
      (View.ld x0 (Rect.unit ![5] ![1] inb_S8_S1_5) (Shape.Idx.first (by decide))) (hi64 (k0_pay2 x4 x5)))
    (headOf (scores (slopeWord 6) (k0_pay5 i) k0_pay6 (View.ld x1 (Rect.unit ![0, 384] ![128, 64] inb_S128x512_S128x64_0_384)) (hi64 (k0_pay2 x2 x3)))
      (View.ld x0 (Rect.unit ![6] ![1] inb_S8_S1_6) (Shape.Idx.first (by decide))) (hi64 (k0_pay2 x4 x5)))
    (headOf (scores (slopeWord 7) (k0_pay5 i) k0_pay6 (View.ld x1 (Rect.unit ![0, 448] ![128, 64] inb_S128x512_S128x64_0_448)) (hi64 (k0_pay2 x2 x3)))
      (View.ld x0 (Rect.unit ![7] ![1] inb_S8_S1_7) (Shape.Idx.first (by decide))) (hi64 (k0_pay2 x4 x5)))

theorem stored_at (r : Fin 128) (c : Fin 512) : stored i x0 x1 x2 x3 x4 x5 (ix2 r c) = blockAt i x0 x1 x2 x3 x4 x5 r c := by
  pointwise [stored, sideBySide]
  split_ifs
  all_goals
    refine one_head i x0 x1 x2 x3 x4 x5 _ _ _ _ _ (fun r x => ?_) rfl (fun s x => ?_) (fun s x => ?_) r c _ (by simp <;> omega)
    · pointwise
    · first | with_reducible exact lo_at _ _ _ (by decide) s x | with_reducible exact hi_at _ _ _ (by decide) s x
    · first | with_reducible exact lo_at _ _ _ (by decide) s x | with_reducible exact hi_at _ _ _ (by decide) s x
end

end Cert.Attn

end
-- ==== Proof.Final.lean ====
/-
  The kernel's output array: every grid point stores the attention of its 128 queries, and the points' blocks cover the array.
-/
module

public import proofs.«01_k».proof.Proof.Block

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Which blocks a grid point holds: its own 128 rows, and the 128 before them but for the first of a sequence. -/
theorem idx : ∀ t : Fin cfg0.N, win0_0.index t = ![0] ∧ win0_1.index t = ![t.val, 0]
    ∧ win0_2.index t = ![t.val - (if t.val % 16 = 0 then 0 else 1), 0] ∧ win0_3.index t = ![t.val, 0]
    ∧ win0_4.index t = ![t.val - (if t.val % 16 = 0 then 0 else 1), 0] ∧ win0_5.index t = ![t.val, 0]
    ∧ win0_6.index t = ![t.val, 0] ∧ (grid0.coords t 1).val = t.val % 16 :=
  (by decide +kernel : ∀ t : Fin grid0.N, _)

section
variable (c : Dev nD) (t : Fin cfg0.N)

/-- The sinks a point holds are all of them. -/
theorem sinks_at (h : Fin 8) : iblk m c 0 t (ix1 h) = m ((c : Thread nD τ).loc main_arg3) (ix1 h) := by
  blk_ext! [iblk, V, idx t]

/-- The queries a point holds are its own 128 rows. -/
theorem queries_at (r : Fin 128) (x : Fin 512) (h : 128 * t.val + r < 16384) :
    iblk m c 1 t (ix2 r x) = m ((c : Thread nD τ).loc main_arg0) (ix2 ⟨128 * t.val + r, h⟩ x) := by
  blk_ext! [iblk, V, idx t]

/-- Row `r` of the point's own keys. -/
theorem keys_own (r x : Fin 128) (h : 128 * t.val + r < 16384) :
    iblk m c 3 t (ix2 r x) = m ((c : Thread nD τ).loc main_arg1) (ix2 ⟨128 * t.val + r, h⟩ x) := by
  blk_ext! [iblk, V, idx t]

/-- Row `r` of the keys before them. -/
theorem keys_prev (r x : Fin 128) (h : 128 * (t.val - (if t.val % 16 = 0 then 0 else 1)) + r < 16384) :
    iblk m c 2 t (ix2 r x) = m ((c : Thread nD τ).loc main_arg1) (ix2 ⟨_, h⟩ x) := by
  blk_ext! [iblk, V, idx t]

/-- Row `r` of the point's own values. -/
theorem values_own (r x : Fin 128) (h : 128 * t.val + r < 16384) :
    iblk m c 5 t (ix2 r x) = m ((c : Thread nD τ).loc main_arg2) (ix2 ⟨128 * t.val + r, h⟩ x) := by
  blk_ext! [iblk, V, idx t]

/-- Row `r` of the values before them. -/
theorem values_prev (r x : Fin 128) (h : 128 * (t.val - (if t.val % 16 = 0 then 0 else 1)) + r < 16384) :
    iblk m c 4 t (ix2 r x) = m ((c : Thread nD τ).loc main_arg2) (ix2 ⟨_, h⟩ x) := by
  blk_ext! [iblk, V, idx t]

/-- The number of points. -/
theorem point_lt : t.val < 128 := t.isLt

/-- Two blocks, read where the keys exist, are the keys of the block's window. -/
theorem two_eq (a b : Vec Ideal S128x128 .f32) (x : SK.Idx → EReal)
    (hb : ∀ (r y : Fin 128) (h : 128 * t.val + r < 16384), b (ix2 r y) = x (ix2 ⟨128 * t.val + r, h⟩ y))
    (ha : ∀ (r y : Fin 128) (h : 128 * (t.val - (if t.val % 16 = 0 then 0 else 1)) + r < 16384), a (ix2 r y) = x (ix2 ⟨_, h⟩ y))
    (s : Fin 256) (y : Fin 128) (hs : 0 < t.val % 16 ∨ 128 ≤ (s : ℕ)) :
    twoBlocks a b s y = keyAt x ⟨t.val, point_lt t⟩ s y := by
  have ht := point_lt t
  have hn : ¬((t.val) % 16 = 0 ∧ (s : ℕ) < 128) := by omega
  rw [keyAt, dif_neg hn, twoBlocks]
  split_ifs with h
  · have h0 : ¬ t.val % 16 = 0 := by omega
    rw [ha _ _ (by rw [if_neg h0]; simp; omega)]
    congr 2
    ext
    simp only [if_neg h0]
    omega
  · rw [hb _ _ (by simp; omega)]
    congr 2
    ext
    simp
    omega

/-- In the first block of a sequence the block before is the block itself. -/
theorem two_first (a b : Vec Ideal S128x128 .f32) (x : SK.Idx → EReal)
    (hb : ∀ (r y : Fin 128) (h : 128 * t.val + r < 16384), b (ix2 r y) = x (ix2 ⟨128 * t.val + r, h⟩ y))
    (ha : ∀ (r y : Fin 128) (h : 128 * (t.val - (if t.val % 16 = 0 then 0 else 1)) + r < 16384), a (ix2 r y) = x (ix2 ⟨_, h⟩ y))
    (s : Fin 256) (y : Fin 128) (ht : t.val % 16 = 0) (hs : (s : ℕ) < 128) :
    twoBlocks a b s y = twoBlocks a b ⟨128 + s, by omega⟩ y := by
  have hlt := point_lt t
  rw [twoBlocks, twoBlocks, dif_pos hs, dif_neg (by simp), ha _ _ (by rw [if_pos ht]; simp; omega), hb _ _ (by simp; omega)]
  congr 2
  ext
  simp [ht]

/-- What a point stores at its query `r` and column `C` is the attention there. -/
theorem block_eq (r : Fin 128) (C : Fin 512) (h : 128 * t.val + r < 16384) :
    blockAt (grid0.coords t) (iblk m c 0 t) (iblk m c 1 t) (iblk m c 2 t) (iblk m c 3 t) (iblk m c 4 t) (iblk m c 5 t) r C
      = attAt (m ((c : Thread nD τ).loc main_arg0)) (m ((c : Thread nD τ).loc main_arg1)) (m ((c : Thread nD τ).loc main_arg2))
          (m ((c : Thread nD τ).loc main_arg3)) ⟨128 * t.val + r, h⟩ C := by
  have ht := point_lt t
  obtain ⟨-, -, -, -, -, -, -, hblk⟩ := idx t
  have e1 : (128 * t.val + (r : ℕ)) % 128 = r := by omega
  have e2 : (128 * t.val + (r : ℕ)) / 128 = t.val := by omega
  have hscore : blockScore (grid0.coords t) (iblk m c 1 t) (iblk m c 2 t) (iblk m c 3 t) r C
      = scoreAt (m ((c : Thread nD τ).loc main_arg0)) (m ((c : Thread nD τ).loc main_arg1)) ⟨128 * t.val + r, h⟩ C := by
    funext s
    simp only [blockScore, scoreAt, e1, e2, hblk]
    by_cases hw : inWin r s (t.val % 16)
    · rw [if_pos hw, if_pos hw]
      congr 1
      refine Finset.sum_congr rfl fun x _ => ?_
      rw [queries_at m c t r _ h,
        two_eq t _ _ _ (fun r y h => keys_own m c t r y h) (fun r y h => keys_prev m c t r y h) s _ hw.2.2]
    · rw [if_neg hw, if_neg hw]
  rw [blockAt, hscore, sinks_at, attAt]
  simp only [e2]
  by_cases h0 : t.val % 16 = 0
  · refine attRow_first _ _ _ _ (fun s hs => ?_) (fun s hs => ?_) (fun s hs => ?_) (fun s hs => ?_)
    · rw [scoreAt, if_neg]
      simp only [e1, e2, inWin]
      omega
    · rw [keyAt, dif_pos ⟨h0, hs⟩]
    · exact two_first t _ _ _ (fun r y h => values_own m c t r y h) (fun r y h => values_prev m c t r y h) s _ h0 hs
    · exact two_eq t _ _ _ (fun r y h => values_own m c t r y h) (fun r y h => values_prev m c t r y h) s _ (.inr hs)
  · congr 1
    funext s
    exact two_eq t _ _ _ (fun r y h => values_own m c t r y h) (fun r y h => values_prev m c t r y h) s _ (.inl (by omega))

/-- The output array after the run is the attention of the arguments. -/
theorem final : (dats m 0 c).arrAt 6 cfg0.N
    = (attention (m ((c : Thread nD τ).loc main_arg0)) (m ((c : Thread nD τ).loc main_arg1)) (m ((c : Thread nD τ).loc main_arg2))
        (m ((c : Thread nD τ).loc main_arg3)) : Vec Ideal S16384x512 .bf16) := by
  refine (dats m 0 c).arrAt_eq_of_covers 6 _ (by decide +kernel) fun t _ y => ?_
  rw [after0_6]
  unfold outsAt0
  frame_out
  have hy : ∀ y : S128x512.Idx, stored (grid0.coords t) (iblk m c 0 t) (iblk m c 1 t) (iblk m c 2 t) (iblk m c 3 t)
      (iblk m c 4 t) (iblk m c 5 t) y = attention (m ((c : Thread nD τ).loc main_arg0)) (m ((c : Thread nD τ).loc main_arg1))
        (m ((c : Thread nD τ).loc main_arg2)) (m ((c : Thread nD τ).loc main_arg3))
        (((cfg0.win 6).blk t).view.emb y) := by
    intro y
    idx_vars y
    have ht := point_lt t
    rw [stored_at, block_eq m c t y0 y1 (by omega), attention]
    congr 1
    · apply Fin.ext
      show _ = ((((cfg0.win 6).blk t).view.emb (ix2 y0 y1) 0 : Fin _) : ℕ)
      blk_simp [idx t]
      exact Nat.add_right_cancel_iff.mpr (Nat.mul_comm _ _)
    · apply Fin.ext
      show _ = ((((cfg0.win 6).blk t).view.emb (ix2 y0 y1) 1 : Fin _) : ℕ)
      blk_simp [idx t]
  exact hy y
end

end Cert.Attn

end
-- ==== Proof.RefKeys.lean ====
/-
  The reference's keys and values with the block before them, its queries by head, and its masks, read entry by entry.
-/
module

public import proofs.«01_k».proof.Proof.Block
public import proofs.«01_k».proof.Proof.Gen.ReferenceIdeal.Read
public import Idealize.ShloMosaic.Lib.ValueIdxRank6

@[expose] public section

set_option maxRecDepth 16384

noncomputable section

namespace Cert.Attn

open Cert.ReferenceIdeal Cert.ReferenceIdeal.Gen Cert.ReferenceIdeal.Read Idealize.ShloMosaic Idealize.SL.Sem

/-- Equal coordinates, equal entries. -/
theorem same_entry {n0 n1 : ℕ} (x : (⟨2, ![n0, n1]⟩ : Shape).Idx → EReal) {j k : (⟨2, ![n0, n1]⟩ : Shape).Idx}
    (h0 : (j 0).val = (k 0).val) (h1 : (j 1).val = (k 1).val) : x j = x k :=
  congrArg x (funext fun a => match a with | ⟨0, _⟩ => Fin.ext h0 | ⟨1, _⟩ => Fin.ext h1)

/-- The keys padded by a block of zeros at the front of every sequence. -/
theorem padded_at (x : SK.Idx → EReal) (i : S8x2176x2x64.Idx) :
    val_main_v6 (F := Ideal) x i = if h : (i 1).val < 128 then 0 else
      x (ix2 ⟨(i 0).val * 2048 + (i 1).val - 128, by
          have := (i 0).isLt; have := (i 1).isLt; simp only [S8x2176x2x64] at *; simp at *; omega⟩
        ⟨(i 2).val * 64 + (i 3).val, by have := (i 2).isLt; have := (i 3).isLt; simp at *; omega⟩) := by
  have h0 : (i 0).val < 8 := (i 0).isLt
  have h1 : (i 1).val < 2176 := (i 1).isLt
  have h2 : (i 2).val < 2 := (i 2).isLt
  have h3 : (i 3).val < 64 := (i 3).isLt
  pointwise [val_main_v6]
  split
  · rw [val_main_v5_apply, val_main_cst_apply]; exact Ideal.ofBits_zero _
  · rw [val_main_v2_apply]
    refine same_entry x ?_ ?_
    · show ((((i 0).val * 2048 + ((i 1).val - 128)) * 2 + (i 2).val) * 64 + (i 3).val) / 128
        = (i 0).val * 2048 + (i 1).val - 128
      omega
    · show ((((i 0).val * 2048 + ((i 1).val - 128)) * 2 + (i 2).val) * 64 + (i 3).val) % 128 = (i 2).val * 64 + (i 3).val
      omega

/-- The keys of a block of queries: the block before, and its own. -/
theorem pairs_at (x : SK.Idx → EReal) (i : S8x16x256x2x64.Idx) :
    val_main_v14 (F := Ideal) x i = keyAt x ⟨(i 0).val * 16 + (i 1).val, by
          have := (i 0).isLt; have := (i 1).isLt; simp at *; omega⟩ (i 2)
        ⟨(i 3).val * 64 + (i 4).val, by have := (i 3).isLt; have := (i 4).isLt; simp at *; omega⟩ := by
  have h0 : (i 0).val < 8 := (i 0).isLt
  have h1 : (i 1).val < 16 := (i 1).isLt
  have h2 : (i 2).val < 256 := (i 2).isLt
  have h3 : (i 3).val < 2 := (i 3).isLt
  have h4 : (i 4).val < 64 := (i 4).isLt
  unfold keyAt
  pointwise [val_main_v14]
  split
  · rw [val_main_v12_apply, val_main_v7_apply, padded_at]
    split
    · rename_i hlt
      have e : (((((i 0).val * 17 + (i 1).val) * 128 + (i 2).val) * 2 + (i 3).val) * 64 + (i 4).val) / 128 % 2176 < 128 := hlt
      rw [dif_pos (by simp; omega)]
    · rename_i hlt
      have e : ¬ (((((i 0).val * 17 + (i 1).val) * 128 + (i 2).val) * 2 + (i 3).val) * 64 + (i 4).val) / 128 % 2176 < 128 := hlt
      rw [dif_neg (by simp; omega)]
      refine same_entry x ?_ ?_
      · show (((((i 0).val * 17 + (i 1).val) * 128 + (i 2).val) * 2 + (i 3).val) * 64 + (i 4).val) / 278528 * 2048
          + (((((i 0).val * 17 + (i 1).val) * 128 + (i 2).val) * 2 + (i 3).val) * 64 + (i 4).val) / 128 % 2176 - 128
          = 128 * ((i 0).val * 16 + (i 1).val) + (i 2).val - 128
        omega
      · show (((((i 0).val * 17 + (i 1).val) * 128 + (i 2).val) * 2 + (i 3).val) * 64 + (i 4).val) / 64 % 2 * 64
          + (((((i 0).val * 17 + (i 1).val) * 128 + (i 2).val) * 2 + (i 3).val) * 64 + (i 4).val) % 64
          = (i 3).val * 64 + (i 4).val
        omega
  · rw [val_main_v13_apply, val_main_v7_apply, padded_at]
    rw [dif_neg (by
      show ¬ (((((i 0).val * 17 + (1 + (i 1).val)) * 128 + ((i 2).val - 128)) * 2 + (i 3).val) * 64 + (i 4).val) / 128 % 2176 < 128
      omega), dif_neg (by simp; omega)]
    refine same_entry x ?_ ?_
    · show (((((i 0).val * 17 + (1 + (i 1).val)) * 128 + ((i 2).val - 128)) * 2 + (i 3).val) * 64 + (i 4).val) / 278528 * 2048
        + (((((i 0).val * 17 + (1 + (i 1).val)) * 128 + ((i 2).val - 128)) * 2 + (i 3).val) * 64 + (i 4).val) / 128 % 2176 - 128
        = 128 * ((i 0).val * 16 + (i 1).val) + (i 2).val - 128
      omega
    · show (((((i 0).val * 17 + (1 + (i 1).val)) * 128 + ((i 2).val - 128)) * 2 + (i 3).val) * 64 + (i 4).val) / 64 % 2 * 64
        + (((((i 0).val * 17 + (1 + (i 1).val)) * 128 + ((i 2).val - 128)) * 2 + (i 3).val) * 64 + (i 4).val) % 64
        = (i 3).val * 64 + (i 4).val
      omega

/-- The values are laid out as the keys are. -/
theorem values_eq (x : SK.Idx → EReal) : val_main_v17 (F := Ideal) x = val_main_v14 (F := Ideal) x := rfl

/-- The queries by sequence, block, query, head group, head and column. -/
theorem split_at (x : SQ.Idx → EReal) (i : S8x16x128x2x4x64.Idx) :
    val_main_v1 (F := Ideal) x i = x (ix2 ⟨((i 0).val * 16 + (i 1).val) * 128 + (i 2).val, by
          have := (i 0).isLt; have := (i 1).isLt; have := (i 2).isLt; simp at *; omega⟩
        ⟨((i 3).val * 4 + (i 4).val) * 64 + (i 5).val, by
          have := (i 3).isLt; have := (i 4).isLt; have := (i 5).isLt; simp at *; omega⟩) := by
  unfold val_main_v1
  refine (shapeCast_apply _ _ i (ix2 _ _) ?_).trans rfl
  rw [Shape.rowMajor_val_two, Shape.rowMajor_val_six]
  show (((i 0).val * 16 + (i 1).val) * 128 + (i 2).val) * 512 + (((i 3).val * 4 + (i 4).val) * 64 + (i 5).val)
    = (((((i 0).val * 16 + (i 1).val) * 128 + (i 2).val) * 2 + (i 3).val) * 4 + (i 4).val) * 64 + (i 5).val
  omega

/-- The slope of a head. -/
theorem slope_at (i : S8.Idx) : val_main_v56 (F := Ideal) i = slope (i 0).val := by
  idx_vars i
  rw [val_main_v56_apply, val_main_v55_apply, val_main_cst_7_apply, val_main_v54_apply, val_main_v53_apply,
    val_main_v52_apply, val_main_v51_apply, val_main_c_6_apply, val_main_v50_apply, val_main_c_5_apply,
    val_main_v49_apply]
  show Ideal.div (Ideal.ofBits .f32 0x3F800000#32) (((IntOp.shli .host 1#32 (IntOp.addi 1#32 (BitVec.ofNat 32 i0.val))).toInt : ℝ) : EReal)
    = slope i0.val
  have h1 : Ideal.ofBits .f32 0x3F800000#32 = 1 := by
    simp [Ideal.ofBits, Ideal.ieee, -EReal.coe_mul]; norm_num
  have h2 : (IntOp.shli .host 1#32 (IntOp.addi 1#32 (BitVec.ofNat 32 i0.val))).toInt = 2 ^ (i0.val + 1) := by
    fin_cases i0 <;> rfl
  have h3 : ((2 ^ (i0.val + 1) : ℝ) : EReal) ≠ 0 := by
    rw [Ne, EReal.coe_eq_zero]; positivity
  rw [h1, h2, Ideal.div]
  push_cast
  rw [if_neg (by exact_mod_cast h3), one_mul, slope, one_div, EReal.coe_inv]
  norm_cast

/-- How far a key lies behind a query. -/
theorem behind_at (i : S128x256.Idx) : val_main_v29 (F := Ideal) i = dist (i 0).val (i 1).val := by
  rw [val_main_v29_apply, val_main_v28_apply, val_main_v27_apply, val_main_v26_apply, val_main_v25_apply,
    val_main_v24_apply, val_main_c_apply, val_main_v23_apply, val_main_v22_apply, val_main_v21_apply, val_main_v20_apply]
  show (((_ : BitVec 32).toInt : ℝ) : EReal) = _
  exact congrArg (fun z : ℤ => ((z : ℝ) : EReal)) (dist_int (i 0) (i 1))

/-- The mask of a block. -/
theorem inside_at (i : S16x128x256.Idx) :
    val_main_v48 (F := Ideal) i = 1#1 ↔ inWin (i 1).val (i 2).val (i 0).val := by
  simp only [val_main_v48_apply, val_main_v47_apply, val_main_v46_apply, val_main_v45_apply, val_main_v44_apply,
    val_main_v43_apply, val_main_v42_apply, val_main_v41_apply, val_main_v40_apply, val_main_v39_apply,
    val_main_c_4_apply, val_main_v38_apply, val_main_v37_apply, val_main_c_3_apply, val_main_v36_apply,
    val_main_v35_apply, val_main_v34_apply, val_main_v33_apply, val_main_v32_apply, val_main_cst_2_apply,
    val_main_v31_apply, val_main_v30_apply, val_main_cst_1_apply, behind_at, val_main_v23_apply, val_main_v22_apply]
  have h0 : (i 0).val < 16 := (i 0).isLt
  have h2 : (i 2).val < 256 := (i 2).isLt
  have hz : Ideal.ofBits .f32 0#32 = (((0 : ℤ) : ℝ) : EReal) := by simp [Ideal.ofBits_zero]
  have hw : Ideal.ofBits .f32 0x43000000#32 = (((128 : ℤ) : ℝ) : EReal) := by
    simp [Ideal.ofBits, Ideal.ieee, -EReal.coe_mul]; norm_num
  have hge : FloatOps.cmpf (F := Ideal) (φ := .f32) .oge (dist (i 1).val (i 2).val) (FloatOps.ofBits .f32 0#32) = 1#1
      ↔ (i 2).val ≤ 128 + (i 1).val := by
    show Ideal.cmp .oge _ (Ideal.ofBits .f32 0#32) = 1#1 ↔ _
    rw [hz, dist]
    simp only [Ideal.cmp, EReal.coe_le_coe_iff, Int.cast_le]
    rw [WordCmp.ofBool_decide_eq_one_iff]
    omega
  have hlt : FloatOps.cmpf (F := Ideal) (φ := .f32) .olt (dist (i 1).val (i 2).val) (FloatOps.ofBits .f32 1124073472#32) = 1#1
      ↔ (i 1).val < (i 2).val := by
    show Ideal.cmp .olt _ (Ideal.ofBits .f32 0x43000000#32) = 1#1 ↔ _
    rw [hw, dist]
    simp only [Ideal.cmp, EReal.coe_lt_coe_iff, Int.cast_lt]
    rw [WordCmp.ofBool_decide_eq_one_iff]
    omega
  simp only [IntOp.andi_eq_one, IntOp.ori_eq_one, hge, hlt, IntOp.cmpi_sgt, IntOp.cmpi_sge,
    toInt_small (n := (i 0).val) (by omega), toInt_small (n := (i 2).val) (by omega),
    show (128#32 : BitVec 32).toInt = 128 from rfl, show (0#32 : BitVec 32).toInt = 0 from rfl, inWin]
  omega

end Cert.Attn

end
-- ==== Proof.RefVal.lean ====
/-
  The reference's result is the attention.
-/
module

public import proofs.«01_k».proof.Proof.RefKeys

@[expose] public section

set_option maxRecDepth 16384

noncomputable section

namespace Cert.Attn

open Cert.ReferenceIdeal Cert.ReferenceIdeal.Gen Cert.ReferenceIdeal.Read Idealize.ShloMosaic Idealize.SL.Sem

/-- Equal places, equal keys. -/
theorem same_key (x : SK.Idx → EReal) {n n' : Fin 128} {s s' : Fin 256} {c c' : Fin 128} (hn : n.val = n'.val)
    (hs : s.val = s'.val) (hc : c.val = c'.val) : keyAt x n s c = keyAt x n' s' c' := by
  rw [Fin.ext hn, Fin.ext hs, Fin.ext hc]

/-- The scores of the reference, at the place of query `R` and the head of column `C`. -/
theorem masked_at (q : SQ.Idx → EReal) (k : SK.Idx → EReal) (R : Fin 16384) (C : Fin 512) (i : S8x16x2x4x128x256.Idx)
    (hR : ((i 0).val * 16 + (i 1).val) * 128 + (i 4).val = R) (hC : (i 2).val * 4 + (i 3).val = C.val / 64) :
    val_main_v66 (F := Ideal) q k i = scoreAt q k R C (i 5) := by
  have h0 : (i 0).val < 8 := (i 0).isLt
  have h1 : (i 1).val < 16 := (i 1).isLt
  have h2 : (i 2).val < 2 := (i 2).isLt
  have h3 : (i 3).val < 4 := (i 3).isLt
  have h4 : (i 4).val < 128 := (i 4).isLt
  have hr : (i 4).val = R % 128 := by omega
  have hb : (i 1).val = R / 128 % 16 := by omega
  have hg : (i 2).val = C / 256 := by omega
  rw [val_main_v66_apply, val_main_call0_v1_apply, val_main_v65_apply]
  unfold Scalar.select scoreAt
  have hm := inside_at (idx_main_v65 (idx_main_call0_v1 i))
  have e0 : inWin (i 4).val (i 5).val (i 1).val ↔ inWin (R % 128) (i 5).val (R / 128 % 16) := by rw [hr, hb]
  refine (if_congr (hm.trans e0) ?_ ?_ : _)
  · rw [val_main_v64_apply, val_main_v63_apply, val_main_v62_apply, val_main_v61_apply, val_main_v60_apply,
      val_main_v59_apply, val_main_v58_apply, val_main_v57_apply, slope_at, behind_at, val_main_v19_apply,
      val_main_v18_apply]
    have es : slope (idx_main_v57 (idx_main_v59 (idx_main_v62 (idx_main_v63 i))) 0).val = slope (C / 64) :=
      congrArg slope (show (((i 2).val * 4 + (i 3).val) * 1 + 0) * 1 + 0 = C.val / 64 by omega)
    have ed : dist (idx_main_v58 (idx_main_v60 (idx_main_v62 (idx_main_v63 i))) 0).val
        (idx_main_v58 (idx_main_v60 (idx_main_v62 (idx_main_v63 i))) 1).val = dist (R % 128) (i 5).val :=
      congrArg (fun z => dist z (i 5).val) hr
    rw [es, ed]
    refine congrArg (· - slope (C / 64) * dist (R % 128) (i 5).val) (Finset.sum_congr rfl fun x _ => ?_)
    rw [pairs_at, split_at, mul_comm]
    refine congrArg₂ (· * ·) (same_entry q ?_ ?_) (same_key k ?_ rfl ?_)
    · exact hR
    · show ((i 2).val * 4 + (i 3).val) * 64 + x.val = 64 * (C.val / 64) + x.val
      omega
    · show (i 0).val * 16 + (i 1).val = R.val / 128
      omega
    · show (i 2).val * 64 + x.val = 64 * (C.val / 256) + x.val
      omega
  · rw [val_main_call0_v2_apply]; rfl

/-- The row maximum of the reference, the sink included. -/
theorem top_at (q : SQ.Idx → EReal) (k : SK.Idx → EReal) (sinks : SS.Idx → EReal) (R : Fin 16384) (C : Fin 512)
    (i : S8x16x2x4x128x1.Idx)
    (hR : ((i 0).val * 16 + (i 1).val) * 128 + (i 4).val = R) (hC : (i 2).val * 4 + (i 3).val = C.val / 64) :
    val_main_v72 (F := Ideal) q k sinks i = rowTop (scoreAt q k R C) (sinks (ix1 ⟨C / 64, by omega⟩)) := by
  rw [val_main_v72_apply, val_main_v71_apply, val_main_v70_apply, val_main_v67_apply, val_main_v69_apply]
  have es : idx_main_v67 (idx_main_v70 (idx_main_v71 i)) = (ix1 ⟨C / 64, by omega⟩ : S8.Idx) :=
    funext fun a => match a with
      | ⟨0, _⟩ => Fin.ext (show (((i 2).val * 4 + (i 3).val) * 1 + 0) * 1 + 0 = C.val / 64 by omega)
  rw [es]
  refine congrArg (fun z => max z (sinks (ix1 ⟨C / 64, by omega⟩))) ?_
  unfold val_main_v68
  rw [Host.reduce_eq_fold_single FloatOps.maximumf _ _ reducesTo_S8x16x2x4x128x256_S8x16x2x4x128_d5 (by decide)]
  refine Finset.fold_congr fun x _ => ?_
  exact masked_at q k R C _ hR hC

/-- A probability of the reference. -/
theorem prob_at (q : SQ.Idx → EReal) (k : SK.Idx → EReal) (sinks : SS.Idx → EReal) (R : Fin 16384) (C : Fin 512)
    (i : S8x16x2x4x128x256.Idx)
    (hR : ((i 0).val * 16 + (i 1).val) * 128 + (i 4).val = R) (hC : (i 2).val * 4 + (i 3).val = C.val / 64) :
    val_main_v84 (F := Ideal) q k sinks i
      = Ideal.div (Ideal.exp (scoreAt q k R C (i 5) - rowTop (scoreAt q k R C) (sinks (ix1 ⟨C / 64, by omega⟩))))
          (denom (scoreAt q k R C) (sinks (ix1 ⟨C / 64, by omega⟩))) := by
  have es : idx_main_v67 (idx_main_v78 (idx_main_v79 (idx_main_v83 i))) = (ix1 ⟨C / 64, by omega⟩ : S8.Idx) :=
    funext fun a => match a with
      | ⟨0, _⟩ => Fin.ext (show (((i 2).val * 4 + (i 3).val) * 1 + 0) * 1 + 0 = C.val / 64 by omega)
  have ex : ∀ j : S8x16x2x4x128x256.Idx, ((j 0).val * 16 + (j 1).val) * 128 + (j 4).val = R →
      (j 2).val * 4 + (j 3).val = C.val / 64 → val_main_v75 (F := Ideal) q k sinks j
        = Ideal.exp (scoreAt q k R C (j 5) - rowTop (scoreAt q k R C) (sinks (ix1 ⟨C / 64, by omega⟩))) := by
    intro j hjR hjC
    rw [val_main_v75_apply, val_main_v74_apply, val_main_v73_apply, masked_at q k R C j hjR hjC,
      top_at q k sinks R C (idx_main_v73 j) hjR hjC]
    rfl
  rw [val_main_v84_apply, val_main_v83_apply, val_main_v82_apply, val_main_v81_apply, val_main_v80_apply,
    val_main_v79_apply, val_main_v78_apply, val_main_v67_apply, val_main_v77_apply, val_main_v76_apply, es,
    top_at q k sinks R C (idx_main_v83 i) hR hC, ex i hR hC]
  have hz : val_main_cst_10 (F := Ideal) (Shape.Idx.first h_S_) = 0 := by
    rw [val_main_cst_10_apply]; exact Ideal.ofBits_zero _
  have hs : ∑ x : Fin 256, val_main_v75 (F := Ideal) q k sinks (idx_main_v76 (idx_main_v77 (idx_main_v83 i)) x)
      = ∑ x, Ideal.exp (scoreAt q k R C x - rowTop (scoreAt q k R C) (sinks (ix1 ⟨C / 64, by omega⟩))) :=
    Finset.sum_congr rfl fun x _ => ex _ hR hC
  rw [hs, hz, zero_add]
  rfl

/-- The reference computes the attention. -/
theorem reference_eq (q : SQ.Idx → EReal) (k v : SK.Idx → EReal) (sinks : SS.Idx → EReal) :
    val_main_v88 (F := Ideal) q k v sinks = attention q k v sinks := by
  funext j
  have h0 : (j 0).val < 16384 := (j 0).isLt
  have h1 : (j 1).val < 512 := (j 1).isLt
  rw [val_main_v88_apply]
  refine Eq.trans (b := val_main_v87 (F := Ideal) q k v sinks j) rfl ?_
  unfold val_main_v87
  rw [shapeCast_apply _ _ j (ix6 (n0 := 8) (n1 := 16) (n2 := 128) (n3 := 2) (n4 := 4) (n5 := 64)
    ⟨(j 0).val / 2048, by omega⟩ ⟨(j 0).val / 128 % 16, by omega⟩ ⟨(j 0).val % 128, by omega⟩
    ⟨(j 1).val / 256, by omega⟩ ⟨(j 1).val / 64 % 4, by omega⟩ ⟨(j 1).val % 64, by omega⟩) (by
      rw [Shape.rowMajor_val_two, Shape.rowMajor_val_six]
      show ((((((j 0).val / 2048) * 16 + (j 0).val / 128 % 16) * 128 + (j 0).val % 128) * 2 + (j 1).val / 256) * 4
        + (j 1).val / 64 % 4) * 64 + (j 1).val % 64 = (j 0).val * 512 + (j 1).val
      omega),
    val_main_v86_apply, val_main_v85_apply]
  unfold attention attAt attRow
  refine Finset.sum_congr rfl fun x _ => ?_
  rw [mul_comm, values_eq, pairs_at, prob_at q k sinks (j 0) (j 1) _ (by
      show ((j 0).val / 2048 * 16 + (j 0).val / 128 % 16) * 128 + (j 0).val % 128 = (j 0).val
      omega) (by
      show (j 1).val / 256 * 4 + (j 1).val / 64 % 4 = (j 1).val / 64
      omega)]
  refine congrArg₂ (· * ·) rfl (same_key v ?_ rfl ?_)
  · show (j 0).val / 2048 * 16 + (j 0).val / 128 % 16 = (j 0).val / 128
    omega
  · show (j 1).val / 256 * 64 + (j 1).val % 64 = 64 * ((j 1).val / 256) + (j 1).val % 64
    omega

end Cert.Attn

end
-- ==== Proof.Attention.lean ====
/-
  The attention kernel and the reference end with equal outputs.
-/
module

public import proofs.«01_k».proof.Defs
public import proofs.«01_k».proof.Proof.Final
public import proofs.«01_k».proof.Proof.RefVal

@[expose] public section

noncomputable section

namespace Cert.Attn

open Idealize.ShloMosaic Idealize.SL.Sem

/-- The reference ends with its arguments as they were, and every counter at zero. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- From memories that agree on the arguments, kernel and reference end with the same output: the attention. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => (Cert.KernelIdeal.Gen.dats m 0 c).arrAt 6 Cert.KernelIdeal.cfg0.N, ?_, ?_⟩
  · exact Cert.KernelIdeal.Value.run_blocks m ρ
  · refine (θ_run Cert.ReferenceIdeal.defs _ _).mono (fun r h c => ⟨(h c).1.trans ?_, (h c).2⟩)
      (Cert.ReferenceIdeal.Value.run m' ρ')
    obtain ⟨h0, h1, h2, h3⟩ := hagree c
    rw [Cert.ReferenceIdeal.Read.val_main_v88_eq, h0, h1, h2, h3]
    exact (reference_eq _ _ _ _).trans (final m c).symm

end Cert.Attn

end
-- ==== Proof.ExpRun.lean ====
/- The experts' kernel body, one grid point at a time: what it leaves in its two scratch buffers and in the
   result's staging buffer, in each of the four cases the body's branches distinguish (an idle tile; a busy tile's
   first chunk, a middle chunk, its last chunk). -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three tables (expert of a tile, block of a tile, rows of a tile) as the body is handed them. -/
abbrev tab0 : Memref sig .tc .smem S40 .i32 := Memref.whole main_arg0
abbrev htab0 : tab0.IsWhole := Memref.isWhole_whole _
abbrev tab1 : Memref sig .tc .smem S40 .i32 := Memref.whole main_arg1
abbrev htab1 : tab1.IsWhole := Memref.isWhole_whole _
abbrev tab2 : Memref sig .tc .smem S40 .i32 := Memref.whole main_arg2
abbrev htab2 : tab2.IsWhole := Memref.isWhole_whole _

/-- The type of a table's contents on core `c`, and the table held (at half the share) at contents `f`. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- The word the body loads at a grid point: its tile's number of rows. -/
abbrev word (c : Dev nD) (T : TabBuf (F := F) c tab2) (i : grid0.Coords) : Elt F .i32 :=
  View.readAt (Elt F) tab2.view (Rect.unit (s := S40) (k0_off1 i) S1.size (k0_off1_inb i)).toLoadRect T
    (Shape.Idx.first (numel1_S1.symm ▸ Nat.one_pos))

/-- The body's five branch conditions: a busy tile's first chunk; a busy tile; the first chunk; a later chunk;
    a busy tile's last chunk. -/
abbrev condInit (i : grid0.Coords) (w : BitVec 32) : Prop :=
  Scalar.cmpi .ne (Scalar.extui (Scalar.andi (Scalar.cmpi .sgt w 0#32) (Scalar.cmpi .eq (BitVec.ofNat 32 (i 1).val) 0#32)) : BitVec 32) 0#32 = 1#1
abbrev condBusy (w : BitVec 32) : Prop := Scalar.cmpi .ne (Scalar.extui (Scalar.cmpi .sgt w 0#32) : BitVec 32) 0#32 = 1#1
abbrev condFirst (i : grid0.Coords) : Prop :=
  Scalar.cmpi .ne (Scalar.extui (Scalar.cmpi .eq (BitVec.ofNat 32 (i 1).val) 0#32) : BitVec 32) 0#32 = 1#1
abbrev condLater (i : grid0.Coords) : Prop :=
  Scalar.cmpi .ne (Scalar.extui (Scalar.cmpi .sgt (BitVec.ofNat 32 (i 1).val) 0#32) : BitVec 32) 0#32 = 1#1
abbrev condLast (i : grid0.Coords) (w : BitVec 32) : Prop := k0_cond5 i w = 1#1

/-- What the body does at one grid point, on whole staging buffers: from the inputs' blocks `x0 … x3`, the scratch
    buffers at `s` and `a` and the result's staging buffer at `o`, it ends with the inputs and the tables as they
    were, the scratch buffers at `s'` and `a'`, and the staging buffer at `o'`. -/
abbrev Steps (c : Dev nD) (i : grid0.Coords)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (x0 : Vec F S1024x1024 .f32) (x1 : Vec F S1x1024x512 .f32) (x2 : Vec F S1x1024x512 .f32) (x3 : Vec F S1x512x1024 .f32)
    (T0 : TabBuf (F := F) c tab0) (T1 : TabBuf (F := F) c tab1) (T2 : TabBuf (F := F) c tab2)
    (s : Vec F S1024x1024 .bf16) (a o : Vec F S1024x1024 .f32) (s' : Vec F S1024x1024 .bf16) (a' o' : Vec F S1024x1024 .f32) : Prop :=
  ∀ (E : Set ℕ) (K : PUnit → sProp 𝕄),
    iprop(owns (c : Thread nD τ) arg5 fullShare x0 ∗ owns (c : Thread nD τ) arg6 fullShare x1 ∗ owns (c : Thread nD τ) arg7 fullShare x2 ∗ owns (c : Thread nD τ) arg8 fullShare x3
        ∗ owns (c : Thread nD τ) arg9 fullShare o ∗ owns (c : Thread nD τ) arg10 fullShare s ∗ owns (c : Thread nD τ) arg11 fullShare a
        ∗ tabPt c tab0 T0 ∗ tabPt c tab1 T1 ∗ tabPt c tab2 T2
        ∗ (iprop(owns (c : Thread nD τ) arg5 fullShare x0 ∗ owns (c : Thread nD τ) arg6 fullShare x1 ∗ owns (c : Thread nD τ) arg7 fullShare x2 ∗ owns (c : Thread nD τ) arg8 fullShare x3
            ∗ owns (c : Thread nD τ) arg9 fullShare o' ∗ owns (c : Thread nD τ) arg10 fullShare s' ∗ owns (c : Thread nD τ) arg11 fullShare a'
            ∗ tabPt c tab0 T0 ∗ tabPt c tab1 T1 ∗ tabPt c tab2 T2) -∗ K ⟨⟩))
      ⊢ wp frame (wpE (defs₀ (F := F)) Variants.none c none) E
          (cc0_moe_experts i tab0 htab0 tab1 htab1 tab2 htab2 arg5 harg5 arg6 harg6 arg7 harg7 arg8 harg8 arg9 harg9 arg10 harg10 arg11 harg11) K

/-- A load of a whole staging buffer reads its contents. -/
theorem full_unread {S : Shape} {e : EltTy} (M : Memref sig .tc .vmem S e) (hM : M.IsWhole) {off : Fin S.rank → Nat}
    (inb : ∀ a, off a + S.size a ≤ S.size a) (x : S.Idx → Elt F e) :
    M.view.readAt (Elt F) (Rect.unit (s := S) off S.size inb).toLoadRect (hM.unread x) = x :=
  (View.readAt_full _ _ _).trans (hM.read_unread x)

theorem pay3_eq {p p' : Vec F S1024x1024 .bf16} {q q' r r' : Vec F S1x1024x512 .f32} {u u' : Vec F S1x512x1024 .f32}
    (h1 : p = p') (h2 : q = q') (h3 : r = r') (h4 : u = u') : k0_pay3 p q r u = k0_pay3 p' q' r' u' := by
  rw [h1, h2, h3, h4]

theorem pay4_eq {p p' : Vec F S1024x1024 .bf16} {q q' r r' : Vec F S1x1024x512 .f32} {u u' : Vec F S1x512x1024 .f32}
    {v v' : Vec F S1024x1024 .f32}
    (h1 : p = p') (h2 : q = q') (h3 : r = r') (h4 : u = u') (h5 : v = v') : k0_pay4 p q r u v = k0_pay4 p' q' r' u' v' := by
  rw [h1, h2, h3, h4, h5]

section
variable (c : Dev nD) (i : grid0.Coords)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (x0 : Vec F S1024x1024 .f32) (x1 : Vec F S1x1024x512 .f32) (x2 : Vec F S1x1024x512 .f32) (x3 : Vec F S1x512x1024 .f32)
    (T0 : TabBuf (F := F) c tab0) (T1 : TabBuf (F := F) c tab1) (T2 : TabBuf (F := F) c tab2)
    (s : Vec F S1024x1024 .bf16) (a o : Vec F S1024x1024 .f32)

/-- At an idle tile's point the body changes nothing. -/
theorem steps_idle (h0 : ¬ condInit i (word c T2 i)) (h1 : ¬ condBusy (word c T2 i)) (h4 : ¬ condLast i (word c T2 i)) :
    Steps c i arg5 harg5 arg6 harg6 arg7 harg7 arg8 harg8 arg9 harg9 arg10 harg10 arg11 harg11 x0 x1 x2 x3 T0 T1 T2 s a o s a o := by
  intro E K
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, HT0, HT1, HT2, Hk⟩
  obtain rfl := harg5.eq_unread hf0; obtain rfl := harg6.eq_unread hf1; obtain rfl := harg7.eq_unread hf2; obtain rfl := harg8.eq_unread hf3
  obtain rfl := harg9.eq_unread hf4; obtain rfl := harg10.eq_unread hfs0; obtain rfl := harg11.eq_unread hfs1
  sl_exec (disch := first | (guard_target = ¬(Scalar.cmpi .ne (Scalar.extui (Scalar.andi _ _)) _ = _); exact h0) | (guard_target = ¬(Scalar.cmpi _ _ _ = _); exact h1) | (guard_target = ¬(k0_cond5 _ _ = _); exact h4))
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  isplitl [HS0]
  · iexists _; isplitr; · ipureintro; exact harg10.read_unread _
    iexact HS0
  isplitl [HS1]
  · iexists _; isplitr; · ipureintro; exact harg11.read_unread _
    iexact HS1
  isplitl [HT0]; · iexact HT0
  isplitl [HT1]; · iexact HT1
  iexact HT2

/-- At a busy tile's first chunk the body masks and rounds the tile's rows into the first scratch buffer and puts the
    chunk's partial product in the second. -/
theorem steps_first (h0 : condInit i (word c T2 i)) (h1 : condBusy (word c T2 i)) (h2 : condFirst i) (h3 : ¬ condLater i) (h4 : ¬ condLast i (word c T2 i)) :
    Steps c i arg5 harg5 arg6 harg6 arg7 harg7 arg8 harg8 arg9 harg9 arg10 harg10 arg11 harg11 x0 x1 x2 x3 T0 T1 T2 s a o
      (k0_pay1 (word c T2 i) x0) (k0_pay3 (k0_pay1 (word c T2 i) x0) x1 x2 x3) o := by
  intro E K
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, HT0, HT1, HT2, Hk⟩
  obtain rfl := harg5.eq_unread hf0; obtain rfl := harg6.eq_unread hf1; obtain rfl := harg7.eq_unread hf2; obtain rfl := harg8.eq_unread hf3
  obtain rfl := harg9.eq_unread hf4; obtain rfl := harg10.eq_unread hfs0; obtain rfl := harg11.eq_unread hfs1
  sl_exec (disch := first | (guard_target = Scalar.cmpi .ne (Scalar.extui (Scalar.andi _ _)) _ = _; exact h0) | (guard_target = Scalar.cmpi .ne (Scalar.extui (Scalar.cmpi .sgt (View.readAt _ _ _ _ _) _)) _ = _; exact h1) | (guard_target = Scalar.cmpi .ne (Scalar.extui (Scalar.cmpi .eq _ _)) _ = _; exact h2) | (guard_target = ¬(Scalar.cmpi .ne (Scalar.extui (Scalar.cmpi .sgt _ _)) _ = _); exact h3) | (guard_target = ¬(k0_cond5 _ _ = _); exact h4))
  sl_step
  iapply Hk
  isplitl [H0]
  · iexists _; isplitr; swap; · iexact H0
    ipureintro; exact harg5.read_unread _
  isplitl [H1]
  · iexists _; isplitr; swap; · iexact H1
    ipureintro; exact harg6.read_unread _
  isplitl [H2]
  · iexists _; isplitr; swap; · iexact H2
    ipureintro; exact harg7.read_unread _
  isplitl [H3]
  · iexists _; isplitr; swap; · iexact H3
    ipureintro; exact harg8.read_unread _
  isplitl [H4]
  · iexists _; isplitr; swap; · iexact H4
    ipureintro; exact harg9.read_unread _
  isplitl [HS0]
  · iexists _; isplitr; swap; · iexact HS0
    ipureintro; exact (View.read_writes_full _ _ _ _ _).trans (congrArg (k0_pay1 _) (full_unread arg5 harg5 _ x0))
  isplitl [HS1]
  · iexists _; isplitr; swap; · iexact HS1
    ipureintro; exact (View.read_writes_full _ _ _ _ _).trans (pay3_eq ((View.readAt_writes_full _ _ _ _ _ _).trans (congrArg (k0_pay1 _) (full_unread arg5 harg5 _ x0))) (full_unread arg6 harg6 _ x1) (full_unread arg7 harg7 _ x2) (full_unread arg8 harg8 _ x3))
  isplitl [HT0]; · iexact HT0
  isplitl [HT1]; · iexact HT1
  iexact HT2

/-- At a busy tile's middle chunk the body adds the chunk's partial product to the second scratch buffer. -/
theorem steps_mid (h0 : ¬ condInit i (word c T2 i)) (h1 : condBusy (word c T2 i)) (h2 : ¬ condFirst i) (h3 : condLater i) (h4 : ¬ condLast i (word c T2 i)) :
    Steps c i arg5 harg5 arg6 harg6 arg7 harg7 arg8 harg8 arg9 harg9 arg10 harg10 arg11 harg11 x0 x1 x2 x3 T0 T1 T2 s a o
      s (k0_pay4 s x1 x2 x3 a) o := by
  intro E K
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, HT0, HT1, HT2, Hk⟩
  obtain rfl := harg5.eq_unread hf0; obtain rfl := harg6.eq_unread hf1; obtain rfl := harg7.eq_unread hf2; obtain rfl := harg8.eq_unread hf3
  obtain rfl := harg9.eq_unread hf4; obtain rfl := harg10.eq_unread hfs0; obtain rfl := harg11.eq_unread hfs1
  sl_exec (disch := first | (guard_target = ¬(Scalar.cmpi .ne (Scalar.extui (Scalar.andi _ _)) _ = _); exact h0) | (guard_target = Scalar.cmpi .ne (Scalar.extui (Scalar.cmpi .sgt (View.readAt _ _ _ _ _) _)) _ = _; exact h1) | (guard_target = ¬(Scalar.cmpi .ne (Scalar.extui (Scalar.cmpi .eq _ _)) _ = _); exact h2) | (guard_target = Scalar.cmpi .ne (Scalar.extui (Scalar.cmpi .sgt _ _)) _ = _; exact h3) | (guard_target = ¬(k0_cond5 _ _ = _); exact h4))
  sl_step
  iapply Hk
  isplitl [H0]
  · iexists _; isplitr; swap; · iexact H0
    ipureintro; exact harg5.read_unread _
  isplitl [H1]
  · iexists _; isplitr; swap; · iexact H1
    ipureintro; exact harg6.read_unread _
  isplitl [H2]
  · iexists _; isplitr; swap; · iexact H2
    ipureintro; exact harg7.read_unread _
  isplitl [H3]
  · iexists _; isplitr; swap; · iexact H3
    ipureintro; exact harg8.read_unread _
  isplitl [H4]
  · iexists _; isplitr; swap; · iexact H4
    ipureintro; exact harg9.read_unread _
  isplitl [HS0]
  · iexists _; isplitr; swap; · iexact HS0
    ipureintro; exact harg10.read_unread _
  isplitl [HS1]
  · iexists _; isplitr; swap; · iexact HS1
    ipureintro; exact (View.read_writes_full _ _ _ _ _).trans (pay4_eq (full_unread arg10 harg10 _ s) (full_unread arg6 harg6 _ x1) (full_unread arg7 harg7 _ x2) (full_unread arg8 harg8 _ x3) (full_unread arg11 harg11 _ a))
  isplitl [HT0]; · iexact HT0
  isplitl [HT1]; · iexact HT1
  iexact HT2

/-- At a busy tile's last chunk it also copies the sum into the result's staging buffer. -/
theorem steps_last (h0 : ¬ condInit i (word c T2 i)) (h1 : condBusy (word c T2 i)) (h2 : ¬ condFirst i) (h3 : condLater i) (h4 : condLast i (word c T2 i)) :
    Steps c i arg5 harg5 arg6 harg6 arg7 harg7 arg8 harg8 arg9 harg9 arg10 harg10 arg11 harg11 x0 x1 x2 x3 T0 T1 T2 s a o
      s (k0_pay4 s x1 x2 x3 a) (k0_pay4 s x1 x2 x3 a) := by
  intro E K
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, HT0, HT1, HT2, Hk⟩
  obtain rfl := harg5.eq_unread hf0; obtain rfl := harg6.eq_unread hf1; obtain rfl := harg7.eq_unread hf2; obtain rfl := harg8.eq_unread hf3
  obtain rfl := harg9.eq_unread hf4; obtain rfl := harg10.eq_unread hfs0; obtain rfl := harg11.eq_unread hfs1
  sl_exec (disch := first | (guard_target = ¬(Scalar.cmpi .ne (Scalar.extui (Scalar.andi _ _)) _ = _); exact h0) | (guard_target = Scalar.cmpi .ne (Scalar.extui (Scalar.cmpi .sgt (View.readAt _ _ _ _ _) _)) _ = _; exact h1) | (guard_target = ¬(Scalar.cmpi .ne (Scalar.extui (Scalar.cmpi .eq _ _)) _ = _); exact h2) | (guard_target = Scalar.cmpi .ne (Scalar.extui (Scalar.cmpi .sgt _ _)) _ = _; exact h3) | (guard_target = k0_cond5 _ _ = _; exact h4))
  sl_step
  iapply Hk
  isplitl [H0]
  · iexists _; isplitr; swap; · iexact H0
    ipureintro; exact harg5.read_unread _
  isplitl [H1]
  · iexists _; isplitr; swap; · iexact H1
    ipureintro; exact harg6.read_unread _
  isplitl [H2]
  · iexists _; isplitr; swap; · iexact H2
    ipureintro; exact harg7.read_unread _
  isplitl [H3]
  · iexists _; isplitr; swap; · iexact H3
    ipureintro; exact harg8.read_unread _
  isplitl [H4]
  · iexists _; isplitr; swap; · iexact H4
    ipureintro; exact (View.read_writes_full _ _ _ _ _).trans ((View.readAt_writes_full _ _ _ _ _ _).trans (pay4_eq (full_unread arg10 harg10 _ s) (full_unread arg6 harg6 _ x1) (full_unread arg7 harg7 _ x2) (full_unread arg8 harg8 _ x3) (full_unread arg11 harg11 _ a)))
  isplitl [HS0]
  · iexists _; isplitr; swap; · iexact HS0
    ipureintro; exact harg10.read_unread _
  isplitl [HS1]
  · iexists _; isplitr; swap; · iexact HS1
    ipureintro; exact (View.read_writes_full _ _ _ _ _).trans (pay4_eq (full_unread arg10 harg10 _ s) (full_unread arg6 harg6 _ x1) (full_unread arg7 harg7 _ x2) (full_unread arg8 harg8 _ x3) (full_unread arg11 harg11 _ a))
  isplitl [HT0]; · iexact HT0
  isplitl [HT1]; · iexact HT1
  iexact HT2

end

end Cert.Moe

end
-- ==== Proof.ExpTable.lean ====
/- The experts' three tables: what the precondition says of them, the words the kernel and its index maps read out of
   them, and the body's branch conditions in terms of the tile, the chunk and the tile's number of rows. -/
module

public import proofs.«01_k».proof.Proof.ExpRun
public import proofs.«01_k».proof.Pre_laid_out
public import Idealize.ShloMosaic.Lib.Pipeline.ValueKit
public import Idealize.ShloMosaic.Lib.Pointwise

@[expose] public section

noncomputable section

namespace Cert.Moe

open Cert.Kernel2Ideal Cert.Kernel2Ideal.Gen
open Idealize.ShloMosaic Idealize.ShloMosaic.TcCoe Idealize.ShloMosaic.Tactic

variable {F : FTy → Type} [FloatOps F]

/-- What the precondition says of the tables: every tile's expert exists; a busy tile's rows go to its own block;
    an idle tile comes after another tile and names the same block as it. -/
structure LaidOut (te tb nv : IVec S40 32) : Prop where
  expert : ∀ t : Fin 40, (te (ix1 t)).toNat < 8
  busy : ∀ t : Fin 40, 0 < (nv (ix1 t)).toInt → (tb (ix1 t)).toNat = t.val
  idle : ∀ t : Fin 40, ¬ 0 < (nv (ix1 t)).toInt → ∃ h : 0 < t.val, tb (ix1 t) = tb (ix1 (⟨t.val - 1, by omega⟩ : Fin 40))

/-- Every tile's block exists. -/
theorem LaidOut.block_lt {te tb nv : IVec S40 32} (h : LaidOut te tb nv) : ∀ (n : ℕ) (hn : n < 40), (tb (ix1 (⟨n, hn⟩ : Fin 40))).toNat < 40
  | n, hn => by
    by_cases hb : 0 < (nv (ix1 (⟨n, hn⟩ : Fin 40))).toInt
    · rw [h.busy _ hb]; exact hn
    · obtain ⟨h0, e⟩ := h.idle _ hb
      rw [e]
      exact LaidOut.block_lt h (n - 1) _
  termination_by n => n
  decreasing_by simp only at h0; omega

/-- The printed predicate, decoded. -/
theorem laidOut_of_pre [Cert.Pre_laid_out.Facts] (te tb nv : IVec S40 32) (x : FVec F S40960x1024 .f32) (w1 w2 : FVec F S8x1024x3584 .f32) (w3 : FVec F S8x3584x1024 .f32)
    (h : Cert.Pre_laid_out.fn (F := F) te tb nv x w1 w2 w3 = fun _ => 1#1) : LaidOut te tb nv := by
  have key := fun t : Fin 40 => congrFun h (ix1 t)
  simp only [Cert.Pre_laid_out.fn, Cert.Pre_laid_out.fn_part1, WordCmp.andi_at, WordCmp.ori_at, WordCmp.cmpi_at, WordCmp.iotaInDim_at,
    WordCmp.broadcastInDim_constantI, WordCmp.constantI_at, IntOp.andi_eq_one, IntOp.ori_eq_one, IntOp.cmpi_eq, IntOp.cmpi_slt, IntOp.cmpi_sle,
    IntOp.cmpi_sgt, IntOp.cmpi_sge, concatenate_pair_apply] at key
  have e0 : (0#32 : BitVec 32).toInt = 0 := rfl
  have e8 : (8#32 : BitVec 32).toInt = 8 := rfl
  have ei : ∀ t : Fin 40, (BitVec.ofNat 32 ((ix1 t : S40.Idx) 0).val).toInt = (t.val : ℤ) := fun t =>
    WordCmp.toInt_ofNat_of_lt (w := 32) (show t.val < 2 ^ 31 by omega)
  simp only [e0, e8, ei] at key
  refine ⟨fun t => ?_, fun t hb => ?_, fun t hb => ?_⟩
  · obtain ⟨⟨h1, h2⟩, -⟩ := key t
    have := BitVec.toInt_eq_toNat_cond (te (ix1 t))
    have := (te (ix1 t)).isLt
    split at * <;> omega
  · obtain ⟨-, ⟨-, h2⟩ | ⟨⟨h1, -⟩, -⟩⟩ := key t
    · rw [h2]; exact WordCmp.toNat_ofNat_of_lt (w := 32) (show t.val < 2 ^ 32 by omega)
    · omega
  · obtain ⟨-, ⟨h1, -⟩ | ⟨⟨-, h1⟩, h2⟩⟩ := key t
    · exact absurd h1 hb
    · have h0 : 0 < t.val := by omega
      refine ⟨h0, h2.trans ?_⟩
      rw [dif_neg (show ¬ ((ix1 t : S40.Idx) 0).val < _ from by show ¬ t.val < 1; omega)]
      refine congrArg tb (funext fun a => Fin.ext ?_)
      obtain rfl : a = 0 := Subsingleton.elim _ _
      show 0 + (t.val - 1) = t.val - 1
      omega

/-! ## The words read out of the tables -/

/-- The tile of a grid point. -/
abbrev tileOf (i : grid0.Coords) : Fin 40 := ⟨(i 0).val, (i 0).isLt⟩

theorem off1_val (i : grid0.Coords) : k0_off1 i 0 = (i 0).val := by
  show (BitVec.ofNat 32 (i 0).val).toNat = _
  have : (i 0).val < 40 := (i 0).isLt
  exact WordCmp.toNat_ofNat_of_lt (w := 32) (by omega)

theorem ix1_of_val (j : S40.Idx) (t : Fin 40) (h : (j 0).val = t.val) : j = ix1 t := by
  funext a
  obtain rfl : a = 0 := Subsingleton.elim _ _
  exact Fin.ext h

/-- The word the body loads is the tile's number of rows. -/
theorem word_eq (c : Dev nD) (T : TabBuf (F := F) c tab2) (i : grid0.Coords) : word c T i = T (ix1 (tileOf i)) := by
  show T _ = T _
  exact congrArg T (ix1_of_val _ _ ((Nat.add_zero _).trans (off1_val i)))

/-- What an index map reads of a table at a grid point: the tile's word. -/
theorem at_eq (T : IVec S40 32) (i : grid0.Coords) (h1) (h2) :
    T ((Rect.unit (s := S40) (k0_off1 i) S1.size h1).emb (Shape.Idx.first h2)) = T (ix1 (tileOf i)) :=
  congrArg T (ix1_of_val _ _ ((Nat.add_zero _).trans (off1_val i)))

/-- The chunk of the hidden axis an idle tile's windows stay at is the last one, a busy tile's the point's. -/
def chunk (nv : IVec S40 32) (i : grid0.Coords) : ℕ := if 0 < (nv (ix1 (tileOf i))).toInt then (i 1).val else 6

theorem i1_lt (i : grid0.Coords) : (i 1).val < 7 := (i 1).isLt

theorem i1_toNat (i : grid0.Coords) : (BitVec.ofNat 32 (i 1).val).toNat = (i 1).val :=
  WordCmp.toNat_ofNat_of_lt (w := 32) (by have := i1_lt i; omega)

theorem chunk_lt (nv : IVec S40 32) (i : grid0.Coords) : chunk nv i < 7 := by
  have := i1_lt i
  unfold chunk; split <;> omega

theorem select_chunk (w : BitVec 32) (i : grid0.Coords) :
    (Scalar.select (Scalar.cmpi .sgt w 0#32) (BitVec.ofNat 32 (i 1).val) 6#32).toNat = if 0 < w.toInt then (i 1).val else 6 := by
  rw [WordCmp.scalar_cmpi_eq, WordCmp.cmpi_sgt_eq, WordCmp.select_decide]
  show (if 0 < w.toInt then _ else _ : BitVec 32).toNat = _
  split
  · exact i1_toNat i
  · rfl

/-- The three tables' words. -/
def te (pf : pre0.Contents (Elt F)) : IVec S40 32 := pf 0
def tb (pf : pre0.Contents (Elt F)) : IVec S40 32 := pf 1
def nv (pf : pre0.Contents (Elt F)) : IVec S40 32 := pf 2

variable (pf : pre0.Contents (Elt F)) (i : grid0.Coords)

theorem map0_eq : cc0_transform_0 k0_off1_inb numel1_S1 pf i = ![(tb pf (ix1 (tileOf i))).toNat, 0] := by
  unfold cc0_transform_0
  dsimp only
  exact congrArg (fun w : BitVec 32 => ![w.toNat, 0]) (at_eq (tb pf) i _ _)

theorem map4_eq : cc0_transform_4 k0_off1_inb numel1_S1 pf i = ![(tb pf (ix1 (tileOf i))).toNat, 0] := by
  unfold cc0_transform_4
  dsimp only
  exact congrArg (fun w : BitVec 32 => ![w.toNat, 0]) (at_eq (tb pf) i _ _)

theorem map1_eq : cc0_transform_1 k0_off1_inb numel1_S1 pf i = ![(te pf (ix1 (tileOf i))).toNat, 0, chunk (nv pf) i] := by
  unfold cc0_transform_1
  dsimp only
  refine (congrArg₂ (fun w v : BitVec 32 => ![w.toNat, 0, (Scalar.select (Scalar.cmpi .sgt v 0#32) (BitVec.ofNat 32 (i 1).val) 6#32).toNat])
    (at_eq (te pf) i _ _) (at_eq (nv pf) i _ _)).trans ?_
  beta_reduce
  rw [select_chunk]; rfl

theorem map2_eq : cc0_transform_2 k0_off1_inb numel1_S1 pf i = ![(te pf (ix1 (tileOf i))).toNat, 0, chunk (nv pf) i] :=
  map1_eq pf i

theorem map3_eq : cc0_transform_3 k0_off1_inb numel1_S1 pf i = ![(te pf (ix1 (tileOf i))).toNat, chunk (nv pf) i, 0] := by
  unfold cc0_transform_3
  dsimp only
  refine (congrArg₂ (fun w v : BitVec 32 => ![w.toNat, (Scalar.select (Scalar.cmpi .sgt v 0#32) (BitVec.ofNat 32 (i 1).val) 6#32).toNat, 0])
    (at_eq (te pf) i _ _) (at_eq (nv pf) i _ _)).trans ?_
  beta_reduce
  rw [select_chunk]; rfl

/-- Under the precondition every window's block lies inside its array. -/
theorem ok_of_laidOut (h : LaidOut (te pf) (tb pf) (nv pf)) : ok0 pf := by
  have hb : ∀ i : grid0.Coords, (tb pf (ix1 (tileOf i))).toNat < 40 := fun i => h.block_lt _ _
  have he : ∀ i : grid0.Coords, (te pf (ix1 (tileOf i))).toNat < 8 := fun i => h.expert _
  have hc : ∀ i : grid0.Coords, chunk (nv pf) i < 7 := chunk_lt (nv pf)
  refine ⟨fun i => ⟨?_, Or.inl rfl⟩, fun i => ⟨?_, Or.inl rfl⟩, fun i => ⟨?_, Or.inl rfl⟩, fun i => ⟨?_, Or.inl rfl⟩, fun i => ⟨?_, Or.inl rfl⟩⟩
  · rw [map0_eq]; intro a
    match a with
    | ⟨0, _⟩ => exact (by have := hb i; omega : ((tb pf (ix1 (tileOf i))).toNat + 1) * 1024 ≤ 40960)
    | ⟨1, _⟩ => show (0 + 1) * 1024 ≤ 1024; omega
  · rw [map1_eq]; intro a
    match a with
    | ⟨0, _⟩ => exact (by have := he i; omega : ((te pf (ix1 (tileOf i))).toNat + 1) * 1 ≤ 8)
    | ⟨1, _⟩ => show (0 + 1) * 1024 ≤ 1024; omega
    | ⟨2, _⟩ => exact (by have := hc i; omega : (chunk (nv pf) i + 1) * 512 ≤ 3584)
  · rw [map2_eq]; intro a
    match a with
    | ⟨0, _⟩ => exact (by have := he i; omega : ((te pf (ix1 (tileOf i))).toNat + 1) * 1 ≤ 8)
    | ⟨1, _⟩ => show (0 + 1) * 1024 ≤ 1024; omega
    | ⟨2, _⟩ => exact (by have := hc i; omega : (chunk (nv pf) i + 1) * 512 ≤ 3584)
  · rw [map3_eq]; intro a
    match a with
    | ⟨0, _⟩ => exact (by have := he i; omega : ((te pf (ix1 (tileOf i))).toNat + 1) * 1 ≤ 8)
    | ⟨1, _⟩ => exact (by have := hc i; omega : (chunk (nv pf) i + 1) * 512 ≤ 3584)
    | ⟨2, _⟩ => show (0 + 1) * 1024 ≤ 1024; omega
  · rw [map4_eq]; intro a
    match a with
    | ⟨0, _⟩ => exact (by have := hb i; omega : ((tb pf (ix1 (tileOf i))).toNat + 1) * 1024 ≤ 40960)
    | ⟨1, _⟩ => show (0 + 1) * 1024 ≤ 1024; omega

/-! ## The branch conditions -/

theorem i1_eq_iff (k : ℕ) (hk : k < 7) : Scalar.cmpi .eq (BitVec.ofNat 32 (i 1).val) (BitVec.ofNat 32 k) = 1#1 ↔ (i 1).val = k := by
  have := i1_lt i
  exact WordCmp.cmpi_eq_ofNat_eq_one_iff (w := 32) (by omega) (by omega)

theorem busy_iff (w : BitVec 32) : Scalar.cmpi .sgt w 0#32 = 1#1 ↔ 0 < w.toInt := IntOp.cmpi_sgt

theorem condInit_iff (w : BitVec 32) : condInit i w ↔ 0 < w.toInt ∧ (i 1).val = 0 :=
  (Scalar.guard_iff _).trans (IntOp.andi_eq_one.trans (and_congr (busy_iff w) (i1_eq_iff i 0 (by omega))))
theorem condBusy_iff (w : BitVec 32) : condBusy w ↔ 0 < w.toInt := (Scalar.guard_iff _).trans (busy_iff w)
theorem condFirst_iff : condFirst i ↔ (i 1).val = 0 := (Scalar.guard_iff _).trans (i1_eq_iff i 0 (by omega))
theorem condLater_iff : condLater i ↔ 0 < (i 1).val := by
  have := i1_lt i
  exact (Scalar.guard_iff _).trans (WordCmp.cmpi_sgt_ofNat_eq_one_iff (w := 32) (by omega) (by omega))
theorem condLast_iff (w : BitVec 32) : condLast i w ↔ 0 < w.toInt ∧ (i 1).val = 6 :=
  (Scalar.guard_iff _).trans (IntOp.andi_eq_one.trans (and_congr (busy_iff w) (i1_eq_iff i 6 (by omega))))

/-- The result's staging buffer is written at a busy tile's last chunk, and left alone at every other point. -/
theorem idle4_iff : idle0 pf 4 i = true ↔ ¬ (0 < (nv pf (ix1 (tileOf i))).toInt ∧ (i 1).val = 6) := by
  have hw : pf.atD 2 (k0_off1 i) = nv pf (ix1 (tileOf i)) := by
    have h : ∀ a, k0_off1 i a + 1 ≤ (pre0.ref 2).ty.shape.size a := fun a => by
      have := (i 0).isLt
      obtain rfl : a = 0 := Subsingleton.elim (α := Fin 1) _ _
      rw [off1_val]; exact this
    refine (dif_pos h).trans ?_
    exact congrArg (nv pf) (ix1_of_val _ _ (off1_val i))
  rw [← condLast_iff i (nv pf (ix1 (tileOf i)))]
  show (!(k0_cond5 i (pf.atD 2 (k0_off1 i)) == 1#1)) = true ↔ _
  rw [hw, Bool.not_eq_true', beq_eq_false_iff_ne]

end Cert.Moe

end
-- ==== Proof.ExpData.lean ====
/- The experts' pipeline, point by point: the region's entry, the windows' blocks, and what the two scratch buffers and
   the result's staging buffer hold after each grid point. -/
module

public import proofs.«01_k».proof.Proof.ExpTable

@[expose] public section

set_option maxRecDepth 16384

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region is entered with -/

/-- Core `c`'s buffers when the region is entered: as launched. -/
abbrev V (c : Dev nD) (b : Ref sig .tc) : Buf (Elt F) ((c : Thread nD τ).loc b) := m ((c : Thread nD τ).loc b)

set_option maxHeartbeats 800000 in
/-- The program up to the region: the region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents when the region is entered (there is one device). -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl

/-- The pipeline's side condition of the tables, and the pipeline at them. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables' halves the region hands the body, table by table. -/
theorem PhiT_eq (c : Dev nD) : (Pipeline.ΦT pre0 (tbl m) c : sProp 𝕄) = iprop(tabPt c tab0 (tbl m 0) ∗ tabPt c tab1 (tbl m 1) ∗ tabPt c tab2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The points -/

theorem N_eq (hO : Ok m) : (cfgM m hO).N = 280 := N_0

theorem crd0 (t : Fin grid0.N) : (grid0.coords t 0).val = t.val / 7 := by
  have ht : t.val < 280 := Nat.lt_of_lt_of_eq t.isLt N_0
  have e0 : (grid0.coords t 0).val = t.val / 7 % 40 := Pipeline.Grid.coords_val t 0 (by decide) rfl
  omega

theorem crd1 (t : Fin grid0.N) : (grid0.coords t 1).val = t.val % 7 := by
  have e1 : (grid0.coords t 1).val = t.val / 1 % 7 := Pipeline.Grid.coords_val t 1 (by decide) rfl
  omega

/-- The tile of a point, and whether it is busy. -/
abbrev tileAt (n : ℕ) (hn : n < 280) : Fin 40 := ⟨n / 7, by omega⟩

theorem tileOf_coords (t : Fin grid0.N) : tileOf (grid0.coords t) = tileAt t.val (Nat.lt_of_lt_of_eq t.isLt N_0) := Fin.ext (crd0 t)

/-! ## What the body leaves, point by point -/

/-- The contents of the two scratch buffers and of the result's staging buffer. -/
abbrev St (F : FTy → Type) [FloatOps F] : Type := Vec F S1024x1024 .bf16 × Vec F S1024x1024 .f32 × Vec F S1024x1024 .f32

/-- One point's step: an idle tile changes nothing; a busy tile's first chunk masks the rows and starts the sum; its
    later chunks add to the sum; its last chunk also copies the sum out. -/
def stepPt (f : ℕ) (w : BitVec 32) (x0 : Vec F S1024x1024 .f32) (x1 x2 : Vec F S1x1024x512 .f32) (x3 : Vec F S1x512x1024 .f32) (σ : St F) : St F :=
  if 0 < w.toInt then
    if f = 0 then (k0_pay1 w x0, k0_pay3 (k0_pay1 w x0) x1 x2 x3, σ.2.2)
    else if f = 6 then (σ.1, k0_pay4 σ.1 x1 x2 x3 σ.2.1, k0_pay4 σ.1 x1 x2 x3 σ.2.1)
    else (σ.1, k0_pay4 σ.1 x1 x2 x3 σ.2.1, σ.2.2)
  else σ

theorem stepPt_idle (f : ℕ) (w : BitVec 32) (x0) (x1) (x2) (x3) (σ : St F) (h : ¬ 0 < w.toInt) : stepPt f w x0 x1 x2 x3 σ = σ := if_neg h
theorem stepPt_first (f : ℕ) (w : BitVec 32) (x0) (x1) (x2) (x3) (σ : St F) (h : 0 < w.toInt) (h0 : f = 0) :
    stepPt f w x0 x1 x2 x3 σ = (k0_pay1 w x0, k0_pay3 (k0_pay1 w x0) x1 x2 x3, σ.2.2) := (if_pos h).trans (if_pos h0)
theorem stepPt_last (f : ℕ) (w : BitVec 32) (x0) (x1) (x2) (x3) (σ : St F) (h : 0 < w.toInt) (h0 : f = 6) :
    stepPt f w x0 x1 x2 x3 σ = (σ.1, k0_pay4 σ.1 x1 x2 x3 σ.2.1, k0_pay4 σ.1 x1 x2 x3 σ.2.1) :=
  (if_pos h).trans ((if_neg (by omega)).trans (if_pos h0))
theorem stepPt_mid (f : ℕ) (w : BitVec 32) (x0) (x1) (x2) (x3) (σ : St F) (h : 0 < w.toInt) (h0 : f ≠ 0) (h6 : f ≠ 6) :
    stepPt f w x0 x1 x2 x3 σ = (σ.1, k0_pay4 σ.1 x1 x2 x3 σ.2.1, σ.2.2) :=
  (if_pos h).trans ((if_neg h0).trans (if_neg h6))
/-- At a busy tile's first chunk the scratch buffers' contents before it do not matter. -/
theorem stepPt_first_congr (f : ℕ) (w : BitVec 32) (x0) (x1) (x2) (x3) (σ σ' : St F) (h : 0 < w.toInt) (h0 : f = 0) :
    (stepPt f w x0 x1 x2 x3 σ).1 = (stepPt f w x0 x1 x2 x3 σ').1 ∧ (stepPt f w x0 x1 x2 x3 σ).2.1 = (stepPt f w x0 x1 x2 x3 σ').2.1 := by
  rw [stepPt_first _ _ _ _ _ _ _ h h0, stepPt_first _ _ _ _ _ _ _ h h0]; exact ⟨rfl, rfl⟩
/-- The staging buffer is written at a busy tile's last chunk only. -/
theorem stepPt_out (f : ℕ) (w : BitVec 32) (x0) (x1) (x2) (x3) (σ : St F) (h : ¬ (0 < w.toInt ∧ f = 6)) : (stepPt f w x0 x1 x2 x3 σ).2.2 = σ.2.2 := by
  by_cases hb : 0 < w.toInt
  · by_cases h0 : f = 0
    · rw [stepPt_first _ _ _ _ _ _ _ hb h0]
    · rw [stepPt_mid _ _ _ _ _ _ _ hb h0 fun h6 => h ⟨hb, h6⟩]
  · rw [stepPt_idle _ _ _ _ _ _ _ hb]

/-- At a busy tile's last chunk what is stored depends on the scratch buffers only. -/
theorem stepPt_last_congr (f : ℕ) (w : BitVec 32) (x0) (x1) (x2) (x3) (σ σ' : St F) (h : 0 < w.toInt) (h0 : f = 6) (e : σ.1 = σ'.1) (e' : σ.2.1 = σ'.2.1) :
    (stepPt f w x0 x1 x2 x3 σ).2.2 = (stepPt f w x0 x1 x2 x3 σ').2.2 := by
  rw [stepPt_last _ _ _ _ _ _ _ h h0, stepPt_last _ _ _ _ _ _ _ h h0, e, e']
/-- What a step leaves in the scratch buffers depends on the scratch buffers only. -/
theorem stepPt_scratch_congr (f : ℕ) (w : BitVec 32) (x0) (x1) (x2) (x3) (σ σ' : St F) (e : σ.1 = σ'.1) (e' : σ.2.1 = σ'.2.1) :
    (stepPt f w x0 x1 x2 x3 σ).1 = (stepPt f w x0 x1 x2 x3 σ').1 ∧ (stepPt f w x0 x1 x2 x3 σ).2.1 = (stepPt f w x0 x1 x2 x3 σ').2.1 := by
  unfold stepPt
  split_ifs
  · exact ⟨rfl, rfl⟩
  · rw [e, e']; exact ⟨rfl, rfl⟩
  · rw [e, e']; exact ⟨rfl, rfl⟩
  · exact ⟨e, e'⟩

/-- The body at any point does one step. -/
theorem steps_pt (c : Dev nD) (i : grid0.Coords)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (x0 : Vec F S1024x1024 .f32) (x1 : Vec F S1x1024x512 .f32) (x2 : Vec F S1x1024x512 .f32) (x3 : Vec F S1x512x1024 .f32)
    (T0 : TabBuf (F := F) c tab0) (T1 : TabBuf (F := F) c tab1) (T2 : TabBuf (F := F) c tab2) (σ : St F) :
    Steps c i arg5 harg5 arg6 harg6 arg7 harg7 arg8 harg8 arg9 harg9 arg10 harg10 arg11 harg11 x0 x1 x2 x3 T0 T1 T2 σ.1 σ.2.1 σ.2.2
      (stepPt (i 1).val (word c T2 i) x0 x1 x2 x3 σ).1 (stepPt (i 1).val (word c T2 i) x0 x1 x2 x3 σ).2.1 (stepPt (i 1).val (word c T2 i) x0 x1 x2 x3 σ).2.2 := by
  by_cases hb : 0 < (word c T2 i : BitVec 32).toInt
  · by_cases h0 : (i 1).val = 0
    · rw [stepPt_first _ _ _ _ _ _ _ hb h0]
      exact steps_first c i _ _ _ _ _ _ _ _ _ _ _ _ _ _ x0 x1 x2 x3 T0 T1 T2 _ _ _ ((condInit_iff i _).2 ⟨hb, h0⟩) ((condBusy_iff _).2 hb)
        ((condFirst_iff i).2 h0) (fun h => by have := (condLater_iff i).1 h; omega) (fun h => by have := (condLast_iff i _).1 h; omega)
    · by_cases h6 : (i 1).val = 6
      · rw [stepPt_last _ _ _ _ _ _ _ hb h6]
        exact steps_last c i _ _ _ _ _ _ _ _ _ _ _ _ _ _ x0 x1 x2 x3 T0 T1 T2 _ _ _ (fun h => h0 ((condInit_iff i _).1 h).2) ((condBusy_iff _).2 hb)
          (fun h => h0 ((condFirst_iff i).1 h)) ((condLater_iff i).2 (Nat.pos_of_ne_zero h0)) ((condLast_iff i _).2 ⟨hb, h6⟩)
      · rw [stepPt_mid _ _ _ _ _ _ _ hb h0 h6]
        exact steps_mid c i _ _ _ _ _ _ _ _ _ _ _ _ _ _ x0 x1 x2 x3 T0 T1 T2 _ _ _ (fun h => h0 ((condInit_iff i _).1 h).2) ((condBusy_iff _).2 hb)
          (fun h => h0 ((condFirst_iff i).1 h)) ((condLater_iff i).2 (Nat.pos_of_ne_zero h0)) (fun h => h6 ((condLast_iff i _).1 h).2)
  · rw [stepPt_idle _ _ _ _ _ _ _ hb]
    exact steps_idle c i _ _ _ _ _ _ _ _ _ _ _ _ _ _ x0 x1 x2 x3 T0 T1 T2 _ _ _ (fun h => hb ((condInit_iff i _).1 h).1) (fun h => hb ((condBusy_iff _).1 h))
      (fun h => hb ((condLast_iff i _).1 h).1)

/-- The contents after each point: the steps from the first point on (started from anything: the first point resets the
    scratch buffers, and nothing reads the staging buffer before it is written). -/
def stAt (hO : Ok m) (c : Dev nD) : (n : ℕ) → n < (cfgM m hO).N → St F
  | 0, hn => stepPt (grid0.coords ⟨0, hn⟩ 1).val (word c (tbl m 2) (grid0.coords ⟨0, hn⟩)) (iblk m hO c 0 ⟨0, hn⟩) (iblk m hO c 1 ⟨0, hn⟩) (iblk m hO c 2 ⟨0, hn⟩) (iblk m hO c 3 ⟨0, hn⟩)
      (k0_pay1 0#32 (iblk m hO c 0 ⟨0, hn⟩), iblk m hO c 0 ⟨0, hn⟩, iblk m hO c 0 ⟨0, hn⟩)
  | n + 1, hn => stepPt (grid0.coords ⟨n + 1, hn⟩ 1).val (word c (tbl m 2) (grid0.coords ⟨n + 1, hn⟩)) (iblk m hO c 0 ⟨n + 1, hn⟩) (iblk m hO c 1 ⟨n + 1, hn⟩) (iblk m hO c 2 ⟨n + 1, hn⟩) (iblk m hO c 3 ⟨n + 1, hn⟩)
      (stAt hO c n (Nat.lt_of_succ_lt hn))

/-- A point's contents from those of the point before it. -/
theorem stAt_pos (hO : Ok m) (c : Dev nD) (t : Fin (cfgM m hO).N) (h : t.val ≠ 0) :
    stAt m hO c t.val t.isLt = stepPt (grid0.coords t 1).val (word c (tbl m 2) (grid0.coords t)) (iblk m hO c 0 t) (iblk m hO c 1 t) (iblk m hO c 2 t) (iblk m hO c 3 t)
      (stAt m hO c (t.val - 1) (by omega)) := by
  obtain ⟨n, hn⟩ := t
  cases n with
  | zero => exact absurd rfl h
  | succ n => rfl

end Cert.Moe

end
-- ==== Proof.ExpFrame.lean ====
/- The experts' pipeline: its data, and what its staging buffers hold before and after each point. -/
module

public import proofs.«01_k».proof.Proof.ExpData
public import Idealize.ShloMosaic.Lib.Pipeline.TableIdle

@[expose] public section

set_option maxRecDepth 16384

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers and the scratch buffers -/

abbrev ms0 (hO : Ok m) (t : Fin (cfgM m hO).N) : Memref sig .tc .vmem S1024x1024 .f32 := spec0_0.stage ((cfgM m hO).slots t 0)
abbrev ms1 (hO : Ok m) (t : Fin (cfgM m hO).N) : Memref sig .tc .vmem S1x1024x512 .f32 := spec0_1.stage ((cfgM m hO).slots t 1)
abbrev ms2 (hO : Ok m) (t : Fin (cfgM m hO).N) : Memref sig .tc .vmem S1x1024x512 .f32 := spec0_2.stage ((cfgM m hO).slots t 2)
abbrev ms3 (hO : Ok m) (t : Fin (cfgM m hO).N) : Memref sig .tc .vmem S1x512x1024 .f32 := spec0_3.stage ((cfgM m hO).slots t 3)
abbrev ms4 (hO : Ok m) (t : Fin (cfgM m hO).N) : Memref sig .tc .vmem S1024x1024 .f32 := spec0_4.stage ((cfgM m hO).slots t 4)
abbrev scA : Memref sig .tc .vmem S1024x1024 .bf16 := Memref.whole cc0_scratch0
abbrev scB : Memref sig .tc .vmem S1024x1024 .f32 := Memref.whole cc0_scratch1

/-- The region's scratch buffers at some contents and the generator register at some state. -/
theorem PhiA_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

/-- What the region keeps between points: the scratch buffers at what the point before left (before the first point, at
    anything), the generator register and the tables. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scA fullShare (stAt m hO c n hn).1 ∗ owns (c : Thread nD τ) scB fullShare (stAt m hO c n hn).2.1) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl
theorem PhiS_succ (hO : Ok m) (c : Dev nD) (n : ℕ) (hn : n < (cfgM m hO).N) :
    PhiS m hO c (n + 1) hn = iprop(iprop(iprop(owns (c : Thread nD τ) scA fullShare (stAt m hO c n hn).1 ∗ owns (c : Thread nD τ) scB fullShare (stAt m hO c n hn).2.1) ∗ (∃ r, prngReg c r)) ∗ Pipeline.ΦT pre0 (tbl m) c) := rfl
theorem PhiS_pos (hO : Ok m) (c : Dev nD) (n : ℕ) (h : n ≤ (cfgM m hO).N) (hz : n ≠ 0) :
    PhiS m hO c n h = iprop(iprop(iprop(owns (c : Thread nD τ) scA fullShare (stAt m hO c (n - 1) (by omega)).1 ∗ owns (c : Thread nD τ) scB fullShare (stAt m hO c (n - 1) (by omega)).2.1) ∗ (∃ r, prngReg c r)) ∗ Pipeline.ΦT pre0 (tbl m) c) := by
  cases n with
  | zero => exact absurd rfl hz
  | succ n => rfl

/-! ## The pipeline's data -/

/-- After the body at a point each input's buffer holds its block, the result's buffer what the steps say. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (stAt m hO c t.val t.isLt).2.2
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t
theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = (stAt m hO c t.val t.isLt).2.2 := by dsimp only [dats]; try rfl

/-! Each input's staging buffer holds its block at every point, fetched there or not. -/

theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The result's staging buffer -/

/-- The tile of point `n` has rows. -/
abbrev Busy (n : ℕ) (hn : n < 280) : Prop := 0 < (nv (F := F) (tbl m) (ix1 (tileAt n hn)) : BitVec 32).toInt

/-- The word of the rows' table the body reads at a point, in terms of the point's tile. -/
theorem rows_iff (c : Dev nD) (t : Fin grid0.N) : 0 < (word c (tbl m 2) (grid0.coords t) : BitVec 32).toInt ↔ Busy m t.val (Nat.lt_of_lt_of_eq t.isLt N_0) := by
  obtain rfl : c = 0 := Subsingleton.elim _ _
  exact Iff.of_eq (congrArg (fun w : BitVec 32 => 0 < w.toInt) ((word_eq (F := F) 0 (tbl m 2) (grid0.coords t)).trans
    (congrArg (fun k : Fin 40 => (nv (F := F) (tbl m) (ix1 k) : BitVec 32)) (tileOf_coords t))))

theorem idle_iff (hO : Ok m) (t : Fin (cfgM m hO).N) :
    (cfgM m hO).idle 4 (grid0.coords t) = true ↔ ¬ (Busy m t.val (Nat.lt_of_lt_of_eq t.isLt N_0) ∧ t.val % 7 = 6) := by
  refine (idle4_iff (F := F) (tbl m) (grid0.coords t)).trans ?_
  rw [tileOf_coords, crd1]

theorem index4 (hO : Ok m) (t : Fin (cfgM m hO).N) :
    ((cfgM m hO).win 4).index t = ![(tb (F := F) (tbl m) (ix1 (tileAt t.val (Nat.lt_of_lt_of_eq t.isLt N_0)))).toNat, 0] := by
  rw [← tileOf_coords t]
  exact map4_eq (F := F) (tbl m) (grid0.coords t)

/-- A point whose block the next point has too does not write the block back. -/
theorem flush_false (hO : Ok m) (t : Fin (cfgM m hO).N) (h : t.val + 1 < 280)
    (e : tb (F := F) (tbl m) (ix1 (tileAt (t.val + 1) h)) = tb (F := F) (tbl m) (ix1 (tileAt t.val (Nat.lt_of_lt_of_eq t.isLt N_0)))) :
    ((cfgM m hO).win 4).flush t = false := by
  have hN : (cfgM m hO).N = 280 := N_eq m hO
  unfold Window.flush
  rw [Bool.and_eq_false_iff]
  right
  rw [Bool.or_eq_false_iff]
  refine ⟨decide_eq_false ?_, decide_eq_false ?_⟩
  · intro hc
    have : t.val + 1 = 280 := hc.trans hN
    omega
  · rintro ⟨h', hne⟩
    refine hne ?_
    rw [index4, index4]
    exact congrArg (fun x : BitVec 32 => ![x.toNat, 0]) e

variable (hL : LaidOut (te (F := F) (tbl m)) (tb (F := F) (tbl m)) (nv (F := F) (tbl m)))
include hL

/-- Within a tile, and from a tile to an idle one after it, the result's block stays. -/
theorem block_stays (n : ℕ) (h : n + 1 < 280) (hi : (n + 1) / 7 = n / 7 ∨ ¬ Busy m (n + 1) h) :
    tb (F := F) (tbl m) (ix1 (tileAt (n + 1) h)) = tb (F := F) (tbl m) (ix1 (tileAt n (Nat.lt_of_succ_lt h))) := by
  rcases Nat.eq_or_lt_of_le (show n / 7 ≤ (n + 1) / 7 by omega) with he | hlt
  · exact congrArg (fun k : Fin 40 => tb (F := F) (tbl m) (ix1 k)) (Fin.ext he.symm)
  · rcases hi with he | hi
    · omega
    · obtain ⟨h0, e⟩ := hL.idle (tileAt (n + 1) h) hi
      exact e.trans (congrArg (fun k : Fin 40 => tb (F := F) (tbl m) (ix1 k)) (Fin.ext (by
        have : (n + 1) / 7 - 1 = n / 7 := by omega
        exact this)))

/-- At a point of an idle tile the staging buffer holds a finished block not written back yet; the first tile is busy. -/
theorem fresh_idle (hO : Ok m) : ∀ (n : ℕ) (hn : n < 280), ¬ Busy m n hn → n ≠ 0 ∧ (cfgM m hO).fresh 4 n = false
  | 0, hn, hi => by
    obtain ⟨h0, -⟩ := hL.idle (tileAt 0 hn) hi
    exact absurd (show 0 < 0 from h0) (Nat.lt_irrefl 0)
  | n + 1, hn, hi => by
    have hN : (cfgM m hO).N = 280 := N_eq m hO
    have hn' : n < (cfgM m hO).N := by omega
    refine ⟨Nat.succ_ne_zero n, ?_⟩
    rw [Cfg.fresh_succ (cfgM m hO) 4 n hn', flush_false m hO ⟨n, hn'⟩ hn (block_stays m hL n hn (Or.inr hi)), Bool.false_or, Bool.and_eq_false_iff]
    by_cases hb : Busy m n (Nat.lt_of_succ_lt hn)
    · left
      rw [← Bool.not_eq_true]
      intro hid
      refine (idle_iff m hO ⟨n, hn'⟩).1 hid ⟨hb, ?_⟩
      have hne : (n + 1) / 7 ≠ n / 7 := fun he => hi (by
        have : tileAt (n + 1) hn = tileAt n (Nat.lt_of_succ_lt hn) := Fin.ext he
        unfold Busy; rw [this]; exact hb)
      have : n % 7 = 6 := by omega
      exact this
    · exact Or.inr (fresh_idle hO n (Nat.lt_of_succ_lt hn) hb).2

omit hL in
/-- A point that does not store leaves the staging buffer's named contents. -/
theorem out_stays (hO : Ok m) (c : Dev nD) (t : Fin (cfgM m hO).N) (h : t.val ≠ 0) (hi : (cfgM m hO).idle 4 (grid0.coords t) = true) :
    (stAt m hO c t.val t.isLt).2.2 = (stAt m hO c (t.val - 1) (by omega)).2.2 := by
  rw [stAt_pos m hO c t h]
  refine stepPt_out _ _ _ _ _ _ _ fun hc => (idle_iff m hO t).1 hi ⟨(rows_iff m c t).1 hc.1, ?_⟩
  rw [← crd1 t]; exact hc.2

/-- The staging buffer before a point of an idle tile. -/
theorem before_4 (hO : Ok m) (c : Dev nD) (t : Fin (cfgM m hO).N) (hi : ¬ Busy m t.val (Nat.lt_of_lt_of_eq t.isLt N_0)) (d) :
    (dats m hO 0 c).before 4 t d = (dats m hO 0 c).after 4 t := by
  obtain ⟨h0, hf⟩ := fresh_idle m hL hO t.val (Nat.lt_of_lt_of_eq t.isLt N_0) hi
  have key := (dats m hO 0 c).before_out_traj 4 rfl (fun _ _ => rfl) (fun t h hid _ => by
    rw [after_4, after_4]; exact out_stays m hO c t h hid) t.val t rfl d
  rw [hf, if_neg Bool.false_ne_true] at key
  rw [key, after_4, after_4]
  exact (out_stays m hO c t h0 ((idle_iff m hO t).2 fun h => hi h.1)).symm

/-- What the step leaves in the staging buffer is what the pipeline's data ask. -/
theorem leaves_4 (hO : Ok m) (c : Dev nD) (t : Fin (cfgM m hO).N) (d) (σ : St F) (hσ : ∀ h : t.val ≠ 0, σ.1 = (stAt m hO c (t.val - 1) (by omega)).1 ∧ σ.2.1 = (stAt m hO c (t.val - 1) (by omega)).2.1)
    (ho : σ.2.2 = (dats m hO 0 c).before 4 t d) (o : Vec F S1024x1024 .f32)
    (hs : o = (stepPt (grid0.coords t 1).val (word c (tbl m 2) (grid0.coords t)) (iblk m hO c 0 t) (iblk m hO c 1 t) (iblk m hO c 2 t) (iblk m hO c 3 t) σ).2.2) :
    (owns (c : Thread nD τ) (ms4 m hO t) fullShare o : sProp 𝕄) ⊢ (dats m hO 0 c).leavesExact 4 t := by
  by_cases hl : Busy m t.val (Nat.lt_of_lt_of_eq t.isLt N_0) ∧ t.val % 7 = 6
  · have hid : (cfgM m hO).idle 4 (grid0.coords t) = false := by
      rw [← Bool.not_eq_true]; exact fun h => (idle_iff m hO t).1 h hl
    have h0 : t.val ≠ 0 := fun h => by have := hl.2; omega
    have e : o = (dats m hO 0 c).after 4 t := (hs.trans (stepPt_last_congr _ _ _ _ _ _ _ _ ((rows_iff m c t).2 hl.1) ((crd1 t).trans hl.2) (hσ h0).1 (hσ h0).2)).trans
      ((congrArg (fun τ' : St F => τ'.2.2) (stAt_pos m hO c t h0)).symm.trans (after_4 m hO c t).symm)
    rw [show (dats m hO 0 c).leavesExact 4 t = owns (c : Thread nD τ) (ms4 m hO t) fullShare ((dats m hO 0 c).after 4 t) from by
      unfold Dat.leavesExact; rw [hid]; try rfl, e]
    try exact Idealize.SL.BI.Entails.refl _
  · have hid : (cfgM m hO).idle 4 (grid0.coords t) = true := (idle_iff m hO t).2 hl
    have e : o = (dats m hO 0 c).before 4 t d := (hs.trans (stepPt_out _ _ _ _ _ _ _ (fun hc => hl ⟨(rows_iff m c t).1 hc.1, (crd1 t).symm.trans hc.2⟩))).trans ho
    by_cases hf : ((cfgM m hO).win 4).flush t = true
    · have hi : ¬ Busy m t.val (Nat.lt_of_lt_of_eq t.isLt N_0) := fun hb => by
        have h6 : t.val % 7 ≠ 6 := fun h => hl ⟨hb, h⟩
        have hN : t.val < 280 := Nat.lt_of_lt_of_eq t.isLt N_0
        have := flush_false m hO t (by omega) (block_stays m hL t.val (by omega) (Or.inl (by omega)))
        rw [hf] at this
        exact Bool.noConfusion this
      rw [show (dats m hO 0 c).leavesExact 4 t = owns (c : Thread nD τ) (ms4 m hO t) fullShare ((dats m hO 0 c).after 4 t) from by
        unfold Dat.leavesExact; rw [hid, hf]; try rfl, e.trans (before_4 m hL hO c t hi d)]
      try exact Idealize.SL.BI.Entails.refl _
    · rw [Bool.not_eq_true] at hf
      rw [Dat.leavesExact_idle _ 4 t hid hf, e]
      iintro H; iexists d; iexact H
omit hL

end Cert.Moe

end
-- ==== Proof.ExpLaunch.lean ====
/- The experts' pipeline: the body meets its obligation at every point, and the launch. -/
module

public import proofs.«01_k».proof.Proof.ExpFrame

@[expose] public section

set_option maxRecDepth 16384

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a point -/

/-- The kernel body at point `t`, on what the pipeline calls it with. -/
abbrev bodyAt (hO : Ok m) (t : Fin (cfgM m hO).N) : Prog (TpuEff nD τ sig (Elt F) Λ₀ .tc) PUnit :=
  cc0_moe_experts (grid0.coords t) (Memref.whole main_arg0) (Memref.isWhole_whole _) (Memref.whole main_arg1) (Memref.isWhole_whole _) (Memref.whole main_arg2) (Memref.isWhole_whole _)
    (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) (ms3 m hO t) (hstage0_3 (((cfgM m hO).slots t 3).cast nbuf0_3))
    (ms4 m hO t) (hstage0_4 (((cfgM m hO).slots t 4).cast nbuf0_4)) (Memref.whole cc0_scratch0) (Memref.isWhole_whole _) (Memref.whole cc0_scratch1) (Memref.isWhole_whole _)

/-- `steps_pt` with the scratch contents after the step named otherwise. -/
theorem steps_cast (c : Dev nD) (i : grid0.Coords)
    (arg5 : Memref sig .tc .vmem S1024x1024 .f32) (harg5 : arg5.IsWhole) (arg6 : Memref sig .tc .vmem S1x1024x512 .f32) (harg6 : arg6.IsWhole)
    (arg7 : Memref sig .tc .vmem S1x1024x512 .f32) (harg7 : arg7.IsWhole) (arg8 : Memref sig .tc .vmem S1x512x1024 .f32) (harg8 : arg8.IsWhole)
    (arg9 : Memref sig .tc .vmem S1024x1024 .f32) (harg9 : arg9.IsWhole) (arg10 : Memref sig .tc .vmem S1024x1024 .bf16) (harg10 : arg10.IsWhole)
    (arg11 : Memref sig .tc .vmem S1024x1024 .f32) (harg11 : arg11.IsWhole)
    (x0 : Vec F S1024x1024 .f32) (x1 : Vec F S1x1024x512 .f32) (x2 : Vec F S1x1024x512 .f32) (x3 : Vec F S1x512x1024 .f32)
    (T0 : TabBuf (F := F) c tab0) (T1 : TabBuf (F := F) c tab1) (T2 : TabBuf (F := F) c tab2) (σ : St F) (s' : Vec F S1024x1024 .bf16) (a' : Vec F S1024x1024 .f32)
    (hs : (stepPt (i 1).val (word c T2 i) x0 x1 x2 x3 σ).1 = s') (ha : (stepPt (i 1).val (word c T2 i) x0 x1 x2 x3 σ).2.1 = a') :
    Steps c i arg5 harg5 arg6 harg6 arg7 harg7 arg8 harg8 arg9 harg9 arg10 harg10 arg11 harg11 x0 x1 x2 x3 T0 T1 T2 σ.1 σ.2.1 σ.2.2
      s' a' (stepPt (i 1).val (word c T2 i) x0 x1 x2 x3 σ).2.2 := by
  subst hs ha
  exact steps_pt c i _ _ _ _ _ _ _ _ _ _ _ _ _ _ x0 x1 x2 x3 T0 T1 T2 σ

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

/-- The invariant before a point gives scratch contents a step may start from: those of the point before, if there is one. -/
theorem Phi_open (hO : Ok m) (c : Dev nD) (t : Fin (cfgM m hO).N) :
    (dats m hO 0 c).Φ t.castSucc ⊢ (iprop(∃ s, ∃ a, ⌜∀ h : t.val ≠ 0, s = (stAt m hO c (t.val - 1) (by omega)).1 ∧ a = (stAt m hO c (t.val - 1) (by omega)).2.1⌝
      ∗ owns (c : Thread nD τ) scA fullShare s ∗ owns (c : Thread nD τ) scB fullShare a ∗ (∃ r, prngReg c r) ∗ tabPt c tab0 (tbl m 0) ∗ tabPt c tab1 (tbl m 1) ∗ tabPt c tab2 (tbl m 2)) : sProp 𝕄) := by
  rw [PhiS_castSucc, ← PhiT_eq]
  by_cases hz : t.val = 0
  · rw [PhiS_zero m hO c _ _ hz, PhiA_eq]
    iintro ⟨⟨⟨⟨%s, HS0⟩, ⟨%a, HS1⟩⟩, Hg⟩, HT⟩
    iexists s; iexists a
    isplitr
    · ipureintro; exact fun h => absurd hz h
    isplitl [HS0]; · iexact HS0
    isplitl [HS1]; · iexact HS1
    isplitl [Hg]; · iexact Hg
    iexact HT
  · rw [PhiS_pos m hO c _ _ hz]
    iintro ⟨⟨⟨HS0, HS1⟩, Hg⟩, HT⟩
    iexists _; iexists _
    isplitr
    rotate_left
    · isplitl [HS0]; · iexact HS0
      isplitl [HS1]; · iexact HS1
      isplitl [Hg]; · iexact Hg
      iexact HT
    ipureintro; exact fun _ => ⟨rfl, rfl⟩

variable (hL : LaidOut (te (F := F) (tbl m)) (tb (F := F) (tbl m)) (nv (F := F) (tbl m)))
include hL

/-- The scratch contents after a point are those a step from `Phi_open`'s leaves: the first point resets them. -/
theorem scratch_eq (hO : Ok m) (c : Dev nD) (t : Fin (cfgM m hO).N) (σ : St F)
    (hσ : ∀ h : t.val ≠ 0, σ.1 = (stAt m hO c (t.val - 1) (by omega)).1 ∧ σ.2.1 = (stAt m hO c (t.val - 1) (by omega)).2.1) :
    (stepPt (grid0.coords t 1).val (word c (tbl m 2) (grid0.coords t)) (iblk m hO c 0 t) (iblk m hO c 1 t) (iblk m hO c 2 t) (iblk m hO c 3 t) σ).1 = (stAt m hO c t.val t.isLt).1
    ∧ (stepPt (grid0.coords t 1).val (word c (tbl m 2) (grid0.coords t)) (iblk m hO c 0 t) (iblk m hO c 1 t) (iblk m hO c 2 t) (iblk m hO c 3 t) σ).2.1 = (stAt m hO c t.val t.isLt).2.1 := by
  by_cases hz : t.val = 0
  · have hb : Busy m t.val (Nat.lt_of_lt_of_eq t.isLt N_0) := by
      by_contra hi
      exact (fresh_idle m hL hO t.val _ hi).1 hz
    have h1 : (grid0.coords t 1).val = 0 := by rw [crd1]; omega
    obtain ⟨n, hn⟩ := t
    obtain rfl : n = 0 := hz
    exact stepPt_first_congr _ _ _ _ _ _ _ _ ((rows_iff m c ⟨0, hn⟩).2 hb) h1
  · have h := stepPt_scratch_congr (grid0.coords t 1).val (word c (tbl m 2) (grid0.coords t)) (iblk m hO c 0 t) (iblk m hO c 1 t) (iblk m hO c 2 t) (iblk m hO c 3 t) σ _ (hσ hz).1 (hσ hz).2
    have e := stAt_pos m hO c t hz
    exact ⟨h.1.trans (congrArg (fun τ' : St F => τ'.1) e).symm, h.2.trans (congrArg (fun τ' : St F => τ'.2.1) e).symm⟩

set_option maxHeartbeats 1600000 in
/-- The body at any point meets the pipeline's obligation: it is one step. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3]
  rw [show (dats m hO 0 c).owesAt () t.succ = (dats m hO 0 c).owesAt () t.castSucc from rfl]
  rw [show (dats m hO 0 c).Φ t.succ = PhiS m hO c (t.val + 1) t.isLt from rfl, PhiS_succ, PhiT_eq]
  rw [show (dats m hO 0 c).leavesExact 0 t = owns (c : Thread nD τ) (ms0 m hO t) fullShare ((dats m hO 0 c).after 0 t) from rfl, after_0,
    show (dats m hO 0 c).leavesExact 1 t = owns (c : Thread nD τ) (ms1 m hO t) fullShare ((dats m hO 0 c).after 1 t) from rfl, after_1,
    show (dats m hO 0 c).leavesExact 2 t = owns (c : Thread nD τ) (ms2 m hO t) fullShare ((dats m hO 0 c).after 2 t) from rfl, after_2,
    show (dats m hO 0 c).leavesExact 3 t = owns (c : Thread nD τ) (ms3 m hO t) fullShare ((dats m hO 0 c).after 3 t) from rfl, after_3]
  iintro ⟨HΦ, Ho, ⟨%d0, H0⟩, ⟨%d1, H1⟩, ⟨%d2, H2⟩, ⟨%d3, H3⟩, ⟨%d4, H4⟩⟩
  ihave HΦ := (Phi_open m hO c t) $$ HΦ
  icases HΦ with ⟨%s, %a, %hσ, HS0, HS1, Hg, HT0, HT1, HT2⟩
  have hsc := scratch_eq m hL hO c t (s, a, (dats m hO 0 c).before 4 t d4) hσ
  have hrun := steps_cast c (grid0.coords t) (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) (ms3 m hO t) (hstage0_3 (((cfgM m hO).slots t 3).cast nbuf0_3))
    (ms4 m hO t) (hstage0_4 (((cfgM m hO).slots t 4).cast nbuf0_4)) scA (Memref.isWhole_whole _) scB (Memref.isWhole_whole _)
    (iblk m hO c 0 t) (iblk m hO c 1 t) (iblk m hO c 2 t) (iblk m hO c 3 t) (tbl m 0) (tbl m 1) (tbl m 2) (s, a, (dats m hO 0 c).before 4 t d4) _ _ hsc.1 hsc.2
  iapply (hrun Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HT0]; · iexact HT0
  isplitl [HT1]; · iexact HT1
  isplitl [HT2]; · iexact HT2
  iintro ⟨H0, H1, H2, H3, H4, HS0, HS1, HT0, HT1, HT2⟩
  isplitl [HS0 HS1 Hg HT0 HT1 HT2]
  · isplitl [HS0 HS1 Hg]
    · isplitl [HS0 HS1]
      · isplitl [HS0]
        · iexact HS0
        iexact HS1
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  iapply (leaves_4 m hL hO c t d4 (s, a, (dats m hO 0 c).before 4 t d4) hσ rfl _ rfl)
  iexact H4
omit hL

/-- The body table's row at a point is the body there. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The pipeline's obligation at every point. -/
theorem body_obligation (hL : LaidOut (te (F := F) (tbl m)) (tb (F := F) (tbl m)) (nv (F := F) (tbl m))) (hO : Ok m) (c : Dev nD) :
    BodyObligation (dats (F := F) m hO 0 c) (defs₀ (F := F)) Variants.none () Set.univ := fun t => by
  rw [bigSep_W0, bigSep_W0, defs₀_row m hO]
  exact triple_restated (sound_body m hL hO c t) rfl .rfl fun _ => .rfl

/-- What the launch hands the region is the invariant before the first point, -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- and after the last point the invariant gives the scratch buffers back. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N (Nat.le_refl _) from rfl,
    PhiS_pos m hO c _ _ (by have : (cfgM m hO).N = 280 := N_0; omega), PhiA_eq]
  iintro ⟨⟨⟨HS0, HS1⟩, Hg⟩, -⟩
  isplitl [HS0 HS1]
  · isplitl [HS0]
    · iexists _; iexact HS0
    iexists _; iexact HS1
  iexact Hg

/-! ## The launch -/

set_option backward.isDefEq.respectTransparency.types false in
/-- Every weakly fair execution terminates; every window's array ends at what the pipeline's data say, every other buffer
    as launched, every counter at zero. -/
theorem run_main (hL : LaidOut (te (F := F) (tbl m)) (tb (F := F) (tbl m)) (nv (F := F) (tbl m))) (hO : Ok m) :
    θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hL hO c).loose) (hshare := fun c => (dats m hO 0 c).share_full fun _ => rfl)
    (howed := fun _ _ => rfl) (V := V m) (hmain := hmain m Variants.none) (hA := A_eq m hO) (hpf := V_pre m) (hin := hin m hO) (hout := hout m hO)

/-- The program terminates with its arguments unchanged and its result at what the pipeline's data say. -/
theorem run_args (hL : LaidOut (te (F := F) (tbl m)) (tb (F := F) (tbl m)) (nv (F := F) (tbl m))) (hO : Ok m) :
    θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) ∧ ∀ c : Dev nD, r.2.mem ((c.tc : Thread nD τ).loc main_v0) = (dats m hO 0 c).arrAt 4 (cfgM m hO).N) := by
  refine (θ_run defs _ _).mono ?_ (run_main m ρ hL hO)
  rintro r ⟨h, hs⟩
  refine ⟨⟨fun c => ⟨?_, ?_, ?_, ?_, ?_, ?_, ?_⟩, hs⟩, fun c => (h c).1 4⟩
  · exact (h c).2 main_arg0 (by decide : main_arg0 ∈ Pipeline.restRefs sig spec0)
  · exact (h c).2 main_arg1 (by decide : main_arg1 ∈ Pipeline.restRefs sig spec0)
  · exact (h c).2 main_arg2 (by decide : main_arg2 ∈ Pipeline.restRefs sig spec0)
  · exact ((h c).1 0).trans (((dats m hO 0 c).arrAt_in 0 rfl _).trans (A_eq m hO c 0))
  · exact ((h c).1 1).trans (((dats m hO 0 c).arrAt_in 1 rfl _).trans (A_eq m hO c 1))
  · exact ((h c).1 2).trans (((dats m hO 0 c).arrAt_in 2 rfl _).trans (A_eq m hO c 2))
  · exact ((h c).1 3).trans (((dats m hO 0 c).arrAt_in 3 rfl _).trans (A_eq m hO c 3))

end Cert.Moe

end
-- ==== Proof.ExpRuns.lean ====
/- The experts' program runs and leaves its arguments unchanged, over bits and over the reals; and so does its reference. -/
module

public import proofs.«01_k».proof.Defs
public import proofs.«01_k».proof.Proof.ExpLaunch
public import proofs.«01_k».proof.Proof.Gen.Kernel2
public import proofs.«01_k».proof.Proof.Gen.Reference2Ideal.Run
public import proofs.«01_k».proof.Proof.Gen.Pre_laid_out

@[expose] public section

noncomputable section

namespace Cert.Moe

open Idealize.ShloMosaic Idealize.SL.Sem

section Tables

variable {F : FTy → Type} [FloatOps F]

/-- The tables a run is launched with are laid out, by the precondition. -/
theorem laidOut (m : (ℓ : Loc Cert.Kernel2Ideal.nD Cert.Kernel2Ideal.τ Cert.Kernel2Ideal.sig) → Buf (Elt F) ℓ) (x w1 w2 w3)
    (h : Cert.Pre_laid_out.fn (F := F) (m (((0 : Dev Cert.Kernel2Ideal.nD).tc : Thread Cert.Kernel2Ideal.nD Cert.Kernel2Ideal.τ).loc Cert.Kernel2Ideal.main_arg0))
      (m (((0 : Dev Cert.Kernel2Ideal.nD).tc : Thread Cert.Kernel2Ideal.nD Cert.Kernel2Ideal.τ).loc Cert.Kernel2Ideal.main_arg1))
      (m (((0 : Dev Cert.Kernel2Ideal.nD).tc : Thread Cert.Kernel2Ideal.nD Cert.Kernel2Ideal.τ).loc Cert.Kernel2Ideal.main_arg2)) x w1 w2 w3 = fun _ => 1#1) :
    LaidOut (te (F := F) (tbl m)) (tb (F := F) (tbl m)) (nv (F := F) (tbl m)) :=
  laidOut_of_pre (F := F) _ _ _ x w1 w2 w3 h

end Tables

/-- Over the reals the program terminates with its arguments unchanged and every counter at zero. -/
theorem kernel2Ideal_frame : Cert.quiescent_Kernel2Ideal (hKernel2Ideal := Cert.Kernel2Ideal.Gen.facts) (hPre_laid_out := Cert.Pre_laid_out.Gen.facts) := fun m ρ h =>
  (θ_run Cert.Kernel2Ideal.defs _ _).mono (fun _ hr => hr.1)
    (run_args (F := Ideal) m ρ (laidOut m _ _ _ _ (h 0)) (ok_of_laidOut (F := Ideal) (tbl m) (laidOut m _ _ _ _ (h 0))))

/-- The two printed kernels have the same table of bodies. -/
theorem defs₀_same (hK : Cert.Kernel2.Facts) (hI : Cert.Kernel2Ideal.Facts) : @Cert.Kernel2.defs₀ Bits _ hK = @Cert.Kernel2Ideal.defs₀ Bits _ hI := by
  unfold Cert.Kernel2.defs₀ Cert.Kernel2Ideal.defs₀
  refine congrArg Defs.onTc ?_
  funext l x
  obtain ⟨l, hl⟩ := l
  cases l with
  | zero => rfl
  | succ n => exact absurd hl (Nat.not_lt.2 (Nat.le_add_left _ _))

theorem defs_same (hK : Cert.Kernel2.Facts) (hI : Cert.Kernel2Ideal.Facts) : @Cert.Kernel2.defs Bits _ hK = @Cert.Kernel2Ideal.defs Bits _ hI := by
  unfold Cert.Kernel2.defs Cert.Kernel2Ideal.defs
  rw [defs₀_same hK hI]
  rfl

/-- Over bits the printed kernel is the idealized one's text, so what the latter's runs satisfy the former's do. -/
theorem run_same (hK : Cert.Kernel2.Facts) (hI : Cert.Kernel2Ideal.Facts)
    (m : (ℓ : Loc Cert.Kernel2.nD Cert.Kernel2.τ Cert.Kernel2.sig) → Buf (Elt Bits) ℓ) (g : Dev Cert.Kernel2.nD → PrngReg) (Q)
    (h : θ_run (@Cert.Kernel2Ideal.defs Bits _ hI) (onTc (τ := Cert.Kernel2Ideal.τ) (@Cert.Kernel2Ideal.main Bits _ hI)) ⟨m, fun _ => 0, g⟩ Q) :
    θ_run (@Cert.Kernel2.defs Bits _ hK) (onTc (τ := Cert.Kernel2.τ) (@Cert.Kernel2.main Bits _ hK)) ⟨m, fun _ => 0, g⟩ Q := by
  rw [defs_same hK hI]
  exact h

/-- Over bits the program terminates with its arguments unchanged and every counter at zero. -/
theorem kernel2_frame : Cert.quiescent_Kernel2 (hKernel2 := Cert.Kernel2.Gen.facts) (hPre_laid_out := Cert.Pre_laid_out.Gen.facts) := fun m ρ h =>
  run_same Cert.Kernel2.Gen.facts Cert.Kernel2Ideal.Gen.facts m ρ _
    ((θ_run (@Cert.Kernel2Ideal.defs Bits _ Cert.Kernel2Ideal.Gen.facts) _ _).mono (fun _ hr => hr.1)
      (run_args (F := Bits) m ρ (laidOut m _ _ _ _ (h 0)) (ok_of_laidOut (F := Bits) (tbl m) (laidOut m _ _ _ _ (h 0)))))

/-- The reference terminates with its arguments unchanged and every counter at zero, -/
theorem reference2_frame : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run m ρ)

/-- in particular under the precondition. -/
theorem reference2_frame_pre : Cert.quiescent_Reference2Ideal_pre_laid_out (hReference2Ideal := Cert.Reference2Ideal.Gen.facts)
    (hPre_laid_out := Cert.Pre_laid_out.Gen.facts) := fun m ρ _ => reference2_frame m ρ trivial

end Cert.Moe

end
-- ==== Proof.ExpOut.lean ====
/- The experts' pipeline: the blocks its points hold, and its result array, tile by tile. -/
module

public import proofs.«01_k».proof.Proof.ExpLaunch
public import Idealize.ShloMosaic.Lib.Pipeline.ValueKit
public import Idealize.ShloMosaic.Lib.Pipeline.Covers

@[expose] public section

set_option maxRecDepth 16384

noncomputable section

namespace Cert.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (hO : Ok m) (hL : LaidOut (te (F := F) (tbl m)) (tb (F := F) (tbl m)) (nv (F := F) (tbl m)))

/-! ## The blocks the points hold -/

/-- A point's number is below 280. -/
theorem pt_lt (t : Fin (cfgM m hO).N) : t.val < 280 := Nat.lt_of_lt_of_eq t.isLt (N_eq m hO)

theorem index0 (t : Fin (cfgM m hO).N) : ((cfgM m hO).win 0).index t = ![(tb (F := F) (tbl m) (ix1 (tileAt t.val (pt_lt m hO t)))).toNat, 0] := by
  rw [← tileOf_coords t]
  exact map0_eq (F := F) (tbl m) (grid0.coords t)

/-- The chunk a busy point works on. -/
theorem chunk_busy (t : Fin (cfgM m hO).N) (h : Busy m t.val (pt_lt m hO t)) : chunk (nv (F := F) (tbl m)) (grid0.coords t) = t.val % 7 := by
  unfold chunk
  rw [tileOf_coords, if_pos h, crd1]

theorem index1 (t : Fin (cfgM m hO).N) (h : Busy m t.val (pt_lt m hO t)) :
    ((cfgM m hO).win 1).index t = ![(te (F := F) (tbl m) (ix1 (tileAt t.val (pt_lt m hO t)))).toNat, 0, t.val % 7] := by
  rw [← chunk_busy m hO t h, ← tileOf_coords t]
  exact map1_eq (F := F) (tbl m) (grid0.coords t)

theorem index2 (t : Fin (cfgM m hO).N) (h : Busy m t.val (pt_lt m hO t)) :
    ((cfgM m hO).win 2).index t = ![(te (F := F) (tbl m) (ix1 (tileAt t.val (pt_lt m hO t)))).toNat, 0, t.val % 7] := by
  rw [← chunk_busy m hO t h, ← tileOf_coords t]
  exact map2_eq (F := F) (tbl m) (grid0.coords t)

theorem index3 (t : Fin (cfgM m hO).N) (h : Busy m t.val (pt_lt m hO t)) :
    ((cfgM m hO).win 3).index t = ![(te (F := F) (tbl m) (ix1 (tileAt t.val (pt_lt m hO t)))).toNat, t.val % 7, 0] := by
  rw [← chunk_busy m hO t h, ← tileOf_coords t]
  exact map3_eq (F := F) (tbl m) (grid0.coords t)

variable (c : Dev nD)

/-- The expert of tile `b`. -/
def expertOf (b : Fin 40) : Fin 8 := ⟨(te (F := F) (tbl m) (ix1 b)).toNat, hL.expert b⟩

include hL in
/-- The rows a busy point holds are its tile's. -/
theorem rows_at (t : Fin (cfgM m hO).N) (h : Busy m t.val (pt_lt m hO t)) (r d : Fin 1024) (hr : 1024 * (t.val / 7) + r.val < 40960) :
    (iblk m hO c 0 t : Vec F S1024x1024 .f32) (ix2 r d) = (V m c main_arg3 : Vec F S40960x1024 .f32) (ix2 ⟨1024 * (t.val / 7) + r.val, hr⟩ d) := by
  have e := index0 m hO t
  rw [show (tb (F := F) (tbl m) (ix1 (tileAt t.val (pt_lt m hO t)))).toNat = t.val / 7 from hL.busy _ h] at e
  show (V m c main_arg3 : Vec F S40960x1024 .f32) ((((cfgM m hO).win 0).rect t).emb (ix2 r d)) = _
  congr 1
  funext a
  apply Fin.ext
  refine (Window.rect_emb_val ((cfgM m hO).win 0) t (ix2 r d) a rfl).trans ?_
  rw [e]
  match a with
  | ⟨0, _⟩ => show t.val / 7 * 1024 + r.val = 1024 * (t.val / 7) + r.val; omega
  | ⟨1, _⟩ => show 0 * 1024 + d.val = d.val; omega

/-- A busy point's columns of the gate weights, -/
theorem gate_at (t : Fin (cfgM m hO).N) (h : Busy m t.val (pt_lt m hO t)) (d : Fin 1024) (j : Fin 512) (hj : 512 * (t.val % 7) + j.val < 3584) :
    (iblk m hO c 1 t : Vec F S1x1024x512 .f32) (ix3 0 d j) = (V m c main_arg4 : Vec F S8x1024x3584 .f32) (ix3 (expertOf m hL (tileAt t.val (pt_lt m hO t))) d ⟨512 * (t.val % 7) + j.val, hj⟩) := by
  have e := index1 m hO t h
  show (V m c main_arg4 : Vec F S8x1024x3584 .f32) ((((cfgM m hO).win 1).rect t).emb (ix3 0 d j)) = _
  congr 1
  funext a
  apply Fin.ext
  refine (Window.rect_emb_val ((cfgM m hO).win 1) t (ix3 0 d j) a rfl).trans ?_
  rw [e]
  match a with
  | ⟨0, _⟩ => show (te (F := F) (tbl m) (ix1 (tileAt t.val (pt_lt m hO t)))).toNat * 1 + 0 = (te (F := F) (tbl m) (ix1 (tileAt t.val (pt_lt m hO t)))).toNat; omega
  | ⟨1, _⟩ => show 0 * 1024 + d.val = d.val; omega
  | ⟨2, _⟩ => show t.val % 7 * 512 + j.val = 512 * (t.val % 7) + j.val; omega

/-- of the second weights, -/
theorem up_at (t : Fin (cfgM m hO).N) (h : Busy m t.val (pt_lt m hO t)) (d : Fin 1024) (j : Fin 512) (hj : 512 * (t.val % 7) + j.val < 3584) :
    (iblk m hO c 2 t : Vec F S1x1024x512 .f32) (ix3 0 d j) = (V m c main_arg5 : Vec F S8x1024x3584 .f32) (ix3 (expertOf m hL (tileAt t.val (pt_lt m hO t))) d ⟨512 * (t.val % 7) + j.val, hj⟩) := by
  have e := index2 m hO t h
  show (V m c main_arg5 : Vec F S8x1024x3584 .f32) ((((cfgM m hO).win 2).rect t).emb (ix3 0 d j)) = _
  congr 1
  funext a
  apply Fin.ext
  refine (Window.rect_emb_val ((cfgM m hO).win 2) t (ix3 0 d j) a rfl).trans ?_
  rw [e]
  match a with
  | ⟨0, _⟩ => show (te (F := F) (tbl m) (ix1 (tileAt t.val (pt_lt m hO t)))).toNat * 1 + 0 = (te (F := F) (tbl m) (ix1 (tileAt t.val (pt_lt m hO t)))).toNat; omega
  | ⟨1, _⟩ => show 0 * 1024 + d.val = d.val; omega
  | ⟨2, _⟩ => show t.val % 7 * 512 + j.val = 512 * (t.val % 7) + j.val; omega

/-- and the rows of the third. -/
theorem down_at (t : Fin (cfgM m hO).N) (h : Busy m t.val (pt_lt m hO t)) (j : Fin 512) (d : Fin 1024) (hj : 512 * (t.val % 7) + j.val < 3584) :
    (iblk m hO c 3 t : Vec F S1x512x1024 .f32) (ix3 0 j d) = (V m c main_arg6 : Vec F S8x3584x1024 .f32) (ix3 (expertOf m hL (tileAt t.val (pt_lt m hO t))) ⟨512 * (t.val % 7) + j.val, hj⟩ d) := by
  have e := index3 m hO t h
  show (V m c main_arg6 : Vec F S8x3584x1024 .f32) ((((cfgM m hO).win 3).rect t).emb (ix3 0 j d)) = _
  congr 1
  funext a
  apply Fin.ext
  refine (Window.rect_emb_val ((cfgM m hO).win 3) t (ix3 0 j d) a rfl).trans ?_
  rw [e]
  match a with
  | ⟨0, _⟩ => show (te (F := F) (tbl m) (ix1 (tileAt t.val (pt_lt m hO t)))).toNat * 1 + 0 = (te (F := F) (tbl m) (ix1 (tileAt t.val (pt_lt m hO t)))).toNat; omega
  | ⟨1, _⟩ => show t.val % 7 * 512 + j.val = 512 * (t.val % 7) + j.val; omega
  | ⟨2, _⟩ => show 0 * 1024 + d.val = d.val; omega

/-! ## The result array -/

/-- What the last chunk of tile `b` leaves in the staging buffer. -/
def tileOut (b : ℕ) (hb : b < 40) : Vec F S1024x1024 .f32 := (stAt m hO c (7 * b + 6) (by have := N_eq m hO; omega)).2.2

theorem tileOut_of_eq (b b' : ℕ) (hb : b < 40) (hb' : b' < 40) (e : b = b') : tileOut m hO c b hb = tileOut m hO c b' hb' := by subst e; rfl
theorem stAt_of_eq (n n' : ℕ) (hn : n < (cfgM m hO).N) (hn' : n' < (cfgM m hO).N) (e : n = n') : stAt m hO c n hn = stAt m hO c n' hn' := by subst e; rfl

include hL in
/-- At a last chunk, and in an idle tile, the staging buffer holds the finished tile the result's block is. -/
theorem out_owner : ∀ (n : ℕ) (hn : n < 280), (¬ Busy m n hn ∨ n % 7 = 6) →
    (stAt m hO c n (by have := N_eq m hO; omega)).2.2 = tileOut m hO c _ (hL.block_lt (n / 7) (tileAt n hn).isLt)
  | n, hn, h => by
    have hN := N_eq m hO
    by_cases hb : Busy m n hn
    · have h6 : n % 7 = 6 := h.resolve_left (fun h => h hb)
      have e : (tb (F := F) (tbl m) (ix1 (tileAt n hn))).toNat = n / 7 := hL.busy _ hb
      rw [tileOut_of_eq m hO c _ (n / 7) (hL.block_lt (n / 7) (tileAt n hn).isLt) (tileAt n hn).isLt e]
      unfold tileOut
      rw [stAt_of_eq m hO c n (7 * (n / 7) + 6) _ (by omega) (by omega)]
    · obtain ⟨h0, -⟩ := fresh_idle m hL hO n hn hb
      obtain ⟨k, rfl⟩ : ∃ k, n = k + 1 := ⟨n - 1, by omega⟩
      have hk : k < 280 := by omega
      have ih := out_owner k hk (by
        by_cases hbk : Busy m k hk
        · right
          have hne : (k + 1) / 7 ≠ k / 7 := fun he => hb (by
            have : tileAt (k + 1) hn = tileAt k hk := Fin.ext he
            unfold Busy; rw [this]; exact hbk)
          omega
        · exact Or.inl hbk)
      have e := block_stays m hL k hn (Or.inr hb)
      refine (out_stays m hO c ⟨k + 1, by omega⟩ h0 ((idle_iff m hO ⟨k + 1, by omega⟩).2 fun h => hb h.1)).trans (ih.trans ?_)
      exact tileOut_of_eq m hO c _ _ _ _ (congrArg BitVec.toNat e).symm

/-- The result array: each row from the tile it lies in. -/
def outArr (i : S40960x1024.Idx) : Elt F .f32 :=
  tileOut m hO c ((i 0).val / 1024) (by have : (i 0).val < 40960 := (i 0).isLt; omega) (ix2 ⟨(i 0).val % 1024, Nat.mod_lt _ (by omega)⟩ ⟨(i 1).val, (i 1).isLt⟩)

include hL in
/-- What a point that writes back writes is its block of `outArr`. -/
theorem flushed_eq (t : Fin (cfgM m hO).N) (hf : ((cfgM m hO).win 4).flush t = true) (y : S1024x1024.Idx) :
    (stAt m hO c t.val t.isLt).2.2 y = outArr m hO c ((((cfgM m hO).win 4).rect t).emb y) := by
  have hN := N_eq m hO
  have hlt := pt_lt m hO t
  have hi : ¬ Busy m t.val hlt ∨ t.val % 7 = 6 := by
    by_contra hc
    rw [not_or, not_not] at hc
    have := flush_false m hO t (by omega) (block_stays m hL t.val (by omega) (Or.inl (by omega)))
    rw [hf] at this
    exact Bool.noConfusion this
  rw [out_owner m hO hL c t.val hlt hi]
  have e := index4 m hO t
  have hb : (tb (F := F) (tbl m) (ix1 (tileAt t.val hlt))).toNat < 40 := hL.block_lt (t.val / 7) (tileAt t.val hlt).isLt
  obtain ⟨z, hz⟩ : ∃ z : S40960x1024.Idx, z = (((cfgM m hO).win 4).rect t).emb y := ⟨_, rfl⟩
  have e0 : (z 0).val = (tb (F := F) (tbl m) (ix1 (tileAt t.val hlt))).toNat * 1024 + (y 0).val := by
    rw [hz]
    refine (Window.rect_emb_val ((cfgM m hO).win 4) t y (0 : Fin 2) rfl).trans ?_
    rw [e]; rfl
  have e1 : (z 1).val = (y 1).val := by
    rw [hz]
    refine (Window.rect_emb_val ((cfgM m hO).win 4) t y (1 : Fin 2) rfl).trans ?_
    rw [e]; show 0 * 1024 + (y 1).val = (y 1).val; omega
  have hy0 : (y 0).val < 1024 := (y 0).isLt
  have d0 : (z 0).val / 1024 = (tb (F := F) (tbl m) (ix1 (tileAt t.val hlt))).toNat := by rw [e0]; omega
  have d1 : (z 0).val % 1024 = (y 0).val := by rw [e0]; omega
  refine Eq.trans ?_ (congrArg (outArr m hO c) hz)
  unfold outArr
  rw [tileOut_of_eq m hO c ((z 0).val / 1024) _ (by omega) hb d0]
  congr 1
  funext a
  match a with
  | ⟨0, _⟩ => exact Fin.ext d1.symm
  | ⟨1, _⟩ => exact Fin.ext e1.symm

include hL in
/-- After the run the result array holds, in a busy tile's rows, what the tile's last chunk left. -/
theorem arr_busy (b : ℕ) (hb : b < 40) (hbusy : Busy m (7 * b) (by omega)) (i : S40960x1024.Idx) (hi : (i 0).val / 1024 = b) :
    ((dats m hO 0 c).arrAt 4 (cfgM m hO).N : Vec F S40960x1024 .f32) i = outArr m hO c i := by
  have hN := N_eq m hO
  have ht0 : 7 * b + 6 < (cfgM m hO).N := by omega
  obtain ⟨t, hle, hf, hidx⟩ := Idealize.ShloMosaic.Pipeline.Window.exists_flush_same_index ((cfgM m hO).win 4) rfl ⟨7 * b + 6, ht0⟩
  refine (dats m hO 0 c).arrAt_forall_of_flushed 4 (fun i v => v = outArr m hO c i) (fun t hf y => ?_) (cfgM m hO).N t i t.isLt hf ?_
  · have := flushed_eq m hO hL c t hf y
    exact this
  · refine (((cfgM m hO).win 4).emb_mem_blk_iff t i rfl).2 fun a => ?_
    rw [hidx, index4]
    have e : (tb (F := F) (tbl m) (ix1 (tileAt (7 * b + 6) (by omega)))).toNat = b := by
      have hbu : Busy m (7 * b + 6) (by omega) := by
        have : tileAt (7 * b + 6) (by omega) = tileAt (7 * b) (by omega) := Fin.ext (by show (7 * b + 6) / 7 = 7 * b / 7; omega)
        unfold Busy; rw [this]; exact hbusy
      exact (hL.busy _ hbu).trans (show (7 * b + 6) / 7 = b by omega)
    have h1 : (i 1).val < 1024 := (i 1).isLt
    match a with
    | ⟨0, _⟩ =>
      show (tb (F := F) (tbl m) (ix1 (tileAt (7 * b + 6) _))).toNat * 1024 ≤ (i 0).val ∧ (i 0).val < (tb (F := F) (tbl m) (ix1 (tileAt (7 * b + 6) _))).toNat * 1024 + 1024
      rw [e]; omega
    | ⟨1, _⟩ =>
      show 0 * 1024 ≤ (i 1).val ∧ (i 1).val < 0 * 1024 + 1024
      omega

end Cert.Moe

end
-- ==== Proof.ExpSpec.lean ====
/-
  The experts' gated network in plain mathematics: what one row of tokens becomes under one expert's three matrices.
-/
module

public import Idealize.ShloMosaic.Lib.Pipeline.ValueKit

@[expose] public section

noncomputable section

namespace Cert.Moe

open Idealize.ShloMosaic

/-- A row of tokens against one column of a matrix. -/
def against (x g : Fin 1024 → EReal) : EReal := ∑ d, x d * g d

/-- One hidden unit: the gate's product times its own logistic, times the other product. -/
def gated (x g u : Fin 1024 → EReal) : EReal := against x g * Ideal.logistic (against x g) * against x u

/-- A row of tokens under an expert, at one column: the hidden units against the last matrix's column. -/
def expertRow (x : Fin 1024 → EReal) (G U : Fin 3584 → Fin 1024 → EReal) (D : Fin 3584 → EReal) : EReal :=
  ∑ k, gated x (G k) (U k) * D k

/-- A row of zeros meets every column in zero. -/
theorem against_zero (g : Fin 1024 → EReal) : against (fun _ => 0) g = 0 :=
  Finset.sum_eq_zero fun d _ => zero_mul _

/-- A row of zeros has no active hidden unit. -/
theorem gated_zero (g u : Fin 1024 → EReal) : gated (fun _ => 0) g u = 0 := by
  unfold gated
  rw [against_zero, zero_mul, zero_mul]

/-- A row of zeros stays zero. -/
theorem expertRow_zero (G U : Fin 3584 → Fin 1024 → EReal) (D : Fin 3584 → EReal) : expertRow (fun _ => 0) G U D = 0 :=
  Finset.sum_eq_zero fun k _ => by rw [gated_zero, zero_mul]

/-- The result at a row and a column: the row under its expert where the row is a token's, and zero past the tile's tokens. -/
def moeAt (live : Prop) [Decidable live] (x : Fin 1024 → EReal) (G U : Fin 3584 → Fin 1024 → EReal) (D : Fin 3584 → EReal) : EReal :=
  if live then expertRow x G U D else 0

/-- Rows masked before the matrices give the same as rows masked after them. -/
theorem expertRow_mask (live : Prop) [Decidable live] (x : Fin 1024 → EReal) (G U : Fin 3584 → Fin 1024 → EReal) (D : Fin 3584 → EReal) :
    expertRow (fun d => if live then x d else 0) G U D = moeAt live x G U D := by
  unfold moeAt
  by_cases h : live
  · simp only [if_pos h]
  · simp only [if_neg h]
    exact expertRow_zero G U D

end Cert.Moe

end
-- ==== Proof.ExpPay.lean ====
/-
  What the body of the experts' kernel computes at an element, in the extended reals: the masked rows, and one chunk's
  part of the result.
-/
module

public import proofs.«01_k».proof.Proof.ExpSpec
public import proofs.«01_k».proof.Proof.Gen.Kernel2Ideal.Skeleton

@[expose] public section

set_option maxRecDepth 16384

noncomputable section

namespace Cert.Moe

open Cert.Kernel2Ideal Cert.Kernel2Ideal.Gen Idealize.ShloMosaic Idealize.SL.Sem

/-- A small number, read back from its word. -/
theorem toInt_small {n : ℕ} (h : n < 2147483648) : (BitVec.ofNat 32 n).toInt = n := by
  rw [BitVec.toInt_ofNat', Int.bmod_def]
  omega

/-- The rows kept: those before the tile's count of tokens. -/
theorem masked_at (w : BitVec 32) (x : Vec Ideal S1024x1024 .f32) (r d : Fin 1024) :
    k0_pay1 (F := Ideal) w x (ix2 r d) = if (r.val : ℤ) < w.toInt then x (ix2 r d) else 0 := by
  pointwise [k0_pay1]
  unfold Scalar.select
  refine if_congr (IntOp.cmpi_slt.trans ?_) rfl rfl
  rw [toInt_small (n := r.val) (by omega)]

/-- One chunk's part of the result. -/
theorem chunk_at (p : Vec Ideal S1024x1024 .bf16) (g u : Vec Ideal S1x1024x512 .f32) (dn : Vec Ideal S1x512x1024 .f32) (r q : Fin 1024) :
    k0_pay2 (F := Ideal) p g u dn (ix2 r q)
      = ∑ j : Fin 512, gated (fun d => p (ix2 r d)) (fun d => g (ix3 0 d j)) (fun d => u (ix3 0 d j)) * dn (ix3 0 j q) := by
  pointwise [k0_pay2]
  rfl

/-- The first chunk's part is stored as it is. -/
theorem first_at (p : Vec Ideal S1024x1024 .bf16) (g u : Vec Ideal S1x1024x512 .f32) (dn : Vec Ideal S1x512x1024 .f32) (r q : Fin 1024) :
    k0_pay3 (F := Ideal) p g u dn (ix2 r q) = k0_pay2 (F := Ideal) p g u dn (ix2 r q) := by
  unfold k0_pay3
  generalize k0_pay2 (F := Ideal) p g u dn = z
  pointwise

/-- A later chunk's part is added to those before it. -/
theorem later_at (p : Vec Ideal S1024x1024 .bf16) (g u : Vec Ideal S1x1024x512 .f32) (dn : Vec Ideal S1x512x1024 .f32) (a : Vec Ideal S1024x1024 .f32)
    (r q : Fin 1024) : k0_pay4 (F := Ideal) p g u dn a (ix2 r q) = a (ix2 r q) + k0_pay2 (F := Ideal) p g u dn (ix2 r q) := by
  unfold k0_pay4
  generalize k0_pay2 (F := Ideal) p g u dn = z
  pointwise

end Cert.Moe

end
-- ==== Proof.ExpSum.lean ====
/-
  A busy tile's finished block in plain mathematics: the seven chunks together are the row under its expert.
-/
module

public import proofs.«01_k».proof.Proof.ExpOut
public import proofs.«01_k».proof.Proof.ExpPay

@[expose] public section

set_option maxRecDepth 16384

noncomputable section

namespace Cert.Moe

open Cert.Kernel2Ideal Cert.Kernel2Ideal.Gen
open Idealize.ShloMosaic Idealize.ShloMosaic.TcCoe Idealize.SL.Sem

variable (m : (ℓ : Loc nD τ sig) → Buf (Elt Ideal) ℓ)
variable (hO : Ok m) (hL : LaidOut (te (F := Ideal) (tbl m)) (tb (F := Ideal) (tbl m)) (nv (F := Ideal) (tbl m))) (c : Dev nD)

/-- The row of tokens `r` of tile `b`. -/
def tokenRow (b : Fin 40) (r : Fin 1024) : Fin 1024 → EReal :=
  fun d => (V m c main_arg3 : Vec Ideal S40960x1024 .f32) (ix2 ⟨1024 * b.val + r.val, by omega⟩ d)

/-- The gate's column `k` of expert `e`. -/
def gateCol (e : Fin 8) (k : Fin 3584) : Fin 1024 → EReal := fun d => (V m c main_arg4 : Vec Ideal S8x1024x3584 .f32) (ix3 e d k)

/-- The other product's column `k` of expert `e`. -/
def upCol (e : Fin 8) (k : Fin 3584) : Fin 1024 → EReal := fun d => (V m c main_arg5 : Vec Ideal S8x1024x3584 .f32) (ix3 e d k)

/-- The last matrix's column `q` of expert `e`. -/
def downCol (e : Fin 8) (q : Fin 1024) : Fin 3584 → EReal := fun k => (V m c main_arg6 : Vec Ideal S8x3584x1024 .f32) (ix3 e k q)

/-- Whether row `r` of tile `b` is a token's. -/
abbrev Live (b : Fin 40) (r : Fin 1024) : Prop := (r.val : ℤ) < (nv (F := Ideal) (tbl m) (ix1 b) : BitVec 32).toInt

/-- Row `r` of tile `b` with the rows that are no token's at zero. -/
def keptRow (b : Fin 40) (r : Fin 1024) : Fin 1024 → EReal := fun d => if Live m b r then tokenRow m c b r d else 0

/-- Chunk `f`'s part of tile `b` at row `r` and column `q`. -/
def part (e : Fin 8) (b : Fin 40) (f : ℕ) (hf : f < 7) (r q : Fin 1024) : EReal :=
  ∑ j : Fin 512, gated (keptRow m c b r) (gateCol m c e ⟨512 * f + j.val, by omega⟩) (upCol m c e ⟨512 * f + j.val, by omega⟩)
    * downCol m c e q ⟨512 * f + j.val, by omega⟩

/-- The word a point's body reads is its tile's count of tokens. -/
theorem word_tile (t : Fin (cfgM m hO).N) : word c (tbl m 2) (grid0.coords t) = nv (F := Ideal) (tbl m) (ix1 (tileAt t.val (pt_lt m hO t))) := by
  obtain rfl : c = 0 := Subsingleton.elim _ _
  exact (word_eq (F := Ideal) 0 (tbl m 2) (grid0.coords t)).trans
    (congrArg (fun k : Fin 40 => (nv (F := Ideal) (tbl m) (ix1 k) : BitVec 32)) (tileOf_coords t))

include hL in
/-- The rows a tile's first chunk keeps. -/
theorem kept_at (t : Fin (cfgM m hO).N) (h : Busy m t.val (pt_lt m hO t)) (r d : Fin 1024) :
    k0_pay1 (F := Ideal) (word c (tbl m 2) (grid0.coords t)) (iblk m hO c 0 t) (ix2 r d) = keptRow m c (tileAt t.val (pt_lt m hO t)) r d := by
  have hlt := pt_lt m hO t
  rw [word_tile m hO c t]
  refine (masked_at _ _ r d).trans ?_
  unfold keptRow tokenRow
  exact if_congr Iff.rfl (rows_at m hO hL c t h r d (by omega)) rfl

/-- A point's part, whatever kept the rows. -/
theorem part_at (t : Fin (cfgM m hO).N) (h : Busy m t.val (pt_lt m hO t)) (p : Vec Ideal S1024x1024 .bf16)
    (hp : ∀ r d : Fin 1024, p (ix2 r d) = keptRow m c (tileAt t.val (pt_lt m hO t)) r d) (r q : Fin 1024) :
    k0_pay2 (F := Ideal) p (iblk m hO c 1 t) (iblk m hO c 2 t) (iblk m hO c 3 t) (ix2 r q)
      = part m c (expertOf m hL (tileAt t.val (pt_lt m hO t))) (tileAt t.val (pt_lt m hO t)) (t.val % 7) (Nat.mod_lt _ (by omega)) r q := by
  refine (chunk_at p _ _ _ r q).trans ?_
  unfold part
  refine Finset.sum_congr rfl fun j _ => ?_
  have hj : 512 * (t.val % 7) + j.val < 3584 := by have := Nat.mod_lt t.val (show 0 < 7 by omega); omega
  refine congrArg₂ (· * ·) ?_ (down_at m hO hL c t h j q hj)
  rw [show (fun d => p (ix2 r d)) = keptRow m c (tileAt t.val (pt_lt m hO t)) r from funext (hp r)]
  exact congrArg₂ (gated _) (funext fun d => gate_at m hO hL c t h d j hj) (funext fun d => up_at m hO hL c t h d j hj)

/-- The parts of the chunks up to `f`. -/
def partSum (e : Fin 8) (b : Fin 40) (r q : Fin 1024) : (f : ℕ) → f < 7 → EReal
  | 0, hf => part m c e b 0 hf r q
  | f + 1, hf => partSum e b r q f (by omega) + part m c e b (f + 1) hf r q

/-- In a busy tile, after chunk `f`: the rows kept, and the parts so far. -/
theorem after_chunk (b : Fin 40) (hb : Busy m (7 * b.val) (by omega)) : ∀ (f : ℕ) (hf : f < 7),
    (∀ r d : Fin 1024, (stAt m hO c (7 * b.val + f) (by have := N_eq m hO; omega)).1 (ix2 r d) = keptRow m c b r d)
    ∧ (∀ r q : Fin 1024, (stAt m hO c (7 * b.val + f) (by have := N_eq m hO; omega)).2.1 (ix2 r q)
        = partSum m c (expertOf m hL b) b r q f hf)
    ∧ (f = 6 → ∀ r q : Fin 1024, (stAt m hO c (7 * b.val + f) (by have := N_eq m hO; omega)).2.2 (ix2 r q)
        = partSum m c (expertOf m hL b) b r q f hf)
  | 0, hf => by
    have hN := N_eq m hO
    obtain ⟨t, ht⟩ : ∃ t : Fin (cfgM m hO).N, t.val = 7 * b.val := ⟨⟨7 * b.val, by omega⟩, rfl⟩
    have hlt := pt_lt m hO t
    have htb : tileAt t.val hlt = b := Fin.ext (show t.val / 7 = b.val by omega)
    have ht7 : t.val % 7 = 0 := by omega
    have hbt : Busy m t.val hlt := by
      have e : tileAt (7 * b.val) (by omega) = b := Fin.ext (show 7 * b.val / 7 = b.val by omega)
      unfold Busy at hb ⊢
      rw [htb]; rw [e] at hb; exact hb
    have hw : 0 < (word c (tbl m 2) (grid0.coords t) : BitVec 32).toInt := (rows_iff m c t).2 hbt
    have h0 : (grid0.coords t 1).val = 0 := (crd1 t).trans ht7
    obtain ⟨σ, hσ⟩ : ∃ σ : St Ideal, stAt m hO c (7 * b.val + 0) (by omega)
        = stepPt (grid0.coords t 1).val (word c (tbl m 2) (grid0.coords t)) (iblk m hO c 0 t) (iblk m hO c 1 t) (iblk m hO c 2 t) (iblk m hO c 3 t) σ := by
      by_cases hz : t.val = 0
      · refine ⟨(k0_pay1 0#32 (iblk m hO c 0 t), iblk m hO c 0 t, iblk m hO c 0 t), ?_⟩
        obtain ⟨n, hn⟩ := t
        obtain rfl : n = 0 := hz
        exact stAt_of_eq m hO c _ 0 _ hn (by simpa using ht.symm)
      · exact ⟨_, (stAt_of_eq m hO c _ t.val _ t.isLt (by omega)).trans (stAt_pos m hO c t hz)⟩
    have hs := hσ.trans (stepPt_first _ _ _ _ _ _ σ hw h0)
    refine ⟨fun r d => ?_, fun r q => ?_, fun h => absurd h (by omega)⟩
    · refine (congrFun (congrArg Prod.fst hs) (ix2 r d)).trans ((kept_at m hO hL c t hbt r d).trans ?_)
      rw [htb]
    · refine (congrFun (congrArg (fun z => z.2.1) hs) (ix2 r q)).trans ((first_at _ _ _ _ r q).trans
        ((part_at m hO hL c t hbt _ (kept_at m hO hL c t hbt) r q).trans ?_))
      show _ = part m c (expertOf m hL b) b 0 hf r q
      simp only [htb, ht7]
  | f + 1, hf => by
    have hN := N_eq m hO
    obtain ⟨ih1, ih2, -⟩ := after_chunk b hb f (by omega)
    obtain ⟨t, ht⟩ : ∃ t : Fin (cfgM m hO).N, t.val = 7 * b.val + (f + 1) := ⟨⟨7 * b.val + (f + 1), by omega⟩, rfl⟩
    have hlt := pt_lt m hO t
    have htb : tileAt t.val hlt = b := Fin.ext (show t.val / 7 = b.val by omega)
    have ht7 : t.val % 7 = f + 1 := by omega
    have hbt : Busy m t.val hlt := by
      have e : tileAt (7 * b.val) (by omega) = b := Fin.ext (show 7 * b.val / 7 = b.val by omega)
      unfold Busy at hb ⊢
      rw [htb]; rw [e] at hb; exact hb
    have hw : 0 < (word c (tbl m 2) (grid0.coords t) : BitVec 32).toInt := (rows_iff m c t).2 hbt
    have h1 : (grid0.coords t 1).val = f + 1 := (crd1 t).trans ht7
    obtain ⟨σ, hσ⟩ : ∃ σ : St Ideal, σ = stAt m hO c (7 * b.val + f) (by omega) := ⟨_, rfl⟩
    have hst : stAt m hO c (7 * b.val + (f + 1)) (by omega)
        = stepPt (grid0.coords t 1).val (word c (tbl m 2) (grid0.coords t)) (iblk m hO c 0 t) (iblk m hO c 1 t) (iblk m hO c 2 t) (iblk m hO c 3 t) σ :=
      (stAt_of_eq m hO c _ t.val _ t.isLt ht.symm).trans ((stAt_pos m hO c t (by omega)).trans
        (congrArg (stepPt _ _ _ _ _ _) ((stAt_of_eq m hO c _ _ _ (by omega) (by omega)).trans hσ.symm)))
    rw [← hσ] at ih1 ih2
    have hadd : ∀ r q : Fin 1024, k0_pay4 (F := Ideal) σ.1 (iblk m hO c 1 t) (iblk m hO c 2 t) (iblk m hO c 3 t) σ.2.1 (ix2 r q)
        = partSum m c (expertOf m hL b) b r q (f + 1) hf := fun r q => by
      refine (later_at _ _ _ _ _ r q).trans (congrArg₂ (· + ·) (ih2 r q) ((part_at m hO hL c t hbt σ.1 (fun r d => ?_) r q).trans ?_))
      · rw [htb]; exact ih1 r d
      · simp only [htb, ht7]
    by_cases h6 : f + 1 = 6
    · have hs := hst.trans (stepPt_last _ _ _ _ _ _ σ hw (h1.trans h6))
      exact ⟨fun r d => (congrFun (congrArg Prod.fst hs) (ix2 r d)).trans (ih1 r d),
        fun r q => (congrFun (congrArg (fun z => z.2.1) hs) (ix2 r q)).trans (hadd r q),
        fun _ r q => (congrFun (congrArg (fun z => z.2.2) hs) (ix2 r q)).trans (hadd r q)⟩
    · have hs := hst.trans (stepPt_mid _ _ _ _ _ _ σ hw (by omega) (by omega))
      exact ⟨fun r d => (congrFun (congrArg Prod.fst hs) (ix2 r d)).trans (ih1 r d),
        fun r q => (congrFun (congrArg (fun z => z.2.1) hs) (ix2 r q)).trans (hadd r q), fun h => absurd h h6⟩

/-- The parts of all seven chunks are the kept row under its expert. -/
theorem partSum_all (e : Fin 8) (b : Fin 40) (r q : Fin 1024) :
    partSum m c e b r q 6 (by omega) = expertRow (keptRow m c b r) (gateCol m c e) (upCol m c e) (downCol m c e q) := by
  unfold expertRow
  rw [Fin.sum_univ_tiles 7 512 rfl, Fin.sum_univ_seven]
  rfl

/-- A busy tile's finished block, at a row and a column. -/
theorem tile_at (b : Fin 40) (hb : Busy m (7 * b.val) (by omega)) (r q : Fin 1024) :
    tileOut m hO c b.val b.isLt (ix2 r q)
      = moeAt (Live m b r) (tokenRow m c b r) (gateCol m c (expertOf m hL b)) (upCol m c (expertOf m hL b)) (downCol m c (expertOf m hL b) q) :=
  ((after_chunk m hO hL c b hb 6 (by omega)).2.2 rfl r q).trans
    ((partSum_all m c _ b r q).trans (expertRow_mask (Live m b r) (tokenRow m c b r) _ _ _))

/-- The result array's claimed contents at an index of a busy tile. -/
theorem out_at (i : S40960x1024.Idx) (b : Fin 40) (hi : (i 0).val / 1024 = b.val) (hb : Busy m (7 * b.val) (by omega)) :
    outArr m hO c i = moeAt (Live m b ⟨(i 0).val % 1024, Nat.mod_lt _ (by omega)⟩) (tokenRow m c b ⟨(i 0).val % 1024, Nat.mod_lt _ (by omega)⟩)
      (gateCol m c (expertOf m hL b)) (upCol m c (expertOf m hL b)) (downCol m c (expertOf m hL b) ⟨(i 1).val, (i 1).isLt⟩) :=
  (congrFun (tileOut_of_eq m hO c _ b.val _ b.isLt hi) _).trans (tile_at m hO hL c b hb _ _)

end Cert.Moe

end
-- ==== Proof.ExpRef.lean ====
/-
  The experts' reference in plain mathematics: at every row and column, the row under its tile's expert where the row is
  a token's, and zero elsewhere.
-/
module

public import proofs.«01_k».proof.Proof.ExpPay
public import proofs.«01_k».proof.Proof.Gen.Reference2Ideal.Read

@[expose] public section

set_option maxRecDepth 16384

noncomputable section

namespace Cert.Moe

open Cert.Reference2Ideal Cert.Reference2Ideal.Gen Cert.Reference2Ideal.Read Idealize.ShloMosaic Idealize.SL.Sem

/-- The place of a row in its tile. -/
theorem place_at (i : S40960.Idx) : val_main_v1 (F := Ideal) i = BitVec.ofNat 32 ((i 0).val % 1024) := by
  have hi : (i 0).val < 40960 := (i 0).isLt
  have hk : ∀ j : S_.Idx, val_main_call0_v2 (F := Ideal) j = 1024#32 := fun j => rfl
  have hn : (val_main_v0 (F := Ideal) i : BitVec 32).toNat = (i 0).val := by
    rw [val_main_v0_apply, BitVec.toNat_ofNat]; omega
  have hr : val_main_call0_v4 (F := Ideal) i = BitVec.ofNat 32 ((i 0).val % 1024) := by
    rw [val_main_call0_v4_apply, val_main_call0_v3_apply, hk]
    refine BitVec.eq_of_toNat_eq ((IntOp.toNat_remsi .host (x := val_main_v0 (F := Ideal) i) (by rw [hn]; omega) 1024 (by omega) (by omega)).trans ?_)
    rw [hn, BitVec.toNat_ofNat]; omega
  have hint : (BitVec.ofNat 32 ((i 0).val % 1024)).toInt = (((i 0).val % 1024 : ℕ) : ℤ) := toInt_small (by omega)
  have h8 : val_main_call0_v8 (F := Ideal) i ≠ 1#1 := fun h => by
    rw [val_main_call0_v8_apply, hr, val_main_call0_v7_apply, val_main_call0_c_2_apply] at h
    have := IntOp.cmpi_slt.1 h
    rw [hint] at this
    have z : (0#32 : BitVec 32).toInt = 0 := rfl
    omega
  have h9 : ∀ j : S_.Idx, val_main_call0_v9 (F := Ideal) j = 0#1 := fun j => rfl
  have h80 : val_main_call0_v8 (F := Ideal) i = 0#1 := by
    generalize val_main_call0_v8 (F := Ideal) i = z at h8
    revert z; decide
  have h12 : val_main_call0_v12 (F := Ideal) i = 1#1 → False := fun h => by
    rw [val_main_call0_v12_apply] at h
    have h11 := (IntOp.andi_eq_one.1 h).1
    rw [val_main_call0_v11_apply, h80, val_main_call0_v10_apply, h9] at h11
    exact absurd h11 (by decide)
  rw [val_main_v1_apply]
  unfold Scalar.select
  exact (if_neg h12).trans hr

variable (x0 x2 : IVec S40 32) (x3 : FVec Ideal S40960x1024 .f32) (x4 x5 : FVec Ideal S8x1024x3584 .f32) (x6 : FVec Ideal S8x3584x1024 .f32)

/-- Whether a row is a token's of the tile it is in, by the reference. -/
theorem live_at (b : Fin 40) (i : S40960.Idx) (hb : (i 0).val / 1024 = b.val) :
    val_main_v5 (F := Ideal) x2 i = 1#1 ↔ (((i 0).val % 1024 : ℕ) : ℤ) < (x2 (ix1 b)).toInt := by
  have hi : (i 0).val < 40960 := (i 0).isLt
  rw [val_main_v5_apply, place_at, val_main_v4_apply, val_main_v3_apply, val_main_v2_apply]
  refine IntOp.cmpi_slt.trans ?_
  rw [toInt_small (by omega)]
  have e : idx_main_v2 (idx_main_v3 (idx_main_v4 i)) = (ix1 b : S40.Idx) := funext fun a => match a with | ⟨0, _⟩ => Fin.ext hb
  rw [e]

/-- Whether a row's tile is an expert's, by the reference. -/
theorem owner_at (b : Fin 40) (e : Fin 8) (he : (x0 (ix1 b)).toNat = e.val) (i : S8x40960.Idx) (hb : (i 1).val / 1024 = b.val) :
    val_main_v14 (F := Ideal) x0 i = 1#1 ↔ (i 0).val = e.val := by
  have hi : (i 0).val < 8 := (i 0).isLt
  rw [val_main_v14_apply, val_main_v12_apply, val_main_v7_apply, val_main_v6_apply, val_main_v13_apply, val_main_v11_apply, val_main_v10_apply,
    val_main_v9_apply, val_main_v8_apply]
  refine IntOp.cmpi_eq.trans ?_
  have eb : idx_main_v8 (idx_main_v9 (idx_main_v10 (idx_main_v11 (idx_main_v13 i)))) = (ix1 b : S40.Idx) :=
    funext fun a => match a with | ⟨0, _⟩ => Fin.ext hb
  rw [eb, ← BitVec.toNat_inj, he, BitVec.toNat_ofNat]
  show (i 0).val % 2 ^ 32 = e.val ↔ _
  rw [Nat.mod_eq_of_lt (by omega)]

/-- An expert's share of a row: one where the row is a token's and the expert its tile's, zero elsewhere. -/
theorem share_at (b : Fin 40) (e : Fin 8) (he : (x0 (ix1 b)).toNat = e.val) (i : S8x40960.Idx) (hb : (i 1).val / 1024 = b.val) :
    val_main_v18 (F := Ideal) x0 x2 i = if (i 0).val = e.val ∧ (((i 1).val % 1024 : ℕ) : ℤ) < (x2 (ix1 b)).toInt then (1 : EReal) else 0 := by
  have hv : val_main_v17 (F := Ideal) x0 x2 i = 1#1 ↔ (i 0).val = e.val ∧ (((i 1).val % 1024 : ℕ) : ℤ) < (x2 (ix1 b)).toInt := by
    rw [val_main_v17_apply]
    refine IntOp.andi_eq_one.trans (and_congr (owner_at x0 b e he i hb) ?_)
    rw [val_main_v16_apply, val_main_v15_apply]
    exact live_at x2 b _ hb
  rw [val_main_v18_apply]
  show (((val_main_v17 (F := Ideal) x0 x2 i : BitVec 1).toNat : ℝ) : EReal) = _
  by_cases h : val_main_v17 (F := Ideal) x0 x2 i = 1#1
  · rw [if_pos (hv.1 h), h]
    norm_num
  · rw [if_neg fun z => h (hv.2 z)]
    have h0 : val_main_v17 (F := Ideal) x0 x2 i = 0#1 := by
      generalize val_main_v17 (F := Ideal) x0 x2 i = z at h
      revert z; decide
    rw [h0]
    norm_num

/-- The gate's product of an expert. -/
theorem gate_ref (e : Fin 8) (n : Fin 40960) (k : Fin 3584) :
    val_main_v20 (F := Ideal) x3 x4 (ix3 e n k) = against (fun d => x3 (ix2 n d)) (fun d => x4 (ix3 e d k)) := by
  rw [val_main_v20_apply, val_main_v19_apply]
  unfold against
  exact Finset.sum_congr rfl fun d _ => (mul_comm _ _).trans (congrArg₂ (· * ·)
    (congrArg x3 (funext fun a => match a with | ⟨0, _⟩ => rfl | ⟨1, _⟩ => rfl))
    (congrArg x4 (funext fun a => match a with | ⟨0, _⟩ => rfl | ⟨1, _⟩ => rfl | ⟨2, _⟩ => rfl)))

/-- The other product of an expert. -/
theorem up_ref (e : Fin 8) (n : Fin 40960) (k : Fin 3584) :
    val_main_v23 (F := Ideal) x3 x5 (ix3 e n k) = against (fun d => x3 (ix2 n d)) (fun d => x5 (ix3 e d k)) := by
  rw [val_main_v23_apply, val_main_v22_apply]
  unfold against
  exact Finset.sum_congr rfl fun d _ => (mul_comm _ _).trans (congrArg₂ (· * ·)
    (congrArg x3 (funext fun a => match a with | ⟨0, _⟩ => rfl | ⟨1, _⟩ => rfl))
    (congrArg x5 (funext fun a => match a with | ⟨0, _⟩ => rfl | ⟨1, _⟩ => rfl | ⟨2, _⟩ => rfl)))

/-- The word of one, as a value. -/
theorem one_word : Ideal.ofBits .f32 0x3F800000#32 = 1 := by
  simp [Ideal.ofBits, Ideal.ieee, -EReal.coe_mul]; norm_num

/-- A hidden unit of an expert. -/
theorem hidden_ref (e : Fin 8) (n : Fin 40960) (k : Fin 3584) :
    val_main_v24 (F := Ideal) x3 x4 x5 (ix3 e n k)
      = gated (fun d => x3 (ix2 n d)) (fun d => x4 (ix3 e d k)) (fun d => x5 (ix3 e d k)) := by
  rw [val_main_v24_apply, val_main_v21_apply, val_main_call1_v5_apply, val_main_call1_v4_apply, val_main_call1_v3_apply,
    val_main_call1_v2_apply, val_main_call1_v1_apply, val_main_call1_v0_apply, val_main_call1_cst_apply, val_main_call1_cst_0_apply,
    gate_ref, up_ref]
  unfold gated
  generalize against (fun d => x3 (ix2 n d)) (fun d => x4 (ix3 e d k)) = h
  show h * Ideal.div (Ideal.ofBits .f32 0x3F800000#32) (Ideal.ofBits .f32 0x3F800000#32 + Ideal.exp (-h)) * _ = _
  rw [one_word]
  rfl

/-- An expert's result at a row and a column. -/
theorem expert_ref (e : Fin 8) (n : Fin 40960) (q : Fin 1024) :
    val_main_v25 (F := Ideal) x3 x4 x5 x6 (ix3 e n q)
      = expertRow (fun d => x3 (ix2 n d)) (fun k d => x4 (ix3 e d k)) (fun k d => x5 (ix3 e d k)) (fun k => x6 (ix3 e k q)) := by
  rw [val_main_v25_apply]
  unfold expertRow
  refine Finset.sum_congr rfl fun k _ => congrArg₂ (· * ·) ?_ (congrArg x6 (funext fun a => match a with | ⟨0, _⟩ => rfl | ⟨1, _⟩ => rfl | ⟨2, _⟩ => rfl))
  refine Eq.trans (congrArg (val_main_v24 (F := Ideal) x3 x4 x5) ?_) (hidden_ref x3 x4 x5 e n k)
  exact funext fun a => match a with | ⟨0, _⟩ => rfl | ⟨1, _⟩ => rfl | ⟨2, _⟩ => rfl

/-- The reference's result at a row and a column. -/
theorem result_ref (n : Fin 40960) (q : Fin 1024) (b : Fin 40) (hb : n.val / 1024 = b.val) (e : Fin 8) (he : (x0 (ix1 b)).toNat = e.val) :
    val_main_v29 (F := Ideal) x0 x2 x3 x4 x5 x6 (ix2 n q)
      = moeAt (((n.val % 1024 : ℕ) : ℤ) < (x2 (ix1 b)).toInt) (fun d => x3 (ix2 n d)) (fun k d => x4 (ix3 e d k)) (fun k d => x5 (ix3 e d k))
          (fun k => x6 (ix3 e k q)) := by
  have hk : ∀ k : Fin 8, val_main_v28 (F := Ideal) x0 x2 x3 x4 x5 x6 (idx_main_v29 (ix2 n q) k)
      = (if k.val = e.val ∧ (((n.val % 1024 : ℕ) : ℤ) < (x2 (ix1 b)).toInt) then (1 : EReal) else 0)
        * val_main_v25 (F := Ideal) x3 x4 x5 x6 (ix3 k n q) := fun k => by
    rw [val_main_v28_apply, val_main_v27_apply, val_main_v26_apply]
    refine congrArg₂ (· * ·) (share_at x0 x2 b e he _ hb) ?_
    exact congrArg (val_main_v25 (F := Ideal) x3 x4 x5 x6) (funext fun a => match a with | ⟨0, _⟩ => rfl | ⟨1, _⟩ => rfl | ⟨2, _⟩ => rfl)
  rw [val_main_v29_apply]
  have hz : val_main_cst (F := Ideal) (Shape.Idx.first h_S_) = 0 := by
    rw [val_main_cst_apply]; exact Ideal.ofBits_zero _
  rw [hz, zero_add, Finset.sum_congr rfl fun k _ => hk k, Finset.sum_eq_single e]
  · unfold moeAt
    by_cases h : ((n.val % 1024 : ℕ) : ℤ) < (x2 (ix1 b)).toInt
    · rw [if_pos ⟨rfl, h⟩, if_pos h, one_mul, expert_ref]
    · rw [if_neg fun z => h z.2, if_neg h, zero_mul]
  · intro k _ hke
    rw [if_neg fun z => hke (Fin.ext z.1), zero_mul]
  · exact fun h => absurd (Finset.mem_univ e) h

end Cert.Moe

end
-- ==== Proof.Experts.lean ====
/-
  The experts' kernel and their reference end with equal outputs at every row of every busy tile.
-/
module

public import proofs.«01_k».proof.Defs
public import proofs.«01_k».proof.Proof.ExpSum
public import proofs.«01_k».proof.Proof.ExpRef
public import proofs.«01_k».proof.Proof.ExpRuns
public import proofs.«01_k».proof.Proof.Gen.Reference2Ideal.Run
public import proofs.«01_k».proof.Proof.Gen.On_in_busy_tile

@[expose] public section

set_option maxRecDepth 16384

noncomputable section

namespace Cert.Moe

open Idealize.ShloMosaic Idealize.ShloMosaic.TcCoe Idealize.SL.Sem

section Mask
open Cert.On_in_busy_tile Cert.On_in_busy_tile.Facts

/-- The comparison with zero is the signed one. -/
theorem above_zero (z : BitVec 32) : IntOp.cmpi .sgt z 0#32 = 1#1 ↔ 0 < z.toInt := IntOp.cmpi_sgt

/-- A row the mask covers lies in a busy tile. -/
theorem mask_at [Cert.On_in_busy_tile.Facts] (x0 x1 x2 : IVec S40 32) (x3 : FVec Ideal S40960x1024 .f32) (x4 x5 : FVec Ideal S8x1024x3584 .f32)
    (x6 : FVec Ideal S8x3584x1024 .f32) (i : S40960x1024.Idx) (b : Fin 40) (hb : (i 0).val / 1024 = b.val)
    (h : Cert.On_in_busy_tile.fn (F := Ideal) x0 x1 x2 x3 x4 x5 x6 i = 1#1) : 0 < (x2 (ix1 b)).toInt := by
  have hi : (i 0).val < 40960 := (i 0).isLt
  unfold Cert.On_in_busy_tile.fn at h
  dsimp only at h
  rw [broadcastInDim_apply _ bcast_S40960x1_S40960x1024_0_1 _ i (ix2 (n0 := 40960) (n1 := 1) ⟨(i 0).val, hi⟩ 0) (fun a => match a with
      | ⟨0, _⟩ => by show (i 0).val = if (40960 : Nat) = 1 then 0 else (i 0).val; rw [if_neg (by decide)]
      | ⟨1, _⟩ => by show 0 = if (1 : Nat) = 1 then 0 else (i 1).val; rw [if_pos rfl]),
    broadcastInDim_apply _ bcast_S40960_S40960x1_0 _ _ (ix1 (n0 := 40960) ⟨(i 0).val, hi⟩) (fun a => match a with
      | ⟨0, _⟩ => by show (i 0).val = if (40960 : Nat) = 1 then 0 else (i 0).val; rw [if_neg (by decide)])] at h
  have h' := (above_zero _).1 h
  rw [shapeCast_apply _ shapeCasts_S40x1024_S40960 (ix1 (n0 := 40960) ⟨(i 0).val, hi⟩) (ix2 (n0 := 40) (n1 := 1024) b ⟨(i 0).val % 1024, by omega⟩) (by
      rewrite [Shape.rowMajor_val_two, Shape.rowMajor_val_one]
      show b.val * 1024 + (i 0).val % 1024 = (i 0).val
      omega),
    broadcastInDim_apply _ bcast_S40x1_S40x1024_0_1 _ _ (ix2 (n0 := 40) (n1 := 1) b 0) (fun a => match a with
      | ⟨0, _⟩ => by show b.val = if (40 : Nat) = 1 then 0 else b.val; rw [if_neg (by decide)]
      | ⟨1, _⟩ => by show 0 = if (1 : Nat) = 1 then 0 else (i 0).val % 1024; rw [if_pos rfl]),
    broadcastInDim_apply _ bcast_S40_S40x1_0 _ _ (ix1 (n0 := 40) b) (fun a => match a with
      | ⟨0, _⟩ => by show b.val = if (40 : Nat) = 1 then 0 else b.val; rw [if_neg (by decide)])] at h'
  exact h'

end Mask

section Value
open Cert.Kernel2Ideal Cert.Kernel2Ideal.Gen

variable (m : (ℓ : Loc nD τ sig) → Buf (Elt Ideal) ℓ)
variable (hO : Ok m) (hL : LaidOut (te (F := Ideal) (tbl m)) (tb (F := Ideal) (tbl m)) (nv (F := Ideal) (tbl m))) (c : Dev nD)

include hL in
/-- In a busy tile the kernel's result is the reference's. -/
theorem value_at (i : S40960x1024.Idx) (b : Fin 40) (hi : (i 0).val / 1024 = b.val) (hb : 0 < (nv (F := Ideal) (tbl m) (ix1 b) : BitVec 32).toInt) :
    ((dats m hO 0 c).arrAt 4 (cfgM m hO).N : Vec Ideal S40960x1024 .f32) i
      = Cert.Reference2Ideal.Read.val_main_v29 (F := Ideal) (V m c main_arg0) (V m c main_arg2) (V m c main_arg3) (V m c main_arg4) (V m c main_arg5)
          (V m c main_arg6) i := by
  obtain rfl : c = 0 := Subsingleton.elim _ _
  have h0 : (i 0).val < 40960 := (i 0).isLt
  have hbusy : Busy m (7 * b.val) (by omega) := by
    have e : tileAt (7 * b.val) (by omega) = b := Fin.ext (show 7 * b.val / 7 = b.val by omega)
    unfold Busy
    rw [e]; exact hb
  have hrow : ∀ d, tokenRow m 0 b ⟨(i 0).val % 1024, by omega⟩ d = (V m 0 main_arg3 : Vec Ideal S40960x1024 .f32) (ix2 ⟨(i 0).val, h0⟩ d) := fun d =>
    congrArg (fun n : Fin 40960 => (V m 0 main_arg3 : Vec Ideal S40960x1024 .f32) (ix2 n d))
      (Fin.ext (show 1024 * b.val + (i 0).val % 1024 = (i 0).val by omega))
  refine (arr_busy m hO hL 0 b.val b.isLt hbusy i hi).trans ?_
  refine (out_at m hO hL 0 i b hi hbusy).trans ?_
  rw [show tokenRow m 0 b ⟨(i 0).val % 1024, by omega⟩ = fun d => (V m 0 main_arg3 : Vec Ideal S40960x1024 .f32) (ix2 ⟨(i 0).val, h0⟩ d) from funext hrow]
  have hx : i = (ix2 ⟨(i 0).val, h0⟩ ⟨(i 1).val, (i 1).isLt⟩ : S40960x1024.Idx) := funext fun a => match a with | ⟨0, _⟩ => rfl | ⟨1, _⟩ => rfl
  refine Eq.trans ?_ (congrArg (Cert.Reference2Ideal.Read.val_main_v29 (F := Ideal) (V m 0 main_arg0) (V m 0 main_arg2) (V m 0 main_arg3) (V m 0 main_arg4)
    (V m 0 main_arg5) (V m 0 main_arg6)) hx.symm)
  exact (result_ref (V m 0 main_arg0) (V m 0 main_arg2) (V m 0 main_arg3) (V m 0 main_arg4) (V m 0 main_arg5) (V m 0 main_arg6) ⟨(i 0).val, h0⟩
    ⟨(i 1).val, (i 1).isLt⟩ b hi (expertOf m hL b) rfl).symm

end Value

/-- From memories that agree on the arguments and hold tables laid out, kernel and reference end with the same output in
    every busy tile: every row under its tile's expert, and zero past the tile's tokens. -/
theorem algebraic : Cert.algebraic_Kernel2Ideal_Reference2Ideal_on_in_busy_tile (hKernel2Ideal := Cert.Kernel2Ideal.Gen.facts)
    (hReference2Ideal := Cert.Reference2Ideal.Gen.facts) (hPre_laid_out := Cert.Pre_laid_out.Gen.facts)
    (hOn_in_busy_tile := Cert.On_in_busy_tile.Gen.facts) := by
  intro m ρ m' ρ' hpre hagree
  have hL := laidOut (F := Ideal) m _ _ _ _ (hpre 0)
  have hO : Ok m := ok_of_laidOut (F := Ideal) (tbl m) hL
  refine ⟨fun c => (dats m hO 0 c).arrAt 4 (cfgM m hO).N, ?_, ?_⟩
  · exact (θ_run Cert.Kernel2Ideal.defs _ _).mono (fun r h c => ⟨fun i _ => congrFun (h.2 c) i, h.1.1 c⟩) (run_args (F := Ideal) m ρ hL hO)
  · refine (θ_run Cert.Reference2Ideal.defs _ _).mono (fun r h c => ⟨fun i hi => (congrFun (h c).1 i).trans ?_, (h c).2⟩)
      (Cert.Reference2Ideal.Value.run m' ρ')
    obtain ⟨h0, h1, h2, h3, h4, h5, h6⟩ := hagree c
    rw [Cert.Reference2Ideal.Read.val_main_v29_eq, h0, h2, h3, h4, h5, h6]
    have hlt : (i 0).val < 40960 := (i 0).isLt
    obtain rfl : c = 0 := Subsingleton.elim _ _
    exact (value_at m hO hL 0 i ⟨(i 0).val / 1024, by omega⟩ rfl (mask_at _ _ _ _ _ _ _ i ⟨(i 0).val / 1024, by omega⟩ rfl hi)).symm

end Cert.Moe

end
-- ==== Proof.FfnSpec.lean ====
/-
  The output projection and the gated network in plain mathematics: what one row of the residual stream becomes.
-/
module

public import proofs.«01_k».proof.Proof.ExpSpec

@[expose] public section

noncomputable section

namespace Cert.Ffn

open Idealize.ShloMosaic Cert.Moe

/-- The residual stream at a column: what came in, and the two halves of heads against their halves of the projection. -/
def streamAt (x : EReal) (a b wa wb : Fin 512 → EReal) : EReal := x + ((∑ k, a k * wa k) + ∑ k, b k * wb k)

/-- The mean of a row's squares. -/
def meanSq (s : Fin 1024 → EReal) : EReal := Ideal.div (∑ d, s d * s d) (Ideal.ofBits .f32 0x44800000#32)

/-- A row over the root of its mean square, times the norm's weight. -/
def normed (s g : Fin 1024 → EReal) (d : Fin 1024) : EReal :=
  s d * Ideal.rsqrt (meanSq s + Ideal.ofBits .f32 0x358637BD#32) * g d

/-- A row after the gated network at a column: the row there, and the hidden units of the normed row against the last matrix's column. -/
def ffnAt (s g : Fin 1024 → EReal) (G U : Fin 2816 → Fin 1024 → EReal) (D : Fin 2816 → EReal) (q : Fin 1024) : EReal :=
  s q + ∑ k, gated (normed s g) (G k) (U k) * D k

/-- The hidden units in two halves, one after the other. -/
theorem ffnAt_halves (s g : Fin 1024 → EReal) (G U : Fin 2816 → Fin 1024 → EReal) (D : Fin 2816 → EReal) (q : Fin 1024) :
    ffnAt s g G U D q
      = s q + (∑ j : Fin 1408, gated (normed s g) (G ⟨j, by omega⟩) (U ⟨j, by omega⟩) * D ⟨j, by omega⟩)
        + ∑ j : Fin 1408, gated (normed s g) (G ⟨1408 + j, by omega⟩) (U ⟨1408 + j, by omega⟩) * D ⟨1408 + j, by omega⟩ := by
  unfold ffnAt
  rw [add_assoc]
  exact congrArg (s q + ·) (Fin.sum_univ_add (a := 1408) (b := 1408) fun k => gated (normed s g) (G k) (U k) * D k)

/-- A sum over the joined heads is the sum over each half. -/
theorem joined_sum (c w : Fin 1024 → EReal) :
    (∑ k, c k * w k) = (∑ k : Fin 512, c ⟨k, by omega⟩ * w ⟨k, by omega⟩) + ∑ k : Fin 512, c ⟨512 + k, by omega⟩ * w ⟨512 + k, by omega⟩ :=
  Fin.sum_univ_add (a := 512) (b := 512) fun k => c k * w k

end Cert.Ffn

end
-- ==== Proof.FfnPay.lean ====
/-
  What the body of the output projection and gated network computes at an element, in the extended reals.
-/
module

public import proofs.«01_k».proof.Proof.FfnSpec
public import proofs.«01_k».proof.Proof.Gen.Kernel3Ideal.Skeleton

@[expose] public section

set_option maxRecDepth 16384

noncomputable section

namespace Cert.Ffn

open Cert.Kernel3Ideal Cert.Kernel3Ideal.Gen Idealize.ShloMosaic Idealize.SL.Sem Cert.Moe

/-- The stream a point stores first. -/
theorem stream_at (x : Vec Ideal S1024x1024 .f32) (a b : Vec Ideal S1024x512 .bf16) (wa wb : Vec Ideal S512x1024 .bf16) (r q : Fin 1024) :
    k0_pay3 (F := Ideal) x a wa b wb (ix2 r q)
      = streamAt (x (ix2 r q)) (fun k => a (ix2 r k)) (fun k => b (ix2 r k)) (fun k => wa (ix2 k q)) (fun k => wb (ix2 k q)) := by
  pointwise [k0_pay3]
  exact add_assoc _ _ _

/-- The normed rows. -/
theorem normed_at (s : Vec Ideal S1024x1024 .f32) (g : Vec Ideal S1x1024 .f32) (r d : Fin 1024) :
    k0_pay4 (F := Ideal) s g (ix2 r d) = normed (fun d => s (ix2 r d)) (fun d => g (ix2 0 d)) d := by
  pointwise [k0_pay4]
  rfl

/-- The first half of the hidden units, added to the stream. -/
theorem half_at (h : FVec Ideal S1024x1024 .bf16) (g u : Vec Ideal S1024x1408 .bf16) (s : Vec Ideal S1024x1024 .f32) (dn : Vec Ideal S1408x1024 .bf16)
    (r q : Fin 1024) : k0_pay1 (F := Ideal) h g (constant S1024x1408 .f32 0x00000000#32) u s dn (ix2 r q)
      = s (ix2 r q) + ∑ j : Fin 1408, gated (fun d => h (ix2 r d)) (fun d => g (ix2 d j)) (fun d => u (ix2 d j)) * dn (ix2 j q) := by
  pointwise [k0_pay1]
  rfl

/-- The second half, added to those before it. -/
theorem rest_at (h : FVec Ideal S1024x1024 .bf16) (g u : Vec Ideal S1024x1408 .bf16) (s : Vec Ideal S1024x1024 .f32) (dn : Vec Ideal S1408x1024 .bf16)
    (r q : Fin 1024) : k0_pay2 (F := Ideal) h g u s dn (ix2 r q)
      = s (ix2 r q) + ∑ j : Fin 1408, gated (fun d => h (ix2 r d)) (fun d => g (ix2 d j)) (fun d => u (ix2 d j)) * dn (ix2 j q) := by
  pointwise [k0_pay2]
  rfl

end Cert.Ffn

end
-- ==== Proof.FfnBlock.lean ====
/-
  What a grid point of the output projection and gated network stores: the point's rows under the whole weights, which the
  first point copies into scratch and the later points find there.
-/
module

public import proofs.«01_k».proof.Proof.FfnPay
public import proofs.«01_k».proof.Proof.Gen.Kernel3Ideal.Value
public import Idealize.ShloMosaic.Lib.Pipeline.ReadBack

@[expose] public section

set_option maxRecDepth 16384

noncomputable section

namespace Cert.Ffn

open Cert.Kernel3Ideal Cert.Kernel3Ideal.Gen Idealize.ShloMosaic Idealize.ShloMosaic.TcCoe Idealize.SL.Sem Cert.Moe
open Idealize.ShloMosaic.Pipeline (Dat)

section
variable (x : Vec Ideal S1024x1024 .f32) (a b : Vec Ideal S1024x512 .bf16) (g : Vec Ideal S1x1024 .f32)
  (wo : Vec Ideal S1024x1024 .bf16) (wg wu : Vec Ideal S1024x2816 .bf16) (wd : Vec Ideal S2816x1024 .bf16)

/-- The residual stream of a block, after the output projection. -/
def stream : FVec Ideal S1024x1024 .f32 :=
  k0_pay3 x a (View.ld wo (Rect.unit ![0, 0] ![512, 1024] inb_S1024x1024_S512x1024_0_0)) b
    (View.ld wo (Rect.unit ![512, 0] ![512, 1024] inb_S1024x1024_S512x1024_512_0))

/-- What a block stores last. -/
def stored : FVec Ideal S1024x1024 .f32 :=
  k0_pay2 (k0_pay4 (stream x a b wo) g)
    (View.ld wg (Rect.unit ![0, 1408] ![1024, 1408] inb_S1024x2816_S1024x1408_0_1408))
    (View.ld wu (Rect.unit ![0, 1408] ![1024, 1408] inb_S1024x2816_S1024x1408_0_1408))
    (k0_pay1 (k0_pay4 (stream x a b wo) g)
      (View.ld wg (Rect.unit ![0, 0] ![1024, 1408] inb_S1024x2816_S1024x1408_0_0)) (constant S1024x1408 .f32 0x00000000#32)
      (View.ld wu (Rect.unit ![0, 0] ![1024, 1408] inb_S1024x2816_S1024x1408_0_0)) (stream x a b wo)
      (View.ld wd (Rect.unit ![0, 0] ![1408, 1024] inb_S2816x1024_S1408x1024_0_0)))
    (View.ld wd (Rect.unit ![1408, 0] ![1408, 1024] inb_S2816x1024_S1408x1024_1408_0))

/-- A row of the stream. -/
def streamRow (r q : Fin 1024) : EReal :=
  streamAt (x (ix2 r q)) (fun k => a (ix2 r k)) (fun k => b (ix2 r k)) (fun k => wo (ix2 ⟨k, by omega⟩ q)) (fun k => wo (ix2 ⟨512 + k, by omega⟩ q))

theorem stream_row (r q : Fin 1024) : stream x a b wo (ix2 r q) = streamRow x a b wo r q := by
  unfold stream streamRow
  rw [stream_at]
  congr 1 <;> funext k <;> pointwise

/-- A block's last store at a row and a column: the row of the stream after the gated network. -/
theorem stored_at (r q : Fin 1024) : stored x a b g wo wg wu wd (ix2 r q)
    = ffnAt (streamRow x a b wo r) (fun d => g (ix2 0 d)) (fun k d => wg (ix2 d k)) (fun k d => wu (ix2 d k)) (fun k => wd (ix2 k q)) q := by
  have hs : (fun d => stream x a b wo (ix2 r d)) = streamRow x a b wo r := funext fun d => stream_row x a b wo r d
  have hn : (fun d => k0_pay4 (F := Ideal) (stream x a b wo) g (ix2 r d)) = normed (streamRow x a b wo r) (fun d => g (ix2 0 d)) :=
    funext fun d => (normed_at _ _ _ _).trans (by rw [hs])
  unfold stored
  rw [rest_at, half_at, hn, stream_row, ffnAt_halves]
  refine congrArg₂ (· + ·) (congrArg (_ + ·) (Finset.sum_congr rfl fun j _ => ?_)) (Finset.sum_congr rfl fun j _ => ?_)
  · refine congrArg₂ (· * ·) (congrArg₂ (gated _) (funext fun d => ?_) (funext fun d => ?_)) ?_ <;> pointwise
  · refine congrArg₂ (· * ·) (congrArg₂ (gated _) (funext fun d => ?_) (funext fun d => ?_)) ?_ <;> pointwise
end

variable (m : (ℓ : Loc nD τ sig) → Buf (Elt Ideal) ℓ) (c : Dev nD)

/-- A buffer written whole holds what was written. -/
theorem canon_whole {s : Shape} {e : EltTy} (z : s.Idx → Elt Ideal e) :
    View.canon [(⟨Rect.whole s, z⟩ : View.Piece (Elt Ideal) s e)] = z := by
  funext y
  have h := View.canon_cons_emb (Val := Elt Ideal) (Rect.whole s) z [] y
  rwa [Rect.emb_whole_apply] at h

/-- A load after that reads what was written. -/
theorem load_whole {κ : Kind} {sp : Space} {s : Shape} {e : EltTy} (v : View sig κ sp s e) (z : s.Idx → Elt Ideal e) (r : Rect s) :
    v.readCov [(⟨Rect.whole s, z⟩ : View.Piece (Elt Ideal) s e)] r.toLoadRect = View.ld z r := by
  rw [View.readCov_eq_canon', canon_whole]

/-- The first point copies the output projection into scratch; -/
theorem first_wo (t : Fin cfg0.N) (h0 : t.val % 16 = 0) : (outsAt0 m c t.val t.isLt).2.1 = V m c main_v0 := by
  rw [outsAt0_A m c t h0]
  dsimp only
  frame_out
  exact canon_whole _

/-- the gate's matrix; -/
theorem first_wg (t : Fin cfg0.N) (h0 : t.val % 16 = 0) : (outsAt0 m c t.val t.isLt).2.2.1 = V m c main_v2 := by
  rw [outsAt0_A m c t h0]
  dsimp only
  frame_out
  exact canon_whole _

/-- the other matrix; -/
theorem first_wu (t : Fin cfg0.N) (h0 : t.val % 16 = 0) : (outsAt0 m c t.val t.isLt).2.2.2.1 = V m c main_v3 := by
  rw [outsAt0_A m c t h0]
  dsimp only
  frame_out
  exact canon_whole _

/-- and the last matrix. -/
theorem first_wd (t : Fin cfg0.N) (h0 : t.val % 16 = 0) : (outsAt0 m c t.val t.isLt).2.2.2.2 = V m c main_v4 := by
  rw [outsAt0_A m c t h0]
  dsimp only
  frame_out
  exact canon_whole _

/-- What a first point leaves, a point that stores nothing there leaves too. -/
theorem carried {α : Type} (f : (n : ℕ) → n < cfg0.N → α) (z : α) (h : ∀ t : Fin cfg0.N, t.val % 16 = 0 → f t.val t.isLt = z)
    (hk : ∀ t : Fin cfg0.N, ¬t.val % 16 = 0 → f t.val t.isLt = f (t.val - 1) (Nat.lt_of_le_of_lt (Nat.sub_le _ _) t.isLt)) :
    ∀ (n : ℕ) (hn : n < cfg0.N), f n hn = z
  | 0, hn => h ⟨0, hn⟩ rfl
  | n + 1, hn => by
    by_cases h0 : (n + 1) % 16 = 0
    · exact h ⟨n + 1, hn⟩ h0
    · exact (hk ⟨n + 1, hn⟩ h0).trans (carried f z h hk n (Nat.lt_of_succ_lt hn))

/-- Every point leaves the output projection in scratch; -/
theorem scratch_wo : ∀ (n : ℕ) (hn : n < cfg0.N), (outsAt0 m c n hn).2.1 = V m c main_v0 :=
  carried (fun n hn => (outsAt0 m c n hn).2.1) _ (first_wo m c) fun t h0 => by
    rw [outsAt0_B m c t h0]
    dsimp only
    unfold sout0_B_0
    rfl

/-- the gate's matrix; -/
theorem scratch_wg : ∀ (n : ℕ) (hn : n < cfg0.N), (outsAt0 m c n hn).2.2.1 = V m c main_v2 :=
  carried (fun n hn => (outsAt0 m c n hn).2.2.1) _ (first_wg m c) fun t h0 => by
    rw [outsAt0_B m c t h0]
    dsimp only
    unfold sout0_B_1
    rfl

/-- the other matrix; -/
theorem scratch_wu : ∀ (n : ℕ) (hn : n < cfg0.N), (outsAt0 m c n hn).2.2.2.1 = V m c main_v3 :=
  carried (fun n hn => (outsAt0 m c n hn).2.2.2.1) _ (first_wu m c) fun t h0 => by
    rw [outsAt0_B m c t h0]
    dsimp only
    unfold sout0_B_2
    rfl

/-- and the last matrix. -/
theorem scratch_wd : ∀ (n : ℕ) (hn : n < cfg0.N), (outsAt0 m c n hn).2.2.2.2 = V m c main_v4 :=
  carried (fun n hn => (outsAt0 m c n hn).2.2.2.2) _ (first_wd m c) fun t h0 => by
    rw [outsAt0_B m c t h0]
    dsimp only
    unfold sout0_B_3
    rfl

/-- A first point stores its block's rows under the weights it copies. -/
theorem point_first (t : Fin cfg0.N) (h0 : t.val % 16 = 0) : (outsAt0 m c t.val t.isLt).1
    = stored (iblk m c 0 t) (iblk m c 1 t) (iblk m c 2 t) (iblk m c 3 t) (V m c main_v0) (V m c main_v2) (V m c main_v3) (V m c main_v4) := by
  rw [outsAt0_A m c t h0]
  dsimp only
  frame_out
  simp only [load_whole]
  rfl

/-- A later point stores its block's rows under the weights it finds in scratch. -/
theorem point_later (t : Fin cfg0.N) (h0 : ¬t.val % 16 = 0) : (outsAt0 m c t.val t.isLt).1
    = stored (iblk m c 0 t) (iblk m c 1 t) (iblk m c 2 t) (iblk m c 3 t) (V m c main_v0) (V m c main_v2) (V m c main_v3) (V m c main_v4) := by
  rw [outsAt0_B m c t h0]
  dsimp only
  rw [scratch_wo, scratch_wg, scratch_wu, scratch_wd]
  frame_out
  unfold stored stream
  simp only [read_unread_whole]

end Cert.Ffn

end
-- ==== Proof.FfnFinal.lean ====
/-
  The output array of the output projection and gated network: every grid point stores its own 1024 rows, and the points'
  blocks cover the array.
-/
module

public import proofs.«01_k».proof.Proof.FfnBlock

@[expose] public section

set_option maxRecDepth 16384

noncomputable section

namespace Cert.Ffn

open Cert.Kernel3Ideal Cert.Kernel3Ideal.Gen Idealize.ShloMosaic Idealize.ShloMosaic.TcCoe Idealize.SL.Sem Cert.Moe
open Idealize.ShloMosaic.Pipeline (Dat)

/-- The result at a row and a column, of the arguments. -/
def layerAt (x : S16384x1024.Idx → EReal) (a b : S16384x512.Idx → EReal) (wo : S1024x1024.Idx → EReal) (g : S1024.Idx → EReal)
    (wg wu : S1024x2816.Idx → EReal) (wd : S2816x1024.Idx → EReal) (n : Fin 16384) (q : Fin 1024) : EReal :=
  ffnAt (fun d => streamAt (x (ix2 n d)) (fun k => a (ix2 n k)) (fun k => b (ix2 n k)) (fun k => wo (ix2 ⟨k, by omega⟩ d)) (fun k => wo (ix2 ⟨512 + k, by omega⟩ d)))
    (fun d => g (ix1 d)) (fun k d => wg (ix2 d k)) (fun k d => wu (ix2 d k)) (fun k => wd (ix2 k q)) q

variable (m : (ℓ : Loc nD τ sig) → Buf (Elt Ideal) ℓ) (c : Dev nD)

/-- Which blocks a grid point holds: its own 1024 rows, and the norm's weights. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] :=
  (by decide +kernel : ∀ t : Fin grid0.N, _)

/-- The output projection as the kernel reads it is the argument: a change of format changes no value. -/
theorem wo_eq : V m c main_v0 = m ((c : Thread nD τ).loc main_arg3) := by
  unfold_abbrev_sides
  after_results
  rfl
/-- The gate's matrix. -/
theorem wg_eq : V m c main_v2 = m ((c : Thread nD τ).loc main_arg5) := by
  unfold_abbrev_sides
  after_results
  rfl
/-- The other matrix. -/
theorem wu_eq : V m c main_v3 = m ((c : Thread nD τ).loc main_arg6) := by
  unfold_abbrev_sides
  after_results
  rfl
/-- The last matrix. -/
theorem wd_eq : V m c main_v4 = m ((c : Thread nD τ).loc main_arg7) := by
  unfold_abbrev_sides
  after_results
  rfl
/-- The norm's weights, in one row. -/
theorem norm_eq (d : Fin 1024) : V m c main_v1 (ix2 0 d) = m ((c : Thread nD τ).loc main_arg4) (ix1 d) := by
  unfold_abbrev_sides
  after_results
  pointwise

section
variable (t : Fin cfg0.N)

/-- The rows of the stream a point holds are its own 1024; -/
theorem x_at (r d : Fin 1024) (h : 1024 * t.val + r < 16384) :
    iblk m c 0 t (ix2 r d) = m ((c : Thread nD τ).loc main_arg0) (ix2 ⟨1024 * t.val + r, h⟩ d) := by
  blk_ext! [iblk, V_main_arg0 m c, idx t]
/-- so are the rows of the first half of the heads, -/
theorem ca_at (r : Fin 1024) (d : Fin 512) (h : 1024 * t.val + r < 16384) :
    iblk m c 1 t (ix2 r d) = m ((c : Thread nD τ).loc main_arg1) (ix2 ⟨1024 * t.val + r, h⟩ d) := by
  blk_ext! [iblk, V_main_arg1 m c, idx t]
/-- and of the second. -/
theorem ob_at (r : Fin 1024) (d : Fin 512) (h : 1024 * t.val + r < 16384) :
    iblk m c 2 t (ix2 r d) = m ((c : Thread nD τ).loc main_arg2) (ix2 ⟨1024 * t.val + r, h⟩ d) := by
  blk_ext! [iblk, V_main_arg2 m c, idx t]
/-- The norm's weights a point holds are all of them. -/
theorem g_at (d : Fin 1024) : iblk m c 3 t (ix2 0 d) = m ((c : Thread nD τ).loc main_arg4) (ix1 d) := by
  refine Eq.trans ?_ (norm_eq m c d)
  blk_ext! [iblk, idx t]

/-- What a point stores at its row `r` and a column is the result there. -/
theorem block_eq (r q : Fin 1024) (h : 1024 * t.val + r < 16384) :
    stored (iblk m c 0 t) (iblk m c 1 t) (iblk m c 2 t) (iblk m c 3 t) (V m c main_v0) (V m c main_v2) (V m c main_v3) (V m c main_v4) (ix2 r q)
      = layerAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) ⟨1024 * t.val + r, h⟩ q := by
  rw [stored_at, wo_eq, wg_eq, wu_eq, wd_eq]
  have hg : (fun d => iblk m c 3 t (ix2 0 d)) = fun d => m ((c : Thread nD τ).loc main_arg4) (ix1 d) := funext (g_at m c t)
  have hs : streamRow (iblk m c 0 t) (iblk m c 1 t) (iblk m c 2 t) (m ((c : Thread nD τ).loc main_arg3)) r
      = fun d => streamAt (m ((c : Thread nD τ).loc main_arg0) (ix2 ⟨1024 * t.val + r, h⟩ d))
          (fun k => m ((c : Thread nD τ).loc main_arg1) (ix2 ⟨1024 * t.val + r, h⟩ k))
          (fun k => m ((c : Thread nD τ).loc main_arg2) (ix2 ⟨1024 * t.val + r, h⟩ k))
          (fun k => m ((c : Thread nD τ).loc main_arg3) (ix2 ⟨k, by omega⟩ d))
          (fun k => m ((c : Thread nD τ).loc main_arg3) (ix2 ⟨512 + k, by omega⟩ d)) := by
    funext d
    unfold streamRow
    rw [x_at m c t r d h, show (fun k => iblk m c 1 t (ix2 r k)) = _ from funext fun k => ca_at m c t r k h,
      show (fun k => iblk m c 2 t (ix2 r k)) = _ from funext fun k => ob_at m c t r k h]
  rw [hg, hs]
  rfl

end

/-- The result as an array of the arguments. -/
def layer (x : S16384x1024.Idx → EReal) (a b : S16384x512.Idx → EReal) (wo : S1024x1024.Idx → EReal) (g : S1024.Idx → EReal)
    (wg wu : S1024x2816.Idx → EReal) (wd : S2816x1024.Idx → EReal) (i : S16384x1024.Idx) : EReal :=
  layerAt x a b wo g wg wu wd (i 0) (i 1)

/-- The output array after the run is the result of the arguments. -/
theorem final : (dats m 0 c).arrAt 4 cfg0.N
    = (layer (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) : Vec Ideal S16384x1024 .f32) := by
  refine (dats m 0 c).arrAt_eq_of_covers 4 _ (by decide +kernel) fun t _ y => ?_
  rw [after0_4]
  have ht : t.val < 16 := t.isLt
  have hp : (outsAt0 m c t.val t.isLt).1
      = stored (iblk m c 0 t) (iblk m c 1 t) (iblk m c 2 t) (iblk m c 3 t) (V m c main_v0) (V m c main_v2) (V m c main_v3) (V m c main_v4) :=
    if h0 : t.val % 16 = 0 then point_first m c t h0 else point_later m c t h0
  have hy : ∀ y : S1024x1024.Idx, (outsAt0 m c t.val t.isLt).1 y
      = layer (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (((cfg0.win 4).blk t).view.emb y) := by
    intro y
    rw [hp]
    idx_vars y
    rw [block_eq m c t y0 y1 (by omega), layer]
    congr 1
    · apply Fin.ext
      show _ = ((((cfg0.win 4).blk t).view.emb (ix2 y0 y1) 0 : Fin _) : ℕ)
      blk_simp [idx t]
      exact Nat.add_right_cancel_iff.mpr (Nat.mul_comm _ _)
    · apply Fin.ext
      show _ = ((((cfg0.win 4).blk t).view.emb (ix2 y0 y1) 1 : Fin _) : ℕ)
      blk_simp [idx t]
  exact hy y

end Cert.Ffn

end
-- ==== Proof.FfnRef.lean ====
/-
  The reference of the output projection and gated network in plain mathematics, at every row and column.
-/
module

public import proofs.«01_k».proof.Proof.FfnSpec
public import proofs.«01_k».proof.Proof.Gen.Reference3Ideal.Read

@[expose] public section

set_option maxRecDepth 16384

noncomputable section

namespace Cert.Ffn

open Cert.Reference3Ideal Cert.Reference3Ideal.Gen Cert.Reference3Ideal.Read Idealize.ShloMosaic Idealize.SL.Sem Cert.Moe

/-- The word of one, as a value. -/
theorem one_word : Ideal.ofBits .f32 0x3F800000#32 = 1 := by
  simp [Ideal.ofBits, Ideal.ieee, -EReal.coe_mul]; norm_num

variable (x0 : FVec Ideal S16384x1024 .f32) (x1 x2 : FVec Ideal S16384x512 .bf16) (x3 : FVec Ideal S1024x1024 .f32) (x4 : FVec Ideal S1024 .f32)
  (x5 x6 : FVec Ideal S1024x2816 .f32) (x7 : FVec Ideal S2816x1024 .f32)

/-- The joined heads: the first half, -/
theorem joined_lo (n : Fin 16384) (k : Fin 512) : val_main_v2 (F := Ideal) x1 x2 (ix2 n ⟨k, by omega⟩) = x1 (ix2 n k) := by
  pointwise [val_main_v2, val_main_v0, val_main_v1]

/-- and the second. -/
theorem joined_hi (n : Fin 16384) (k : Fin 512) : val_main_v2 (F := Ideal) x1 x2 (ix2 n ⟨512 + k, by omega⟩) = x2 (ix2 n k) := by
  pointwise [val_main_v2, val_main_v0, val_main_v1]

/-- The residual stream. -/
theorem stream_ref (n : Fin 16384) (q : Fin 1024) : val_main_v4 (F := Ideal) x0 x1 x2 x3 (ix2 n q)
    = streamAt (x0 (ix2 n q)) (fun k => x1 (ix2 n k)) (fun k => x2 (ix2 n k)) (fun k => x3 (ix2 ⟨k, by omega⟩ q)) (fun k => x3 (ix2 ⟨512 + k, by omega⟩ q)) := by
  rw [val_main_v4_apply, val_main_v3_apply]
  have hj : (∑ k : Fin 1024, (val_main_v2 (F := Ideal) x1 x2) (lidx_main_v3 (ix2 n q) k) * x3 (ridx_main_v3 (ix2 n q) k))
      = ∑ k : Fin 1024, val_main_v2 (F := Ideal) x1 x2 (ix2 n k) * x3 (ix2 k q) :=
    Finset.sum_congr rfl fun k _ => congrArg₂ (· * ·)
      (congrArg (val_main_v2 (F := Ideal) x1 x2) (funext fun a => match a with | ⟨0, _⟩ => rfl | ⟨1, _⟩ => rfl))
      (congrArg x3 (funext fun a => match a with | ⟨0, _⟩ => rfl | ⟨1, _⟩ => rfl))
  rw [hj, joined_sum (fun k => val_main_v2 (F := Ideal) x1 x2 (ix2 n k)) (fun k => x3 (ix2 k q))]
  simp only [joined_lo, joined_hi]
  rfl

/-- The normed rows. -/
theorem normed_ref (n : Fin 16384) (d : Fin 1024) : val_main_v17 (F := Ideal) x0 x1 x2 x3 x4 (ix2 n d)
    = normed (fun d => val_main_v4 (F := Ideal) x0 x1 x2 x3 (ix2 n d)) (fun d => x4 (ix1 d)) d := by
  have hz : val_main_cst (F := Ideal) (Shape.Idx.first h_S_) = 0 := by
    rw [val_main_cst_apply]; exact Ideal.ofBits_zero _
  have hsq : val_main_v6 (F := Ideal) x0 x1 x2 x3 (ix1 n)
      = ∑ d : Fin 1024, val_main_v4 (F := Ideal) x0 x1 x2 x3 (ix2 n d) * val_main_v4 (F := Ideal) x0 x1 x2 x3 (ix2 n d) := by
    rw [val_main_v6_apply, hz, zero_add]
    refine Finset.sum_congr rfl fun k _ => ?_
    rw [val_main_v5_apply]
    have e : idx_main_v6 (ix1 n) k = ix2 n k := funext fun a => match a with | ⟨0, _⟩ => rfl | ⟨1, _⟩ => rfl
    rw [e]
    rfl
  have hi : idx_main_v7 (idx_main_v13 (ix2 n d)) = ix1 n := funext fun a => match a with | ⟨0, _⟩ => rfl
  have hg : idx_main_v15 (idx_main_v16 (ix2 n d)) = ix1 d := funext fun a => match a with | ⟨0, _⟩ => rfl
  rw [val_main_v17_apply, val_main_v14_apply, val_main_v13_apply, val_main_v12_apply, val_main_v11_apply, val_main_v9_apply, val_main_v7_apply,
    val_main_v8_apply, val_main_v10_apply, val_main_cst_0_apply, val_main_cst_1_apply, val_main_v16_apply, val_main_v15_apply, hi, hg, hsq]
  rfl

/-- The gate's product. -/
theorem gate_ref (n : Fin 16384) (k : Fin 2816) : val_main_v18 (F := Ideal) x0 x1 x2 x3 x4 x5 (ix2 n k)
    = against (fun d => val_main_v17 (F := Ideal) x0 x1 x2 x3 x4 (ix2 n d)) (fun d => x5 (ix2 d k)) := by
  rw [val_main_v18_apply]
  unfold against
  exact Finset.sum_congr rfl fun d _ => congrArg₂ (· * ·)
    (congrArg (val_main_v17 (F := Ideal) x0 x1 x2 x3 x4) (funext fun a => match a with | ⟨0, _⟩ => rfl | ⟨1, _⟩ => rfl))
    (congrArg x5 (funext fun a => match a with | ⟨0, _⟩ => rfl | ⟨1, _⟩ => rfl))

/-- The other product. -/
theorem up_ref (n : Fin 16384) (k : Fin 2816) : val_main_v20 (F := Ideal) x0 x1 x2 x3 x4 x6 (ix2 n k)
    = against (fun d => val_main_v17 (F := Ideal) x0 x1 x2 x3 x4 (ix2 n d)) (fun d => x6 (ix2 d k)) := by
  rw [val_main_v20_apply]
  unfold against
  exact Finset.sum_congr rfl fun d _ => congrArg₂ (· * ·)
    (congrArg (val_main_v17 (F := Ideal) x0 x1 x2 x3 x4) (funext fun a => match a with | ⟨0, _⟩ => rfl | ⟨1, _⟩ => rfl))
    (congrArg x6 (funext fun a => match a with | ⟨0, _⟩ => rfl | ⟨1, _⟩ => rfl))

/-- A hidden unit. -/
theorem hidden_ref (n : Fin 16384) (k : Fin 2816) : val_main_v21 (F := Ideal) x0 x1 x2 x3 x4 x5 x6 (ix2 n k)
    = gated (fun d => val_main_v17 (F := Ideal) x0 x1 x2 x3 x4 (ix2 n d)) (fun d => x5 (ix2 d k)) (fun d => x6 (ix2 d k)) := by
  rw [val_main_v21_apply, val_main_v19_apply, val_main_call0_v5_apply, val_main_call0_v4_apply, val_main_call0_v3_apply,
    val_main_call0_v2_apply, val_main_call0_v1_apply, val_main_call0_v0_apply, val_main_call0_cst_apply, val_main_call0_cst_0_apply,
    gate_ref, up_ref]
  unfold gated
  generalize against (fun d => val_main_v17 (F := Ideal) x0 x1 x2 x3 x4 (ix2 n d)) (fun d => x5 (ix2 d k)) = h
  show h * Ideal.div (Ideal.ofBits .f32 0x3F800000#32) (Ideal.ofBits .f32 0x3F800000#32 + Ideal.exp (-h)) * _ = _
  rw [one_word]
  rfl

/-- The reference's result at a row and a column. -/
theorem result_ref (n : Fin 16384) (q : Fin 1024) : val_main_v23 (F := Ideal) x0 x1 x2 x3 x4 x5 x6 x7 (ix2 n q)
    = ffnAt (fun d => streamAt (x0 (ix2 n d)) (fun k => x1 (ix2 n k)) (fun k => x2 (ix2 n k)) (fun k => x3 (ix2 ⟨k, by omega⟩ d)) (fun k => x3 (ix2 ⟨512 + k, by omega⟩ d)))
      (fun d => x4 (ix1 d)) (fun k d => x5 (ix2 d k)) (fun k d => x6 (ix2 d k)) (fun k => x7 (ix2 k q)) q := by
  have hs : (fun d => val_main_v4 (F := Ideal) x0 x1 x2 x3 (ix2 n d)) = _ := funext fun d => stream_ref x0 x1 x2 x3 n d
  have hn : (fun d => val_main_v17 (F := Ideal) x0 x1 x2 x3 x4 (ix2 n d)) = _ := funext fun d => normed_ref x0 x1 x2 x3 x4 n d
  rw [val_main_v23_apply, val_main_v22_apply, ← hs]
  unfold ffnAt
  refine congrArg (val_main_v4 (F := Ideal) x0 x1 x2 x3 (ix2 n q) + ·) (Finset.sum_congr rfl fun k _ => congrArg₂ (· * ·) ?_ ?_)
  · refine Eq.trans (congrArg (val_main_v21 (F := Ideal) x0 x1 x2 x3 x4 x5 x6) ?_) ((hidden_ref x0 x1 x2 x3 x4 x5 x6 n k).trans ?_)
    · exact funext fun a => match a with | ⟨0, _⟩ => rfl | ⟨1, _⟩ => rfl
    · rw [hn]
  · exact congrArg x7 (funext fun a => match a with | ⟨0, _⟩ => rfl | ⟨1, _⟩ => rfl)

end Cert.Ffn

end
-- ==== Proof.Ffn.lean ====
/-
  The kernel of the output projection and gated network, and the reference, end with equal outputs.
-/
module

public import proofs.«01_k».proof.Defs
public import proofs.«01_k».proof.Proof.FfnFinal
public import proofs.«01_k».proof.Proof.FfnRef

@[expose] public section

set_option maxRecDepth 16384

noncomputable section

namespace Cert.Ffn

open Idealize.ShloMosaic Idealize.SL.Sem

/-- The reference ends with its arguments as they were, and every counter at zero. -/
theorem reference_frame : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run m ρ)

/-- The reference's result, as an array of the arguments, is the kernel's. -/
theorem reference_eq (x : Cert.Kernel3Ideal.S16384x1024.Idx → EReal) (a b : Cert.Kernel3Ideal.S16384x512.Idx → EReal)
    (wo : Cert.Kernel3Ideal.S1024x1024.Idx → EReal) (g : Cert.Kernel3Ideal.S1024.Idx → EReal) (wg wu : Cert.Kernel3Ideal.S1024x2816.Idx → EReal)
    (wd : Cert.Kernel3Ideal.S2816x1024.Idx → EReal) :
    Cert.Reference3Ideal.Read.val_main_v23 (F := Ideal) x a b wo g wg wu wd = layer x a b wo g wg wu wd := by
  funext i
  have e : i = ix2 (i 0) (i 1) := funext fun a => match a with | ⟨0, _⟩ => rfl | ⟨1, _⟩ => rfl
  rw [e]
  exact result_ref x a b wo g wg wu wd (i 0) (i 1)

/-- From memories that agree on the arguments, kernel and reference end with the same output. -/
theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => (Cert.Kernel3Ideal.Gen.dats m 0 c).arrAt 4 Cert.Kernel3Ideal.cfg0.N, ?_, ?_⟩
  · exact Cert.Kernel3Ideal.Value.run_blocks m ρ
  · refine (θ_run Cert.Reference3Ideal.defs _ _).mono (fun r h c => ⟨(h c).1.trans ?_, (h c).2⟩)
      (Cert.Reference3Ideal.Value.run m' ρ')
    obtain ⟨h0, h1, h2, h3, h4, h5, h6, h7⟩ := hagree c
    rw [Cert.Reference3Ideal.Read.val_main_v23_eq, h0, h1, h2, h3, h4, h5, h6, h7]
    exact (reference_eq _ _ _ _ _ _ _ _).trans (final m c).symm

end Cert.Ffn

end
-- ==== Proof.GateSpec.lean ====
/-
  The chunked spatial gating in plain mathematics: what one row becomes, from the rows of its chunk of 128.
-/
module

public import proofs.«01_k».proof.Proof.FfnSpec

@[expose] public section

noncomputable section

namespace Cert.Gate

open Idealize.ShloMosaic Cert.Moe Cert.Ffn

/-- The gelu by its hyperbolic tangent, at the words of its constants. -/
def gelu (z : EReal) : EReal :=
  z * (Ideal.ofBits .f32 0x3F000000#32 * (1
    + Ideal.tanh (Ideal.ofBits .f32 0x3F4C422A#32 * (z + Ideal.ofBits .f32 0x3D372713#32 * (z * (z * z))))))

/-- A hidden channel of a row: the normed row against a column of the input matrix, through the gelu. -/
def hidden (s g w : Fin 1024 → EReal) : EReal := gelu (against (normed s g) w)

/-- A row less its mean. -/
def centred (v : Fin 1024 → EReal) (d : Fin 1024) : EReal := v d - Ideal.div (∑ e, v e) (Ideal.ofBits .f32 0x44800000#32)

/-- The layer norm of a row. -/
def lnorm (v g b : Fin 1024 → EReal) (d : Fin 1024) : EReal :=
  centred v d * Ideal.rsqrt (meanSq (centred v) + Ideal.ofBits .f32 0x358637BD#32) * g d + b d

/-- The rows up to one's own. -/
def upTo (r k : Fin 128) (x : EReal) : EReal := if k ≤ r then x else 0

/-- A gated channel: the row's own half, times the mixed rows of the chunk with their bias. -/
def gatedAt (u : EReal) (r : Fin 128) (w v : Fin 128 → EReal) (b : EReal) : EReal := u * ((∑ k, upTo r k (w k) * v k) + b)

/-- A token's gated channel, from all tokens' rows: it is mixed with the rows of its chunk of 128, by its channel's group of 128. -/
def tokenGate (s : Fin 16384 → Fin 1024 → EReal) (g : Fin 1024 → EReal) (W : Fin 1024 → Fin 2048 → EReal) (lg lb : Fin 1024 → EReal)
    (ws : Fin 8 → Fin 128 → Fin 128 → EReal) (bs : Fin 8 → Fin 128 → EReal) (n : Fin 16384) (d : Fin 1024) : EReal :=
  gatedAt (hidden (s n) g (fun e => W e ⟨d, by omega⟩)) ⟨n % 128, by omega⟩ (fun k => ws ⟨d / 128, by omega⟩ ⟨n % 128, by omega⟩ k)
    (fun k => lnorm (fun d => hidden (s ⟨128 * (n / 128) + k, by omega⟩) g (fun e => W e ⟨1024 + d, by omega⟩)) lg lb d)
    (bs ⟨d / 128, by omega⟩ ⟨n % 128, by omega⟩)

/-- A token's row after the gating at a column: the row there, and the gated channels against the output matrix's column. -/
def tokenAt (s : Fin 16384 → Fin 1024 → EReal) (g : Fin 1024 → EReal) (W : Fin 1024 → Fin 2048 → EReal) (lg lb : Fin 1024 → EReal)
    (ws : Fin 8 → Fin 128 → Fin 128 → EReal) (bs : Fin 8 → Fin 128 → EReal) (wo : Fin 1024 → Fin 1024 → EReal) (n : Fin 16384)
    (q : Fin 1024) : EReal :=
  s n q + ∑ d, tokenGate s g W lg lb ws bs n d * wo d q

/-- A weight over the diagonal counts for nothing, whichever way it is left out. -/
theorem upTo_mul (r k : Fin 128) (x : EReal) : x * (if k ≤ r then 1 else 0) = upTo r k x := by
  unfold upTo
  split <;> simp

end Cert.Gate

end
-- ==== Proof.GateTile.lean ====
/-
  What a grid point of the chunked gating stores: the gated block, written in 64 tiles of one group's 128 channels and one
  chunk's 128 rows, against the output projection, added to the rows.
-/
module

public import proofs.«01_k».proof.Proof.GateSpec
public import proofs.«01_k».proof.Proof.Gen.Kernel4Ideal.Value
public import Idealize.ShloMosaic.Lib.Pipeline.ReadBack

@[expose] public section

set_option maxRecDepth 16384

noncomputable section

namespace Cert.Gate

open Cert.Kernel4Ideal Cert.Kernel4Ideal.Gen Idealize.ShloMosaic Idealize.ShloMosaic.TcCoe Idealize.SL.Sem

/-- A tile inside the block. -/
theorem tile_inb (a g : Fin 8) : ∀ x, (![128 * a.val, 128 * g.val] : Fin 2 → ℕ) x + S128x128.size x ≤ S1024x1024.size x := by
  revert a g; decide

/-- A tile is a slice of the block. -/
theorem tile_slices (a g : Fin 8) : S1024x1024.Slices ![128 * a.val, 128 * g.val] S128x128 := by
  revert a g; decide

/-- A group's spatial weights inside all of them. -/
theorem group_inb (g : Fin 8) : ∀ x, (![g.val, 0, 0] : Fin 3 → ℕ) x + S1x128x128.size x ≤ S8x128x128.size x := by
  revert g; decide

/-- A group's biases inside all of them. -/
theorem bias_inb (g : Fin 8) : ∀ x, (![0, g.val] : Fin 2 → ℕ) x + S128x1.size x ≤ S128x8.size x := by
  revert g; decide

section
variable (x0 : Vec Ideal S1024x1024 .f32) (x1 : Vec Ideal S1x1024 .f32) (x2 : Vec Ideal S1024x2048 .bf16) (x3 x4 : Vec Ideal S1x1024 .f32)
  (x5 : Vec Ideal S8x128x128 .f32) (x6 : Vec Ideal S128x8 .f32) (x7 : Vec Ideal S1024x1024 .bf16)

/-- The half that gates. -/
def left : FVec Ideal S1024x1024 .f32 := k0_pay4 x0 x1 x2

/-- The half that is mixed over the rows of a chunk, normalised. -/
def right : FVec Ideal S1024x1024 .bf16 := k0_pay9 (k0_pay5 x0 x1 x2) (k0_pay6 x3) (k0_pay7 x4) (k0_pay8 x0 x1 x2)

/-- A tile of the gated block: group `g`, chunk `a`. -/
def tile (u : FVec Ideal S1024x1024 .f32) (v : FVec Ideal S1024x1024 .bf16) (a g : Fin 8) : FVec Ideal S128x128 .bf16 :=
  shapeCast S128x128 (truncf .bf16 (mulf (extractStridedSlice S128x128 ![128 * a.val, 128 * g.val] u (tile_slices a g))
    (addf (matmul dot_S128x128_S128x128_S128x128_1_0_0_1_n_n none
        (k0_pay10 (View.ld x5 (Rect.unit ![g.val, 0, 0] ![1, 128, 128] (group_inb g))))
        (extractStridedSlice S128x128 ![128 * a.val, 128 * g.val] v (tile_slices a g)) (constant S128x128 .f32 0x00000000#32))
      (broadcastTo S128x128 (k0_pay11 (View.ld x6 (Rect.unit ![0, g.val] ![128, 1] (bias_inb g)))) broadcasts_S128x1_S128x128))) bitsLt_bf16_f32)
    shapeCasts_S128x128_S128x128

/-- The tiles in the order in which they lie, the last first. -/
def tiles : List (View.Piece (Elt Ideal) S1024x1024 .bf16) :=
  List.ofFn fun n : Fin 64 => ⟨Rect.unit ![128 * (7 - n.val % 8), 128 * (7 - n.val / 8)] ![128, 128]
      (tile_inb ⟨7 - n.val % 8, by omega⟩ ⟨7 - n.val / 8, by omega⟩),
    tile x5 x6 (left x0 x1 x2) (right x0 x1 x2 x3 x4) ⟨7 - n.val % 8, by omega⟩ ⟨7 - n.val / 8, by omega⟩⟩

/-- What a point stores. -/
def stored : FVec Ideal S1024x1024 .f32 := k0_pay2 x0 (View.canon (tiles x0 x1 x2 x3 x4 x5 x6)) x7
end

variable (m : (ℓ : Loc nD τ sig) → Buf (Elt Ideal) ℓ) (c : Dev nD)

/-- The tiles are what the body stores into the gated block, and that block against the output projection is what it stores last. -/
theorem point (t : Fin cfg0.N) : outsAt0 m c t
    = stored (iblk m c 0 t) (iblk m c 1 t) (iblk m c 2 t) (iblk m c 3 t) (iblk m c 4 t) (iblk m c 5 t) (iblk m c 6 t) (iblk m c 7 t) := by
  unfold outsAt0
  frame_out
  unfold stored
  refine congrArg (fun z => k0_pay2 (F := Ideal) (iblk m c 0 t) z (iblk m c 7 t)) ?_
  rw [View.readCov_eq_canon']
  refine (View.ld_unit_zero (by decide) _ _).trans ?_
  exact congrArg View.canon rfl

end Cert.Gate

end
-- ==== Proof.GatePay.lean ====
/-
  The gated block at a row and a channel, in the extended reals.
-/
module

public import proofs.«01_k».proof.Proof.GateTile
public import proofs.«01_k».proof.Proof.ExpPay

@[expose] public section

set_option maxRecDepth 16384

noncomputable section

namespace Cert.Gate

open Cert.Kernel4Ideal Cert.Kernel4Ideal.Gen Idealize.ShloMosaic Idealize.ShloMosaic.TcCoe Idealize.SL.Sem Cert.Moe Cert.Ffn

section
variable (x0 : Vec Ideal S1024x1024 .f32) (x1 : Vec Ideal S1x1024 .f32) (x2 : Vec Ideal S1024x2048 .bf16) (x3 x4 : Vec Ideal S1x1024 .f32)
  (x5 : Vec Ideal S8x128x128 .f32) (x6 : Vec Ideal S128x8 .f32) (x7 : Vec Ideal S1024x1024 .bf16)

/-- The hidden channels of a block. -/
theorem hidden_at (r : Fin 1024) (d : Fin 2048) : k0_pay3 (F := Ideal) x0 x1 x2 (ix2 r d)
    = hidden (fun e => x0 (ix2 r e)) (fun e => x1 (ix2 0 e)) (fun e => x2 (ix2 e d)) := by
  pointwise [k0_pay3]
  rfl

/-- The half that gates. -/
theorem left_at (r d : Fin 1024) : left x0 x1 x2 (ix2 r d)
    = hidden (fun e => x0 (ix2 r e)) (fun e => x1 (ix2 0 e)) (fun e => x2 (ix2 e ⟨d, by omega⟩)) := by
  rw [← hidden_at]
  pointwise [left, k0_pay4]

/-- The half that is normalised, before it is. -/
theorem half_at (r d : Fin 1024) : k0_pay5 (F := Ideal) x0 x1 x2 (ix2 r d)
    = hidden (fun e => x0 (ix2 r e)) (fun e => x1 (ix2 0 e)) (fun e => x2 (ix2 e ⟨1024 + d, by omega⟩)) := by
  rw [← hidden_at]
  pointwise [k0_pay5]

/-- The half that is mixed. -/
theorem right_at (r d : Fin 1024) : right x0 x1 x2 x3 x4 (ix2 r d)
    = lnorm (fun d => hidden (fun e => x0 (ix2 r e)) (fun e => x1 (ix2 0 e)) (fun e => x2 (ix2 e ⟨1024 + d, by omega⟩)))
        (fun d => x3 (ix2 0 d)) (fun d => x4 (ix2 0 d)) d := by
  have h : (fun d => k0_pay5 (F := Ideal) x0 x1 x2 (ix2 r d)) = _ := funext fun d => half_at x0 x1 x2 r d
  rw [← h]
  generalize hv : k0_pay5 (F := Ideal) x0 x1 x2 = v
  pointwise [right, k0_pay9, k0_pay6, k0_pay7, k0_pay8, hv]
  rfl

/-- A group's spatial weights, those over the diagonal left out. -/
theorem lower_at (g : Fin 8) (r k : Fin 128) :
    k0_pay10 (F := Ideal) (View.ld x5 (Rect.unit ![g.val, 0, 0] ![1, 128, 128] (group_inb g))) (ix2 r k) = upTo r k (x5 (ix3 g r k)) := by
  have hc : IntOp.cmpi CmpIPredicate.sge (BitVec.ofNat 32 r.val) (BitVec.ofNat 32 k.val) = 1 ↔ k ≤ r := by
    refine IntOp.cmpi_sge.trans ?_
    rw [toInt_small (show (r : ℕ) < 2147483648 by omega), toInt_small (show (k : ℕ) < 2147483648 by omega)]
    exact Int.ofNat_le
  pointwise [k0_pay10]
  unfold Scalar.select upTo
  exact if_congr hc rfl rfl

/-- A tile at a row and a channel. -/
theorem tile_at (u : FVec Ideal S1024x1024 .f32) (v : FVec Ideal S1024x1024 .bf16) (a g : Fin 8) (r q : Fin 128) :
    tile x5 x6 u v a g (ix2 r q)
      = gatedAt (u (ix2 ⟨128 * a + r, by omega⟩ ⟨128 * g + q, by omega⟩)) r (fun k => x5 (ix3 g r k))
          (fun k => v (ix2 ⟨128 * a + k, by omega⟩ ⟨128 * g + q, by omega⟩)) (x6 (ix2 r g)) := by
  pointwise [tile, k0_pay11]
  simp only [lower_at]
  rfl

/-- The gated block at a row and a channel: the row within its chunk, the chunk's rows, the channel's group. -/
def gateAt (r d : Fin 1024) : EReal :=
  gatedAt (left x0 x1 x2 (ix2 r d)) ⟨r % 128, by omega⟩ (fun k => x5 (ix3 ⟨d / 128, by omega⟩ ⟨r % 128, by omega⟩ k))
    (fun k => right x0 x1 x2 x3 x4 (ix2 ⟨128 * (r / 128) + k, by omega⟩ d)) (x6 (ix2 ⟨r % 128, by omega⟩ ⟨d / 128, by omega⟩))

/-- The tiles together are the gated block. -/
theorem tiles_at (r d : Fin 1024) : View.canon (tiles x0 x1 x2 x3 x4 x5 x6) (ix2 r d) = gateAt x0 x1 x2 x3 x4 x5 x6 r d := by
  refine View.canon_ofFn_unit_eq_of_forall (S := S1024x1024) (fun n : Fin 64 => ![128 * (7 - n.val % 8), 128 * (7 - n.val / 8)]) ![128, 128]
    (fun n => tile_inb ⟨7 - n.val % 8, by omega⟩ ⟨7 - n.val / 8, by omega⟩) _ (ix2 r d) _
    ⟨⟨8 * (7 - d / 128) + (7 - r / 128), by omega⟩, fun a => ?_⟩ fun n => ?_
  · match a with
    | ⟨0, _⟩ =>
      show 128 * (7 - (8 * (7 - d.val / 128) + (7 - r.val / 128)) % 8) ≤ r.val
        ∧ r.val < 128 * (7 - (8 * (7 - d.val / 128) + (7 - r.val / 128)) % 8) + 128
      omega
    | ⟨1, _⟩ =>
      show 128 * (7 - (8 * (7 - d.val / 128) + (7 - r.val / 128)) / 8) ≤ d.val
        ∧ d.val < 128 * (7 - (8 * (7 - d.val / 128) + (7 - r.val / 128)) / 8) + 128
      omega
  · intro x hx
    have h0 : 128 * (7 - n.val % 8) + (x 0).val = r.val := (hx 0).symm
    have h1 : 128 * (7 - n.val / 8) + (x 1).val = d.val := (hx 1).symm
    have l0 : (x 0).val < 128 := (x 0).isLt
    have l1 : (x 1).val < 128 := (x 1).isLt
    have ex : x = ix2 ⟨(x 0).val, l0⟩ ⟨(x 1).val, l1⟩ := funext fun a => match a with | ⟨0, _⟩ => rfl | ⟨1, _⟩ => rfl
    rw [ex]
    refine (tile_at x5 x6 _ _ ⟨7 - n.val % 8, by omega⟩ ⟨7 - n.val / 8, by omega⟩ ⟨(x 0).val, l0⟩ ⟨(x 1).val, l1⟩).trans ?_
    have ea : (⟨128 * (7 - n.val % 8) + (x 0).val, by omega⟩ : Fin 1024) = r := Fin.ext h0
    have eg : (⟨128 * (7 - n.val / 8) + (x 1).val, by omega⟩ : Fin 1024) = d := Fin.ext h1
    have er : (⟨(x 0).val, l0⟩ : Fin 128) = ⟨r.val % 128, by omega⟩ := Fin.ext (by show (x 0).val = r.val % 128; omega)
    have ed : (⟨7 - n.val / 8, by omega⟩ : Fin 8) = ⟨d.val / 128, by omega⟩ := Fin.ext (by show 7 - n.val / 8 = d.val / 128; omega)
    have ek : ∀ k : Fin 128, (⟨128 * (7 - n.val % 8) + k.val, by omega⟩ : Fin 1024) = ⟨128 * (r.val / 128) + k.val, by omega⟩ :=
      fun k => Fin.ext (by show 128 * (7 - n.val % 8) + k.val = 128 * (r.val / 128) + k.val; omega)
    unfold gateAt
    simp only [ea, eg, er, ed, ek]

/-- What a point stores, at a row and a column. -/
theorem stored_at (r q : Fin 1024) : stored x0 x1 x2 x3 x4 x5 x6 x7 (ix2 r q)
    = x0 (ix2 r q) + ∑ d : Fin 1024, gateAt x0 x1 x2 x3 x4 x5 x6 r d * x7 (ix2 d q) := by
  have h : ∀ d, View.canon (tiles x0 x1 x2 x3 x4 x5 x6) (ix2 r d) = gateAt x0 x1 x2 x3 x4 x5 x6 r d := tiles_at x0 x1 x2 x3 x4 x5 x6 r
  rw [stored]
  generalize View.canon (tiles x0 x1 x2 x3 x4 x5 x6) = w at h ⊢
  pointwise [k0_pay2]
  simp only [h]

end

end Cert.Gate

end
-- ==== Proof.GateFinal.lean ====
/-
  The output array of the chunked gating: every grid point stores its own 1024 rows, which are eight whole chunks, and the
  points' blocks cover the array.
-/
module

public import proofs.«01_k».proof.Proof.GatePay

@[expose] public section

set_option maxRecDepth 16384

noncomputable section

namespace Cert.Gate

open Cert.Kernel4Ideal Cert.Kernel4Ideal.Gen Idealize.ShloMosaic Idealize.ShloMosaic.TcCoe Idealize.SL.Sem Cert.Moe Cert.Ffn
open Idealize.ShloMosaic.Pipeline (Dat)

/-- The result at a row and a column, of the arguments. -/
def layerAt (x : S16384x1024.Idx → EReal) (g : S1024.Idx → EReal) (W : S1024x2048.Idx → EReal) (lg lb : S1024.Idx → EReal)
    (ws : S8x128x128.Idx → EReal) (bs : S8x128.Idx → EReal) (wo : S1024x1024.Idx → EReal) (n : Fin 16384) (q : Fin 1024) : EReal :=
  tokenAt (fun n d => x (ix2 n d)) (fun d => g (ix1 d)) (fun e d => W (ix2 e d)) (fun d => lg (ix1 d)) (fun d => lb (ix1 d))
    (fun a r k => ws (ix3 a r k)) (fun a r => bs (ix2 a r)) (fun d q => wo (ix2 d q)) n q

variable (m : (ℓ : Loc nD τ sig) → Buf (Elt Ideal) ℓ) (c : Dev nD)

/-- Which blocks a grid point holds: its own 1024 rows, and all of everything else. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0, 0] ∧ win0_6.index t = ![0, 0]
    ∧ win0_7.index t = ![0, 0] ∧ win0_8.index t = ![t.val, 0] :=
  (by decide +kernel : ∀ t : Fin grid0.N, _)

/-- The input matrix as the kernel reads it is the argument: a change of format changes no value. -/
theorem win_eq : V m c main_v1 = m ((c : Thread nD τ).loc main_arg2) := by
  unfold_abbrev_sides
  after_results
  rfl
/-- The output matrix. -/
theorem wout_eq : V m c main_v5 = m ((c : Thread nD τ).loc main_arg7) := by
  unfold_abbrev_sides
  after_results
  rfl
/-- The first norm's weights, in one row. -/
theorem norm_eq (d : Fin 1024) : V m c main_v0 (ix2 0 d) = m ((c : Thread nD τ).loc main_arg1) (ix1 d) := by
  unfold_abbrev_sides
  after_results
  pointwise
/-- The layer norm's weights, in one row. -/
theorem scale_eq (d : Fin 1024) : V m c main_v2 (ix2 0 d) = m ((c : Thread nD τ).loc main_arg3) (ix1 d) := by
  unfold_abbrev_sides
  after_results
  pointwise
/-- The layer norm's offsets, in one row. -/
theorem offset_eq (d : Fin 1024) : V m c main_v3 (ix2 0 d) = m ((c : Thread nD τ).loc main_arg4) (ix1 d) := by
  unfold_abbrev_sides
  after_results
  pointwise
/-- The biases, transposed. -/
theorem bias_eq (r : Fin 128) (a : Fin 8) : V m c main_v4 (ix2 r a) = m ((c : Thread nD τ).loc main_arg6) (ix2 a r) := by
  unfold_abbrev_sides
  after_results
  pointwise

section
variable (t : Fin cfg0.N)

/-- The rows a point holds are its own 1024. -/
theorem x_at (r d : Fin 1024) (h : 1024 * t.val + r < 16384) :
    iblk m c 0 t (ix2 r d) = m ((c : Thread nD τ).loc main_arg0) (ix2 ⟨1024 * t.val + r, h⟩ d) := by
  blk_ext! [iblk, V_main_arg0 m c, idx t]
/-- The first norm's weights a point holds are all of them; -/
theorem g_at (d : Fin 1024) : iblk m c 1 t (ix2 0 d) = m ((c : Thread nD τ).loc main_arg1) (ix1 d) := by
  refine Eq.trans ?_ (norm_eq m c d)
  blk_ext! [iblk, idx t]
/-- so is the input matrix, -/
theorem win_at (e : Fin 1024) (d : Fin 2048) : iblk m c 2 t (ix2 e d) = m ((c : Thread nD τ).loc main_arg2) (ix2 e d) := by
  refine Eq.trans ?_ (congrFun (win_eq m c) (ix2 e d))
  blk_ext! [iblk, idx t]
/-- the layer norm's weights, -/
theorem lg_at (d : Fin 1024) : iblk m c 3 t (ix2 0 d) = m ((c : Thread nD τ).loc main_arg3) (ix1 d) := by
  refine Eq.trans ?_ (scale_eq m c d)
  blk_ext! [iblk, idx t]
/-- its offsets, -/
theorem lb_at (d : Fin 1024) : iblk m c 4 t (ix2 0 d) = m ((c : Thread nD τ).loc main_arg4) (ix1 d) := by
  refine Eq.trans ?_ (offset_eq m c d)
  blk_ext! [iblk, idx t]
/-- the spatial weights, -/
theorem ws_at (a : Fin 8) (r k : Fin 128) : iblk m c 5 t (ix3 a r k) = m ((c : Thread nD τ).loc main_arg5) (ix3 a r k) := by
  blk_ext! [iblk, V_main_arg5 m c, idx t]
/-- the biases, -/
theorem bs_at (r : Fin 128) (a : Fin 8) : iblk m c 6 t (ix2 r a) = m ((c : Thread nD τ).loc main_arg6) (ix2 a r) := by
  refine Eq.trans ?_ (bias_eq m c r a)
  blk_ext! [iblk, idx t]
/-- and the output matrix. -/
theorem wo_at (d q : Fin 1024) : iblk m c 7 t (ix2 d q) = m ((c : Thread nD τ).loc main_arg7) (ix2 d q) := by
  refine Eq.trans ?_ (congrFun (wout_eq m c) (ix2 d q))
  blk_ext! [iblk, idx t]

/-- What a point stores at its row `r` and a column is the result there. -/
theorem block_eq (r q : Fin 1024) (h : 1024 * t.val + r < 16384) :
    stored (iblk m c 0 t) (iblk m c 1 t) (iblk m c 2 t) (iblk m c 3 t) (iblk m c 4 t) (iblk m c 5 t) (iblk m c 6 t) (iblk m c 7 t) (ix2 r q)
      = layerAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) ⟨1024 * t.val + r, h⟩ q := by
  have hx : ∀ (r : Fin 1024) (h : 1024 * t.val + r < 16384), (fun e => iblk m c 0 t (ix2 r e))
      = fun e => m ((c : Thread nD τ).loc main_arg0) (ix2 ⟨1024 * t.val + r, h⟩ e) := fun r h => funext fun e => x_at m c t r e h
  have hk : ∀ k : Fin 128, 1024 * t.val + (128 * (r / 128) + k) < 16384 := fun k => by omega
  have ek : ∀ k : Fin 128, (⟨1024 * t.val + (128 * (r / 128) + k), hk k⟩ : Fin 16384) = ⟨128 * ((1024 * t.val + r) / 128) + k, by omega⟩ :=
    fun k => Fin.ext (by show 1024 * t.val + (128 * (r.val / 128) + k.val) = 128 * ((1024 * t.val + r.val) / 128) + k.val; omega)
  have er : (⟨r % 128, by omega⟩ : Fin 128) = ⟨(1024 * t.val + r) % 128, by omega⟩ :=
    Fin.ext (by show r.val % 128 = (1024 * t.val + r.val) % 128; omega)
  have hxk : ∀ k : Fin 128, (fun e => iblk m c 0 t (ix2 ⟨128 * (r / 128) + k, by omega⟩ e))
      = fun e => m ((c : Thread nD τ).loc main_arg0) (ix2 ⟨128 * ((1024 * t.val + r) / 128) + k, by omega⟩ e) :=
    fun k => (hx ⟨128 * (r / 128) + k, by omega⟩ (hk k)).trans (by rw [ek])
  rw [stored_at, x_at m c t r q h]
  unfold layerAt tokenAt
  refine congrArg₂ (fun a b : EReal => a + b) rfl (Finset.sum_congr rfl fun d _ => congrArg₂ (fun a b : EReal => a * b) ?_ (wo_at m c t d q))
  unfold gateAt tokenGate
  simp only [left_at, right_at, hx r h, hxk, er, g_at m c t, win_at m c t, lg_at m c t, lb_at m c t, ws_at m c t, bs_at m c t]

end

/-- The result as an array of the arguments. -/
def layer (x : S16384x1024.Idx → EReal) (g : S1024.Idx → EReal) (W : S1024x2048.Idx → EReal) (lg lb : S1024.Idx → EReal)
    (ws : S8x128x128.Idx → EReal) (bs : S8x128.Idx → EReal) (wo : S1024x1024.Idx → EReal) (i : S16384x1024.Idx) : EReal :=
  layerAt x g W lg lb ws bs wo (i 0) (i 1)

/-- The output array after the run is the result of the arguments. -/
theorem final : (dats m 0 c).arrAt 8 cfg0.N
    = (layer (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) : Vec Ideal S16384x1024 .f32) := by
  refine (dats m 0 c).arrAt_eq_of_covers 8 _ (by decide +kernel) fun t _ y => ?_
  rw [after0_8]
  have ht : t.val < 16 := t.isLt
  have hp := point m c t
  generalize outsAt0 m c t = o at hp ⊢
  have hy : ∀ y : S1024x1024.Idx, o y
      = layer (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (((cfg0.win 8).blk t).view.emb y) := by
    intro y
    rw [hp]
    idx_vars y
    rw [block_eq m c t y0 y1 (by omega), layer]
    congr 1
    · apply Fin.ext
      show _ = ((((cfg0.win 8).blk t).view.emb (ix2 y0 y1) 0 : Fin _) : ℕ)
      blk_simp [idx t]
      exact Nat.add_right_cancel_iff.mpr (Nat.mul_comm _ _)
    · apply Fin.ext
      show _ = ((((cfg0.win 8).blk t).view.emb (ix2 y0 y1) 1 : Fin _) : ℕ)
      blk_simp [idx t]
  exact hy y

end Cert.Gate

end
-- ==== Proof.GateRef.lean ====
/-
  The reference of the chunked gating in plain mathematics, at every row and column.
-/
module

public import proofs.«01_k».proof.Proof.GateSpec
public import proofs.«01_k».proof.Proof.FfnRef
public import proofs.«01_k».proof.Proof.ExpPay
public import proofs.«01_k».proof.Proof.Gen.Reference4Ideal.Read

@[expose] public section

set_option maxRecDepth 16384

noncomputable section

namespace Cert.Gate

open Cert.Reference4Ideal Cert.Reference4Ideal.Gen Cert.Reference4Ideal.Read Idealize.ShloMosaic Idealize.SL.Sem Cert.Moe Cert.Ffn

variable (x0 : FVec Ideal S16384x1024 .f32) (x1 : FVec Ideal S1024 .f32) (x2 : FVec Ideal S1024x2048 .f32) (x3 x4 : FVec Ideal S1024 .f32)
  (x5 : FVec Ideal S8x128x128 .f32) (x6 : FVec Ideal S8x128 .f32) (x7 : FVec Ideal S1024x1024 .f32)

/-- The rows, by sequence and position. -/
theorem row_ref (b : Fin 8) (t : Fin 2048) (d : Fin 1024) :
    val_main_v0 (F := Ideal) x0 (ix3 b t d) = x0 (ix2 ⟨2048 * b + t, by omega⟩ d) := by
  rw [val_main_v0_apply]
  refine congrArg x0 (funext fun a => match a with | ⟨0, _⟩ => Fin.ext ?_ | ⟨1, _⟩ => Fin.ext ?_)
  · show ((b.val * 2048 + t.val) * 1024 + d.val) / 1024 = 2048 * b.val + t.val
    omega
  · show ((b.val * 2048 + t.val) * 1024 + d.val) % 1024 = d.val
    omega

/-- The normed rows. -/
theorem normed_ref (b : Fin 8) (t : Fin 2048) (d : Fin 1024) : val_main_v13 (F := Ideal) x0 x1 (ix3 b t d)
    = normed (fun e => val_main_v0 (F := Ideal) x0 (ix3 b t e)) (fun e => x1 (ix1 e)) d := by
  have hz : val_main_cst (F := Ideal) (Shape.Idx.first h_S_) = 0 := by
    rw [val_main_cst_apply]; exact Ideal.ofBits_zero _
  have hsq : val_main_v2 (F := Ideal) x0 (ix2 b t)
      = ∑ e : Fin 1024, val_main_v0 (F := Ideal) x0 (ix3 b t e) * val_main_v0 (F := Ideal) x0 (ix3 b t e) := by
    rw [val_main_v2_apply, hz, zero_add]
    refine Finset.sum_congr rfl fun k _ => ?_
    rw [val_main_v1_apply]
    have e : idx_main_v2 (ix2 b t) k = ix3 b t k := funext fun a => match a with | ⟨0, _⟩ => rfl | ⟨1, _⟩ => rfl | ⟨2, _⟩ => rfl
    rw [e]
    rfl
  have hi : idx_main_v3 (idx_main_v9 (ix3 b t d)) = ix2 b t := funext fun a => match a with | ⟨0, _⟩ => rfl | ⟨1, _⟩ => rfl
  have hg : idx_main_v11 (idx_main_v12 (ix3 b t d)) = ix1 d := funext fun a => match a with | ⟨0, _⟩ => rfl
  rw [val_main_v13_apply, val_main_v10_apply, val_main_v9_apply, val_main_v8_apply, val_main_v7_apply, val_main_v5_apply, val_main_v3_apply,
    val_main_v4_apply, val_main_v6_apply, val_main_cst_0_apply, val_main_cst_1_apply, val_main_v12_apply, val_main_v11_apply, hi, hg, hsq]
  rfl

/-- The normed rows against the input matrix. -/
theorem dot_ref (b : Fin 8) (t : Fin 2048) (d : Fin 2048) : val_main_v14 (F := Ideal) x0 x1 x2 (ix3 b t d)
    = against (normed (fun e => val_main_v0 (F := Ideal) x0 (ix3 b t e)) (fun e => x1 (ix1 e))) (fun e => x2 (ix2 e d)) := by
  rw [val_main_v14_apply]
  unfold against
  refine Finset.sum_congr rfl fun e _ => ?_
  have hl : lidx_main_v14 (ix3 b t d) e = ix3 b t e := funext fun a => match a with | ⟨0, _⟩ => rfl | ⟨1, _⟩ => rfl | ⟨2, _⟩ => rfl
  have hr : ridx_main_v14 (ix3 b t d) e = ix2 e d := funext fun a => match a with | ⟨0, _⟩ => rfl | ⟨1, _⟩ => rfl
  rw [hl, hr, normed_ref]

/-- The hidden channels. -/
theorem hidden_ref (b : Fin 8) (t : Fin 2048) (d : Fin 2048) : val_main_v27 (F := Ideal) x0 x1 x2 (ix3 b t d)
    = hidden (fun e => val_main_v0 (F := Ideal) x0 (ix3 b t e)) (fun e => x1 (ix1 e)) (fun e => x2 (ix2 e d)) := by
  rw [val_main_v27_apply, val_main_v26_apply, val_main_v25_apply, val_main_v24_apply, val_main_v23_apply, val_main_v22_apply, val_main_v21_apply,
    val_main_v20_apply, val_main_v19_apply, val_main_v18_apply, val_main_v17_apply, val_main_v16_apply, val_main_v15_apply,
    val_main_cst_2_apply, val_main_cst_3_apply, val_main_cst_4_apply, val_main_cst_5_apply, dot_ref]
  unfold hidden
  generalize against (normed (fun e => val_main_v0 (F := Ideal) x0 (ix3 b t e)) (fun e => x1 (ix1 e))) (fun e => x2 (ix2 e d)) = z
  rw [gelu, ← one_word, mul_comm z (z * z)]
  rfl

/-- The half that is mixed, normalised. -/
theorem lnorm_ref (b : Fin 8) (t : Fin 2048) (d : Fin 1024) : val_main_v51 (F := Ideal) x0 x1 x2 x3 x4 (ix3 b t d)
    = lnorm (fun e => val_main_v29 (F := Ideal) x0 x1 x2 (ix3 b t e)) (fun e => x3 (ix1 e)) (fun e => x4 (ix1 e)) d := by
  have hz : val_main_cst_6 (F := Ideal) (Shape.Idx.first h_S_) = 0 := by
    rw [val_main_cst_6_apply]; exact Ideal.ofBits_zero _
  have hz' : val_main_cst_8 (F := Ideal) (Shape.Idx.first h_S_) = 0 := by
    rw [val_main_cst_8_apply]; exact Ideal.ofBits_zero _
  have hs : val_main_v30 (F := Ideal) x0 x1 x2 (ix2 b t) = ∑ e : Fin 1024, val_main_v29 (F := Ideal) x0 x1 x2 (ix3 b t e) := by
    rw [val_main_v30_apply, hz, zero_add]
    exact Finset.sum_congr rfl fun k _ => congrArg (val_main_v29 (F := Ideal) x0 x1 x2)
      (funext fun a => match a with | ⟨0, _⟩ => rfl | ⟨1, _⟩ => rfl | ⟨2, _⟩ => rfl)
  have hc : ∀ e : Fin 1024, val_main_v35 (F := Ideal) x0 x1 x2 (ix3 b t e)
      = centred (fun e => val_main_v29 (F := Ideal) x0 x1 x2 (ix3 b t e)) e := fun e => by
    have hi : idx_main_v31 (idx_main_v34 (ix3 b t e)) = ix2 b t := funext fun a => match a with | ⟨0, _⟩ => rfl | ⟨1, _⟩ => rfl
    rw [val_main_v35_apply, val_main_v34_apply, val_main_v33_apply, val_main_v31_apply, val_main_v32_apply, val_main_cst_7_apply, hi, hs]
    rfl
  have hq : val_main_v37 (F := Ideal) x0 x1 x2 (ix2 b t)
      = ∑ e : Fin 1024, centred (fun e => val_main_v29 (F := Ideal) x0 x1 x2 (ix3 b t e)) e
          * centred (fun e => val_main_v29 (F := Ideal) x0 x1 x2 (ix3 b t e)) e := by
    rw [val_main_v37_apply, hz', zero_add]
    refine Finset.sum_congr rfl fun k _ => ?_
    have e : idx_main_v37 (ix2 b t) k = ix3 b t k := funext fun a => match a with | ⟨0, _⟩ => rfl | ⟨1, _⟩ => rfl | ⟨2, _⟩ => rfl
    rw [val_main_v36_apply, e, hc]
    rfl
  have hi : idx_main_v38 (idx_main_v44 (ix3 b t d)) = ix2 b t := funext fun a => match a with | ⟨0, _⟩ => rfl | ⟨1, _⟩ => rfl
  have hg : idx_main_v46 (idx_main_v47 (ix3 b t d)) = ix1 d := funext fun a => match a with | ⟨0, _⟩ => rfl
  have hb : idx_main_v49 (idx_main_v50 (ix3 b t d)) = ix1 d := funext fun a => match a with | ⟨0, _⟩ => rfl
  rw [val_main_v51_apply, val_main_v48_apply, val_main_v45_apply, val_main_v44_apply, val_main_v43_apply, val_main_v42_apply, val_main_v40_apply,
    val_main_v38_apply, val_main_v39_apply, val_main_v41_apply, val_main_cst_9_apply, val_main_cst_10_apply, val_main_v47_apply,
    val_main_v46_apply, val_main_v50_apply, val_main_v49_apply, hi, hg, hb, hq, hc]
  rfl

/-- The mask that leaves out what is over the diagonal. -/
theorem tril_ref (r k : Fin 128) : val_main_v54 (F := Ideal) (ix2 r k) = if k ≤ r then 1 else 0 := by
  rw [val_main_v54_apply, val_main_call0_v4_apply, val_main_call0_v2_apply, val_main_call0_v0_apply, val_main_call0_v1_apply,
    val_main_call0_c_apply, val_main_call0_v3_apply, val_main_v53_apply, val_main_cst_11_apply, val_main_call0_v5_apply, val_main_call0_cst_apply]
  have hc : IntOp.cmpi CmpIPredicate.sge (IntOp.addi (BitVec.ofNat 32 r.val) 0#32) (BitVec.ofNat 32 k.val) = 1 ↔ k ≤ r := by
    rw [show IntOp.addi (BitVec.ofNat 32 r.val) 0#32 = BitVec.ofNat 32 r.val from BitVec.add_zero _]
    refine IntOp.cmpi_sge.trans ?_
    rw [toInt_small (show (r : ℕ) < 2147483648 by omega), toInt_small (show (k : ℕ) < 2147483648 by omega)]
    exact Int.ofNat_le
  unfold Scalar.select
  exact if_congr hc one_word (Ideal.ofBits_zero _)

/-- The spatial weights, those over the diagonal left out. -/
theorem lower_ref (g : Fin 8) (r k : Fin 128) : val_main_v57 (F := Ideal) x5 (ix3 g r k) = upTo r k (x5 (ix3 g r k)) := by
  have hi : idx_main_v55 (idx_main_v56 (ix3 g r k)) = ix2 r k := funext fun a => match a with | ⟨0, _⟩ => rfl | ⟨1, _⟩ => rfl
  rw [val_main_v57_apply, val_main_v56_apply, val_main_v55_apply, hi, tril_ref]
  exact upTo_mul r k _

/-- The mixed rows with their bias, by sequence and position. -/
theorem mixed_ref (b : Fin 8) (t : Fin 2048) (d : Fin 1024) : val_main_v64 (F := Ideal) x0 x1 x2 x3 x4 x5 x6 (ix3 b t d)
    = (∑ k : Fin 128, upTo ⟨t % 128, by omega⟩ k (x5 (ix3 ⟨d / 128, by omega⟩ ⟨t % 128, by omega⟩ k))
        * val_main_v51 (F := Ideal) x0 x1 x2 x3 x4 (ix3 b ⟨128 * (t / 128) + k, by omega⟩ d))
      + x6 (ix2 ⟨d / 128, by omega⟩ ⟨t % 128, by omega⟩) := by
  have hj : idx_main_v64 (ix3 b t d)
      = ix5 b ⟨t / 128, by omega⟩ ⟨t % 128, by omega⟩ ⟨d / 128, by omega⟩ ⟨d % 128, by omega⟩ := by
    refine funext fun a => match a with | ⟨0, _⟩ => Fin.ext ?_ | ⟨1, _⟩ => Fin.ext ?_ | ⟨2, _⟩ => Fin.ext ?_ | ⟨3, _⟩ => Fin.ext ?_ | ⟨4, _⟩ => Fin.ext ?_
    · show ((b.val * 2048 + t.val) * 1024 + d.val) / 2097152 = b.val
      omega
    · show ((b.val * 2048 + t.val) * 1024 + d.val) / 131072 % 16 = t.val / 128
      omega
    · show ((b.val * 2048 + t.val) * 1024 + d.val) / 1024 % 128 = t.val % 128
      omega
    · show ((b.val * 2048 + t.val) * 1024 + d.val) / 128 % 8 = d.val / 128
      omega
    · show ((b.val * 2048 + t.val) * 1024 + d.val) % 128 = d.val % 128
      omega
  rw [val_main_v64_apply, hj, val_main_v63_apply, val_main_v62_apply, val_main_v61_apply, val_main_v60_apply, val_main_v59_apply, val_main_v58_apply]
  refine congrArg₂ (fun a b : EReal => a + b) (Finset.sum_congr rfl fun k _ => ?_)
    (congrArg x6 (funext fun a => match a with | ⟨0, _⟩ => rfl | ⟨1, _⟩ => rfl))
  rw [mul_comm]
  refine congrArg₂ (fun a b : EReal => a * b) ?_ ?_
  · rw [← lower_ref]
    exact congrArg (val_main_v57 (F := Ideal) x5) (funext fun a => match a with | ⟨0, _⟩ => rfl | ⟨1, _⟩ => rfl | ⟨2, _⟩ => rfl)
  · rw [val_main_v52_apply]
    refine congrArg (val_main_v51 (F := Ideal) x0 x1 x2 x3 x4)
      (funext fun a => match a with | ⟨0, _⟩ => Fin.ext ?_ | ⟨1, _⟩ => Fin.ext ?_ | ⟨2, _⟩ => Fin.ext ?_)
    · show ((((b.val * 16 + t.val / 128) * 128 + k.val) * 8 + d.val / 128) * 128 + d.val % 128) / 2097152 = b.val
      omega
    · show ((((b.val * 16 + t.val / 128) * 128 + k.val) * 8 + d.val / 128) * 128 + d.val % 128) / 1024 % 2048 = 128 * (t.val / 128) + k.val
      omega
    · show ((((b.val * 16 + t.val / 128) * 128 + k.val) * 8 + d.val / 128) * 128 + d.val % 128) % 1024 = d.val
      omega

/-- The half that gates. -/
theorem left_ref (b : Fin 8) (t : Fin 2048) (d : Fin 1024) : val_main_v28 (F := Ideal) x0 x1 x2 (ix3 b t d)
    = hidden (fun e => x0 (ix2 ⟨2048 * b + t, by omega⟩ e)) (fun e => x1 (ix1 e)) (fun e => x2 (ix2 e ⟨d, by omega⟩)) := by
  have e : idx_main_v28 (ix3 b t d) = ix3 b t ⟨d, by omega⟩ :=
    funext fun a => match a with | ⟨0, _⟩ => rfl | ⟨1, _⟩ => rfl | ⟨2, _⟩ => rfl
  rw [val_main_v28_apply, e, hidden_ref]
  simp only [row_ref]

/-- The half that is mixed, before it is. -/
theorem right_ref (b : Fin 8) (t : Fin 2048) (d : Fin 1024) : val_main_v29 (F := Ideal) x0 x1 x2 (ix3 b t d)
    = hidden (fun e => x0 (ix2 ⟨2048 * b + t, by omega⟩ e)) (fun e => x1 (ix1 e)) (fun e => x2 (ix2 e ⟨1024 + d, by omega⟩)) := by
  have e : idx_main_v29 (ix3 b t d) = ix3 b t ⟨1024 + d, by omega⟩ :=
    funext fun a => match a with | ⟨0, _⟩ => rfl | ⟨1, _⟩ => rfl | ⟨2, _⟩ => rfl
  rw [val_main_v29_apply, e, hidden_ref]
  simp only [row_ref]

/-- The gated channels. -/
theorem gate_ref (b : Fin 8) (t : Fin 2048) (d : Fin 1024) : val_main_v65 (F := Ideal) x0 x1 x2 x3 x4 x5 x6 (ix3 b t d)
    = tokenGate (fun n d => x0 (ix2 n d)) (fun d => x1 (ix1 d)) (fun e d => x2 (ix2 e d)) (fun d => x3 (ix1 d)) (fun d => x4 (ix1 d))
        (fun a r k => x5 (ix3 a r k)) (fun a r => x6 (ix2 a r)) ⟨2048 * b + t, by omega⟩ d := by
  have er : (⟨t % 128, by omega⟩ : Fin 128) = ⟨(2048 * b.val + t) % 128, by omega⟩ :=
    Fin.ext (by show t.val % 128 = (2048 * b.val + t.val) % 128; omega)
  have ek : ∀ k : Fin 128, (⟨2048 * b.val + (128 * (t / 128) + k), by omega⟩ : Fin 16384)
      = ⟨128 * ((2048 * b.val + t) / 128) + k, by omega⟩ :=
    fun k => Fin.ext (by show 2048 * b.val + (128 * (t.val / 128) + k.val) = 128 * ((2048 * b.val + t.val) / 128) + k.val; omega)
  rw [val_main_v65_apply, left_ref, mixed_ref]
  simp only [lnorm_ref, right_ref, er, ek]
  rfl

/-- The reference's result at a row and a column. -/
theorem result_ref (n : Fin 16384) (q : Fin 1024) : val_main_v68 (F := Ideal) x0 x1 x2 x3 x4 x5 x6 x7 (ix2 n q)
    = tokenAt (fun n d => x0 (ix2 n d)) (fun d => x1 (ix1 d)) (fun e d => x2 (ix2 e d)) (fun d => x3 (ix1 d)) (fun d => x4 (ix1 d))
        (fun a r k => x5 (ix3 a r k)) (fun a r => x6 (ix2 a r)) (fun d q => x7 (ix2 d q)) n q := by
  have hj : idx_main_v68 (ix2 n q) = ix3 ⟨n / 2048, by omega⟩ ⟨n % 2048, by omega⟩ q := by
    refine funext fun a => match a with | ⟨0, _⟩ => Fin.ext ?_ | ⟨1, _⟩ => Fin.ext ?_ | ⟨2, _⟩ => Fin.ext ?_
    · show (n.val * 1024 + q.val) / 2097152 = n.val / 2048
      omega
    · show (n.val * 1024 + q.val) / 1024 % 2048 = n.val % 2048
      omega
    · show (n.val * 1024 + q.val) % 1024 = q.val
      omega
  have hn : (⟨2048 * (n / 2048) + n % 2048, by omega⟩ : Fin 16384) = n := Fin.ext (by show 2048 * (n.val / 2048) + n.val % 2048 = n.val; omega)
  rw [val_main_v68_apply, hj, val_main_v67_apply, row_ref, val_main_v66_apply]
  unfold tokenAt
  have hl : ∀ d : Fin 1024, lidx_main_v66 (ix3 ⟨n / 2048, by omega⟩ ⟨n % 2048, by omega⟩ q) d
      = ix3 ⟨n / 2048, by omega⟩ ⟨n % 2048, by omega⟩ d := fun d => funext fun a => match a with | ⟨0, _⟩ => rfl | ⟨1, _⟩ => rfl | ⟨2, _⟩ => rfl
  have hr : ∀ d : Fin 1024, ridx_main_v66 (ix3 ⟨n / 2048, by omega⟩ ⟨n % 2048, by omega⟩ q) d = ix2 d q :=
    fun d => funext fun a => match a with | ⟨0, _⟩ => rfl | ⟨1, _⟩ => rfl
  simp only [hl, hr, gate_ref, hn]
  rfl

end Cert.Gate

end
-- ==== Proof.Gate.lean ====
/-
  The kernel of the chunked gating, and the reference, end with equal outputs.
-/
module

public import proofs.«01_k».proof.Defs
public import proofs.«01_k».proof.Proof.GateFinal
public import proofs.«01_k».proof.Proof.GateRef

@[expose] public section

set_option maxRecDepth 16384

noncomputable section

namespace Cert.Gate

open Idealize.ShloMosaic Idealize.SL.Sem

/-- The reference ends with its arguments as they were, and every counter at zero. -/
theorem reference_frame : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run m ρ)

/-- The reference's result, as an array of the arguments, is the kernel's. -/
theorem reference_eq (x : Cert.Kernel4Ideal.S16384x1024.Idx → EReal) (g : Cert.Kernel4Ideal.S1024.Idx → EReal)
    (W : Cert.Kernel4Ideal.S1024x2048.Idx → EReal) (lg lb : Cert.Kernel4Ideal.S1024.Idx → EReal) (ws : Cert.Kernel4Ideal.S8x128x128.Idx → EReal)
    (bs : Cert.Kernel4Ideal.S8x128.Idx → EReal) (wo : Cert.Kernel4Ideal.S1024x1024.Idx → EReal) :
    Cert.Reference4Ideal.Read.val_main_v68 (F := Ideal) x g W lg lb ws bs wo = layer x g W lg lb ws bs wo := by
  funext i
  have e : i = ix2 (i 0) (i 1) := funext fun a => match a with | ⟨0, _⟩ => rfl | ⟨1, _⟩ => rfl
  rw [e]
  exact result_ref x g W lg lb ws bs wo (i 0) (i 1)

/-- From memories that agree on the arguments, kernel and reference end with the same output. -/
theorem algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => (Cert.Kernel4Ideal.Gen.dats m 0 c).arrAt 8 Cert.Kernel4Ideal.cfg0.N, ?_, ?_⟩
  · exact Cert.Kernel4Ideal.Value.run_blocks m ρ
  · refine (θ_run Cert.Reference4Ideal.defs _ _).mono (fun r h c => ⟨(h c).1.trans ?_, (h c).2⟩)
      (Cert.Reference4Ideal.Value.run m' ρ')
    obtain ⟨h0, h1, h2, h3, h4, h5, h6, h7⟩ := hagree c
    rw [Cert.Reference4Ideal.Read.val_main_v68_eq, h0, h1, h2, h3, h4, h5, h6, h7]
    exact (reference_eq _ _ _ _ _ _ _ _).trans (final m c).symm

end Cert.Gate

end
-- ==== Proof.ProjSpec.lean ====
/-
  The input projection of the attention layer in plain mathematics: the normed row against the matrix, its first columns gated,
  its queries and keys normed head by head. Also what makes the kernel's sums over heads the plain ones: real numbers stay real.
-/
module

public import proofs.«01_k».proof.Proof.FfnSpec
public import proofs.«01_k».proof.Proof.FfnRef

@[expose] public section

noncomputable section

namespace Cert.Proj

open Idealize.ShloMosaic Cert.Moe Cert.Ffn

/-- The small number under the roots. -/
def eps : EReal := Ideal.ofBits .f32 0x358637BD#32

/-- The mean of a head's squares. -/
def headMean (v : Fin 64 → EReal) : EReal := Ideal.div (∑ e, v e * v e) (Ideal.ofBits .f32 0x42800000#32)

/-- A head over the root of its mean square, times the head norm's weight. -/
def headNorm (v g : Fin 64 → EReal) (e : Fin 64) : EReal := v e * Ideal.rsqrt (headMean v + eps) * g e

/-- The normed row against a column of the matrix. -/
def proj (s g : Fin 1024 → EReal) (W : Fin 1024 → Fin 1792 → EReal) (j : Fin 1792) : EReal := against (normed s g) fun e => W e j

section
variable (z : Fin 1792 → EReal)

/-- A gated channel: a column, times the logistic of the column 512 further on. -/
def glu (q : Fin 512) : EReal := z ⟨q, by omega⟩ * Ideal.logistic (z ⟨512 + q, by omega⟩)

/-- A query channel: its head of 64 normed, scaled by an eighth. -/
def query (h : Fin 64 → EReal) (q : Fin 512) : EReal :=
  headNorm (fun e => z ⟨1024 + (64 * (q / 64) + e), by omega⟩) h ⟨q % 64, by omega⟩ * Ideal.ofBits .f32 0x3E000000#32

/-- A key channel: its head of 64 normed. -/
def key (h : Fin 64 → EReal) (q : Fin 128) : EReal :=
  headNorm (fun e => z ⟨1536 + (64 * (q / 64) + e), by omega⟩) h ⟨q % 64, by omega⟩

/-- A value channel. -/
def value (q : Fin 128) : EReal := z ⟨1664 + q, by omega⟩
end

/-- A key channel, by its head and its place in it. -/
theorem key_joined (z : Fin 1792 → EReal) (g : Fin 64 → EReal) (h : Fin 2) (e : Fin 64) : key z g ⟨64 * h.val + e.val, by omega⟩
    = headNorm (fun e => z ⟨1536 + (64 * h + e), by omega⟩) g e := by
  have hd : (64 * h.val + e.val) / 64 = h.val := by omega
  have hm : (64 * h.val + e.val) % 64 = e.val := by omega
  unfold key
  simp only [hd, hm]

/-- A value that is a real number. -/
def IsReal (x : EReal) : Prop := ∃ r : ℝ, x = r

theorem IsReal.mul {x y : EReal} : IsReal x → IsReal y → IsReal (x * y)
  | ⟨a, ha⟩, ⟨b, hb⟩ => ⟨a * b, by rw [ha, hb]; push_cast; rfl⟩

theorem IsReal.sum {ι : Type} (S : Finset ι) (f : ι → EReal) (h : ∀ i, IsReal (f i)) : IsReal (∑ i ∈ S, f i) := by
  classical
  induction S using Finset.induction_on with
  | empty => exact ⟨0, by simp⟩
  | insert a S ha ih =>
    obtain ⟨r, hr⟩ := ih
    obtain ⟨b, hb⟩ := h a
    exact ⟨b + r, by rw [Finset.sum_insert ha, hr, hb]; push_cast; rfl⟩

/-- A real number less itself is zero. -/
theorem IsReal.sub_self {x : EReal} : IsReal x → x - x = 0
  | ⟨a, ha⟩ => by rw [ha, ← EReal.coe_sub, _root_.sub_self, EReal.coe_zero]

/-- A value is one of the infinities or a real number. -/
theorem isReal_of_ne {x : EReal} (h₁ : x ≠ ⊤) (h₂ : x ≠ ⊥) : IsReal x := ⟨x.toReal, (EReal.coe_toReal h₁ h₂).symm⟩

/-- A square is not below zero. -/
theorem sq_nonneg' (x : EReal) : 0 ≤ x * x := by
  rcases le_total 0 x with h | h
  · exact mul_nonneg h h
  · rw [← neg_mul_neg]
    exact mul_nonneg (EReal.neg_nonneg.mpr h) (EReal.neg_nonneg.mpr h)

/-- The word of the row's width, as a value, -/
theorem width_word : Ideal.ofBits .f32 0x44800000#32 = ((1024 : ℝ) : EReal) := by
  simp [Ideal.ofBits, Ideal.ieee, -EReal.coe_mul]; norm_num

/-- of a head's width, -/
theorem head_word : Ideal.ofBits .f32 0x42800000#32 = ((64 : ℝ) : EReal) := by
  simp [Ideal.ofBits, Ideal.ieee, -EReal.coe_mul]; norm_num

/-- and of its inverse. -/
theorem inverse_word : Ideal.ofBits .f32 0x3C800000#32 = ((1 / 64 : ℝ) : EReal) := by
  simp [Ideal.ofBits, Ideal.ieee, -EReal.coe_mul]; norm_num

/-- The small number under the roots is a positive real. -/
theorem eps_pos : ∃ r : ℝ, 0 < r ∧ eps = r := by
  refine ⟨8796093 * ((2 : ℝ) ^ 43)⁻¹, by positivity, ?_⟩
  simp [eps, Ideal.ofBits, Ideal.ieee, -EReal.coe_mul]

/-- Over the root of a mean of squares and the small number, every entry is real: where a square is infinite the root's inverse is zero. -/
theorem isReal_over_root {n : ℕ} (s : Fin n → EReal) (c : ℝ) (hc : 0 < c) (d : Fin n) :
    IsReal (s d * Ideal.rsqrt (Ideal.div (∑ e, s e * s e) (c : EReal) + eps)) := by
  obtain ⟨ε, hε, he⟩ := eps_pos
  have h0 : 0 ≤ ∑ e, s e * s e := Finset.sum_nonneg fun e _ => sq_nonneg' (s e)
  rw [Ideal.div_coe hc.ne', he]
  by_cases ht : (∑ e, s e * s e) = ⊤
  · rw [ht, EReal.top_mul_coe_of_pos (by positivity), EReal.top_add_coe, Ideal.rsqrt_top, mul_zero]
    exact ⟨0, rfl⟩
  · obtain ⟨r, hr⟩ := isReal_of_ne ht (ne_of_gt (lt_of_lt_of_le EReal.bot_lt_zero h0))
    have hr0 : 0 ≤ r := by rw [hr] at h0; exact_mod_cast h0
    have hpos : 0 < r * (1 / c) + ε := by positivity
    have hs : IsReal (s d) := by
      have hle : s d * s d ≤ ∑ e, s e * s e := Finset.single_le_sum (f := fun e => s e * s e) (fun e _ => sq_nonneg' (s e)) (Finset.mem_univ d)
      refine isReal_of_ne (fun h => ht ?_) (fun h => ht ?_)
      · rw [h, EReal.top_mul_top] at hle; exact top_le_iff.mp hle
      · rw [h, EReal.bot_mul_bot] at hle; exact top_le_iff.mp hle
    refine hs.mul ?_
    rw [hr, ← EReal.coe_mul, ← EReal.coe_add, Ideal.rsqrt_coe, if_neg (not_lt.mpr hpos.le), if_neg hpos.ne']
    exact ⟨_, rfl⟩

/-- A normed row is real where the norm's weights are. -/
theorem normed_real (s g : Fin 1024 → EReal) (hg : ∀ d, IsReal (g d)) (d : Fin 1024) : IsReal (normed s g d) := by
  unfold normed meanSq
  rw [width_word]
  exact (isReal_over_root s 1024 (by norm_num) d).mul (hg d)

/-- So is its product with a real column. -/
theorem proj_real (s g : Fin 1024 → EReal) (W : Fin 1024 → Fin 1792 → EReal) (j : Fin 1792) (hg : ∀ d, IsReal (g d))
    (hW : ∀ e, IsReal (W e j)) : IsReal (proj s g W j) := by
  unfold proj against
  exact IsReal.sum _ _ fun e => (normed_real s g hg e).mul (hW e)

/-- A sum over all channels against a head's indicator is the sum over that head. -/
theorem head_sum {N : ℕ} (f : Fin N → EReal) (a : ℕ) (h : 64 * a + 64 ≤ N) :
    (∑ k, f k * (if k.val / 64 = a then 1 else 0)) = ∑ e : Fin 64, f ⟨64 * a + e, by omega⟩ := by
  simp only [mul_ite, mul_one, mul_zero]
  rw [← Finset.sum_filter]
  symm
  refine Finset.sum_bij (fun e _ => (⟨64 * a + e, by omega⟩ : Fin N)) (fun e _ => ?_) (fun e _ e' _ h => ?_) (fun k hk => ?_) (fun e _ => rfl)
  · exact Finset.mem_filter.mpr ⟨Finset.mem_univ _, by show (64 * a + e.val) / 64 = a; omega⟩
  · have := congrArg Fin.val h
    exact Fin.ext (by simp only at this; omega)
  · have hk' : k.val / 64 = a := (Finset.mem_filter.mp hk).2
    exact ⟨⟨k % 64, by omega⟩, Finset.mem_univ _, Fin.ext (by show 64 * a + k.val % 64 = k.val; omega)⟩

/-- The mean square of a channel's head, as the kernel takes it: all channels' squares against the head's indicator, and what rounding left of them. -/
theorem head_mean {N : ℕ} (v : Fin N → EReal) (hv : ∀ k, IsReal (v k)) (a : ℕ) (h : 64 * a + 64 ≤ N) :
    ((∑ k, v k * v k * (if k.val / 64 = a then 1 else 0)) + ∑ k, (v k * v k - v k * v k) * (if k.val / 64 = a then 1 else 0))
        * Ideal.ofBits .f32 0x3C800000#32
      = headMean fun e => v ⟨64 * a + e, by omega⟩ := by
  have hz : (∑ k, (v k * v k - v k * v k) * (if k.val / 64 = a then 1 else 0)) = (0 : EReal) :=
    Finset.sum_eq_zero fun k _ => by rw [((hv k).mul (hv k)).sub_self, zero_mul]
  rw [hz, add_zero, head_sum (fun k => v k * v k) a h, headMean, inverse_word, head_word, Ideal.div_coe (by norm_num)]

end Cert.Proj

end
-- ==== Proof.ProjPay.lean ====
/-
  What a grid point of the input projection stores, at a row and a column, in the extended reals.
-/
module

public import proofs.«01_k».proof.Proof.ProjSpec
public import proofs.«01_k».proof.Proof.Gen.Kernel5Ideal.Frame
public import Idealize.ShloMosaic.Lib.Pipeline.ReadBack

@[expose] public section

set_option maxRecDepth 16384

noncomputable section

namespace Cert.Proj

open Cert.Kernel5Ideal Cert.Kernel5Ideal.Gen Idealize.ShloMosaic Idealize.ShloMosaic.TcCoe Idealize.SL.Sem Cert.Moe Cert.Ffn

variable (x0 : Vec Ideal S1024x1024 .f32) (x1 : Vec Ideal S1x1024 .f32) (x2 : Vec Ideal S1024x1792 .bf16) (x3 : Vec Ideal S1x512 .f32)
  (x4 : Vec Ideal S1x128 .f32) (x5 : Vec Ideal S512x512 .bf16)

/-- A row of a block against a column of the matrix. -/
def projAt (r : Fin 1024) (j : Fin 1792) : EReal := proj (fun e => x0 (ix2 r e)) (fun e => x1 (ix2 0 e)) (fun e j => x2 (ix2 e j)) j

/-- The normed rows of a block against the matrix. -/
theorem proj_at (r : Fin 1024) (j : Fin 1792) : k0_pay4 (F := Ideal) x0 x1 x2 (ix2 r j) = projAt x0 x1 x2 r j := by
  pointwise [k0_pay4]
  rfl

/-- The rows a point holds against the matrix, as the body's last two stores read them. -/
theorem again : k0_pay10 (F := Ideal) x0 x1 x2 x3 x4 x5 = k0_pay4 x0 x1 x2 := by
  unfold k0_pay10
  rw [View.ld_unit_zero (by decide), View.ld_unit_zero (by decide), View.ld_unit_zero (by decide)]

/-- The body's stores, as functions of the blocks: the gated channels, -/
theorem stored_a : out0_6 x0 x1 x2 x3 x4 x5 = k0_pay5 (F := Ideal) x0 x1 x2 := by
  frame_out
/-- the queries, -/
theorem stored_q : out0_7 x0 x1 x2 x3 x4 x5
    = k0_pay1 (F := Ideal) (k0_pay7 x0 x1 x2) (k0_pay8 x3) (k0_pay9 x0 x1 x2 x5) := by
  frame_out
/-- the keys, -/
theorem stored_k : out0_8 x0 x1 x2 x3 x4 x5 = k0_pay2 (F := Ideal) (k0_pay4 x0 x1 x2) (k0_pay6 x5) x4 := by
  frame_out
  rw [again]
/-- and the values. -/
theorem stored_v : out0_9 x0 x1 x2 x3 x4 x5 = k0_pay3 (F := Ideal) (k0_pay4 x0 x1 x2) := by
  frame_out
  rw [again]

/-- A gated channel of a block. -/
theorem a_at (r : Fin 1024) (q : Fin 512) : out0_6 x0 x1 x2 x3 x4 x5 (ix2 r q)
    = glu (projAt x0 x1 x2 r) q := by
  rw [stored_a, glu, ← proj_at, ← proj_at]
  pointwise [k0_pay5]

/-- A value channel of a block. -/
theorem v_at (r : Fin 1024) (q : Fin 128) : out0_9 x0 x1 x2 x3 x4 x5 (ix2 r q)
    = value (projAt x0 x1 x2 r) q := by
  rw [stored_v, value, ← proj_at]
  pointwise [k0_pay3]

/-- A query column of a block, before its norm. -/
theorem q_pre_at (r : Fin 1024) (q : Fin 512) : k0_pay7 (F := Ideal) x0 x1 x2 (ix2 r q) = projAt x0 x1 x2 r ⟨1024 + q, by omega⟩ := by
  rw [← proj_at]
  pointwise [k0_pay7]

section
variable (hg : ∀ e, IsReal (x1 (ix2 0 e))) (hw : ∀ (e : Fin 1024) (j : Fin 1792), 1024 ≤ j.val → j.val < 1664 → IsReal (x2 (ix2 e j)))
  (hs : ∀ k c : Fin 512, x5 (ix2 k c) = if k.val / 64 = c.val / 64 then 1 else 0)
include hg hw hs

/-- The mean square of a query channel's head. -/
theorem q_mean_at (r : Fin 1024) (q : Fin 512) : k0_pay9 (F := Ideal) x0 x1 x2 x5 (ix2 r q)
    = headMean fun e => projAt x0 x1 x2 r ⟨1024 + (64 * (q / 64) + e), by omega⟩ := by
  have hr : ∀ k : Fin 512, IsReal (projAt x0 x1 x2 r ⟨1024 + k, by omega⟩) := fun k =>
    proj_real _ _ _ _ hg fun e => hw e _ (Nat.le_add_right _ _) (by show 1024 + k.val < 1664; omega)
  rw [← head_mean (fun k : Fin 512 => projAt x0 x1 x2 r ⟨1024 + k, by omega⟩) hr (q / 64) (by omega)]
  pointwise [k0_pay9, k0_pay6]
  simp only [q_pre_at, hs]

/-- A query channel of a block. -/
theorem q_at (h : Fin 64 → EReal) (r : Fin 1024) (q : Fin 512) (hq : x3 (ix2 0 q) = h ⟨q % 64, by omega⟩) : out0_7 x0 x1 x2 x3 x4 x5 (ix2 r q)
    = query (projAt x0 x1 x2 r) h q := by
  have hm := q_mean_at x0 x1 x2 x5 hg hw hs r q
  have hp := q_pre_at x0 x1 x2 r q
  have hi : (⟨1024 + (64 * (q / 64) + q % 64), by omega⟩ : Fin 1792) = ⟨1024 + q, by omega⟩ :=
    Fin.ext (by show 1024 + (64 * (q.val / 64) + q.val % 64) = 1024 + q.val; omega)
  rw [stored_q]
  unfold query headNorm
  beta_reduce
  rw [hi, ← hm, ← hp, ← hq]
  generalize k0_pay9 (F := Ideal) x0 x1 x2 x5 = v
  generalize k0_pay7 (F := Ideal) x0 x1 x2 = u
  pointwise [k0_pay1, k0_pay8]
  rfl

/-- A key channel of a block. -/
theorem k_at (h : Fin 64 → EReal) (r : Fin 1024) (q : Fin 128) (hq : x4 (ix2 0 q) = h ⟨q % 64, by omega⟩) : out0_8 x0 x1 x2 x3 x4 x5 (ix2 r q)
    = key (projAt x0 x1 x2 r) h q := by
  have hr : ∀ k : Fin 128, IsReal (projAt x0 x1 x2 r ⟨1536 + k, by omega⟩) := fun k =>
    proj_real _ _ _ _ hg fun e => hw e _ (by show 1024 ≤ 1536 + k.val; omega) (by show 1536 + k.val < 1664; omega)
  have hp : ∀ k : Fin 128, k0_pay4 (F := Ideal) x0 x1 x2 (ix2 r ⟨1536 + k, by omega⟩) = projAt x0 x1 x2 r ⟨1536 + k, by omega⟩ :=
    fun k => proj_at x0 x1 x2 r _
  have hi : (⟨1536 + (64 * (q / 64) + q % 64), by omega⟩ : Fin 1792) = ⟨1536 + q, by omega⟩ :=
    Fin.ext (by show 1536 + (64 * (q.val / 64) + q.val % 64) = 1536 + q.val; omega)
  have hs' : ∀ k : Fin 128, x5 (ix2 ⟨k, by omega⟩ ⟨q, by omega⟩) = if k.val / 64 = q.val / 64 then 1 else 0 :=
    fun k => hs ⟨k, by omega⟩ ⟨q, by omega⟩
  rw [stored_k]
  unfold key headNorm
  beta_reduce
  rw [hi, ← head_mean (fun k : Fin 128 => projAt x0 x1 x2 r ⟨1536 + k, by omega⟩) hr (q / 64) (by omega), ← hq]
  simp only [← hp, ← hs']
  generalize k0_pay4 (F := Ideal) x0 x1 x2 = u
  pointwise [k0_pay2, k0_pay6]
  rfl

end

end Cert.Proj

end
-- ==== Proof.ProjFinal.lean ====
/-
  The output arrays of the input projection: every grid point stores its own 1024 rows of each, and the points' blocks cover them.
-/
module

public import proofs.«01_k».proof.Proof.ProjPay

@[expose] public section

set_option maxRecDepth 16384

noncomputable section

namespace Cert.Proj

open Cert.Kernel5Ideal Cert.Kernel5Ideal.Gen Idealize.ShloMosaic Idealize.ShloMosaic.TcCoe Idealize.SL.Sem Cert.Moe Cert.Ffn
open Idealize.ShloMosaic.Pipeline (Dat)

/-- A token's columns, of the arguments. -/
def row (x : S16384x1024.Idx → EReal) (g : S1024.Idx → EReal) (W : S1024x1792.Idx → EReal) (n : Fin 16384) : Fin 1792 → EReal :=
  proj (fun e => x (ix2 n e)) (fun e => g (ix1 e)) (fun e j => W (ix2 e j))

/-- The gated channels as an array of the arguments, -/
def glus (x : S16384x1024.Idx → EReal) (g : S1024.Idx → EReal) (W : S1024x1792.Idx → EReal) (i : S16384x512.Idx) : EReal :=
  glu (row x g W (i 0)) (i 1)
/-- the queries, -/
def queries (x : S16384x1024.Idx → EReal) (g : S1024.Idx → EReal) (W : S1024x1792.Idx → EReal) (h : S64.Idx → EReal) (i : S16384x512.Idx) : EReal :=
  query (row x g W (i 0)) (fun e => h (ix1 e)) (i 1)
/-- the keys, -/
def keys (x : S16384x1024.Idx → EReal) (g : S1024.Idx → EReal) (W : S1024x1792.Idx → EReal) (h : S64.Idx → EReal) (i : S16384x128.Idx) : EReal :=
  key (row x g W (i 0)) (fun e => h (ix1 e)) (i 1)
/-- and the values. -/
def vals (x : S16384x1024.Idx → EReal) (g : S1024.Idx → EReal) (W : S1024x1792.Idx → EReal) (i : S16384x128.Idx) : EReal :=
  value (row x g W (i 0)) (i 1)

variable (m : (ℓ : Loc nD τ sig) → Buf (Elt Ideal) ℓ) (c : Dev nD)

/-- Which blocks a grid point holds: its own 1024 rows, and all of everything else. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

/-- The matrix as the kernel reads it is the argument: a change of format changes no value. -/
theorem w_eq : V m c main_v9 = m ((c : Thread nD τ).loc main_arg2) := by
  unfold_abbrev_sides
  simp only [hostOps0, hostOps0_1, hostOps0_2, List.flatten_cons, List.flatten_nil, List.append_nil, List.cons_append, List.nil_append]
  after_results
  rfl
/-- The norm's weights, in one row. -/
theorem norm_eq (d : Fin 1024) : V m c main_v8 (ix2 0 d) = m ((c : Thread nD τ).loc main_arg1) (ix1 d) := by
  unfold_abbrev_sides
  simp only [hostOps0, hostOps0_1, hostOps0_2, List.flatten_cons, List.flatten_nil, List.append_nil, List.cons_append, List.nil_append]
  after_results
  pointwise
/-- The query norm's weights, once for every head, in one row. -/
theorem qnorm_eq (q : Fin 512) : V m c main_v13 (ix2 0 q) = m ((c : Thread nD τ).loc main_arg3) (ix1 ⟨q % 64, by omega⟩) := by
  unfold_abbrev_sides
  simp only [hostOps0, hostOps0_1, hostOps0_2, List.flatten_cons, List.flatten_nil, List.append_nil, List.cons_append, List.nil_append]
  after_results
  pointwise
/-- The key norm's weights, once for every head, in one row. -/
theorem knorm_eq (q : Fin 128) : V m c main_v17 (ix2 0 q) = m ((c : Thread nD τ).loc main_arg4) (ix1 ⟨q % 64, by omega⟩) := by
  unfold_abbrev_sides
  simp only [hostOps0, hostOps0_1, hostOps0_2, List.flatten_cons, List.flatten_nil, List.append_nil, List.cons_append, List.nil_append]
  after_results
  pointwise

/-- The sign of a word. -/
def sign (w : BitVec 32) : BitVec 32 := if w = 0 then 0 else if w.msb then -1 else 1

/-- A channel's head, as the host computes it: the quotient rounded down. -/
def headWord (k : Fin 512) : BitVec 32 :=
  let q := IntOp.divsi .host (BitVec.ofNat 32 k) 64#32
  Scalar.select (IntOp.andi (IntOp.cmpi .ne (sign (BitVec.ofNat 32 k)) (sign 64#32))
    (IntOp.cmpi .ne (IntOp.remsi .host (BitVec.ofNat 32 k) 64#32) 0#32)) (IntOp.subi q 1#32) q

/-- It is the quotient. -/
theorem headWord_eq : ∀ k : Fin 512, headWord k = BitVec.ofNat 32 (k / 64) := by decide +kernel

/-- Every channel's head, as the kernel's host part leaves it. -/
theorem heads_eq (k : Fin 512) : V m c main_v1 (ix1 k) = headWord k := by
  unfold_abbrev_sides
  simp only [hostOps0, hostOps0_1, hostOps0_2, List.flatten_cons, List.flatten_nil, List.append_nil, List.cons_append, List.nil_append]
  after_results
  simp only [StableHlo.TRef.ofBuf_toBuf]
  rfl

/-- The matrix of heads is one where two channels' head words agree. -/
theorem same_word (k q : Fin 512) : V m c main_v7 (ix2 k q) = FloatOps.uitofp (F := Ideal) .bf16 (IntOp.cmpi .eq (headWord k) (headWord q)) := by
  rw [← heads_eq m c k, ← heads_eq m c q]
  unfold_abbrev_sides
  simp only [hostOps0, hostOps0_1, hostOps0_2, List.flatten_cons, List.flatten_nil, List.append_nil, List.cons_append, List.nil_append]
  after_results
  simp only [StableHlo.TRef.ofBuf_toBuf]
  rfl

/-- The matrix of heads: one for two channels of one head, zero for two of different heads. -/
theorem same_head (k q : Fin 512) : V m c main_v7 (ix2 k q) = if k.val / 64 = q.val / 64 then (1 : EReal) else 0 := by
  rw [same_word, headWord_eq, headWord_eq]
  have e : (BitVec.ofNat 32 (k.val / 64) = BitVec.ofNat 32 (q.val / 64)) ↔ k.val / 64 = q.val / 64 := by
    rw [← BitVec.toNat_inj, BitVec.toNat_ofNat, BitVec.toNat_ofNat, Nat.mod_eq_of_lt (by omega), Nat.mod_eq_of_lt (by omega)]
  show ((((BitVec.ofBool (BitVec.ofNat 32 (k.val / 64) == BitVec.ofNat 32 (q.val / 64))).toNat : ℝ)) : EReal) = _
  by_cases h : k.val / 64 = q.val / 64
  · rw [if_pos h, h]; simp
  · rw [if_neg h, beq_false_of_ne (fun he => h (e.mp he))]; simp

section
variable (t : Fin cfg0.N)

/-- The rows a point holds are its own 1024. -/
theorem x_at (r d : Fin 1024) (h : 1024 * t.val + r < 16384) :
    iblk m c 0 t (ix2 r d) = m ((c : Thread nD τ).loc main_arg0) (ix2 ⟨1024 * t.val + r, h⟩ d) := by
  blk_ext! [iblk, V_main_arg0 m c, idx t]
/-- The norm's weights a point holds are all of them; -/
theorem g_at (d : Fin 1024) : iblk m c 1 t (ix2 0 d) = m ((c : Thread nD τ).loc main_arg1) (ix1 d) := by
  refine Eq.trans ?_ (norm_eq m c d)
  blk_ext! [iblk, idx t]
/-- so is the matrix, -/
theorem w_at (e : Fin 1024) (j : Fin 1792) : iblk m c 2 t (ix2 e j) = m ((c : Thread nD τ).loc main_arg2) (ix2 e j) := by
  refine Eq.trans ?_ (congrFun (w_eq m c) (ix2 e j))
  blk_ext! [iblk, idx t]
/-- the query norm's weights, -/
theorem qg_at (q : Fin 512) : iblk m c 3 t (ix2 0 q) = m ((c : Thread nD τ).loc main_arg3) (ix1 ⟨q % 64, by omega⟩) := by
  refine Eq.trans ?_ (qnorm_eq m c q)
  blk_ext! [iblk, idx t]
/-- the key norm's weights, -/
theorem kg_at (q : Fin 128) : iblk m c 4 t (ix2 0 q) = m ((c : Thread nD τ).loc main_arg4) (ix1 ⟨q % 64, by omega⟩) := by
  refine Eq.trans ?_ (knorm_eq m c q)
  blk_ext! [iblk, idx t]
/-- and the matrix of heads. -/
theorem heads_at (k q : Fin 512) : iblk m c 5 t (ix2 k q) = if k.val / 64 = q.val / 64 then (1 : EReal) else 0 := by
  refine Eq.trans ?_ (same_head m c k q)
  blk_ext! [iblk, idx t]

/-- A row of a point's blocks against the matrix is the token's. -/
theorem row_at (r : Fin 1024) (h : 1024 * t.val + r < 16384) : projAt (iblk m c 0 t) (iblk m c 1 t) (iblk m c 2 t) r
    = row (m ((c : Thread nD τ).loc main_arg0)) (m ((c : Thread nD τ).loc main_arg1)) (m ((c : Thread nD τ).loc main_arg2))
        ⟨1024 * t.val + r, h⟩ := by
  funext j
  unfold projAt row
  simp only [x_at m c t r _ h, g_at m c t, w_at m c t]

end

/-- The array of gated channels after the run. -/
theorem final_a : (dats m 0 c).arrAt 6 cfg0.N
    = (glus (m ((c : Thread nD τ).loc main_arg0)) (m ((c : Thread nD τ).loc main_arg1)) (m ((c : Thread nD τ).loc main_arg2)) : Vec Ideal S16384x512 .f32) := by
  refine (dats m 0 c).arrAt_eq_of_covers 6 _ (by decide +kernel) fun t _ y => ?_
  rw [after0_6]
  have ht : t.val < 16 := t.isLt
  have hp := fun (r : Fin 1024) (q : Fin 512) => a_at (iblk m c 0 t) (iblk m c 1 t) (iblk m c 2 t) (iblk m c 3 t) (iblk m c 4 t) (iblk m c 5 t) r q
  generalize out0_6 (iblk m c 0 t) (iblk m c 1 t) (iblk m c 2 t) (iblk m c 3 t) (iblk m c 4 t) (iblk m c 5 t) = o at hp ⊢
  have hy : ∀ y : S1024x512.Idx, o y
      = glus (m ((c : Thread nD τ).loc main_arg0)) (m ((c : Thread nD τ).loc main_arg1)) (m ((c : Thread nD τ).loc main_arg2)) (((cfg0.win 6).blk t).view.emb y) := by
    intro y
    idx_vars y
    rw [hp, row_at m c t y0 (by omega), glus]
    congr 1
    · congr 1
      apply Fin.ext
      show _ = ((((cfg0.win 6).blk t).view.emb (ix2 y0 y1) 0 : Fin _) : ℕ)
      blk_simp [idx t]
      exact Nat.add_right_cancel_iff.mpr (Nat.mul_comm _ _)
    · apply Fin.ext
      show _ = ((((cfg0.win 6).blk t).view.emb (ix2 y0 y1) 1 : Fin _) : ℕ)
      blk_simp [idx t]
  exact hy y

/-- The array of values after the run. -/
theorem final_v : (dats m 0 c).arrAt 9 cfg0.N
    = (vals (m ((c : Thread nD τ).loc main_arg0)) (m ((c : Thread nD τ).loc main_arg1)) (m ((c : Thread nD τ).loc main_arg2)) : Vec Ideal S16384x128 .f32) := by
  refine (dats m 0 c).arrAt_eq_of_covers 9 _ (by decide +kernel) fun t _ y => ?_
  rw [after0_9]
  have ht : t.val < 16 := t.isLt
  have hp := fun (r : Fin 1024) (q : Fin 128) => v_at (iblk m c 0 t) (iblk m c 1 t) (iblk m c 2 t) (iblk m c 3 t) (iblk m c 4 t) (iblk m c 5 t) r q
  generalize out0_9 (iblk m c 0 t) (iblk m c 1 t) (iblk m c 2 t) (iblk m c 3 t) (iblk m c 4 t) (iblk m c 5 t) = o at hp ⊢
  have hy : ∀ y : S1024x128.Idx, o y
      = vals (m ((c : Thread nD τ).loc main_arg0)) (m ((c : Thread nD τ).loc main_arg1)) (m ((c : Thread nD τ).loc main_arg2)) (((cfg0.win 9).blk t).view.emb y) := by
    intro y
    idx_vars y
    rw [hp, row_at m c t y0 (by omega), vals]
    congr 1
    · congr 1
      apply Fin.ext
      show _ = ((((cfg0.win 9).blk t).view.emb (ix2 y0 y1) 0 : Fin _) : ℕ)
      blk_simp [idx t]
      exact Nat.add_right_cancel_iff.mpr (Nat.mul_comm _ _)
    · apply Fin.ext
      show _ = ((((cfg0.win 9).blk t).view.emb (ix2 y0 y1) 1 : Fin _) : ℕ)
      blk_simp [idx t]
  exact hy y

section
variable (hg : ∀ e : Fin 1024, IsReal (m ((c : Thread nD τ).loc main_arg1) (ix1 e)))
  (hw : ∀ (e : Fin 1024) (j : Fin 1792), 1024 ≤ j.val → j.val < 1664 → IsReal (m ((c : Thread nD τ).loc main_arg2) (ix2 e j)))
include hg hw

/-- The array of queries after the run. -/
theorem final_q : (dats m 0 c).arrAt 7 cfg0.N
    = (queries (m ((c : Thread nD τ).loc main_arg0)) (m ((c : Thread nD τ).loc main_arg1)) (m ((c : Thread nD τ).loc main_arg2))
        (m ((c : Thread nD τ).loc main_arg3)) : Vec Ideal S16384x512 .bf16) := by
  refine (dats m 0 c).arrAt_eq_of_covers 7 _ (by decide +kernel) fun t _ y => ?_
  rw [after0_7]
  have ht : t.val < 16 := t.isLt
  have hp := fun (r : Fin 1024) (q : Fin 512) => q_at (iblk m c 0 t) (iblk m c 1 t) (iblk m c 2 t) (iblk m c 3 t) (iblk m c 4 t) (iblk m c 5 t)
    (fun e => by rw [g_at m c t]; exact hg e) (fun e j h₁ h₂ => by rw [w_at m c t]; exact hw e j h₁ h₂) (heads_at m c t)
    (fun e => m ((c : Thread nD τ).loc main_arg3) (ix1 e)) r q (qg_at m c t q)
  generalize out0_7 (iblk m c 0 t) (iblk m c 1 t) (iblk m c 2 t) (iblk m c 3 t) (iblk m c 4 t) (iblk m c 5 t) = o at hp ⊢
  have hy : ∀ y : S1024x512.Idx, o y
      = queries (m ((c : Thread nD τ).loc main_arg0)) (m ((c : Thread nD τ).loc main_arg1)) (m ((c : Thread nD τ).loc main_arg2))
          (m ((c : Thread nD τ).loc main_arg3)) (((cfg0.win 7).blk t).view.emb y) := by
    intro y
    idx_vars y
    rw [hp, row_at m c t y0 (by omega), queries]
    congr 1
    · congr 1
      apply Fin.ext
      show _ = ((((cfg0.win 7).blk t).view.emb (ix2 y0 y1) 0 : Fin _) : ℕ)
      blk_simp [idx t]
      exact Nat.add_right_cancel_iff.mpr (Nat.mul_comm _ _)
    · apply Fin.ext
      show _ = ((((cfg0.win 7).blk t).view.emb (ix2 y0 y1) 1 : Fin _) : ℕ)
      blk_simp [idx t]
  exact hy y

/-- The array of keys after the run. -/
theorem final_k : (dats m 0 c).arrAt 8 cfg0.N
    = (keys (m ((c : Thread nD τ).loc main_arg0)) (m ((c : Thread nD τ).loc main_arg1)) (m ((c : Thread nD τ).loc main_arg2))
        (m ((c : Thread nD τ).loc main_arg4)) : Vec Ideal S16384x128 .f32) := by
  refine (dats m 0 c).arrAt_eq_of_covers 8 _ (by decide +kernel) fun t _ y => ?_
  rw [after0_8]
  have ht : t.val < 16 := t.isLt
  have hp := fun (r : Fin 1024) (q : Fin 128) => k_at (iblk m c 0 t) (iblk m c 1 t) (iblk m c 2 t) (iblk m c 3 t) (iblk m c 4 t) (iblk m c 5 t)
    (fun e => by rw [g_at m c t]; exact hg e) (fun e j h₁ h₂ => by rw [w_at m c t]; exact hw e j h₁ h₂) (heads_at m c t)
    (fun e => m ((c : Thread nD τ).loc main_arg4) (ix1 e)) r q (kg_at m c t q)
  generalize out0_8 (iblk m c 0 t) (iblk m c 1 t) (iblk m c 2 t) (iblk m c 3 t) (iblk m c 4 t) (iblk m c 5 t) = o at hp ⊢
  have hy : ∀ y : S1024x128.Idx, o y
      = keys (m ((c : Thread nD τ).loc main_arg0)) (m ((c : Thread nD τ).loc main_arg1)) (m ((c : Thread nD τ).loc main_arg2))
          (m ((c : Thread nD τ).loc main_arg4)) (((cfg0.win 8).blk t).view.emb y) := by
    intro y
    idx_vars y
    rw [hp, row_at m c t y0 (by omega), keys]
    congr 1
    · congr 1
      apply Fin.ext
      show _ = ((((cfg0.win 8).blk t).view.emb (ix2 y0 y1) 0 : Fin _) : ℕ)
      blk_simp [idx t]
      exact Nat.add_right_cancel_iff.mpr (Nat.mul_comm _ _)
    · apply Fin.ext
      show _ = ((((cfg0.win 8).blk t).view.emb (ix2 y0 y1) 1 : Fin _) : ℕ)
      blk_simp [idx t]
  exact hy y

end

end Cert.Proj

end
-- ==== Proof.ProjLast.lean ====
/-
  The last rows of every prompt sequence, cut out of the arrays of all rows.
-/
module

public import proofs.«01_k».proof.Proof.ProjSpec
public import proofs.«01_k».proof.Proof.Gen.Kernel5Ideal.Frame

@[expose] public section

set_option maxRecDepth 16384

noncomputable section

namespace Cert.Proj

open Cert.Kernel5Ideal Cert.Kernel5Ideal.Gen Idealize.ShloMosaic Idealize.SL.Sem

/-- The last thirty rows of every sequence. -/
def lastState (all : S16384x512.Idx → EReal) (i : S8x30x512.Idx) : EReal :=
  all (ix2 ⟨2048 * (i 0).val + (2018 + (i 1).val), by have h0 : (i 0).val < 8 := (i 0).isLt; have h1 : (i 1).val < 30 := (i 1).isLt; omega⟩ (i 2))

/-- The last 128 rows of every sequence, by their head. -/
def lastRows (all : S16384x128.Idx → EReal) (i : S8x128x2x64.Idx) : EReal :=
  all (ix2 ⟨2048 * (i 0).val + (1920 + (i 1).val), by have h0 : (i 0).val < 8 := (i 0).isLt; have h1 : (i 1).val < 128 := (i 1).isLt; omega⟩
    ⟨64 * (i 2).val + (i 3).val, by have h2 : (i 2).val < 2 := (i 2).isLt; have h3 : (i 3).val < 64 := (i 3).isLt; omega⟩)

/-- Cutting out the last thirty rows. -/
theorem cut_state (all : S16384x512.Idx → EReal) :
    extractStridedSlice S8x30x512 ![0, 2018, 0] (shapeCast S8x2048x512 all shapeCasts_S16384x512_S8x2048x512) slices_S8x2048x512_S8x30x512_0_2018_0
      = lastState all := by
  funext i
  idx_vars i
  refine (extractStridedSlice_apply ![0, 2018, 0] _ slices_S8x2048x512_S8x30x512_0_2018_0 _ (ix3 i0 (⟨2018 + i1.val, by omega⟩ : Fin 2048) i2) (fun a => match a with
    | ⟨0, _⟩ => by show i0.val = 0 + i0.val; omega
    | ⟨1, _⟩ => by show 2018 + i1.val = 2018 + i1.val; rfl
    | ⟨2, _⟩ => by show i2.val = 0 + i2.val; omega)).trans ?_
  refine Eq.trans ?_ (show all (ix2 ⟨2048 * i0.val + (2018 + i1.val), by omega⟩ i2) = lastState all (ix3 i0 i1 i2) from rfl)
  pointwise
  exact congrArg all (congrArg (fun n => ix2 n i2) (Fin.ext (by show i0.val * 2048 + (2018 + i1.val) = 2048 * i0.val + (2018 + i1.val); omega)))

/-- Cutting out the last 128 rows. -/
theorem cut_rows (all : S16384x128.Idx → EReal) :
    extractStridedSlice S8x128x2x64 ![0, 1920, 0, 0] (shapeCast S8x2048x2x64 all shapeCasts_S16384x128_S8x2048x2x64) slices_S8x2048x2x64_S8x128x2x64_0_1920_0_0
      = lastRows all := by
  funext i
  idx_vars i
  refine (extractStridedSlice_apply ![0, 1920, 0, 0] _ slices_S8x2048x2x64_S8x128x2x64_0_1920_0_0 _ (ix4 i0 (⟨1920 + i1.val, by omega⟩ : Fin 2048) i2 i3) (fun a => match a with
    | ⟨0, _⟩ => by show i0.val = 0 + i0.val; omega
    | ⟨1, _⟩ => by show 1920 + i1.val = 1920 + i1.val; rfl
    | ⟨2, _⟩ => by show i2.val = 0 + i2.val; omega
    | ⟨3, _⟩ => by show i3.val = 0 + i3.val; omega)).trans ?_
  refine Eq.trans ?_ (show all (ix2 ⟨2048 * i0.val + (1920 + i1.val), by omega⟩ ⟨64 * i2.val + i3.val, by omega⟩) = lastRows all (ix4 i0 i1 i2 i3) from rfl)
  pointwise
  exact congrArg all (congrArg₂ (fun n q => ix2 n q) (Fin.ext (by show i0.val * 2048 + (1920 + i1.val) = 2048 * i0.val + (1920 + i1.val); omega))
    (Fin.ext (by show i2.val * 64 + i3.val = 64 * i2.val + i3.val; omega)))

end Cert.Proj

end
-- ==== Proof.ProjRun.lean ====
/-
  The run of the input projection of the prompt with the host lines that cut out the last rows.
-/
module

public import proofs.«01_k».proof.Proof.ProjLast
public import Idealize.ShloMosaic.Lib.Pipeline.Value

@[expose] public section

set_option maxRecDepth 16384

noncomputable section

namespace Cert.Proj

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The buffers as the call leaves them. -/
def atExit : Valuation τ sig (Elt Ideal) :=
  Pipeline.withArrays spec0 c (V0 m c) fun w => (dats m 0 c).arrAt w cfg0.N

/-- The call's arrays are distinct. -/
theorem arrays_distinct : Function.Injective (Pipeline.arrRef spec0) := by
  intro a b
  exact (by decide : ∀ a b, Pipeline.arrRef spec0 a = Pipeline.arrRef spec0 b → a = b) a b

/-- The call leaves an output's array as its grid points made it. -/
theorem exit_out (w : Fin 10) : atExit m c (Proc.devRef .tc (Pipeline.arrRef spec0 w)) = (dats m 0 c).arrAt w cfg0.N :=
  Pipeline.withArrays_arr spec0 arrays_distinct c (V0 m c) _ w

/-- The host lines after the call cut out the last rows of the gated channels, -/
theorem tail_state : Pipeline.afterTail₀ cfgs (dats m) 0 (V0 m) [hostOps1] c main_v20 = lastState ((dats m 0 c).arrAt 6 cfg0.N) := by
  have e : atExit m c (Proc.devRef .tc main_v18_0) = _ := exit_out m c 6
  change StableHlo.after _ (atExit m c) _ = _
  generalize atExit m c = Wv at e ⊢
  simp only [hostOps1, List.flatten_cons, List.flatten_nil, List.append_nil, List.cons_append, List.nil_append]
  after_results
  rw [e]
  exact cut_state _
/-- of the keys, -/
theorem tail_keys : Pipeline.afterTail₀ cfgs (dats m) 0 (V0 m) [hostOps1] c main_v22 = lastRows ((dats m 0 c).arrAt 8 cfg0.N) := by
  have e : atExit m c (Proc.devRef .tc main_v18_2) = _ := exit_out m c 8
  change StableHlo.after _ (atExit m c) _ = _
  generalize atExit m c = Wv at e ⊢
  simp only [hostOps1, List.flatten_cons, List.flatten_nil, List.append_nil, List.cons_append, List.nil_append]
  after_results
  rw [e]
  exact cut_rows _
/-- and of the values. -/
theorem tail_vals : Pipeline.afterTail₀ cfgs (dats m) 0 (V0 m) [hostOps1] c main_v24 = lastRows ((dats m 0 c).arrAt 9 cfg0.N) := by
  have e : atExit m c (Proc.devRef .tc main_v18_3) = _ := exit_out m c 9
  change StableHlo.after _ (atExit m c) _ = _
  generalize atExit m c = Wv at e ⊢
  simp only [hostOps1, List.flatten_cons, List.flatten_nil, List.append_nil, List.cons_append, List.nil_append]
  after_results
  rw [e]
  exact cut_rows _

/-- The kernel ends with the call's four arrays, the last rows of three of them, and its arguments as they were. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v18_0) = (dats m 0 c).arrAt 6 cfg0.N
      ∧ r.2.mem ((c.tc : Thread nD τ).loc main_v18_1) = (dats m 0 c).arrAt 7 cfg0.N
      ∧ r.2.mem ((c.tc : Thread nD τ).loc main_v18_2) = (dats m 0 c).arrAt 8 cfg0.N
      ∧ r.2.mem ((c.tc : Thread nD τ).loc main_v18_3) = (dats m 0 c).arrAt 9 cfg0.N
      ∧ r.2.mem ((c.tc : Thread nD τ).loc main_v20) = lastState ((dats m 0 c).arrAt 6 cfg0.N)
      ∧ r.2.mem ((c.tc : Thread nD τ).loc main_v22) = lastRows ((dats m 0 c).arrAt 8 cfg0.N)
      ∧ r.2.mem ((c.tc : Thread nD τ).loc main_v24) = lastRows ((dats m 0 c).arrAt 9 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1 6, (h c).1 7, (h c).1 8, (h c).1 9,
      ((h c).2 main_v20 (Pipeline.mem_restRefs_of main_v20 (by decide) (by decide))).trans (tail_state m c),
      ((h c).2 main_v22 (Pipeline.mem_restRefs_of main_v22 (by decide) (by decide))).trans (tail_keys m c),
      ((h c).2 main_v24 (Pipeline.mem_restRefs_of main_v24 (by decide) (by decide))).trans (tail_vals m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Proj

end
-- ==== Proof.ProjRef.lean ====
/-
  The reference of the input projection in plain mathematics, at every token and channel.
-/
module

public import proofs.«01_k».proof.Proof.ProjSpec
public import proofs.«01_k».proof.Proof.ProjLast
public import proofs.«01_k».proof.Proof.FfnRef
public import proofs.«01_k».proof.Proof.Gen.Reference5Ideal.Read

@[expose] public section

set_option maxRecDepth 16384

noncomputable section

namespace Cert.Proj

open Cert.Reference5Ideal Cert.Reference5Ideal.Gen Cert.Reference5Ideal.Read Idealize.ShloMosaic Idealize.SL.Sem Cert.Moe Cert.Ffn

variable (x0 : FVec Ideal S16384x1024 .f32) (x1 : FVec Ideal S1024 .f32) (x2 : FVec Ideal S1024x1792 .f32) (x3 x4 : FVec Ideal S64 .f32)

/-- A token's columns: its normed row against the matrix. -/
def cols (n : Fin 16384) : Fin 1792 → EReal :=
  proj (fun e => x0 (ix2 n e)) (fun e => x1 (ix1 e)) (fun e j => x2 (ix2 e j))

/-- The token at a sequence and a position. -/
def tok (b : Fin 8) (t : Fin 2048) : Fin 16384 := ⟨2048 * b + t, by omega⟩

/-- A token is the one at its sequence and its position. -/
theorem tok_eq (n : Fin 16384) : tok ⟨n / 2048, by omega⟩ ⟨n % 2048, by omega⟩ = n :=
  Fin.ext (by show 2048 * (n.val / 2048) + n.val % 2048 = n.val; omega)

/-- The rows, by sequence and position. -/
theorem row_ref (b : Fin 8) (t : Fin 2048) (d : Fin 1024) : val_main_v0 (F := Ideal) x0 (ix3 b t d) = x0 (ix2 (tok b t) d) := by
  rw [val_main_v0_apply]
  refine congrArg x0 (funext fun a => match a with | ⟨0, _⟩ => Fin.ext ?_ | ⟨1, _⟩ => Fin.ext ?_)
  · show ((b.val * 2048 + t.val) * 1024 + d.val) / 1024 = 2048 * b.val + t.val
    omega
  · show ((b.val * 2048 + t.val) * 1024 + d.val) % 1024 = d.val
    omega

/-- The normed rows. -/
theorem normed_ref (b : Fin 8) (t : Fin 2048) (d : Fin 1024) : val_main_v13 (F := Ideal) x0 x1 (ix3 b t d)
    = normed (fun e => x0 (ix2 (tok b t) e)) (fun e => x1 (ix1 e)) d := by
  have hz : val_main_cst (F := Ideal) (Shape.Idx.first h_S_) = 0 := by
    rw [val_main_cst_apply]; exact Ideal.ofBits_zero _
  have hsq : val_main_v2 (F := Ideal) x0 (ix2 b t) = ∑ e : Fin 1024, x0 (ix2 (tok b t) e) * x0 (ix2 (tok b t) e) := by
    rw [val_main_v2_apply, hz, zero_add]
    refine Finset.sum_congr rfl fun k _ => ?_
    have e : idx_main_v2 (ix2 b t) k = ix3 b t k := funext fun a => match a with | ⟨0, _⟩ => rfl | ⟨1, _⟩ => rfl | ⟨2, _⟩ => rfl
    rw [val_main_v1_apply, e, row_ref]
    rfl
  have hi : idx_main_v3 (idx_main_v9 (ix3 b t d)) = ix2 b t := funext fun a => match a with | ⟨0, _⟩ => rfl | ⟨1, _⟩ => rfl
  have hg : idx_main_v11 (idx_main_v12 (ix3 b t d)) = ix1 d := funext fun a => match a with | ⟨0, _⟩ => rfl
  rw [val_main_v13_apply, val_main_v10_apply, val_main_v9_apply, val_main_v8_apply, val_main_v7_apply, val_main_v5_apply, val_main_v3_apply,
    val_main_v4_apply, val_main_v6_apply, val_main_cst_0_apply, val_main_cst_1_apply, val_main_v12_apply, val_main_v11_apply, hi, hg, hsq, row_ref]
  rfl

/-- The normed rows against the matrix. -/
theorem cols_ref (b : Fin 8) (t : Fin 2048) (j : Fin 1792) : val_main_v14 (F := Ideal) x0 x1 x2 (ix3 b t j) = cols x0 x1 x2 (tok b t) j := by
  rw [val_main_v14_apply]
  unfold cols proj against
  refine Finset.sum_congr rfl fun e _ => ?_
  have hl : lidx_main_v14 (ix3 b t j) e = ix3 b t e := funext fun a => match a with | ⟨0, _⟩ => rfl | ⟨1, _⟩ => rfl | ⟨2, _⟩ => rfl
  have hr : ridx_main_v14 (ix3 b t j) e = ix2 e j := funext fun a => match a with | ⟨0, _⟩ => rfl | ⟨1, _⟩ => rfl
  rw [hl, hr, normed_ref]

/-- The gated channels. -/
theorem glu_ref (b : Fin 8) (t : Fin 2048) (q : Fin 512) : val_main_v23 (F := Ideal) x0 x1 x2 (ix3 b t q) = glu (cols x0 x1 x2 (tok b t)) q := by
  have ha : idx_main_v15 (ix3 b t q) = ix3 b t ⟨q, by omega⟩ := funext fun a => match a with | ⟨0, _⟩ => rfl | ⟨1, _⟩ => rfl | ⟨2, _⟩ => rfl
  have hb : idx_main_v16 (ix3 b t q) = ix3 b t ⟨512 + q, by omega⟩ := funext fun a => match a with | ⟨0, _⟩ => rfl | ⟨1, _⟩ => rfl | ⟨2, _⟩ => rfl
  rw [val_main_v23_apply, val_main_v22_apply, val_main_v21_apply, val_main_v20_apply, val_main_v19_apply, val_main_v18_apply, val_main_v17_apply,
    val_main_v16_apply, val_main_v15_apply, val_main_cst_2_apply, val_main_cst_3_apply, ha, hb, cols_ref, cols_ref]
  unfold glu
  generalize cols x0 x1 x2 (tok b t) ⟨512 + q, _⟩ = h
  generalize cols x0 x1 x2 (tok b t) ⟨q, _⟩ = u
  show u * Ideal.div (Ideal.ofBits .f32 0x3F800000#32) (Ideal.ofBits .f32 0x3F800000#32 + Ideal.exp (-h)) = _
  rw [one_word]
  rfl

/-- A value channel, by its head. -/
theorem value_ref (b : Fin 8) (t : Fin 2048) (h : Fin 2) (e : Fin 64) : val_main_v29 (F := Ideal) x0 x1 x2 (ix4 b t h e)
    = cols x0 x1 x2 (tok b t) ⟨1664 + (64 * h + e), by omega⟩ := by
  rw [val_main_v29_apply, val_main_v28_apply, ← cols_ref]
  refine congrArg (val_main_v14 (F := Ideal) x0 x1 x2) (funext fun a => match a with | ⟨0, _⟩ => Fin.ext ?_ | ⟨1, _⟩ => Fin.ext ?_ | ⟨2, _⟩ => Fin.ext ?_)
  · show (((b.val * 2048 + t.val) * 2 + h.val) * 64 + e.val) / 262144 = b.val
    omega
  · show (((b.val * 2048 + t.val) * 2 + h.val) * 64 + e.val) / 128 % 2048 = t.val
    omega
  · show 1664 + (((b.val * 2048 + t.val) * 2 + h.val) * 64 + e.val) % 128 = 1664 + (64 * h.val + e.val)
    omega

/-- A key column, by its head. -/
theorem key_pre_ref (b : Fin 8) (t : Fin 2048) (h : Fin 2) (e : Fin 64) : val_main_v27 (F := Ideal) x0 x1 x2 (ix4 b t h e)
    = cols x0 x1 x2 (tok b t) ⟨1536 + (64 * h + e), by omega⟩ := by
  rw [val_main_v27_apply, val_main_v26_apply, ← cols_ref]
  refine congrArg (val_main_v14 (F := Ideal) x0 x1 x2) (funext fun a => match a with | ⟨0, _⟩ => Fin.ext ?_ | ⟨1, _⟩ => Fin.ext ?_ | ⟨2, _⟩ => Fin.ext ?_)
  · show (((b.val * 2048 + t.val) * 2 + h.val) * 64 + e.val) / 262144 = b.val
    omega
  · show (((b.val * 2048 + t.val) * 2 + h.val) * 64 + e.val) / 128 % 2048 = t.val
    omega
  · show 1536 + (((b.val * 2048 + t.val) * 2 + h.val) * 64 + e.val) % 128 = 1536 + (64 * h.val + e.val)
    omega

/-- A query column, by its head. -/
theorem query_pre_ref (b : Fin 8) (t : Fin 2048) (h : Fin 8) (e : Fin 64) : val_main_v25 (F := Ideal) x0 x1 x2 (ix4 b t h e)
    = cols x0 x1 x2 (tok b t) ⟨1024 + (64 * h + e), by omega⟩ := by
  rw [val_main_v25_apply, val_main_v24_apply, ← cols_ref]
  refine congrArg (val_main_v14 (F := Ideal) x0 x1 x2) (funext fun a => match a with | ⟨0, _⟩ => Fin.ext ?_ | ⟨1, _⟩ => Fin.ext ?_ | ⟨2, _⟩ => Fin.ext ?_)
  · show (((b.val * 2048 + t.val) * 8 + h.val) * 64 + e.val) / 1048576 = b.val
    omega
  · show (((b.val * 2048 + t.val) * 8 + h.val) * 64 + e.val) / 512 % 2048 = t.val
    omega
  · show 1024 + (((b.val * 2048 + t.val) * 8 + h.val) * 64 + e.val) % 512 = 1024 + (64 * h.val + e.val)
    omega

/-- The normed queries, by their head. -/
theorem query_ref (b : Fin 8) (t : Fin 2048) (h : Fin 8) (e : Fin 64) : val_main_v42 (F := Ideal) x0 x1 x2 x3 (ix4 b t h e)
    = headNorm (fun e => cols x0 x1 x2 (tok b t) ⟨1024 + (64 * h + e), by omega⟩) (fun e => x3 (ix1 e)) e := by
  have hz : val_main_cst_4 (F := Ideal) (Shape.Idx.first h_S_) = 0 := by
    rw [val_main_cst_4_apply]; exact Ideal.ofBits_zero _
  have hsq : val_main_v31 (F := Ideal) x0 x1 x2 (ix3 b t h)
      = ∑ e : Fin 64, cols x0 x1 x2 (tok b t) ⟨1024 + (64 * h + e), by omega⟩ * cols x0 x1 x2 (tok b t) ⟨1024 + (64 * h + e), by omega⟩ := by
    rw [val_main_v31_apply, hz, zero_add]
    refine Finset.sum_congr rfl fun k _ => ?_
    have e : idx_main_v31 (ix3 b t h) k = ix4 b t h k :=
      funext fun a => match a with | ⟨0, _⟩ => rfl | ⟨1, _⟩ => rfl | ⟨2, _⟩ => rfl | ⟨3, _⟩ => rfl
    rw [val_main_v30_apply, e, query_pre_ref]
    rfl
  have hi : idx_main_v32 (idx_main_v38 (ix4 b t h e)) = ix3 b t h := funext fun a => match a with | ⟨0, _⟩ => rfl | ⟨1, _⟩ => rfl | ⟨2, _⟩ => rfl
  have hg : idx_main_v40 (idx_main_v41 (ix4 b t h e)) = ix1 e := funext fun a => match a with | ⟨0, _⟩ => rfl
  rw [val_main_v42_apply, val_main_v39_apply, val_main_v38_apply, val_main_v37_apply, val_main_v36_apply, val_main_v34_apply,
    val_main_v32_apply, val_main_v33_apply, val_main_v35_apply, val_main_cst_5_apply, val_main_cst_6_apply, val_main_v41_apply,
    val_main_v40_apply, hi, hg, hsq, query_pre_ref]
  rfl

/-- The normed keys, by their head. -/
theorem key_ref (b : Fin 8) (t : Fin 2048) (h : Fin 2) (e : Fin 64) : val_main_v55 (F := Ideal) x0 x1 x2 x4 (ix4 b t h e)
    = headNorm (fun e => cols x0 x1 x2 (tok b t) ⟨1536 + (64 * h + e), by omega⟩) (fun e => x4 (ix1 e)) e := by
  have hz : val_main_cst_7 (F := Ideal) (Shape.Idx.first h_S_) = 0 := by
    rw [val_main_cst_7_apply]; exact Ideal.ofBits_zero _
  have hsq : val_main_v44 (F := Ideal) x0 x1 x2 (ix3 b t h)
      = ∑ e : Fin 64, cols x0 x1 x2 (tok b t) ⟨1536 + (64 * h + e), by omega⟩ * cols x0 x1 x2 (tok b t) ⟨1536 + (64 * h + e), by omega⟩ := by
    rw [val_main_v44_apply, hz, zero_add]
    refine Finset.sum_congr rfl fun k _ => ?_
    have e : idx_main_v44 (ix3 b t h) k = ix4 b t h k :=
      funext fun a => match a with | ⟨0, _⟩ => rfl | ⟨1, _⟩ => rfl | ⟨2, _⟩ => rfl | ⟨3, _⟩ => rfl
    rw [val_main_v43_apply, e, key_pre_ref]
    rfl
  have hi : idx_main_v45 (idx_main_v51 (ix4 b t h e)) = ix3 b t h := funext fun a => match a with | ⟨0, _⟩ => rfl | ⟨1, _⟩ => rfl | ⟨2, _⟩ => rfl
  have hg : idx_main_v53 (idx_main_v54 (ix4 b t h e)) = ix1 e := funext fun a => match a with | ⟨0, _⟩ => rfl
  rw [val_main_v55_apply, val_main_v52_apply, val_main_v51_apply, val_main_v50_apply, val_main_v49_apply, val_main_v47_apply,
    val_main_v45_apply, val_main_v46_apply, val_main_v48_apply, val_main_cst_8_apply, val_main_cst_9_apply, val_main_v54_apply,
    val_main_v53_apply, hi, hg, hsq, key_pre_ref]
  rfl

section
variable (n : Fin 16384)

/-- The gated channels' result. -/
theorem result_a (q : Fin 512) : val_main_v56 (F := Ideal) x0 x1 x2 (ix2 n q) = glu (cols x0 x1 x2 n) q := by
  have hi : idx_main_v56 (ix2 n q) = ix3 ⟨n / 2048, by omega⟩ ⟨n % 2048, by omega⟩ q :=
    funext fun a => match a with
      | ⟨0, _⟩ => Fin.ext (by show (n.val * 512 + q.val) / 1048576 = n.val / 2048; omega)
      | ⟨1, _⟩ => Fin.ext (by show (n.val * 512 + q.val) / 512 % 2048 = n.val % 2048; omega)
      | ⟨2, _⟩ => Fin.ext (by show (n.val * 512 + q.val) % 512 = q.val; omega)
  rw [val_main_v56_apply, hi, glu_ref, tok_eq]

/-- The queries' result. -/
theorem result_q (q : Fin 512) : val_main_v60 (F := Ideal) x0 x1 x2 x3 (ix2 n q) = query (cols x0 x1 x2 n) (fun e => x3 (ix1 e)) q := by
  have hi : idx_main_v59 (ix2 n q) = ix4 ⟨n / 2048, by omega⟩ ⟨n % 2048, by omega⟩ ⟨q / 64, by omega⟩ ⟨q % 64, by omega⟩ :=
    funext fun a => match a with
      | ⟨0, _⟩ => Fin.ext (by show (n.val * 512 + q.val) / 1048576 = n.val / 2048; omega)
      | ⟨1, _⟩ => Fin.ext (by show (n.val * 512 + q.val) / 512 % 2048 = n.val % 2048; omega)
      | ⟨2, _⟩ => Fin.ext (by show (n.val * 512 + q.val) / 64 % 8 = q.val / 64; omega)
      | ⟨3, _⟩ => Fin.ext (by show (n.val * 512 + q.val) % 64 = q.val % 64; omega)
  rw [val_main_v60_apply, val_main_v59_apply, hi, val_main_v58_apply, val_main_v57_apply, val_main_cst_10_apply, query_ref, tok_eq]
  rfl

/-- The keys' result. -/
theorem result_k (q : Fin 128) : val_main_v61 (F := Ideal) x0 x1 x2 x4 (ix2 n q) = key (cols x0 x1 x2 n) (fun e => x4 (ix1 e)) q := by
  have hi : idx_main_v61 (ix2 n q) = ix4 ⟨n / 2048, by omega⟩ ⟨n % 2048, by omega⟩ ⟨q / 64, by omega⟩ ⟨q % 64, by omega⟩ :=
    funext fun a => match a with
      | ⟨0, _⟩ => Fin.ext (by show (n.val * 128 + q.val) / 262144 = n.val / 2048; omega)
      | ⟨1, _⟩ => Fin.ext (by show (n.val * 128 + q.val) / 128 % 2048 = n.val % 2048; omega)
      | ⟨2, _⟩ => Fin.ext (by show (n.val * 128 + q.val) / 64 % 2 = q.val / 64; omega)
      | ⟨3, _⟩ => Fin.ext (by show (n.val * 128 + q.val) % 64 = q.val % 64; omega)
  rw [val_main_v61_apply, hi, key_ref, tok_eq]
  rfl

/-- The values' result. -/
theorem result_v (q : Fin 128) : val_main_v62 (F := Ideal) x0 x1 x2 (ix2 n q) = value (cols x0 x1 x2 n) q := by
  have hi : idx_main_v62 (ix2 n q) = ix4 ⟨n / 2048, by omega⟩ ⟨n % 2048, by omega⟩ ⟨q / 64, by omega⟩ ⟨q % 64, by omega⟩ :=
    funext fun a => match a with
      | ⟨0, _⟩ => Fin.ext (by show (n.val * 128 + q.val) / 262144 = n.val / 2048; omega)
      | ⟨1, _⟩ => Fin.ext (by show (n.val * 128 + q.val) / 128 % 2048 = n.val % 2048; omega)
      | ⟨2, _⟩ => Fin.ext (by show (n.val * 128 + q.val) / 64 % 2 = q.val / 64; omega)
      | ⟨3, _⟩ => Fin.ext (by show (n.val * 128 + q.val) % 64 = q.val % 64; omega)
  rw [val_main_v62_apply, hi, value_ref, tok_eq]
  unfold value
  exact congrArg (cols x0 x1 x2 n) (Fin.ext (by show 1664 + (64 * (q.val / 64) + q.val % 64) = 1664 + q.val; omega))

end

/-- The last thirty rows of gated channels of every sequence. -/
theorem result_state (i : S8x30x512.Idx) : val_main_v63 (F := Ideal) x0 x1 x2 i
    = lastState (fun i => glu (cols x0 x1 x2 (i 0)) (i 1)) i := by
  idx_vars i
  rw [val_main_v63_apply]
  refine Eq.trans ?_ (glu_ref x0 x1 x2 i0 (⟨2018 + i1.val, by omega⟩ : Fin 2048) i2)
  exact congrArg _ (funext fun a => match a with | ⟨0, _⟩ => rfl | ⟨1, _⟩ => rfl | ⟨2, _⟩ => rfl)

/-- The last 128 rows of keys of every sequence, -/
theorem result_last_k (i : S8x128x2x64.Idx) : val_main_v64 (F := Ideal) x0 x1 x2 x4 i
    = lastRows (fun i => key (cols x0 x1 x2 (i 0)) (fun e => x4 (ix1 e)) (i 1)) i := by
  idx_vars i
  rw [val_main_v64_apply]
  refine Eq.trans ?_ (key_joined (cols x0 x1 x2 (tok i0 (⟨1920 + i1.val, by omega⟩ : Fin 2048))) (fun e => x4 (ix1 e)) i2 i3).symm
  refine Eq.trans ?_ (key_ref x0 x1 x2 x4 i0 (⟨1920 + i1.val, by omega⟩ : Fin 2048) i2 i3)
  exact congrArg _ (funext fun a => match a with | ⟨0, _⟩ => rfl | ⟨1, _⟩ => rfl | ⟨2, _⟩ => rfl | ⟨3, _⟩ => rfl)

/-- and of values. -/
theorem result_last_v (i : S8x128x2x64.Idx) : val_main_v65 (F := Ideal) x0 x1 x2 i
    = lastRows (fun i => value (cols x0 x1 x2 (i 0)) (i 1)) i := by
  idx_vars i
  rw [val_main_v65_apply]
  refine Eq.trans ?_ (value_ref x0 x1 x2 i0 (⟨1920 + i1.val, by omega⟩ : Fin 2048) i2 i3)
  exact congrArg _ (funext fun a => match a with | ⟨0, _⟩ => rfl | ⟨1, _⟩ => rfl | ⟨2, _⟩ => rfl | ⟨3, _⟩ => rfl)

end Cert.Proj

end
-- ==== Proof.Proj.lean ====
/-
  The kernel of the input projection, and the reference, end with equal outputs.
-/
module

public import proofs.«01_k».proof.Defs
public import proofs.«01_k».proof.Proof.Gen.Pre_finite
public import proofs.«01_k».proof.Proof.ProjFinal
public import proofs.«01_k».proof.Proof.ProjRun
public import proofs.«01_k».proof.Proof.ProjRef

@[expose] public section

set_option maxRecDepth 16384

noncomputable section

namespace Cert.Proj

open Idealize.ShloMosaic Idealize.SL.Sem

/-- A value whose magnitude is below infinity is a real number. -/
theorem isReal_of_abs_lt {x : EReal} (h : max x (-x) < ⊤) : IsReal x :=
  isReal_of_ne (fun e => absurd h (by rw [e]; simp)) (fun e => absurd h (by rw [e]; simp))

/-- The word of infinity. -/
theorem infinity_word : Ideal.ofBits .f32 0x7F800000#32 = ⊤ := by simp [Ideal.ofBits, Ideal.ieee]

section
open Cert.Pre_finite
variable [Facts] (x : FVec Ideal S16384x1024 .f32) (g : FVec Ideal S1024 .f32) (W : FVec Ideal S1024x1792 .f32) (hq hk : FVec Ideal S64 .f32)

/-- What the precondition compares with infinity, row by row: the norm's weight, then the row's columns of queries and keys. -/
def table : FVec Ideal S1024x641 .f32 :=
  concatenate S1024x641 1 [⟨S1024x1, broadcastInDim S1024x1 ![0] Facts.bcast_S1024_S1024x1_0 g⟩,
    ⟨S1024x640, extractStridedSlice S1024x640 ![0, 1024] W Facts.slices_S1024x1792_S1024x640_0_1024⟩]
    Facts.concatenates_S1024x1_S1024x640_S1024x641_d1

variable (h : Cert.Pre_finite.fn (F := Ideal) x g W hq hk = fun _ => 1#1)
include h

/-- Under the precondition all of it is real. -/
theorem table_real (e : Fin 1024) (j : Fin 641) : IsReal (table g W (ix2 e j)) := by
  have key : BitVec.ofBool (decide (max (table g W (ix2 e j)) (-table g W (ix2 e j)) < Ideal.ofBits .f32 0x7F800000#32)) = 1#1 :=
    congrFun h (ix2 e j)
  rw [infinity_word] at key
  refine isReal_of_abs_lt (Classical.byContradiction fun hn => ?_)
  rw [decide_eq_false hn] at key
  exact absurd key (by decide)

/-- So the norm's weights are real numbers, -/
theorem weights_real (e : Fin 1024) : IsReal (g (ix1 e)) := by
  have hr := table_real x g W hq hk h e 0
  unfold table at hr
  rw [concatenate_pair_apply_left (t := S1024x641) (s₁ := S1024x1) (s₂ := S1024x640) 1 _ _ _ (ix2 e (0 : Fin 641)) rfl (ix2 e (0 : Fin 1)) (fun b => match b with | ⟨0, _⟩ => rfl | ⟨1, _⟩ => rfl),
    broadcastInDim_apply _ _ g _ (ix1 e) (fun a => match a with | ⟨0, _⟩ => rfl)] at hr
  exact hr

/-- and so are the matrix's columns of queries and keys. -/
theorem columns_real (e : Fin 1024) (j : Fin 1792) (h₁ : 1024 ≤ j.val) (h₂ : j.val < 1664) : IsReal (W (ix2 e j)) := by
  have hr := table_real x g W hq hk h e ⟨1 + (j.val - 1024), by omega⟩
  unfold table at hr
  rw [concatenate_pair_apply_right (t := S1024x641) (s₁ := S1024x1) (s₂ := S1024x640) 1 _ _ _ (ix2 e (⟨1 + (j.val - 1024), by omega⟩ : Fin 641)) rfl rfl (ix2 e (⟨j.val - 1024, by omega⟩ : Fin 640))
      (fun b hb => match b, hb with | ⟨0, _⟩, _ => rfl | ⟨1, _⟩, hb => absurd rfl hb) (Nat.add_comm _ _),
    extractStridedSlice_apply _ W _ _ (ix2 e j) (fun a => match a with
      | ⟨0, _⟩ => (Nat.zero_add _).symm
      | ⟨1, _⟩ => by show j.val = 1024 + (j.val - 1024); omega)] at hr
  exact hr
end

/-- The reference ends with its arguments as they were, and every counter at zero, -/
theorem reference_frame : Cert.quiescent_Reference5Ideal (hReference5Ideal := Cert.Reference5Ideal.Gen.facts) := fun m ρ _ =>
  (θ_run Cert.Reference5Ideal.defs _ _).mono (fun r h => ⟨fun c => (h c).2.2.2.2.2.2.2, sem_eq_zero_of_no_sems (by decide) r.2⟩)
    (Cert.Reference5Ideal.Value.run m ρ)

/-- in particular under the precondition. -/
theorem reference_frame_pre : Cert.quiescent_Reference5Ideal_pre_finite (hReference5Ideal := Cert.Reference5Ideal.Gen.facts)
    (hPre_finite := Cert.Pre_finite.Gen.facts) := fun m ρ _ => reference_frame m ρ trivial

section
variable (x : Cert.Kernel5Ideal.S16384x1024.Idx → EReal) (g : Cert.Kernel5Ideal.S1024.Idx → EReal)
  (W : Cert.Kernel5Ideal.S1024x1792.Idx → EReal) (h : Cert.Kernel5Ideal.S64.Idx → EReal)

/-- The reference's gated channels, as an array of the arguments, are the kernel's; -/
theorem reference_a : Cert.Reference5Ideal.Read.val_main_v56 (F := Ideal) x g W = glus x g W := by
  funext i
  have e : i = ix2 (i 0) (i 1) := funext fun a => match a with | ⟨0, _⟩ => rfl | ⟨1, _⟩ => rfl
  rw [e]
  exact result_a x g W (i 0) (i 1)
/-- so are its queries, -/
theorem reference_q : Cert.Reference5Ideal.Read.val_main_v60 (F := Ideal) x g W h = queries x g W h := by
  funext i
  have e : i = ix2 (i 0) (i 1) := funext fun a => match a with | ⟨0, _⟩ => rfl | ⟨1, _⟩ => rfl
  rw [e]
  exact result_q x g W h (i 0) (i 1)
/-- its keys, -/
theorem reference_k : Cert.Reference5Ideal.Read.val_main_v61 (F := Ideal) x g W h = keys x g W h := by
  funext i
  have e : i = ix2 (i 0) (i 1) := funext fun a => match a with | ⟨0, _⟩ => rfl | ⟨1, _⟩ => rfl
  rw [e]
  exact result_k x g W h (i 0) (i 1)
/-- and its values. -/
theorem reference_v : Cert.Reference5Ideal.Read.val_main_v62 (F := Ideal) x g W = vals x g W := by
  funext i
  have e : i = ix2 (i 0) (i 1) := funext fun a => match a with | ⟨0, _⟩ => rfl | ⟨1, _⟩ => rfl
  rw [e]
  exact result_v x g W (i 0) (i 1)
/-- So are the reference's last rows of gated channels, -/
theorem reference_state : Cert.Reference5Ideal.Read.val_main_v63 (F := Ideal) x g W = lastState (glus x g W) :=
  funext fun i => result_state x g W i
/-- of keys, -/
theorem reference_last_k : Cert.Reference5Ideal.Read.val_main_v64 (F := Ideal) x g W h = lastRows (keys x g W h) :=
  funext fun i => result_last_k x g W h i
/-- and of values. -/
theorem reference_last_v : Cert.Reference5Ideal.Read.val_main_v65 (F := Ideal) x g W = lastRows (vals x g W) :=
  funext fun i => result_last_v x g W i
end

/-- From memories that agree on the arguments, and finite weights of the norm and columns of queries and keys, kernel and
    reference end with the same four arrays, and the same last rows of three of them. -/
theorem algebraic : Cert.algebraic_Kernel5Ideal_Reference5Ideal_pre_finite (hKernel5Ideal := Cert.Kernel5Ideal.Gen.facts)
    (hReference5Ideal := Cert.Reference5Ideal.Gen.facts) (hPre_finite := Cert.Pre_finite.Gen.facts) := by
  intro m ρ m' ρ' hpre hagree
  refine ⟨_, _, _, _, _, _, _, kernel_run m ρ, ?_⟩
  refine (θ_run Cert.Reference5Ideal.defs _ _).mono (fun r h c => ?_) (Cert.Reference5Ideal.Value.run m' ρ')
  obtain ⟨h0, h1, h2, h3, h4⟩ := hagree c
  have hg := weights_real _ _ _ _ _ (hpre c)
  have hw := columns_real _ _ _ _ _ (hpre c)
  refine ⟨(h c).1.trans ?_, (h c).2.1.trans ?_, (h c).2.2.1.trans ?_, (h c).2.2.2.1.trans ?_, (h c).2.2.2.2.1.trans ?_,
    (h c).2.2.2.2.2.1.trans ?_, (h c).2.2.2.2.2.2.1.trans ?_, (h c).2.2.2.2.2.2.2⟩
  · refine (Cert.Reference5Ideal.Read.val_main_v56_eq _ _ _).trans ((reference_a _ _ _).trans ?_)
    rw [h0, h1, h2]
    exact (final_a m c).symm
  · refine (Cert.Reference5Ideal.Read.val_main_v60_eq m' c).trans ((reference_q _ _ _ _).trans ?_)
    rw [h0, h1, h2, h3]
    exact (final_q m c hg hw).symm
  · refine (Cert.Reference5Ideal.Read.val_main_v61_eq m' c).trans ((reference_k _ _ _ _).trans ?_)
    rw [h0, h1, h2, h4]
    exact (final_k m c hg hw).symm
  · refine (Cert.Reference5Ideal.Read.val_main_v62_eq _ _ _).trans ((reference_v _ _ _).trans ?_)
    rw [h0, h1, h2]
    exact (final_v m c).symm
  · refine (Cert.Reference5Ideal.Read.val_main_v63_eq _ _ _).trans ((reference_state _ _ _).trans ?_)
    rw [h0, h1, h2]
    exact (congrArg lastState (final_a m c).symm)
  · refine (Cert.Reference5Ideal.Read.val_main_v64_eq m' c).trans ((reference_last_k _ _ _ _).trans ?_)
    rw [h0, h1, h2, h4]
    exact (congrArg lastRows (final_k m c hg hw).symm)
  · refine (Cert.Reference5Ideal.Read.val_main_v65_eq _ _ _).trans ((reference_last_v _ _ _).trans ?_)
    rw [h0, h1, h2]
    exact (congrArg lastRows (final_v m c).symm)

end Cert.Proj

end
-- ==== Proof.ConvSpec.lean ====
/-
  The convolution of the sample in plain mathematics: what one row of channels becomes, from the thirty rows carried before
  it and the row itself.
-/
module

public import Idealize.ShloMosaic.Lib.Pipeline.ValueKit

@[expose] public section

noncomputable section

namespace Cert.Conv

open Idealize.ShloMosaic

/-- The window of a channel: the thirty carried entries, then the new one. -/
def window (s : Fin 30 → EReal) (a : EReal) (k : Fin 31) : EReal := if h : k.val < 30 then s ⟨k, h⟩ else a

/-- A channel of the convolution: the window against the channel's weights, and the channel's offset. -/
def tapped (s : Fin 30 → EReal) (a : EReal) (w : Fin 31 → EReal) (b : EReal) : EReal := (∑ k, window s a k * w k) + b

/-- A row less its mean. -/
def centred (v : Fin 512 → EReal) (d : Fin 512) : EReal := v d - Ideal.div (∑ e, v e) (Ideal.ofBits .f32 0x44000000#32)

/-- The layer norm of a row. -/
def lnorm (v g b : Fin 512 → EReal) (d : Fin 512) : EReal :=
  centred v d * Ideal.rsqrt (Ideal.div (∑ e, centred v e * centred v e) (Ideal.ofBits .f32 0x44000000#32) + Ideal.ofBits .f32 0x358637BD#32)
    * g d + b d

/-- A number times its logistic. -/
def silu (y : EReal) : EReal := y * Ideal.logistic y

/-- A row after the convolution, the layer norm and the silu, at a channel. -/
def convAt (s : Fin 30 → Fin 512 → EReal) (a : Fin 512 → EReal) (w : Fin 31 → Fin 512 → EReal) (b g o : Fin 512 → EReal) (d : Fin 512) : EReal :=
  silu (lnorm (fun e => tapped (fun k => s k e) (a e) (fun k => w k e) (b e)) g o d)

/-- The window's sum is the new entry's product and the carried entries' products. -/
theorem window_sum (s : Fin 30 → EReal) (a : EReal) (w : Fin 31 → EReal) :
    ∑ k, window s a k * w k = a * w 30 + ∑ k : Fin 30, s k * w ⟨k, by omega⟩ := by
  rw [Fin.sum_univ_castSucc, add_comm]
  rfl

end Cert.Conv

end
-- ==== Proof.ConvPay.lean ====
/-
  What the sample's convolution stores, at a row and a channel, in the extended reals.
-/
module

public import proofs.«01_k».proof.Proof.ConvSpec
public import proofs.«01_k».proof.Proof.Gen.Kernel6Ideal.Frame
public import Idealize.ShloMosaic.Lib.Pipeline.ReadBack
public import Idealize.ShloMosaic.Lib.Pipeline.Value

@[expose] public section

set_option maxRecDepth 16384

noncomputable section

namespace Cert.Conv

open Cert.Kernel6Ideal Cert.Kernel6Ideal.Gen Idealize.ShloMosaic Idealize.ShloMosaic.TcCoe Idealize.SL.Sem

variable (x0 : Vec Ideal S128x512 .f32) (x1 : Vec Ideal S30x128x512 .f32) (x2 : Vec Ideal S31x512 .f32) (x3 x4 x5 : Vec Ideal S1x512 .f32)

/-- The convolved channels, as the body binds them. -/
def convolved : FVec Ideal S128x512 .f32 :=
  k0_pay10 (k0_pay14 x0 x1 x2 x3 x4 x5) (k0_pay15 x0 x1 x2 x3 x4 x5) (View.ld x2 r0_55) (View.ld x1 r0_56) (View.ld x2 r0_57)
    (View.ld x1 r0_58) (View.ld x2 r0_59) (View.ld x1 r0_60) (View.ld x2 r0_61) (View.ld x3 r0_62)

/-- A convolved channel: the products added one after the other are the window's sum. -/
theorem convolved_at (r : Fin 128) (d : Fin 512) : convolved x0 x1 x2 x3 x4 x5 (ix2 r d)
    = tapped (fun k => x1 (ix3 k r d)) (x0 (ix2 r d)) (fun k => x2 (ix2 k d)) (x3 (ix2 0 d)) := by
  unfold tapped
  rw [window_sum]
  simp only [Fin.sum_univ_succ, Fin.sum_univ_zero]
  pointwise [convolved, k0_pay10, k0_pay15, k0_pay9, k0_pay14, k0_pay8, k0_pay7, k0_pay6, k0_pay5, k0_pay4, k0_pay3, k0_pay2]
  simp only [← add_assoc]
  rfl

/-- The body's store, as a function of the blocks. -/
theorem stored_eq : out0_6 x0 x1 x2 x3 x4 x5
    = k0_pay1 (F := Ideal) (convolved x0 x1 x2 x3 x4 x5) (k0_pay11 x4) (k0_pay12 x5)
        (k0_pay13 (k0_pay14 x0 x1 x2 x3 x4 x5) (k0_pay15 x0 x1 x2 x3 x4 x5) (View.ld x2 r0_55) (View.ld x1 r0_56) (View.ld x2 r0_57)
          (View.ld x1 r0_58) (View.ld x2 r0_59) (View.ld x1 r0_60) (View.ld x2 r0_61) (View.ld x3 r0_62)) := by
  unfold out0_6 convolved
  have h4 : View.ld x4 r0_62 = x4 := View.ld_unit_zero (by decide) _ _
  have h5 : View.ld x5 r0_62 = x5 := View.ld_unit_zero (by decide) _ _
  rw [h4, h5]
  exact View.canon_unit_zero (by decide) _ _

/-- What is stored, at a row and a channel. -/
theorem stored_at (r : Fin 128) (d : Fin 512) : out0_6 x0 x1 x2 x3 x4 x5 (ix2 r d)
    = convAt (fun k e => x1 (ix3 k r e)) (fun e => x0 (ix2 r e)) (fun k e => x2 (ix2 k e)) (fun e => x3 (ix2 0 e)) (fun e => x4 (ix2 0 e))
        (fun e => x5 (ix2 0 e)) d := by
  have h : (fun e => convolved x0 x1 x2 x3 x4 x5 (ix2 r e)) = _ := funext fun e => convolved_at x0 x1 x2 x3 x4 x5 r e
  rw [stored_eq]
  unfold convAt
  rw [← h]
  unfold k0_pay13
  rw [← convolved]
  generalize convolved x0 x1 x2 x3 x4 x5 = v
  pointwise [k0_pay1, k0_pay11, k0_pay12]
  rfl

end Cert.Conv

end
-- ==== Proof.ConvFinal.lean ====
/-
  The output array of the sample's convolution: the one grid point stores all of it.
-/
module

public import proofs.«01_k».proof.Proof.ConvPay

@[expose] public section

set_option maxRecDepth 16384

noncomputable section

namespace Cert.Conv

open Cert.Kernel6Ideal Cert.Kernel6Ideal.Gen Idealize.ShloMosaic Idealize.ShloMosaic.TcCoe Idealize.SL.Sem
open Idealize.ShloMosaic.Pipeline (Dat)

/-- The result as an array of the arguments. -/
def layer (a : S128x512.Idx → EReal) (s : S128x30x512.Idx → EReal) (w : S31x512.Idx → EReal) (b g o : S512.Idx → EReal) (i : S128x512.Idx) : EReal :=
  convAt (fun k e => s (ix3 (i 0) k e)) (fun e => a (ix2 (i 0) e)) (fun k e => w (ix2 k e)) (fun e => b (ix1 e)) (fun e => g (ix1 e))
    (fun e => o (ix1 e)) (i 1)

variable (m : (ℓ : Loc nD τ sig) → Buf (Elt Ideal) ℓ) (ρ : Dev nD → PrngReg) (c : Dev nD)

/-- The grid point holds all of everything. -/
theorem idx : ∀ t : Fin cfg0.N, win0_0.index t = ![0, 0] ∧ win0_1.index t = ![0, 0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The carried rows, by position first. -/
theorem state_eq (k : Fin 30) (r : Fin 128) (d : Fin 512) :
    V m c main_v0 (ix3 k r d) = m ((c : Thread nD τ).loc main_arg1) (ix3 r k d) := by
  unfold_abbrev_sides
  after_results
  pointwise
/-- The convolution's offsets, in one row. -/
theorem offset_eq (d : Fin 512) : V m c main_v1 (ix2 0 d) = m ((c : Thread nD τ).loc main_arg3) (ix1 d) := by
  unfold_abbrev_sides
  after_results
  pointwise
/-- The layer norm's weights, in one row. -/
theorem scale_eq (d : Fin 512) : V m c main_v2 (ix2 0 d) = m ((c : Thread nD τ).loc main_arg4) (ix1 d) := by
  unfold_abbrev_sides
  after_results
  pointwise
/-- The layer norm's offsets, in one row. -/
theorem shift_eq (d : Fin 512) : V m c main_v3 (ix2 0 d) = m ((c : Thread nD τ).loc main_arg5) (ix1 d) := by
  unfold_abbrev_sides
  after_results
  pointwise

section
variable (t : Fin cfg0.N)

/-- The new rows a point holds are all of them; -/
theorem a_at (r : Fin 128) (d : Fin 512) : iblk m c 0 t (ix2 r d) = m ((c : Thread nD τ).loc main_arg0) (ix2 r d) := by
  blk_ext! [iblk, V_main_arg0 m c, idx t]
/-- so are the carried rows, -/
theorem s_at (k : Fin 30) (r : Fin 128) (d : Fin 512) : iblk m c 1 t (ix3 k r d) = m ((c : Thread nD τ).loc main_arg1) (ix3 r k d) := by
  refine Eq.trans ?_ (state_eq m c k r d)
  blk_ext! [iblk, idx t]
/-- the weights, -/
theorem w_at (k : Fin 31) (d : Fin 512) : iblk m c 2 t (ix2 k d) = m ((c : Thread nD τ).loc main_arg2) (ix2 k d) := by
  blk_ext! [iblk, V_main_arg2 m c, idx t]
/-- the offsets, -/
theorem b_at (d : Fin 512) : iblk m c 3 t (ix2 0 d) = m ((c : Thread nD τ).loc main_arg3) (ix1 d) := by
  refine Eq.trans ?_ (offset_eq m c d)
  blk_ext! [iblk, idx t]
/-- the layer norm's weights, -/
theorem g_at (d : Fin 512) : iblk m c 4 t (ix2 0 d) = m ((c : Thread nD τ).loc main_arg4) (ix1 d) := by
  refine Eq.trans ?_ (scale_eq m c d)
  blk_ext! [iblk, idx t]
/-- and its offsets. -/
theorem o_at (d : Fin 512) : iblk m c 5 t (ix2 0 d) = m ((c : Thread nD τ).loc main_arg5) (ix1 d) := by
  refine Eq.trans ?_ (shift_eq m c d)
  blk_ext! [iblk, idx t]

/-- What the point stores is the result. -/
theorem block_eq (r : Fin 128) (d : Fin 512) :
    out0_6 (iblk m c 0 t) (iblk m c 1 t) (iblk m c 2 t) (iblk m c 3 t) (iblk m c 4 t) (iblk m c 5 t) (ix2 r d)
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix2 r d) := by
  rw [stored_at]
  simp only [a_at, s_at, w_at, b_at, g_at, o_at]
  rfl

end

/-- The output array after the run is the result of the arguments. -/
theorem final : (dats m 0 c).arrAt 6 cfg0.N
    = (layer (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) : Vec Ideal S128x512 .bf16) := by
  refine (dats m 0 c).arrAt_eq_of_covers 6 _ (by decide +kernel) fun t _ y => ?_
  rw [after0_6]
  have hp := block_eq m c t
  generalize out0_6 (iblk m c 0 t) (iblk m c 1 t) (iblk m c 2 t) (iblk m c 3 t) (iblk m c 4 t) (iblk m c 5 t) = o at hp ⊢
  have hy : ∀ y : S128x512.Idx, o y
      = layer (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 6).blk t).view.emb y) := by
    intro y
    have e : ((cfg0.win 6).blk t).view.emb y = y := by
      idx_vars y
      funext a
      match a with
      | ⟨0, _⟩ =>
        apply Fin.ext
        show ((((cfg0.win 6).blk t).view.emb (ix2 y0 y1) 0 : Fin _) : ℕ) = _
        blk_simp [idx t]
      | ⟨1, _⟩ =>
        apply Fin.ext
        show ((((cfg0.win 6).blk t).view.emb (ix2 y0 y1) 1 : Fin _) : ℕ) = _
        blk_simp [idx t]
    rw [e]
    have ey : y = ix2 (y 0) (y 1) := funext fun a => match a with | ⟨0, _⟩ => rfl | ⟨1, _⟩ => rfl
    rw [ey]
    exact hp (y 0) (y 1)
  exact hy y

/-- The run, with the output array named and the arguments as they were. -/
theorem run_named : θ_run defs (onTc (τ := τ) (main (F := Ideal))) ⟨m, fun _ => 0, ρ⟩ fun r => ∀ c : Dev nD,
      r.2.mem ((c : Thread nD τ).loc main_v4) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h.1 c).1 6, h.2 c⟩) (θ_run_and (run_main m ρ) (unchanged m ρ))

end Cert.Conv

end
-- ==== Proof.ConvRef.lean ====
/-
  The reference of the sample's convolution in plain mathematics, at every row and channel.
-/
module

public import proofs.«01_k».proof.Proof.ConvSpec
public import proofs.«01_k».proof.Proof.FfnRef
public import proofs.«01_k».proof.Proof.Gen.Reference6Ideal.Read

@[expose] public section

set_option maxRecDepth 16384

noncomputable section

namespace Cert.Conv

open Cert.Reference6Ideal Cert.Reference6Ideal.Gen Cert.Reference6Ideal.Read Idealize.ShloMosaic Idealize.SL.Sem

variable (x0 : FVec Ideal S128x512 .f32) (x1 : FVec Ideal S128x30x512 .f32) (x2 : FVec Ideal S31x512 .f32) (x3 x4 x5 : FVec Ideal S512 .f32)

/-- The carried rows with the new row after them. -/
theorem joined_ref (r : Fin 128) (k : Fin 31) (d : Fin 512) :
    val_main_v1 (F := Ideal) x0 x1 (ix3 r k d) = window (fun k => x1 (ix3 r k d)) (x0 (ix2 r d)) k := by
  unfold window val_main_v1
  by_cases h : k.val < 30
  · rw [dif_pos h]
    exact concatenate_pair_apply_left (t := S128x31x512) (s₁ := S128x30x512) (s₂ := S128x1x512) 1 _ _ _ (ix3 r k d) rfl (ix3 r (⟨k.val, h⟩ : Fin 30) d)
      (fun b => match b with | ⟨0, _⟩ => rfl | ⟨1, _⟩ => rfl | ⟨2, _⟩ => rfl)
  · rw [dif_neg h]
    refine (concatenate_pair_apply_right (t := S128x31x512) (s₁ := S128x30x512) (s₂ := S128x1x512) 1 _ _ _ (ix3 r k d) rfl rfl (ix3 r (0 : Fin 1) d)
      (fun b hb => match b, hb with | ⟨0, _⟩, _ => rfl | ⟨1, _⟩, hb => absurd rfl hb | ⟨2, _⟩, _ => rfl) (by show 0 + 30 = k.val; omega)).trans ?_
    rw [val_main_v0_apply]
    exact congrArg x0 (funext fun a => match a with | ⟨0, _⟩ => rfl | ⟨1, _⟩ => rfl)

/-- The convolved channels. -/
theorem tapped_ref (r : Fin 128) (d : Fin 512) : val_main_v8 (F := Ideal) x0 x1 x2 x3 (ix2 r d)
    = tapped (fun k => x1 (ix3 r k d)) (x0 (ix2 r d)) (fun k => x2 (ix2 k d)) (x3 (ix1 d)) := by
  have hz : val_main_cst (F := Ideal) (Shape.Idx.first h_S_) = 0 := by
    rw [val_main_cst_apply]; exact Ideal.ofBits_zero _
  have hs : val_main_v5 (F := Ideal) x0 x1 x2 (ix2 r d)
      = ∑ k : Fin 31, window (fun k => x1 (ix3 r k d)) (x0 (ix2 r d)) k * x2 (ix2 k d) := by
    rw [val_main_v5_apply, hz, zero_add]
    refine Finset.sum_congr rfl fun k _ => ?_
    have e : idx_main_v5 (ix2 r d) k = ix3 r k d := funext fun a => match a with | ⟨0, _⟩ => rfl | ⟨1, _⟩ => rfl | ⟨2, _⟩ => rfl
    have ew : idx_main_v2 (idx_main_v3 (ix3 r k d)) = ix2 k d := funext fun a => match a with | ⟨0, _⟩ => rfl | ⟨1, _⟩ => rfl
    rw [e, val_main_v4_apply, joined_ref, val_main_v3_apply, val_main_v2_apply, ew]
    rfl
  have hb : idx_main_v6 (idx_main_v7 (ix2 r d)) = ix1 d := funext fun a => match a with | ⟨0, _⟩ => rfl
  rw [val_main_v8_apply, hs, val_main_v7_apply, val_main_v6_apply, hb]
  rfl

/-- The normalised channels. -/
theorem lnorm_ref (r : Fin 128) (d : Fin 512) : val_main_v30 (F := Ideal) x0 x1 x2 x3 x4 x5 (ix2 r d)
    = lnorm (fun e => val_main_v8 (F := Ideal) x0 x1 x2 x3 (ix2 r e)) (fun e => x4 (ix1 e)) (fun e => x5 (ix1 e)) d := by
  have hz : val_main_cst_0 (F := Ideal) (Shape.Idx.first h_S_) = 0 := by
    rw [val_main_cst_0_apply]; exact Ideal.ofBits_zero _
  have hz' : val_main_cst_2 (F := Ideal) (Shape.Idx.first h_S_) = 0 := by
    rw [val_main_cst_2_apply]; exact Ideal.ofBits_zero _
  have hs : val_main_v9 (F := Ideal) x0 x1 x2 x3 (ix1 r) = ∑ e : Fin 512, val_main_v8 (F := Ideal) x0 x1 x2 x3 (ix2 r e) := by
    rw [val_main_v9_apply, hz, zero_add]
    exact Finset.sum_congr rfl fun k _ => congrArg (val_main_v8 (F := Ideal) x0 x1 x2 x3)
      (funext fun a => match a with | ⟨0, _⟩ => rfl | ⟨1, _⟩ => rfl)
  have hc : ∀ e : Fin 512, val_main_v14 (F := Ideal) x0 x1 x2 x3 (ix2 r e)
      = centred (fun e => val_main_v8 (F := Ideal) x0 x1 x2 x3 (ix2 r e)) e := fun e => by
    have hi : idx_main_v10 (idx_main_v13 (ix2 r e)) = ix1 r := funext fun a => match a with | ⟨0, _⟩ => rfl
    rw [val_main_v14_apply, val_main_v13_apply, val_main_v12_apply, val_main_v10_apply, val_main_v11_apply, val_main_cst_1_apply, hi, hs]
    rfl
  have hq : val_main_v16 (F := Ideal) x0 x1 x2 x3 (ix1 r)
      = ∑ e : Fin 512, centred (fun e => val_main_v8 (F := Ideal) x0 x1 x2 x3 (ix2 r e)) e
          * centred (fun e => val_main_v8 (F := Ideal) x0 x1 x2 x3 (ix2 r e)) e := by
    rw [val_main_v16_apply, hz', zero_add]
    refine Finset.sum_congr rfl fun k _ => ?_
    have e : idx_main_v16 (ix1 r) k = ix2 r k := funext fun a => match a with | ⟨0, _⟩ => rfl | ⟨1, _⟩ => rfl
    rw [val_main_v15_apply, e, hc]
    rfl
  have hi : idx_main_v17 (idx_main_v23 (ix2 r d)) = ix1 r := funext fun a => match a with | ⟨0, _⟩ => rfl
  have hg : idx_main_v25 (idx_main_v26 (ix2 r d)) = ix1 d := funext fun a => match a with | ⟨0, _⟩ => rfl
  have hb : idx_main_v28 (idx_main_v29 (ix2 r d)) = ix1 d := funext fun a => match a with | ⟨0, _⟩ => rfl
  rw [val_main_v30_apply, val_main_v27_apply, val_main_v24_apply, val_main_v23_apply, val_main_v22_apply, val_main_v21_apply, val_main_v19_apply,
    val_main_v17_apply, val_main_v18_apply, val_main_v20_apply, val_main_cst_3_apply, val_main_cst_4_apply, val_main_v26_apply,
    val_main_v25_apply, val_main_v29_apply, val_main_v28_apply, hi, hg, hb, hq, hc]
  rfl

/-- The reference's result at a row and a channel. -/
theorem result_ref (r : Fin 128) (d : Fin 512) : val_main_v32 (F := Ideal) x0 x1 x2 x3 x4 x5 (ix2 r d)
    = convAt (fun k e => x1 (ix3 r k e)) (fun e => x0 (ix2 r e)) (fun k e => x2 (ix2 k e)) (fun e => x3 (ix1 e)) (fun e => x4 (ix1 e))
        (fun e => x5 (ix1 e)) d := by
  have ht : (fun e => val_main_v8 (F := Ideal) x0 x1 x2 x3 (ix2 r e)) = _ := funext fun e => tapped_ref x0 x1 x2 x3 r e
  rw [val_main_v32_apply, val_main_v31_apply, val_main_call0_v5_apply, val_main_call0_v4_apply, val_main_call0_v3_apply,
    val_main_call0_v2_apply, val_main_call0_v1_apply, val_main_call0_v0_apply, val_main_call0_cst_apply, val_main_call0_cst_0_apply,
    lnorm_ref, ht]
  unfold convAt silu
  generalize lnorm _ _ _ d = y
  show y * Ideal.div (Ideal.ofBits .f32 0x3F800000#32) (Ideal.ofBits .f32 0x3F800000#32 + Ideal.exp (-y)) = _
  rw [Cert.Ffn.one_word]
  rfl

end Cert.Conv

end
-- ==== Proof.Conv.lean ====
/-
  The kernel of the sample's convolution, and the reference, end with equal outputs.
-/
module

public import proofs.«01_k».proof.Defs
public import proofs.«01_k».proof.Proof.ConvFinal
public import proofs.«01_k».proof.Proof.ConvRef

@[expose] public section

set_option maxRecDepth 16384

noncomputable section

namespace Cert.Conv

open Idealize.ShloMosaic Idealize.SL.Sem

/-- The reference ends with its arguments as they were, and every counter at zero. -/
theorem reference_frame : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run m ρ)

/-- The reference's result, as an array of the arguments, is the kernel's. -/
theorem reference_eq (a : Cert.Kernel6Ideal.S128x512.Idx → EReal) (s : Cert.Kernel6Ideal.S128x30x512.Idx → EReal)
    (w : Cert.Kernel6Ideal.S31x512.Idx → EReal) (b g o : Cert.Kernel6Ideal.S512.Idx → EReal) :
    Cert.Reference6Ideal.Read.val_main_v32 (F := Ideal) a s w b g o = layer a s w b g o := by
  funext i
  have e : i = ix2 (i 0) (i 1) := funext fun a => match a with | ⟨0, _⟩ => rfl | ⟨1, _⟩ => rfl
  rw [e]
  exact result_ref a s w b g o (i 0) (i 1)

/-- From memories that agree on the arguments, kernel and reference end with the same output. -/
theorem algebraic : Cert.algebraic_Kernel6Ideal_Reference6Ideal (hKernel6Ideal := Cert.Kernel6Ideal.Gen.facts)
    (hReference6Ideal := Cert.Reference6Ideal.Gen.facts) := by
  intro m ρ m' ρ' _ hagree
  refine ⟨fun c => (Cert.Kernel6Ideal.Gen.dats m 0 c).arrAt 6 Cert.Kernel6Ideal.cfg0.N, ?_, ?_⟩
  · exact run_named m ρ
  · refine (θ_run Cert.Reference6Ideal.defs _ _).mono (fun r h c => ⟨(h c).1.trans ?_, (h c).2⟩)
      (Cert.Reference6Ideal.Value.run m' ρ')
    obtain ⟨h0, h1, h2, h3, h4, h5⟩ := hagree c
    rw [Cert.Reference6Ideal.Read.val_main_v32_eq, h0, h1, h2, h3, h4, h5]
    exact (reference_eq _ _ _ _ _ _).trans (final m c).symm

end Cert.Conv

end
-- ==== Proof.OpenSpec.lean ====
/-
  The spatial gating of a chunk's first row in plain mathematics: a row that opens a chunk is mixed with itself only.
-/
module

public import proofs.«01_k».proof.Proof.GateSpec

@[expose] public section

noncomputable section

namespace Cert.Open

open Idealize.ShloMosaic Cert.Moe Cert.Ffn Cert.Gate

/-- The normalised half of a row. -/
def halfAt (s g : Fin 1024 → EReal) (W : Fin 1024 → Fin 2048 → EReal) (lg lb : Fin 1024 → EReal) (d : Fin 1024) : EReal :=
  lnorm (fun d => hidden s g (fun e => W e ⟨1024 + d, by omega⟩)) lg lb d

/-- A gated channel of a row that opens a chunk: the half that gates, times the normalised half weighed by its channel's group of 128,
    with the group's bias. -/
def openGate (s g : Fin 1024 → EReal) (W : Fin 1024 → Fin 2048 → EReal) (lg lb : Fin 1024 → EReal) (w b : Fin 8 → EReal)
    (d : Fin 1024) : EReal :=
  hidden s g (fun e => W e ⟨d, by omega⟩) * (w ⟨d / 128, by omega⟩ * halfAt s g W lg lb d + b ⟨d / 128, by omega⟩)

/-- The row after the gating at a column: the row there, and the gated channels against the output matrix's column. -/
def openAt (s g : Fin 1024 → EReal) (W : Fin 1024 → Fin 2048 → EReal) (lg lb : Fin 1024 → EReal) (w b : Fin 8 → EReal)
    (wo : Fin 1024 → Fin 1024 → EReal) (q : Fin 1024) : EReal :=
  s q + ∑ d, openGate s g W lg lb w b d * wo d q

/-- Of a chunk's rows, only the first counts for the first, whatever the others hold. -/
theorem first_row (w v : Fin 128 → EReal) : ∑ k, upTo 0 k (w k) * v k = w 0 * v 0 := by
  rw [Finset.sum_eq_single 0]
  · rfl
  · intro k _ hk
    have h : ¬ k ≤ 0 := fun h => hk (Fin.le_zero_iff.mp h)
    unfold upTo
    rw [if_neg h, zero_mul]
  · exact fun h => absurd (Finset.mem_univ _) h

end Cert.Open

end
-- ==== Proof.OpenPay.lean ====
/-
  What the gating of rows that open a chunk stores, at a row and a column, in the extended reals.
-/
module

public import proofs.«01_k».proof.Proof.OpenSpec
public import proofs.«01_k».proof.Proof.Gen.Kernel7Ideal.Value

@[expose] public section

set_option maxRecDepth 16384

noncomputable section

namespace Cert.Open

open Cert.Kernel7Ideal Cert.Kernel7Ideal.Gen Idealize.ShloMosaic Idealize.ShloMosaic.TcCoe Idealize.SL.Sem Cert.Moe Cert.Ffn Cert.Gate

variable (x0 : Vec Ideal S128x1024 .f32) (x1 : Vec Ideal S1x1024 .f32) (x2 : Vec Ideal S1024x2048 .bf16) (x3 x4 x5 x6 : Vec Ideal S1x1024 .f32)
  (x7 : Vec Ideal S1024x1024 .bf16)

/-- The hidden channels of the rows. -/
theorem hidden_at (r : Fin 128) (d : Fin 2048) : k0_pay3 (F := Ideal) x0 x1 x2 (ix2 r d)
    = hidden (fun e => x0 (ix2 r e)) (fun e => x1 (ix2 0 e)) (fun e => x2 (ix2 e d)) := by
  pointwise [k0_pay3]
  rfl

/-- The half that is normalised, before it is. -/
theorem half_at (r : Fin 128) (d : Fin 1024) : k0_pay4 (F := Ideal) x0 x1 x2 (ix2 r d)
    = hidden (fun e => x0 (ix2 r e)) (fun e => x1 (ix2 0 e)) (fun e => x2 (ix2 e ⟨1024 + d, by omega⟩)) := by
  rw [← hidden_at]
  pointwise [k0_pay4]

/-- The normalised half. -/
def right : FVec Ideal S128x1024 .f32 :=
  k0_pay1 (k0_pay4 x0 x1 x2) (k0_pay5 x3) (k0_pay6 x4) (k0_pay7 x0 x1 x2) (Scalar.ofBits .f32 0x44800000#32)

/-- The normalised half at a row and a channel. -/
theorem right_at (r : Fin 128) (d : Fin 1024) : right x0 x1 x2 x3 x4 (ix2 r d)
    = halfAt (fun e => x0 (ix2 r e)) (fun e => x1 (ix2 0 e)) (fun e d => x2 (ix2 e d)) (fun d => x3 (ix2 0 d)) (fun d => x4 (ix2 0 d)) d := by
  have h : (fun d => k0_pay4 (F := Ideal) x0 x1 x2 (ix2 r d)) = _ := funext fun d => half_at x0 x1 x2 r d
  unfold halfAt
  rw [← h]
  generalize hv : k0_pay4 (F := Ideal) x0 x1 x2 = v
  pointwise [right, k0_pay1, k0_pay5, k0_pay6, k0_pay7, hv]
  rfl

/-- What the body adds to the rows, from the hidden channels and the normalised half. -/
theorem added_at (z : FVec Ideal S128x2048 .f32) (v : FVec Ideal S128x1024 .f32) (s t : FVec Ideal S1x1024 .f32) (n : FVec Ideal S128x1 .f32)
    (w : EReal) (r : Fin 128) (q : Fin 1024) : k0_pay2 (F := Ideal) x0 z v s t n w x5 x6 x7 (ix2 r q)
      = x0 (ix2 r q) + ∑ d : Fin 1024, z (ix2 r ⟨d, by omega⟩)
          * (x5 (ix2 0 d) * k0_pay1 (F := Ideal) v s t n w (ix2 r d) + x6 (ix2 0 d)) * x7 (ix2 d q) := by
  unfold k0_pay2
  generalize k0_pay1 (F := Ideal) v s t n w = y
  pointwise

section
variable {x0 x1 x2 x3 x4 x5 x6 x7}
/-- A block of rows read whole is itself; -/
theorem whole_a : View.ld x0 r0_0 = x0 := View.ld_unit_zero (by decide) _ _
/-- so is one row, -/
theorem whole_b : View.ld x1 r0_1 = x1 := View.ld_unit_zero (by decide) _ _
/-- the input matrix, -/
theorem whole_c : View.ld x2 r0_2 = x2 := View.ld_unit_zero (by decide) _ _
/-- and the output matrix. -/
theorem whole_d : View.ld x7 r0_3 = x7 := View.ld_unit_zero (by decide) _ _
end

/-- The second output block is the normalised half. -/
theorem stored_v (r : Fin 128) (d : Fin 1024) : out0_9 x0 x1 x2 x3 x4 x5 x6 x7 (ix2 r d)
    = halfAt (fun e => x0 (ix2 r e)) (fun e => x1 (ix2 0 e)) (fun e d => x2 (ix2 e d)) (fun d => x3 (ix2 0 d)) (fun d => x4 (ix2 0 d)) d := by
  rw [← right_at]
  have h : out0_9 x0 x1 x2 x3 x4 x5 x6 x7 = right x0 x1 x2 x3 x4 := by
    unfold out0_9 k0_pay8 k0_pay9 k0_pay10 k0_pay11 right
    rw [whole_a, whole_b, whole_c, whole_b, whole_b]
    exact View.canon_unit_zero (by decide) _ _
  rw [h]

/-- The first output block at a row and a column. -/
theorem stored_y (r : Fin 128) (q : Fin 1024) : out0_8 x0 x1 x2 x3 x4 x5 x6 x7 (ix2 r q)
    = x0 (ix2 r q) + ∑ d : Fin 1024, hidden (fun e => x0 (ix2 r e)) (fun e => x1 (ix2 0 e)) (fun e => x2 (ix2 e ⟨d, by omega⟩))
        * (x5 (ix2 0 d) * halfAt (fun e => x0 (ix2 r e)) (fun e => x1 (ix2 0 e)) (fun e d => x2 (ix2 e d)) (fun d => x3 (ix2 0 d))
            (fun d => x4 (ix2 0 d)) d + x6 (ix2 0 d)) * x7 (ix2 d q) := by
  have h : out0_8 x0 x1 x2 x3 x4 x5 x6 x7 = k0_pay2 (F := Ideal) x0 (k0_pay3 x0 x1 x2) (k0_pay4 x0 x1 x2) (k0_pay5 x3) (k0_pay6 x4)
      (k0_pay7 x0 x1 x2) (Scalar.ofBits .f32 0x44800000#32) x5 x6 x7 := by
    unfold out0_8 k0_pay8 k0_pay9 k0_pay10 k0_pay11
    simp only [whole_a, whole_b, whole_c, whole_d]
    exact View.canon_unit_zero (by decide) _ _
  rw [h, added_at]
  simp only [hidden_at, ← right_at]
  rfl

end Cert.Open

end
-- ==== Proof.OpenFinal.lean ====
/-
  The output arrays of the gating of rows that open a chunk: the one grid point stores all of them.
-/
module

public import proofs.«01_k».proof.Proof.OpenPay

@[expose] public section

set_option maxRecDepth 16384

noncomputable section

namespace Cert.Open

open Cert.Kernel7Ideal Cert.Kernel7Ideal.Gen Idealize.ShloMosaic Idealize.ShloMosaic.TcCoe Idealize.SL.Sem
open Idealize.ShloMosaic.Pipeline (Dat)

/-- The rows after the gating as an array of the arguments, -/
def rows (x : S128x1024.Idx → EReal) (g : S1024.Idx → EReal) (W : S1024x2048.Idx → EReal) (lg lb : S1024.Idx → EReal)
    (w : S8x128x128.Idx → EReal) (b : S8x128.Idx → EReal) (wo : S1024x1024.Idx → EReal) (i : S128x1024.Idx) : EReal :=
  openAt (fun e => x (ix2 (i 0) e)) (fun e => g (ix1 e)) (fun e d => W (ix2 e d)) (fun d => lg (ix1 d)) (fun d => lb (ix1 d))
    (fun a => w (ix3 a 0 0)) (fun a => b (ix2 a 0)) (fun d q => wo (ix2 d q)) (i 1)
/-- and their normalised halves. -/
def halves (x : S128x1024.Idx → EReal) (g : S1024.Idx → EReal) (W : S1024x2048.Idx → EReal) (lg lb : S1024.Idx → EReal)
    (i : S128x1024.Idx) : EReal :=
  halfAt (fun e => x (ix2 (i 0) e)) (fun e => g (ix1 e)) (fun e d => W (ix2 e d)) (fun d => lg (ix1 d)) (fun d => lb (ix1 d)) (i 1)

variable (m : (ℓ : Loc nD τ sig) → Buf (Elt Ideal) ℓ) (c : Dev nD)

/-- The grid point holds all of everything. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

/-- The input matrix as the kernel reads it is the argument: a change of format changes no value; -/
theorem in_eq : V m c main_v11 = m ((c : Thread nD τ).loc main_arg2) := by
  unfold_abbrev_sides
  after_results
  rfl
/-- so is the output matrix. -/
theorem out_eq : V m c main_v14 = m ((c : Thread nD τ).loc main_arg7) := by
  unfold_abbrev_sides
  after_results
  rfl
/-- The norm's weights, in one row. -/
theorem norm_eq (d : Fin 1024) : V m c main_v10 (ix2 0 d) = m ((c : Thread nD τ).loc main_arg1) (ix1 d) := by
  unfold_abbrev_sides
  after_results
  pointwise
/-- The layer norm's weights, in one row. -/
theorem scale_eq (d : Fin 1024) : V m c main_v12 (ix2 0 d) = m ((c : Thread nD τ).loc main_arg3) (ix1 d) := by
  unfold_abbrev_sides
  after_results
  pointwise
/-- The layer norm's offsets, in one row. -/
theorem shift_eq (d : Fin 1024) : V m c main_v13 (ix2 0 d) = m ((c : Thread nD τ).loc main_arg4) (ix1 d) := by
  unfold_abbrev_sides
  after_results
  pointwise
/-- Every channel's spatial weight of a first row, in one row. -/
theorem weight_eq (d : Fin 1024) : V m c main_v4 (ix2 0 d)
    = m ((c : Thread nD τ).loc main_arg5) (ix3 ⟨d / 128, by omega⟩ 0 0) := by
  unfold_abbrev_sides
  after_results
  pointwise
/-- Every channel's bias of a first row, in one row. -/
theorem bias_eq (d : Fin 1024) : V m c main_v9 (ix2 0 d) = m ((c : Thread nD τ).loc main_arg6) (ix2 ⟨d / 128, by omega⟩ 0) := by
  unfold_abbrev_sides
  after_results
  pointwise

section
variable (t : Fin cfg0.N)

/-- The rows a point holds are all of them; -/
theorem x_at (r : Fin 128) (d : Fin 1024) : iblk m c 0 t (ix2 r d) = m ((c : Thread nD τ).loc main_arg0) (ix2 r d) := by
  blk_ext! [iblk, V_main_arg0 m c, idx t]
/-- so are the norm's weights, -/
theorem g_at (d : Fin 1024) : iblk m c 1 t (ix2 0 d) = m ((c : Thread nD τ).loc main_arg1) (ix1 d) := by
  refine Eq.trans ?_ (norm_eq m c d)
  blk_ext! [iblk, idx t]
/-- the input matrix, -/
theorem in_at (e : Fin 1024) (d : Fin 2048) : iblk m c 2 t (ix2 e d) = m ((c : Thread nD τ).loc main_arg2) (ix2 e d) := by
  refine Eq.trans ?_ (congrFun (in_eq m c) (ix2 e d))
  blk_ext! [iblk, idx t]
/-- the layer norm's weights -/
theorem lg_at (d : Fin 1024) : iblk m c 3 t (ix2 0 d) = m ((c : Thread nD τ).loc main_arg3) (ix1 d) := by
  refine Eq.trans ?_ (scale_eq m c d)
  blk_ext! [iblk, idx t]
/-- and its offsets, -/
theorem lb_at (d : Fin 1024) : iblk m c 4 t (ix2 0 d) = m ((c : Thread nD τ).loc main_arg4) (ix1 d) := by
  refine Eq.trans ?_ (shift_eq m c d)
  blk_ext! [iblk, idx t]
/-- the channels' spatial weights -/
theorem w_at (d : Fin 1024) : iblk m c 5 t (ix2 0 d) = m ((c : Thread nD τ).loc main_arg5) (ix3 ⟨d / 128, by omega⟩ 0 0) := by
  refine Eq.trans ?_ (weight_eq m c d)
  blk_ext! [iblk, idx t]
/-- and biases, -/
theorem b_at (d : Fin 1024) : iblk m c 6 t (ix2 0 d) = m ((c : Thread nD τ).loc main_arg6) (ix2 ⟨d / 128, by omega⟩ 0) := by
  refine Eq.trans ?_ (bias_eq m c d)
  blk_ext! [iblk, idx t]
/-- and the output matrix. -/
theorem out_at (d q : Fin 1024) : iblk m c 7 t (ix2 d q) = m ((c : Thread nD τ).loc main_arg7) (ix2 d q) := by
  refine Eq.trans ?_ (congrFun (out_eq m c) (ix2 d q))
  blk_ext! [iblk, idx t]

/-- What the point stores first are the rows after the gating; -/
theorem block_y (r : Fin 128) (d : Fin 1024) :
    out0_8 (iblk m c 0 t) (iblk m c 1 t) (iblk m c 2 t) (iblk m c 3 t) (iblk m c 4 t) (iblk m c 5 t) (iblk m c 6 t) (iblk m c 7 t) (ix2 r d)
      = rows (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (ix2 r d) := by
  rw [stored_y]
  simp only [x_at, g_at, in_at, lg_at, lb_at, w_at, b_at, out_at]
  rfl
/-- what it stores second, their normalised halves. -/
theorem block_v (r : Fin 128) (d : Fin 1024) :
    out0_9 (iblk m c 0 t) (iblk m c 1 t) (iblk m c 2 t) (iblk m c 3 t) (iblk m c 4 t) (iblk m c 5 t) (iblk m c 6 t) (iblk m c 7 t) (ix2 r d)
      = halves (m ((c : Thread nD τ).loc main_arg0)) (m ((c : Thread nD τ).loc main_arg1)) (m ((c : Thread nD τ).loc main_arg2))
          (m ((c : Thread nD τ).loc main_arg3)) (m ((c : Thread nD τ).loc main_arg4)) (ix2 r d) := by
  rw [stored_v]
  simp only [x_at, g_at, in_at, lg_at, lb_at]
  rfl

/-- The block of the first output is all of it; -/
theorem emb_y (y : S128x1024.Idx) : ((cfg0.win 8).blk t).view.emb y = y := by
  idx_vars y
  funext a
  match a with
  | ⟨0, _⟩ =>
    apply Fin.ext
    show ((((cfg0.win 8).blk t).view.emb (ix2 y0 y1) 0 : Fin _) : ℕ) = _
    blk_simp [idx t]
  | ⟨1, _⟩ =>
    apply Fin.ext
    show ((((cfg0.win 8).blk t).view.emb (ix2 y0 y1) 1 : Fin _) : ℕ) = _
    blk_simp [idx t]
/-- so is the block of the second. -/
theorem emb_v (y : S128x1024.Idx) : ((cfg0.win 9).blk t).view.emb y = y := emb_y t y

end

/-- An array is known by its rows and columns. -/
theorem ext_at (o f : S128x1024.Idx → EReal) (h : ∀ (r : Fin 128) (d : Fin 1024), o (ix2 r d) = f (ix2 r d)) (y : S128x1024.Idx) : o y = f y := by
  have ey : y = ix2 (y 0) (y 1) := funext fun a => match a with | ⟨0, _⟩ => rfl | ⟨1, _⟩ => rfl
  rw [ey]
  exact h (y 0) (y 1)

/-- The first output array after the run are the rows after the gating of the arguments; -/
theorem final_y : (dats m 0 c).arrAt 8 cfg0.N
    = (rows (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) : Vec Ideal S128x1024 .f32) := by
  refine (dats m 0 c).arrAt_eq_of_covers 8 _ (by decide +kernel) fun t _ y => ?_
  rw [after0_8]
  have hp := ext_at _ _ (block_y m c t)
  generalize out0_8 (iblk m c 0 t) (iblk m c 1 t) (iblk m c 2 t) (iblk m c 3 t) (iblk m c 4 t) (iblk m c 5 t) (iblk m c 6 t) (iblk m c 7 t) = o at hp ⊢
  have hy : ∀ y : S128x1024.Idx, o y
      = rows (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (((cfg0.win 8).blk t).view.emb y) := by
    intro y
    rw [emb_y t y]
    exact hp y
  exact hy y
/-- the second, their normalised halves. -/
theorem final_v : (dats m 0 c).arrAt 9 cfg0.N
    = (halves (m ((c : Thread nD τ).loc main_arg0)) (m ((c : Thread nD τ).loc main_arg1)) (m ((c : Thread nD τ).loc main_arg2))
          (m ((c : Thread nD τ).loc main_arg3)) (m ((c : Thread nD τ).loc main_arg4)) : Vec Ideal S128x1024 .f32) := by
  refine (dats m 0 c).arrAt_eq_of_covers 9 _ (by decide +kernel) fun t _ y => ?_
  rw [after0_9]
  have hp := ext_at _ _ (block_v m c t)
  generalize out0_9 (iblk m c 0 t) (iblk m c 1 t) (iblk m c 2 t) (iblk m c 3 t) (iblk m c 4 t) (iblk m c 5 t) (iblk m c 6 t) (iblk m c 7 t) = o at hp ⊢
  have hy : ∀ y : S128x1024.Idx, o y
      = halves (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 9).blk t).view.emb y) := by
    intro y
    rw [emb_v t y]
    exact hp y
  exact hy y

end Cert.Open

end
-- ==== Proof.OpenRef.lean ====
/-
  The reference of the gating of rows that open a chunk in plain mathematics, at every row and column.
-/
module

public import proofs.«01_k».proof.Proof.OpenSpec
public import proofs.«01_k».proof.Proof.FfnRef
public import proofs.«01_k».proof.Proof.ExpPay
public import proofs.«01_k».proof.Proof.Gen.Reference7Ideal.Read

@[expose] public section

set_option maxRecDepth 16384

noncomputable section

namespace Cert.Open

open Cert.Reference7Ideal Cert.Reference7Ideal.Gen Cert.Reference7Ideal.Read Idealize.ShloMosaic Idealize.SL.Sem Cert.Moe Cert.Ffn Cert.Gate

variable (x0 : FVec Ideal S128x1024 .f32) (x1 : FVec Ideal S1024 .f32) (x2 : FVec Ideal S1024x2048 .f32) (x3 x4 : FVec Ideal S1024 .f32)
  (x5 : FVec Ideal S8x128x128 .f32) (x6 : FVec Ideal S8x128 .f32) (x7 : FVec Ideal S1024x1024 .f32)

/-- The rows, each a sequence of its own. -/
theorem row_ref (b : Fin 128) (d : Fin 1024) : val_main_v0 (F := Ideal) x0 (ix3 b 0 d) = x0 (ix2 b d) := by
  rw [val_main_v0_apply]
  refine congrArg x0 (funext fun a => match a with | ⟨0, _⟩ => Fin.ext ?_ | ⟨1, _⟩ => Fin.ext ?_)
  · show ((b.val * 1 + 0) * 1024 + d.val) / 1024 = b.val
    omega
  · show ((b.val * 1 + 0) * 1024 + d.val) % 1024 = d.val
    omega

/-- The normed rows. -/
theorem normed_ref (b : Fin 128) (d : Fin 1024) : val_main_v13 (F := Ideal) x0 x1 (ix3 b 0 d)
    = normed (fun e => val_main_v0 (F := Ideal) x0 (ix3 b 0 e)) (fun e => x1 (ix1 e)) d := by
  have hz : val_main_cst (F := Ideal) (Shape.Idx.first h_S_) = 0 := by
    rw [val_main_cst_apply]; exact Ideal.ofBits_zero _
  have hsq : val_main_v2 (F := Ideal) x0 (ix2 b 0)
      = ∑ e : Fin 1024, val_main_v0 (F := Ideal) x0 (ix3 b 0 e) * val_main_v0 (F := Ideal) x0 (ix3 b 0 e) := by
    rw [val_main_v2_apply, hz, zero_add]
    refine Finset.sum_congr rfl fun k _ => ?_
    rw [val_main_v1_apply]
    have e : idx_main_v2 (ix2 b 0) k = ix3 b 0 k := funext fun a => match a with | ⟨0, _⟩ => rfl | ⟨1, _⟩ => rfl | ⟨2, _⟩ => rfl
    rw [e]
    rfl
  have hi : idx_main_v3 (idx_main_v9 (ix3 b 0 d)) = ix2 b 0 := funext fun a => match a with | ⟨0, _⟩ => rfl | ⟨1, _⟩ => rfl
  have hg : idx_main_v11 (idx_main_v12 (ix3 b 0 d)) = ix1 d := funext fun a => match a with | ⟨0, _⟩ => rfl
  rw [val_main_v13_apply, val_main_v10_apply, val_main_v9_apply, val_main_v8_apply, val_main_v7_apply, val_main_v5_apply, val_main_v3_apply,
    val_main_v4_apply, val_main_v6_apply, val_main_cst_0_apply, val_main_cst_1_apply, val_main_v12_apply, val_main_v11_apply, hi, hg, hsq]
  rfl

/-- The normed rows against the input matrix. -/
theorem dot_ref (b : Fin 128) (d : Fin 2048) : val_main_v14 (F := Ideal) x0 x1 x2 (ix3 b 0 d)
    = against (normed (fun e => val_main_v0 (F := Ideal) x0 (ix3 b 0 e)) (fun e => x1 (ix1 e))) (fun e => x2 (ix2 e d)) := by
  rw [val_main_v14_apply]
  unfold against
  refine Finset.sum_congr rfl fun e _ => ?_
  have hl : lidx_main_v14 (ix3 b 0 d) e = ix3 b 0 e := funext fun a => match a with | ⟨0, _⟩ => rfl | ⟨1, _⟩ => rfl | ⟨2, _⟩ => rfl
  have hr : ridx_main_v14 (ix3 b 0 d) e = ix2 e d := funext fun a => match a with | ⟨0, _⟩ => rfl | ⟨1, _⟩ => rfl
  rw [hl, hr, normed_ref]

/-- The hidden channels. -/
theorem hidden_ref (b : Fin 128) (d : Fin 2048) : val_main_v27 (F := Ideal) x0 x1 x2 (ix3 b 0 d)
    = hidden (fun e => val_main_v0 (F := Ideal) x0 (ix3 b 0 e)) (fun e => x1 (ix1 e)) (fun e => x2 (ix2 e d)) := by
  rw [val_main_v27_apply, val_main_v26_apply, val_main_v25_apply, val_main_v24_apply, val_main_v23_apply, val_main_v22_apply, val_main_v21_apply,
    val_main_v20_apply, val_main_v19_apply, val_main_v18_apply, val_main_v17_apply, val_main_v16_apply, val_main_v15_apply,
    val_main_cst_2_apply, val_main_cst_3_apply, val_main_cst_4_apply, val_main_cst_5_apply, dot_ref]
  unfold Gate.hidden
  generalize against (normed (fun e => val_main_v0 (F := Ideal) x0 (ix3 b 0 e)) (fun e => x1 (ix1 e))) (fun e => x2 (ix2 e d)) = z
  rw [gelu, ← one_word, mul_comm z (z * z)]
  rfl

/-- The hidden channels of a chunk's first row: the other rows are filled up behind it. -/
theorem padded_ref (b : Fin 128) (d : Fin 2048) : val_main_v28 (F := Ideal) x0 x1 x2 (ix3 b 0 d)
    = hidden (fun e => x0 (ix2 b e)) (fun e => x1 (ix1 e)) (fun e => x2 (ix2 e d)) := by
  have h := hidden_ref x0 x1 x2 b d
  simp only [row_ref] at h
  rw [← h]
  unfold val_main_v28
  generalize val_main_v27 (F := Ideal) x0 x1 x2 = y
  unfold pad
  rw [dif_pos (fun a => match a with
    | ⟨0, _⟩ => ⟨Nat.zero_le _, Nat.mod_one _, by show (b.val - 0) / 1 < 128; omega⟩
    | ⟨1, _⟩ => ⟨Nat.zero_le _, Nat.mod_one _, by show (0 - 0) / 1 < 1; omega⟩
    | ⟨2, _⟩ => ⟨Nat.zero_le _, Nat.mod_one _, by show (d.val - 0) / 1 < 2048; omega⟩)]
  exact congrArg y (funext fun a => match a with
    | ⟨0, _⟩ => Fin.ext (by show (b.val - 0) / 1 = b.val; omega)
    | ⟨1, _⟩ => Fin.ext (by show (0 - 0) / 1 = 0; omega)
    | ⟨2, _⟩ => Fin.ext (by show (d.val - 0) / 1 = d.val; omega))

/-- The half that is mixed, normalised. -/
theorem lnorm_ref (b t : Fin 128) (d : Fin 1024) : val_main_v52 (F := Ideal) x0 x1 x2 x3 x4 (ix3 b t d)
    = lnorm (fun e => val_main_v30 (F := Ideal) x0 x1 x2 (ix3 b t e)) (fun e => x3 (ix1 e)) (fun e => x4 (ix1 e)) d := by
  have hz : val_main_cst_6 (F := Ideal) (Shape.Idx.first h_S_) = 0 := by
    rw [val_main_cst_6_apply]; exact Ideal.ofBits_zero _
  have hz' : val_main_cst_8 (F := Ideal) (Shape.Idx.first h_S_) = 0 := by
    rw [val_main_cst_8_apply]; exact Ideal.ofBits_zero _
  have hs : val_main_v31 (F := Ideal) x0 x1 x2 (ix2 b t) = ∑ e : Fin 1024, val_main_v30 (F := Ideal) x0 x1 x2 (ix3 b t e) := by
    rw [val_main_v31_apply, hz, zero_add]
    exact Finset.sum_congr rfl fun k _ => congrArg (val_main_v30 (F := Ideal) x0 x1 x2)
      (funext fun a => match a with | ⟨0, _⟩ => rfl | ⟨1, _⟩ => rfl | ⟨2, _⟩ => rfl)
  have hc : ∀ e : Fin 1024, val_main_v36 (F := Ideal) x0 x1 x2 (ix3 b t e)
      = centred (fun e => val_main_v30 (F := Ideal) x0 x1 x2 (ix3 b t e)) e := fun e => by
    have hi : idx_main_v32 (idx_main_v35 (ix3 b t e)) = ix2 b t := funext fun a => match a with | ⟨0, _⟩ => rfl | ⟨1, _⟩ => rfl
    rw [val_main_v36_apply, val_main_v35_apply, val_main_v34_apply, val_main_v32_apply, val_main_v33_apply, val_main_cst_7_apply, hi, hs]
    rfl
  have hq : val_main_v38 (F := Ideal) x0 x1 x2 (ix2 b t)
      = ∑ e : Fin 1024, centred (fun e => val_main_v30 (F := Ideal) x0 x1 x2 (ix3 b t e)) e
          * centred (fun e => val_main_v30 (F := Ideal) x0 x1 x2 (ix3 b t e)) e := by
    rw [val_main_v38_apply, hz', zero_add]
    refine Finset.sum_congr rfl fun k _ => ?_
    have e : idx_main_v38 (ix2 b t) k = ix3 b t k := funext fun a => match a with | ⟨0, _⟩ => rfl | ⟨1, _⟩ => rfl | ⟨2, _⟩ => rfl
    rw [val_main_v37_apply, e, hc]
    rfl
  have hi : idx_main_v39 (idx_main_v45 (ix3 b t d)) = ix2 b t := funext fun a => match a with | ⟨0, _⟩ => rfl | ⟨1, _⟩ => rfl
  have hg : idx_main_v47 (idx_main_v48 (ix3 b t d)) = ix1 d := funext fun a => match a with | ⟨0, _⟩ => rfl
  have hb : idx_main_v50 (idx_main_v51 (ix3 b t d)) = ix1 d := funext fun a => match a with | ⟨0, _⟩ => rfl
  rw [val_main_v52_apply, val_main_v49_apply, val_main_v46_apply, val_main_v45_apply, val_main_v44_apply, val_main_v43_apply, val_main_v41_apply,
    val_main_v39_apply, val_main_v40_apply, val_main_v42_apply, val_main_cst_9_apply, val_main_cst_10_apply, val_main_v48_apply,
    val_main_v47_apply, val_main_v51_apply, val_main_v50_apply, hi, hg, hb, hq, hc]
  rfl

/-- The mask that leaves out what is over the diagonal. -/
theorem tril_ref (r k : Fin 128) : val_main_v55 (F := Ideal) (ix2 r k) = if k ≤ r then 1 else 0 := by
  rw [val_main_v55_apply, val_main_call1_v4_apply, val_main_call1_v2_apply, val_main_call1_v0_apply, val_main_call1_v1_apply,
    val_main_call1_c_apply, val_main_call1_v3_apply, val_main_v54_apply, val_main_cst_11_apply, val_main_call1_v5_apply, val_main_call1_cst_apply]
  have hc : IntOp.cmpi CmpIPredicate.sge (IntOp.addi (BitVec.ofNat 32 r.val) 0#32) (BitVec.ofNat 32 k.val) = 1 ↔ k ≤ r := by
    rw [show IntOp.addi (BitVec.ofNat 32 r.val) 0#32 = BitVec.ofNat 32 r.val from BitVec.add_zero _]
    refine IntOp.cmpi_sge.trans ?_
    rw [toInt_small (show (r : ℕ) < 2147483648 by omega), toInt_small (show (k : ℕ) < 2147483648 by omega)]
    exact Int.ofNat_le
  unfold Scalar.select
  exact if_congr hc one_word (Ideal.ofBits_zero _)

/-- The spatial weights, those over the diagonal left out. -/
theorem lower_ref (g : Fin 8) (r k : Fin 128) : val_main_v58 (F := Ideal) x5 (ix3 g r k) = upTo r k (x5 (ix3 g r k)) := by
  have hi : idx_main_v56 (idx_main_v57 (ix3 g r k)) = ix2 r k := funext fun a => match a with | ⟨0, _⟩ => rfl | ⟨1, _⟩ => rfl
  rw [val_main_v58_apply, val_main_v57_apply, val_main_v56_apply, hi, tril_ref]
  exact upTo_mul r k _

/-- The half of a first row that gates. -/
theorem left_ref (b : Fin 128) (d : Fin 1024) : val_main_v29 (F := Ideal) x0 x1 x2 (ix3 b 0 d)
    = hidden (fun e => x0 (ix2 b e)) (fun e => x1 (ix1 e)) (fun e => x2 (ix2 e ⟨d, by omega⟩)) := by
  have e : idx_main_v29 (ix3 b 0 d) = ix3 b 0 ⟨d, by omega⟩ := funext fun a => match a with | ⟨0, _⟩ => rfl | ⟨1, _⟩ => rfl | ⟨2, _⟩ => rfl
  rw [val_main_v29_apply, e, padded_ref]

/-- The half of a first row that is normalised, before it is, -/
theorem right_ref (b : Fin 128) (d : Fin 1024) : val_main_v30 (F := Ideal) x0 x1 x2 (ix3 b 0 d)
    = hidden (fun e => x0 (ix2 b e)) (fun e => x1 (ix1 e)) (fun e => x2 (ix2 e ⟨1024 + d, by omega⟩)) := by
  have e : idx_main_v30 (ix3 b 0 d) = ix3 b 0 ⟨1024 + d, by omega⟩ :=
    funext fun a => match a with | ⟨0, _⟩ => rfl | ⟨1, _⟩ => rfl | ⟨2, _⟩ => rfl
  rw [val_main_v30_apply, e, padded_ref]

/-- and after it. -/
theorem half_ref (b : Fin 128) (d : Fin 1024) : val_main_v52 (F := Ideal) x0 x1 x2 x3 x4 (ix3 b 0 d)
    = halfAt (fun e => x0 (ix2 b e)) (fun e => x1 (ix1 e)) (fun e d => x2 (ix2 e d)) (fun d => x3 (ix1 d)) (fun d => x4 (ix1 d)) d := by
  rw [lnorm_ref]
  simp only [right_ref]
  rfl

/-- The mixed first row with its bias: of the chunk's rows only itself counts. -/
theorem mixed_ref (b : Fin 128) (d : Fin 1024) : val_main_v65 (F := Ideal) x0 x1 x2 x3 x4 x5 x6 (ix3 b 0 d)
    = x5 (ix3 ⟨d / 128, by omega⟩ 0 0) * val_main_v52 (F := Ideal) x0 x1 x2 x3 x4 (ix3 b 0 d) + x6 (ix2 ⟨d / 128, by omega⟩ 0) := by
  have hj : idx_main_v65 (ix3 b 0 d) = ix5 b 0 0 ⟨d / 128, by omega⟩ ⟨d % 128, by omega⟩ := by
    refine funext fun a => match a with | ⟨0, _⟩ => Fin.ext ?_ | ⟨1, _⟩ => rfl | ⟨2, _⟩ => Fin.ext ?_ | ⟨3, _⟩ => Fin.ext ?_ | ⟨4, _⟩ => Fin.ext ?_
    · show ((b.val * 128 + 0) * 1024 + d.val) / 131072 = b.val
      omega
    · show ((b.val * 128 + 0) * 1024 + d.val) / 1024 % 128 = 0
      omega
    · show ((b.val * 128 + 0) * 1024 + d.val) / 128 % 8 = d.val / 128
      omega
    · show ((b.val * 128 + 0) * 1024 + d.val) % 128 = d.val % 128
      omega
  rw [val_main_v65_apply, hj, val_main_v64_apply, val_main_v63_apply, val_main_v62_apply, val_main_v61_apply, val_main_v60_apply, val_main_v59_apply,
    ← first_row (fun k => x5 (ix3 ⟨d / 128, by omega⟩ 0 k)) (fun k => val_main_v52 (F := Ideal) x0 x1 x2 x3 x4 (ix3 b k d))]
  refine congrArg₂ (fun a b : EReal => a + b) (Finset.sum_congr rfl fun k _ => ?_)
    (congrArg x6 (funext fun a => match a with | ⟨0, _⟩ => rfl | ⟨1, _⟩ => rfl))
  rw [mul_comm]
  refine congrArg₂ (fun a b : EReal => a * b) ?_ ?_
  · rw [← lower_ref]
    exact congrArg (val_main_v58 (F := Ideal) x5) (funext fun a => match a with | ⟨0, _⟩ => rfl | ⟨1, _⟩ => rfl | ⟨2, _⟩ => rfl)
  · rw [val_main_v53_apply]
    refine congrArg (val_main_v52 (F := Ideal) x0 x1 x2 x3 x4)
      (funext fun a => match a with | ⟨0, _⟩ => Fin.ext ?_ | ⟨1, _⟩ => Fin.ext ?_ | ⟨2, _⟩ => Fin.ext ?_)
    · show ((((b.val * 1 + 0) * 128 + k.val) * 8 + d.val / 128) * 128 + d.val % 128) / 131072 = b.val
      omega
    · show ((((b.val * 1 + 0) * 128 + k.val) * 8 + d.val / 128) * 128 + d.val % 128) / 1024 % 128 = k.val
      omega
    · show ((((b.val * 1 + 0) * 128 + k.val) * 8 + d.val / 128) * 128 + d.val % 128) % 1024 = d.val
      omega

/-- The gated channels of a first row. -/
theorem gate_ref (b : Fin 128) (d : Fin 1024) : val_main_v67 (F := Ideal) x0 x1 x2 x3 x4 x5 x6 (ix3 b 0 d)
    = openGate (fun e => x0 (ix2 b e)) (fun e => x1 (ix1 e)) (fun e d => x2 (ix2 e d)) (fun d => x3 (ix1 d)) (fun d => x4 (ix1 d))
        (fun a => x5 (ix3 a 0 0)) (fun a => x6 (ix2 a 0)) d := by
  have e : idx_main_v67 (ix3 b 0 d) = ix3 b 0 d := funext fun a => match a with | ⟨0, _⟩ => rfl | ⟨1, _⟩ => rfl | ⟨2, _⟩ => rfl
  rw [val_main_v67_apply, e, val_main_v66_apply, left_ref, mixed_ref, half_ref]
  rfl

/-- The reference's first result at a row and a column; -/
theorem result_y (n : Fin 128) (q : Fin 1024) : val_main_v70 (F := Ideal) x0 x1 x2 x3 x4 x5 x6 x7 (ix2 n q)
    = openAt (fun e => x0 (ix2 n e)) (fun e => x1 (ix1 e)) (fun e d => x2 (ix2 e d)) (fun d => x3 (ix1 d)) (fun d => x4 (ix1 d))
        (fun a => x5 (ix3 a 0 0)) (fun a => x6 (ix2 a 0)) (fun d q => x7 (ix2 d q)) q := by
  have hj : idx_main_v70 (ix2 n q) = ix3 n 0 q := by
    refine funext fun a => match a with | ⟨0, _⟩ => Fin.ext ?_ | ⟨1, _⟩ => rfl | ⟨2, _⟩ => Fin.ext ?_
    · show (n.val * 1024 + q.val) / 1024 = n.val
      omega
    · show (n.val * 1024 + q.val) % 1024 = q.val
      omega
  have hl : ∀ d : Fin 1024, lidx_main_v68 (ix3 n 0 q) d = ix3 n 0 d :=
    fun d => funext fun a => match a with | ⟨0, _⟩ => rfl | ⟨1, _⟩ => rfl | ⟨2, _⟩ => rfl
  have hr : ∀ d : Fin 1024, ridx_main_v68 (ix3 n 0 q) d = ix2 d q :=
    fun d => funext fun a => match a with | ⟨0, _⟩ => rfl | ⟨1, _⟩ => rfl
  rw [val_main_v70_apply, hj, val_main_v69_apply, row_ref, val_main_v68_apply]
  simp only [hl, hr, gate_ref]
  rfl

/-- and its second. -/
theorem result_v (n : Fin 128) (q : Fin 1024) : val_main_v72 (F := Ideal) x0 x1 x2 x3 x4 (ix2 n q)
    = halfAt (fun e => x0 (ix2 n e)) (fun e => x1 (ix1 e)) (fun e d => x2 (ix2 e d)) (fun d => x3 (ix1 d)) (fun d => x4 (ix1 d)) q := by
  have hj : idx_main_v71 (idx_main_v72 (ix2 n q)) = ix3 n 0 q := by
    refine funext fun a => match a with | ⟨0, _⟩ => Fin.ext ?_ | ⟨1, _⟩ => rfl | ⟨2, _⟩ => Fin.ext ?_
    · show (n.val * 1024 + q.val) / 1024 = n.val
      omega
    · show (n.val * 1024 + q.val) % 1024 = q.val
      omega
  rw [val_main_v72_apply, val_main_v71_apply, hj, half_ref]

end Cert.Open

end
-- ==== Proof.Open.lean ====
/-
  The kernel of the gating of rows that open a chunk, and the reference, end with equal outputs.
-/
module

public import proofs.«01_k».proof.Defs
public import proofs.«01_k».proof.Proof.OpenFinal
public import proofs.«01_k».proof.Proof.OpenRef

@[expose] public section

set_option maxRecDepth 16384

noncomputable section

namespace Cert.Open

open Idealize.ShloMosaic Idealize.SL.Sem

/-- The reference ends with its arguments as they were, and every counter at zero. -/
theorem reference_frame : Cert.quiescent_Reference7Ideal (hReference7Ideal := Cert.Reference7Ideal.Gen.facts) := fun m ρ _ =>
  (θ_run Cert.Reference7Ideal.defs _ _).mono (fun r h => ⟨fun c => (h c).2.2, sem_eq_zero_of_no_sems (by decide) r.2⟩)
    (Cert.Reference7Ideal.Value.run m ρ)

section
open Cert.Kernel7Ideal
variable (x : S128x1024.Idx → EReal) (g : S1024.Idx → EReal) (W : S1024x2048.Idx → EReal) (lg lb : S1024.Idx → EReal)
  (w : S8x128x128.Idx → EReal) (b : S8x128.Idx → EReal) (wo : S1024x1024.Idx → EReal)

/-- The reference's rows after the gating, as an array of the arguments, are the kernel's; -/
theorem reference_y : Cert.Reference7Ideal.Read.val_main_v70 (F := Ideal) x g W lg lb w b wo = rows x g W lg lb w b wo := by
  funext i
  have e : i = ix2 (i 0) (i 1) := funext fun a => match a with | ⟨0, _⟩ => rfl | ⟨1, _⟩ => rfl
  rw [e]
  exact result_y x g W lg lb w b wo (i 0) (i 1)
/-- so are its normalised halves. -/
theorem reference_v : Cert.Reference7Ideal.Read.val_main_v72 (F := Ideal) x g W lg lb = halves x g W lg lb := by
  funext i
  have e : i = ix2 (i 0) (i 1) := funext fun a => match a with | ⟨0, _⟩ => rfl | ⟨1, _⟩ => rfl
  rw [e]
  exact result_v x g W lg lb (i 0) (i 1)
end

/-- From memories that agree on the arguments, kernel and reference end with the same two outputs. -/
theorem algebraic : Cert.algebraic_Kernel7Ideal_Reference7Ideal (hKernel7Ideal := Cert.Kernel7Ideal.Gen.facts)
    (hReference7Ideal := Cert.Reference7Ideal.Gen.facts) := by
  intro m ρ m' ρ' _ hagree
  refine ⟨fun c => (Cert.Kernel7Ideal.Gen.dats m 0 c).arrAt 8 Cert.Kernel7Ideal.cfg0.N,
    fun c => (Cert.Kernel7Ideal.Gen.dats m 0 c).arrAt 9 Cert.Kernel7Ideal.cfg0.N, ?_, ?_⟩
  · exact Cert.Kernel7Ideal.Value.run_blocks m ρ
  · refine (θ_run Cert.Reference7Ideal.defs _ _).mono (fun r h c => ?_) (Cert.Reference7Ideal.Value.run m' ρ')
    obtain ⟨h0, h1, h2, h3, h4, h5, h6, h7⟩ := hagree c
    refine ⟨(h c).1.trans ?_, (h c).2.1.trans ?_, (h c).2.2⟩
    · rw [Cert.Reference7Ideal.Read.val_main_v70_eq, h0, h1, h2, h3, h4, h5, h6, h7]
      exact (reference_y _ _ _ _ _ _ _ _).trans (final_y m c).symm
    · rw [Cert.Reference7Ideal.Read.val_main_v72_eq, h0, h1, h2, h3, h4]
      exact (reference_v _ _ _ _ _).trans (final_v m c).symm

end Cert.Open

end
-- ==== Proof.StepSpec.lean ====
/-
  The attention of one new token per sequence, over the extended reals: a row over the 128 cached keys and the new one,
  and the same row written over the 129 keys together.
-/
module

public import proofs.«01_k».proof.Proof.Spec

@[expose] public section

set_option maxRecDepth 16384

noncomputable section

namespace Cert.Step

open Idealize.ShloMosaic Cert.Attn

/-- The largest of the cached keys' scores `s`, the new key's score `u` and the sink `k`. -/
def top (s : Fin 128 → EReal) (u k : EReal) : EReal := max (max (Finset.fold max neg (fun x => s x) Finset.univ) u) k

/-- The denominator of the row. -/
def den (s : Fin 128 → EReal) (u k : EReal) : EReal :=
  ∑ x, Ideal.exp (s x - top s u k) + Ideal.exp (u - top s u k) + Ideal.exp (k - top s u k)

/-- The row: the cached values `v` and the new value `w`, weighted by the probabilities. -/
def stepRow (s : Fin 128 → EReal) (u k : EReal) (v : Fin 128 → EReal) (w : EReal) : EReal :=
  ∑ x, Ideal.div (Ideal.exp (s x - top s u k)) (den s u k) * v x + Ideal.div (Ideal.exp (u - top s u k)) (den s u k) * w

/-- The score of cached key `j` in head `h`: the oldest lies outside the window. -/
def oldScore (h : ℕ) (q : Fin 64 → EReal) (kc : Fin 128 → Fin 64 → EReal) (j : Fin 128) : EReal :=
  if 1 ≤ (j : ℕ) then (∑ e, q e * kc j e) - slope h * dist 0 j else neg

/-- The output of head `h` for a query `q`, the cached keys `kc`, the new key `kn`, a sink, and a column of values. -/
def stepAt (h : ℕ) (q : Fin 64 → EReal) (kc : Fin 128 → Fin 64 → EReal) (kn : Fin 64 → EReal) (sink : EReal)
    (v : Fin 128 → EReal) (w : EReal) : EReal :=
  stepRow (oldScore h q kc) (∑ e, q e * kn e) sink v w

/-- The output for sequence `b`, group `n`, head `g` and column `d`, from the queries, the new keys and values, the cached
    ones and the sinks. -/
def rowAt (q : (⟨2, ![128, 512]⟩ : Shape).Idx → EReal) (k v : (⟨2, ![128, 128]⟩ : Shape).Idx → EReal)
    (ck cv : (⟨4, ![128, 128, 2, 64]⟩ : Shape).Idx → EReal) (sinks : (⟨1, ![8]⟩ : Shape).Idx → EReal)
    (b : Fin 128) (n : Fin 2) (g : Fin 4) (d : Fin 64) : EReal :=
  stepAt (g + 4 * n) (fun e => q (ix2 b ⟨64 * (g + 4 * n) + e, by omega⟩)) (fun j e => ck (ix4 b j n e))
    (fun e => k (ix2 b ⟨64 * n + e, by omega⟩)) (sinks (ix1 ⟨g + 4 * n, by omega⟩)) (fun j => cv (ix4 b j n d))
    (v (ix2 b ⟨64 * n + d, by omega⟩))

/-- The largest score of 129 keys and the sink. -/
def top129 (s : Fin 129 → EReal) (k : EReal) : EReal := max (Finset.fold max neg (fun x => s x) Finset.univ) k
/-- Their denominator. -/
def den129 (s : Fin 129 → EReal) (k : EReal) : EReal := ∑ x, Ideal.exp (s x - top129 s k) + Ideal.exp (k - top129 s k)

section
variable (s : Fin 129 → EReal) (k : EReal)

/-- The largest of 129 scores is that of the first 128 and the last. -/
theorem top129_eq : top129 s k = top (fun x => s x.castSucc) (s (Fin.last 128)) k := by
  unfold top129 top
  rw [Fin.univ_castSuccEmb, Finset.fold_cons, Finset.fold_map, max_comm (s (Fin.last 128))]
  rfl

/-- So is the denominator. -/
theorem den129_eq : den129 s k = den (fun x => s x.castSucc) (s (Fin.last 128)) k := by
  unfold den129 den
  rw [Fin.sum_univ_castSucc, top129_eq]

/-- A row over 129 keys is the row over the first 128 and the last. -/
theorem row129_eq (v : Fin 129 → EReal) : ∑ x, Ideal.div (Ideal.exp (s x - top129 s k)) (den129 s k) * v x
    = stepRow (fun x => s x.castSucc) (s (Fin.last 128)) k (fun x => v x.castSucc) (v (Fin.last 128)) := by
  unfold stepRow
  rw [Fin.sum_univ_castSucc, top129_eq, den129_eq]
end

end Cert.Step

end
-- ==== Proof.StepPay.lean ====
/-
  What one grid point of the attention of one new token per sequence stores, at a sequence, a head and a column.
-/
module

public import proofs.«01_k».proof.Proof.StepSpec
public import proofs.«01_k».proof.Proof.Block
public import proofs.«01_k».proof.Proof.Gen.Kernel8Ideal.Frame

@[expose] public section

set_option maxRecDepth 16384

noncomputable section

namespace Cert.Step

open Cert.Kernel8Ideal Cert.Kernel8Ideal.Gen Idealize.ShloMosaic Idealize.SL.Sem Cert.Attn

/-- The slope of head `n` as a power of two. -/
theorem slope_pow (n : ℕ) : Ideal.exp2 (0 - (((n + 1 : ℤ) : ℝ) : EReal)) = Attn.slope n := by
  rw [zero_sub, ← EReal.coe_neg, Ideal.exp2_coe]
  unfold Attn.slope
  refine congrArg Real.toEReal ?_
  have e : -(((n + 1 : ℤ) : ℝ)) = -(((n + 1 : ℕ) : ℝ)) := by push_cast; rfl
  rw [e]
  show (2 : ℝ) ^ (-(((n + 1 : ℕ) : ℝ))) = _
  rw [Real.rpow_neg (by norm_num), Real.rpow_natCast, one_div]

/-- A small head's number plus a small offset. -/
theorem head_int (g : Fin 4) (n : ℕ) (hn : n < 100) :
    (IntOp.addi (BitVec.ofNat 32 g.val) (BitVec.ofNat 32 n)).toInt = (g : ℤ) + n := by
  have hg := g.isLt
  simp only [IntOp.addi, BitVec.toInt_add, Cert.Attn.toInt_small (show (g : ℕ) < 2147483648 by omega),
    Cert.Attn.toInt_small (show n < 2147483648 by omega)]
  simp only [Int.bmod_def]
  omega

/-- The distance of a cached key. -/
theorem behind_int (j : Fin 128) : (IntOp.subi 128#32 (BitVec.ofNat 32 j.val)).toInt = 128 + ((0 : ℕ) : ℤ) - (j : ℤ) := by
  have hj := j.isLt
  simp only [IntOp.subi, BitVec.toInt_sub, Cert.Attn.toInt_small (show (j : ℕ) < 2147483648 by omega),
    show (128#32 : BitVec 32).toInt = 128 from rfl]
  simp only [Int.bmod_def]
  omega

/-- The slope of a head as the kernel computes it from the head's number. -/
theorem slope_word (g : Fin 4) (n : ℕ) (hn : n < 99) :
    FloatOps.exp2 (F := Ideal) (φ := .f32) (0 - FloatOps.sitofp (F := Ideal) .f32 (IntOp.addi (BitVec.ofNat 32 g.val) (BitVec.ofNat 32 (n + 1))))
      = Attn.slope (g.val + n) := by
  show Ideal.exp2 (0 - (((_ : BitVec 32).toInt : ℝ) : EReal)) = _
  rw [head_int g (n + 1) (by omega), ← slope_pow]
  push_cast
  rw [add_assoc]

/-- The distance of a cached key as the kernel computes it. -/
theorem behind_word (j : Fin 128) :
    FloatOps.sitofp (F := Ideal) .f32 (IntOp.subi 128#32 (BitVec.ofNat 32 j.val)) = Attn.dist 0 j := by
  show (((_ : BitVec 32).toInt : ℝ) : EReal) = _
  rw [behind_int]; rfl

/-- All the cached keys but the oldest are in the window. -/
theorem in_window (j : Fin 128) : IntOp.cmpi .sge (BitVec.ofNat 32 j.val) 1#32 = 1#1 ↔ 1 ≤ (j : ℕ) := by
  have hj := j.isLt
  rw [IntOp.cmpi_sge, Cert.Attn.toInt_small (show (j : ℕ) < 2147483648 by omega), show (1#32 : BitVec 32).toInt = 1 from rfl]
  omega

/-- The scores of the cached keys in a head of the first group, -/
theorem scores_lo (a : Vec Ideal S32x128x128 .f32) (b : Vec Ideal S32x1x4x64 .bf16) (r : Fin 32) (g : Fin 4) (j : Fin 128) :
    k0_pay6 (F := Ideal) a b (ix3 r g j)
      = oldScore g (fun e => b (ix4 r 0 g e)) (fun j e => a (ix3 r j ⟨e, by omega⟩)) j := by
  pointwise [k0_pay6, k0_pay2, k0_pay4, k0_pay5]
  unfold Scalar.select oldScore
  refine if_congr (in_window j) ?_ rfl
  rw [behind_word, slope_word g 0 (by omega)]
  rfl

/-- and in a head of the second. -/
theorem scores_hi (a : Vec Ideal S32x128x128 .f32) (b : Vec Ideal S32x1x4x64 .bf16) (r : Fin 32) (g : Fin 4) (j : Fin 128) :
    k0_pay12 (F := Ideal) (k0_pay2 a) (iota .tc S1x1x128 32 [2] iota_S1x1x128_d2_w32) k0_pay4 (iota .tc S1x4x1 32 [1] iota_S1x4x1_d1_w32) b (ix3 r g j)
      = oldScore (g + 4) (fun e => b (ix4 r 0 g e)) (fun j e => a (ix3 r j ⟨64 + e, by omega⟩)) j := by
  pointwise [k0_pay12, k0_pay2, k0_pay4, k0_pay11]
  unfold Scalar.select oldScore
  refine if_congr (in_window j) ?_ rfl
  rw [behind_word, slope_word g 4 (by omega)]

/-- The output of a head of the first group, -/
theorem row_lo (v : Vec Ideal S32x128x128 .f32) (s : FVec Ideal S32x4x128 .f32) (kn : Vec Ideal S32x1x64 .f32)
    (b : Vec Ideal S32x1x4x64 .bf16) (k : Vec Ideal S1x4x128 .f32) (w : Vec Ideal S32x1x64 .f32) (r : Fin 32) (g : Fin 4) (d : Fin 64) :
    k0_pay10 (k0_pay9 (F := Ideal) (k0_pay3 v) s (k0_pay7 kn) (k0_pay8 b) k w) (ix4 r 0 g d)
      = stepRow (fun j => s (ix3 r g j)) (∑ e : Fin 64, b (ix4 r 0 g e) * kn (ix3 r 0 e)) (k (ix3 0 g 0))
          (fun j => v (ix3 r j ⟨d, by omega⟩)) (w (ix3 r 0 d)) := by
  pointwise [k0_pay10, k0_pay9, k0_pay3, k0_pay7, k0_pay8, k0_pay5]
  rfl

/-- and of a head of the second. -/
theorem row_hi (v : Vec Ideal S32x128x128 .f32) (kn : Vec Ideal S32x1x64 .f32)
    (a : FVec Ideal S32x128x128 .bf16) (i6 : IVec S1x1x128 32) (i9 : FVec Ideal S1x1x128 .f32) (i10 : IVec S1x4x1 32)
    (b : Vec Ideal S32x1x4x64 .bf16) (k : Vec Ideal S1x4x128 .f32) (w : Vec Ideal S32x1x64 .f32) (r : Fin 32) (g : Fin 4) (d : Fin 64) :
    k0_pay1 (F := Ideal) (k0_pay3 v) (k0_pay12 a i6 i9 i10 b) (k0_pay13 b kn) (k0_pay14 k) (k0_pay15 a i6 i9 i10 b kn) w (ix4 r 0 g d)
      = stepRow (fun j => k0_pay12 (F := Ideal) a i6 i9 i10 b (ix3 r g j)) (∑ e : Fin 64, b (ix4 r 0 g e) * kn (ix3 r 0 e)) (k (ix3 0 g 0))
          (fun j => v (ix3 r j ⟨64 + d, by omega⟩)) (w (ix3 r 0 d)) := by
  unfold k0_pay15
  generalize k0_pay12 a i6 i9 i10 b = sc
  pointwise [k0_pay1, k0_pay3, k0_pay13, k0_pay14, k0_pay11]
  rfl

section
variable (x0 : Vec Ideal S2x4x128 .f32) (x1 : Vec Ideal S32x2x4x64 .bf16) (x2 x3 : Vec Ideal S32x2x64 .f32) (x4 x5 : Vec Ideal S32x128x128 .f32)

/-- What a point stores at sequence `r`, group `n`, head `g` and column `d`. -/
def storedAt (r : Fin 32) (n : Fin 2) (g : Fin 4) (d : Fin 64) : EReal :=
  stepAt (g + 4 * n) (fun e => x1 (ix4 r n g e)) (fun j e => x4 (ix3 r j ⟨64 * n + e, by omega⟩)) (fun e => x2 (ix3 r n e))
    (x0 (ix3 n g 0)) (fun j => x5 (ix3 r j ⟨64 * n + d, by omega⟩)) (x3 (ix3 r n d))

theorem stored_at (r : Fin 32) (n : Fin 2) (g : Fin 4) (d : Fin 64) :
    out0_6 x0 x1 x2 x3 x4 x5 (ix4 r n g d) = storedAt x0 x1 x2 x3 x4 x5 r n g d := by
  have place : ∀ (x : S32x1x4x64.Idx) (o : ℕ), (∀ a : Fin 4, ((ix4 r n g d : S32x2x4x64.Idx) a).val = ![0, o, 0, 0] a + (x a).val) →
      n.val = o ∧ x = (ix4 r 0 g d : S32x1x4x64.Idx) := by
    intro x o hx
    have h0 : r.val = 0 + (x 0).val := hx 0
    have h1 : n.val = o + (x 1).val := hx 1
    have h2 : g.val = 0 + (x 2).val := hx 2
    have h3 : d.val = 0 + (x 3).val := hx 3
    have l1 : (x 1).val < 1 := (x 1).isLt
    refine ⟨by omega, funext fun a => match a with
      | ⟨0, _⟩ => Fin.ext (by show (x 0).val = r.val; omega)
      | ⟨1, _⟩ => Fin.ext (by show (x 1).val = 0; omega)
      | ⟨2, _⟩ => Fin.ext (by show (x 2).val = g.val; omega)
      | ⟨3, _⟩ => Fin.ext (by show (x 3).val = d.val; omega)⟩
  have whole : ∀ z : Vec Ideal S32x128x128 .f32, View.ld z r0_0 = z := fun z => View.ld_unit_zero (by decide) _ _
  unfold_out out0_6
  rw [whole, whole]
  refine View.canon_eq_of_allAt _ _ _ (cover0_6 _ _ _) ?_
  refine View.allAt_cons_unit _ _ _ _ _ (fun x hx => ?_) (View.allAt_cons_unit _ _ _ _ _ (fun x hx => ?_) (View.allAt_nil _ _))
  · obtain ⟨hn, rfl⟩ := place x 1 hx
    obtain rfl : n = 1 := Fin.ext hn
    refine (row_hi x5 _ _ _ _ _ _ _ _ r g d).trans ?_
    unfold storedAt stepAt
    refine congr (congr (congr (congr (congrArg stepRow (funext fun j => (scores_hi x4 _ r g j).trans ?_)) ?_) ?_) (funext fun j => ?_)) ?_
    all_goals pointwise
  · obtain ⟨hn, rfl⟩ := place x 0 hx
    obtain rfl : n = 0 := Fin.ext hn
    refine (row_lo x5 _ _ _ _ _ r g d).trans ?_
    unfold storedAt stepAt
    refine congr (congr (congr (congr (congrArg stepRow (funext fun j => (scores_lo x4 _ r g j).trans ?_)) ?_) ?_) (funext fun j => ?_)) ?_
    all_goals pointwise
end

end Cert.Step

end
-- ==== Proof.StepFinal.lean ====
/-
  The output array of the attention of one new token per sequence: every grid point stores the rows of its sequences.
-/
module

public import proofs.«01_k».proof.Proof.StepPay
public import proofs.«01_k».proof.Proof.Gen.Kernel8Ideal.Value

@[expose] public section

set_option maxRecDepth 16384

noncomputable section

namespace Cert.Step

open Cert.Kernel8Ideal Cert.Kernel8Ideal.Gen Idealize.ShloMosaic Idealize.ShloMosaic.TcCoe Idealize.SL.Sem
open Idealize.ShloMosaic.Pipeline (Dat)

/-- The attention of the new tokens as an array of the arguments: the queries, the new keys and values, the cached ones
    and the sinks. -/
def steps (q : S128x512.Idx → EReal) (k v : S128x128.Idx → EReal) (ck cv : S128x128x2x64.Idx → EReal) (sinks : S8.Idx → EReal)
    (i : S128x2x4x64.Idx) : EReal :=
  rowAt q k v ck cv sinks (i 0) (i 1) (i 2) (i 3)

variable (m : (ℓ : Loc nD τ sig) → Buf (Elt Ideal) ℓ) (c : Dev nD)

/-- A grid point holds the sinks and 32 of the sequences. -/
theorem idx : ∀ t : Fin cfg0.N, win0_0.index t = ![0, 0, 0] ∧ win0_1.index t = ![t.val, 0, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0, 0] :=
  (by decide +kernel : ∀ t : Fin grid0.N, _)

/-- The sinks by group and head, the same in every lane. -/
theorem sinks_eq (n : Fin 2) (g : Fin 4) : V m c main_v1 (ix3 n g 0) = m ((c : Thread nD τ).loc main_arg5) (ix1 ⟨g + 4 * n, by omega⟩) := by
  unfold_abbrev_sides
  after_results
  pointwise
  exact congrArg (fun z => m ((c : Thread nD τ).loc main_arg5) (ix1 z)) (Fin.ext (by show n.val * 4 + g.val = g.val + 4 * n.val; omega))
/-- The queries by group and head. -/
theorem queries_eq (b : Fin 128) (n : Fin 2) (g : Fin 4) (e : Fin 64) : V m c main_v2 (ix4 b n g e)
    = m ((c : Thread nD τ).loc main_arg0) (ix2 b ⟨64 * (g + 4 * n) + e, by omega⟩) := by
  unfold_abbrev_sides
  after_results
  pointwise
  exact congrArg (fun z => m ((c : Thread nD τ).loc main_arg0) (ix2 b z)) (Fin.ext (by show n.val * 256 + g.val * 64 + e.val = 64 * (g.val + 4 * n.val) + e.val; omega))
/-- The new keys by group -/
theorem keys_eq (b : Fin 128) (n : Fin 2) (e : Fin 64) : V m c main_v3 (ix3 b n e)
    = m ((c : Thread nD τ).loc main_arg1) (ix2 b ⟨64 * n + e, by omega⟩) := by
  unfold_abbrev_sides
  after_results
  pointwise
  exact congrArg (fun z => m ((c : Thread nD τ).loc main_arg1) (ix2 b z)) (Fin.ext (by show n.val * 64 + e.val = 64 * n.val + e.val; omega))
/-- and the new values. -/
theorem values_eq (b : Fin 128) (n : Fin 2) (e : Fin 64) : V m c main_v4 (ix3 b n e)
    = m ((c : Thread nD τ).loc main_arg2) (ix2 b ⟨64 * n + e, by omega⟩) := by
  unfold_abbrev_sides
  after_results
  pointwise
  exact congrArg (fun z => m ((c : Thread nD τ).loc main_arg2) (ix2 b z)) (Fin.ext (by show n.val * 64 + e.val = 64 * n.val + e.val; omega))
/-- The cached keys with the groups side by side, -/
theorem old_keys_eq (b j : Fin 128) (n : Fin 2) (e : Fin 64) : V m c main_v5 (ix3 b j ⟨64 * n + e, by omega⟩)
    = m ((c : Thread nD τ).loc main_arg3) (ix4 b j n e) := by
  unfold_abbrev_sides
  after_results
  pointwise
/-- and the cached values. -/
theorem old_values_eq (b j : Fin 128) (n : Fin 2) (e : Fin 64) : V m c main_v6 (ix3 b j ⟨64 * n + e, by omega⟩)
    = m ((c : Thread nD τ).loc main_arg4) (ix4 b j n e) := by
  unfold_abbrev_sides
  after_results
  pointwise

section
variable (t : Fin cfg0.N)

/-- A sequence of a point. -/
abbrev seq (r : Fin 32) : Fin 128 := ⟨32 * t.val + r.val, by have : t.val < 4 := t.isLt; omega⟩

/-- What a point holds: the sinks, -/
theorem sinks_at (n : Fin 2) (g : Fin 4) : iblk m c 0 t (ix3 n g 0) = m ((c : Thread nD τ).loc main_arg5) (ix1 ⟨g + 4 * n, by omega⟩) := by
  refine Eq.trans ?_ (sinks_eq m c n g)
  blk_ext! [iblk, idx t]
/-- its sequences' queries, -/
theorem queries_at (r : Fin 32) (n : Fin 2) (g : Fin 4) (e : Fin 64) : iblk m c 1 t (ix4 r n g e)
    = m ((c : Thread nD τ).loc main_arg0) (ix2 (seq t r) ⟨64 * (g + 4 * n) + e, by omega⟩) := by
  refine Eq.trans ?_ (queries_eq m c (seq t r) n g e)
  blk_ext! [iblk, idx t]
/-- new keys -/
theorem keys_at (r : Fin 32) (n : Fin 2) (e : Fin 64) : iblk m c 2 t (ix3 r n e)
    = m ((c : Thread nD τ).loc main_arg1) (ix2 (seq t r) ⟨64 * n + e, by omega⟩) := by
  refine Eq.trans ?_ (keys_eq m c (seq t r) n e)
  blk_ext! [iblk, idx t]
/-- and new values, -/
theorem values_at (r : Fin 32) (n : Fin 2) (e : Fin 64) : iblk m c 3 t (ix3 r n e)
    = m ((c : Thread nD τ).loc main_arg2) (ix2 (seq t r) ⟨64 * n + e, by omega⟩) := by
  refine Eq.trans ?_ (values_eq m c (seq t r) n e)
  blk_ext! [iblk, idx t]
/-- and their cached keys -/
theorem old_keys_at (r : Fin 32) (j : Fin 128) (n : Fin 2) (e : Fin 64) : iblk m c 4 t (ix3 r j ⟨64 * n + e, by omega⟩)
    = m ((c : Thread nD τ).loc main_arg3) (ix4 (seq t r) j n e) := by
  refine Eq.trans ?_ (old_keys_eq m c (seq t r) j n e)
  blk_ext! [iblk, idx t]
/-- and values. -/
theorem old_values_at (r : Fin 32) (j : Fin 128) (n : Fin 2) (e : Fin 64) : iblk m c 5 t (ix3 r j ⟨64 * n + e, by omega⟩)
    = m ((c : Thread nD τ).loc main_arg4) (ix4 (seq t r) j n e) := by
  refine Eq.trans ?_ (old_values_eq m c (seq t r) j n e)
  blk_ext! [iblk, idx t]

/-- What a point stores are the rows of its sequences. -/
theorem block_at (r : Fin 32) (n : Fin 2) (g : Fin 4) (d : Fin 64) :
    out0_6 (iblk m c 0 t) (iblk m c 1 t) (iblk m c 2 t) (iblk m c 3 t) (iblk m c 4 t) (iblk m c 5 t) (ix4 r n g d)
      = steps (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (ix4 (seq t r) n g d) := by
  rw [stored_at, storedAt]
  simp only [sinks_at, queries_at, keys_at, values_at, old_keys_at, old_values_at]
  rfl

/-- The block of the output holds the point's sequences. -/
theorem emb (y : S32x2x4x64.Idx) : ((cfg0.win 6).blk t).view.emb y = ix4 (seq t (y 0)) (y 1) (y 2) (y 3) := by
  idx_vars y
  funext a
  match a with
  | ⟨0, _⟩ =>
    apply Fin.ext
    show ((((cfg0.win 6).blk t).view.emb (ix4 y0 y1 y2 y3) 0 : Fin _) : ℕ) = _
    blk_simp [idx t]
    show t.val * 32 + y0.val = 32 * t.val + y0.val
    omega
  | ⟨1, _⟩ =>
    apply Fin.ext
    show ((((cfg0.win 6).blk t).view.emb (ix4 y0 y1 y2 y3) 1 : Fin _) : ℕ) = _
    blk_simp [idx t]
  | ⟨2, _⟩ =>
    apply Fin.ext
    show ((((cfg0.win 6).blk t).view.emb (ix4 y0 y1 y2 y3) 2 : Fin _) : ℕ) = _
    blk_simp [idx t]
  | ⟨3, _⟩ =>
    apply Fin.ext
    show ((((cfg0.win 6).blk t).view.emb (ix4 y0 y1 y2 y3) 3 : Fin _) : ℕ) = _
    blk_simp [idx t]

end

/-- The output array after the run is the attention of the new tokens. -/
theorem final : (dats m 0 c).arrAt 6 cfg0.N
    = (steps (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
        : Vec Ideal S128x2x4x64 .bf16) := by
  refine (dats m 0 c).arrAt_eq_of_covers 6 _ (by decide +kernel) fun t _ y => ?_
  rw [after0_6]
  have hp := block_at m c t
  generalize out0_6 (iblk m c 0 t) (iblk m c 1 t) (iblk m c 2 t) (iblk m c 3 t) (iblk m c 4 t) (iblk m c 5 t) = o at hp ⊢
  have hy : ∀ y : S32x2x4x64.Idx, o y
      = steps (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 6).blk t).view.emb y) := by
    intro y
    rw [emb t y]
    idx_vars y
    exact hp y0 y1 y2 y3
  exact hy y

end Cert.Step

end
-- ==== Proof.StepRef.lean ====
/-
  The reference of the attention of one new token per sequence in plain mathematics, at every sequence, head and column.
-/
module

public import proofs.«01_k».proof.Proof.StepSpec
public import proofs.«01_k».proof.Proof.Block
public import proofs.«01_k».proof.Proof.Gen.Reference8Ideal.Read

@[expose] public section

set_option maxRecDepth 16384

noncomputable section

namespace Cert.Step

open Cert.Reference8Ideal Cert.Reference8Ideal.Gen Cert.Reference8Ideal.Read Idealize.ShloMosaic Idealize.SL.Sem Cert.Attn

variable (x0 : FVec Ideal S128x512 .bf16) (x1 x2 : FVec Ideal S128x128 .f32) (x3 x4 : FVec Ideal S128x128x2x64 .f32) (x5 : FVec Ideal S8 .f32)

/-- The new key, by group. -/
theorem new_ref (x : FVec Ideal S128x128 .f32) (b : Fin 128) (n : Fin 2) (e : Fin 64) :
    val_main_v0 (F := Ideal) x (ix4 b 0 n e) = x (ix2 b ⟨64 * n + e, by omega⟩) := by
  rw [val_main_v0_apply]
  refine congrArg x (funext fun a => match a with | ⟨0, _⟩ => Fin.ext ?_ | ⟨1, _⟩ => Fin.ext ?_)
  · show (((b.val * 1 + 0) * 2 + n.val) * 64 + e.val) / 128 = b.val
    omega
  · show (((b.val * 1 + 0) * 2 + n.val) * 64 + e.val) % 128 = 64 * n.val + e.val
    omega

/-- The keys of a sequence: the cached ones, then the new one. -/
theorem key_ref (b : Fin 128) (j : Fin 129) (n : Fin 2) (e : Fin 64) :
    val_main_v1 (F := Ideal) x1 x3 (ix4 b j n e)
      = if h : j.val < 128 then x3 (ix4 b ⟨j, h⟩ n e) else x1 (ix2 b ⟨64 * n + e, by omega⟩) := by
  pointwise [val_main_v1]
  split
  · rfl
  · refine Eq.trans (congrArg (val_main_v0 (F := Ideal) x1) (funext fun a => ?_)) (new_ref x1 b n e)
    match a with
    | ⟨0, _⟩ => rfl
    | ⟨1, _⟩ => exact Fin.ext (by show j.val - 128 = 0; omega)
    | ⟨2, _⟩ => rfl
    | ⟨3, _⟩ => rfl
/-- One of the cached keys -/
theorem old_key_ref (b : Fin 128) (j : Fin 128) (n : Fin 2) (e : Fin 64) :
    val_main_v1 (F := Ideal) x1 x3 (ix4 b j.castSucc n e) = x3 (ix4 b j n e) :=
  (key_ref x1 x3 b j.castSucc n e).trans (dif_pos j.isLt)
/-- and the new key. -/
theorem new_key_ref (b : Fin 128) (n : Fin 2) (e : Fin 64) :
    val_main_v1 (F := Ideal) x1 x3 (ix4 b (Fin.last 128) n e) = x1 (ix2 b ⟨64 * n + e, by omega⟩) :=
  (key_ref x1 x3 b (Fin.last 128) n e).trans (dif_neg (by simp))
/-- The values are laid out as the keys are. -/
theorem values_ref : val_main_v3 (F := Ideal) x2 x4 = val_main_v1 (F := Ideal) x2 x4 := rfl

/-- The queries by group and head. -/
theorem query_ref (b : Fin 128) (n : Fin 2) (g : Fin 4) (e : Fin 64) :
    val_main_v5 (F := Ideal) x0 (ix5 b 0 n g e) = x0 (ix2 b ⟨64 * (g + 4 * n) + e, by omega⟩) := by
  rw [val_main_v5_apply, val_main_v4_apply]
  refine congrArg x0 (funext fun a => match a with | ⟨0, _⟩ => Fin.ext ?_ | ⟨1, _⟩ => Fin.ext ?_)
  · show ((((b.val * 1 + 0) * 2 + n.val) * 4 + g.val) * 64 + e.val) / 512 = b.val
    omega
  · show ((((b.val * 1 + 0) * 2 + n.val) * 4 + g.val) * 64 + e.val) % 512 = 64 * (g.val + 4 * n.val) + e.val
    omega

/-- The slope of a head. -/
theorem slope_ref (i : S8.Idx) : val_main_v29 (F := Ideal) i = Attn.slope (i 0).val := by
  idx_vars i
  rw [val_main_v29_apply, val_main_v28_apply, val_main_cst_3_apply, val_main_v27_apply, val_main_v26_apply,
    val_main_v25_apply, val_main_c_2_apply, val_main_v24_apply, val_main_v23_apply, val_main_c_1_apply, val_main_v22_apply]
  show Ideal.div (Ideal.ofBits .f32 0x3F800000#32) (((IntOp.shli .host 1#32 (IntOp.addi 1#32 (BitVec.ofNat 32 i0.val))).toInt : ℝ) : EReal)
    = Attn.slope i0.val
  have h1 : Ideal.ofBits .f32 0x3F800000#32 = 1 := by
    simp [Ideal.ofBits, Ideal.ieee, -EReal.coe_mul]; norm_num
  have h2 : (IntOp.shli .host 1#32 (IntOp.addi 1#32 (BitVec.ofNat 32 i0.val))).toInt = 2 ^ (i0.val + 1) := by
    fin_cases i0 <;> rfl
  have h3 : ((2 ^ (i0.val + 1) : ℝ) : EReal) ≠ 0 := by
    rw [Ne, EReal.coe_eq_zero]; positivity
  rw [h1, h2, Ideal.div]
  push_cast
  rw [if_neg (by exact_mod_cast h3), one_mul, Attn.slope, one_div, EReal.coe_inv]
  norm_cast

/-- The distance of a key as the integers of the program compute it. -/
theorem behind_ref (j : Fin 129) :
    (IntOp.subi (IntOp.addi 128#32 (BitVec.ofNat 32 0)) (BitVec.ofNat 32 j.val)).toInt = 128 + ((0 : ℕ) : ℤ) - (j : ℤ) := by
  have hj := j.isLt
  simp only [IntOp.subi, IntOp.addi, BitVec.toInt_sub, BitVec.toInt_add,
    Cert.Attn.toInt_small (show (j : ℕ) < 2147483648 by omega), show (128#32 : BitVec 32).toInt = 128 from rfl,
    show (BitVec.ofNat 32 0).toInt = 0 from rfl]
  simp only [Int.bmod_def]
  omega

/-- How far a key lies behind the new token. -/
theorem dist_ref (i : S1x129.Idx) : val_main_v16 (F := Ideal) i = Attn.dist 0 (i 1).val := by
  rw [val_main_v16_apply, val_main_v15_apply, val_main_v14_apply, val_main_v13_apply, val_main_v12_apply,
    val_main_c_apply, val_main_v9_apply, val_main_v8_apply, val_main_v11_apply, val_main_v10_apply]
  show (((_ : BitVec 32).toInt : ℝ) : EReal) = _
  exact congrArg (fun z : ℤ => ((z : ℝ) : EReal)) (behind_ref (i 1))

/-- All the keys but the oldest are in the window. -/
theorem window_ref (i : S1x129.Idx) : val_main_v21 (F := Ideal) i = 1#1 ↔ 1 ≤ (i 1).val := by
  have h1 : (i 1).val < 129 := (i 1).isLt
  rw [val_main_v21_apply, val_main_v20_apply, val_main_v19_apply, val_main_cst_0_apply, val_main_v18_apply,
    val_main_v17_apply, val_main_cst_apply, dist_ref, IntOp.andi_eq_one]
  have hz : Ideal.ofBits .f32 0#32 = (((0 : ℤ) : ℝ) : EReal) := by simp [Ideal.ofBits_zero]
  have hw : Ideal.ofBits .f32 0x43000000#32 = (((128 : ℤ) : ℝ) : EReal) := by
    simp [Ideal.ofBits, Ideal.ieee, -EReal.coe_mul]; norm_num
  show Ideal.cmp .oge _ (Ideal.ofBits .f32 0#32) = 1#1 ∧ Ideal.cmp .olt _ (Ideal.ofBits .f32 0x43000000#32) = 1#1 ↔ _
  rw [hz, hw]
  unfold Attn.dist
  simp only [Ideal.cmp, EReal.coe_le_coe_iff, EReal.coe_lt_coe_iff, Int.cast_le, Int.cast_lt]
  rw [WordCmp.ofBool_decide_eq_one_iff, WordCmp.ofBool_decide_eq_one_iff]
  omega

/-- The score of a key, -/
def refScore (b : Fin 128) (n : Fin 2) (g : Fin 4) (j : Fin 129) : EReal := val_main_v38 (F := Ideal) x0 x1 x3 (ix5 b n g 0 j)

/-- as the queries and keys give it. -/
theorem score_ref (b : Fin 128) (n : Fin 2) (g : Fin 4) (j : Fin 129) : refScore x0 x1 x3 b n g j
    = if 1 ≤ j.val then (∑ e : Fin 64, x0 (ix2 b ⟨64 * (g + 4 * n) + e, by omega⟩) * val_main_v1 (F := Ideal) x1 x3 (ix4 b j n e))
        - Attn.slope (g + 4 * n) * Attn.dist 0 j.val else Attn.neg := by
  unfold refScore
  rw [val_main_v38_apply, val_main_call0_v1_apply]
  unfold Scalar.select
  refine if_congr (window_ref _) ?_ (by rw [val_main_call0_v2_apply]; rfl)
  rw [val_main_v37_apply, val_main_v36_apply, val_main_v35_apply, val_main_v34_apply, val_main_v33_apply, val_main_v32_apply,
    val_main_v31_apply, val_main_v30_apply, slope_ref, dist_ref, val_main_v7_apply, val_main_v6_apply]
  refine congrArg₂ (· - ·) (Finset.sum_congr rfl fun e _ => ?_) (congrArg₂ (· * ·) (congrArg Attn.slope ?_) rfl)
  · rw [mul_comm, ← query_ref x0]
    refine congrArg₂ (· * ·) (congrArg _ (funext fun a => ?_)) (congrArg _ (funext fun a => ?_))
    · match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl
      | ⟨2, _⟩ => rfl
      | ⟨3, _⟩ => rfl
  · show ((n.val * 4 + g.val) * 1 + 0) * 1 + 0 = g.val + 4 * n.val
    omega

/-- A cached key's score is the kernel's, -/
theorem old_score_ref (b : Fin 128) (n : Fin 2) (g : Fin 4) (j : Fin 128) : refScore x0 x1 x3 b n g j.castSucc
    = oldScore (g + 4 * n) (fun e => x0 (ix2 b ⟨64 * (g + 4 * n) + e, by omega⟩)) (fun j e => x3 (ix4 b j n e)) j := by
  rw [score_ref]
  simp only [old_key_ref]
  rfl

/-- and the new key's is its product with the query, for it lies at no distance. -/
theorem new_score_ref (b : Fin 128) (n : Fin 2) (g : Fin 4) : refScore x0 x1 x3 b n g (Fin.last 128)
    = ∑ e : Fin 64, x0 (ix2 b ⟨64 * (g + 4 * n) + e, by omega⟩) * x1 (ix2 b ⟨64 * n + e, by omega⟩) := by
  have hd : Attn.dist 0 (Fin.last 128).val = 0 := by simp [Attn.dist]
  rw [score_ref, if_pos (by simp), hd, mul_zero, sub_zero]
  simp only [new_key_ref]

/-- The sink of a head. -/
theorem sink_ref (b : Fin 128) (n : Fin 2) (g : Fin 4) : val_main_v43 (F := Ideal) x5 (ix5 b n g 0 0) = x5 (ix1 ⟨g + 4 * n, by omega⟩) := by
  rw [val_main_v43_apply, val_main_v42_apply, val_main_v39_apply]
  refine congrArg x5 (funext fun a => match a with | ⟨0, _⟩ => Fin.ext ?_)
  show ((n.val * 4 + g.val) * 1 + 0) * 1 + 0 = g.val + 4 * n.val
  omega

/-- The row's largest score, the sink included. -/
theorem top_ref (b : Fin 128) (n : Fin 2) (g : Fin 4) : val_main_v44 (F := Ideal) x0 x1 x3 x5 (ix5 b n g 0 0)
    = top129 (refScore x0 x1 x3 b n g) (x5 (ix1 ⟨g + 4 * n, by omega⟩)) := by
  rw [val_main_v44_apply, val_main_v41_apply, sink_ref]
  refine congrArg (fun z => max z (x5 (ix1 ⟨g + 4 * n, by omega⟩))) ?_
  unfold val_main_v40
  rw [Host.reduce_eq_fold_single FloatOps.maximumf _ _ reducesTo_S128x2x4x1x129_S128x2x4x1_d4 (by decide)]
  refine Finset.fold_congr fun x _ => ?_
  refine congrArg (val_main_v38 (F := Ideal) x0 x1 x3) (funext fun a => ?_)
  match a with
  | ⟨0, _⟩ => rfl
  | ⟨1, _⟩ => rfl
  | ⟨2, _⟩ => rfl
  | ⟨3, _⟩ => rfl
  | ⟨4, _⟩ => rfl

/-- The exponential of a score under it. -/
theorem exp_ref (b : Fin 128) (n : Fin 2) (g : Fin 4) (j : Fin 129) : val_main_v47 (F := Ideal) x0 x1 x3 x5 (ix5 b n g 0 j)
    = Ideal.exp (refScore x0 x1 x3 b n g j - top129 (refScore x0 x1 x3 b n g) (x5 (ix1 ⟨g + 4 * n, by omega⟩))) := by
  have e : idx_main_v45 (ix5 b n g 0 j) = ix5 b n g 0 0 := funext fun a => match a with
    | ⟨0, _⟩ => rfl | ⟨1, _⟩ => rfl | ⟨2, _⟩ => rfl | ⟨3, _⟩ => rfl | ⟨4, _⟩ => rfl
  rw [val_main_v47_apply, val_main_v46_apply, val_main_v45_apply, e, top_ref]
  rfl

/-- The denominator of a row. -/
theorem den_ref (b : Fin 128) (n : Fin 2) (g : Fin 4) : val_main_v54 (F := Ideal) x0 x1 x3 x5 (ix5 b n g 0 0)
    = den129 (refScore x0 x1 x3 b n g) (x5 (ix1 ⟨g + 4 * n, by omega⟩)) := by
  have hz : val_main_cst_6 (F := Ideal) (Shape.Idx.first h_S_) = 0 := by
    rw [val_main_cst_6_apply]; exact Ideal.ofBits_zero _
  have e : ∀ j : Fin 129, idx_main_v48 (idx_main_v49 (ix5 b n g 0 0)) j = ix5 b n g 0 j := fun j => funext fun a => match a with
    | ⟨0, _⟩ => rfl | ⟨1, _⟩ => rfl | ⟨2, _⟩ => rfl | ⟨3, _⟩ => rfl | ⟨4, _⟩ => rfl
  rw [val_main_v54_apply, val_main_v49_apply, val_main_v48_apply, hz, zero_add, val_main_v53_apply, val_main_v52_apply, top_ref]
  simp only [e, exp_ref]
  refine congrArg₂ (· + ·) rfl (congrArg (fun z => Ideal.exp (z - _)) ?_)
  exact sink_ref x5 b n g

/-- A probability. -/
theorem prob_ref (b : Fin 128) (n : Fin 2) (g : Fin 4) (j : Fin 129) : val_main_v56 (F := Ideal) x0 x1 x3 x5 (ix5 b n g 0 j)
    = Ideal.div (Ideal.exp (refScore x0 x1 x3 b n g j - top129 (refScore x0 x1 x3 b n g) (x5 (ix1 ⟨g + 4 * n, by omega⟩))))
        (den129 (refScore x0 x1 x3 b n g) (x5 (ix1 ⟨g + 4 * n, by omega⟩))) := by
  have e : idx_main_v55 (ix5 b n g 0 j) = ix5 b n g 0 0 := funext fun a => match a with
    | ⟨0, _⟩ => rfl | ⟨1, _⟩ => rfl | ⟨2, _⟩ => rfl | ⟨3, _⟩ => rfl | ⟨4, _⟩ => rfl
  rw [val_main_v56_apply, val_main_v55_apply, e, den_ref, exp_ref]
  rfl

/-- The result at a sequence, a head and a column. -/
theorem result_at (b : Fin 128) (n : Fin 2) (g : Fin 4) (d : Fin 64) :
    val_main_v60 (F := Ideal) x0 x1 x2 x3 x4 x5 (ix4 b n g d) = rowAt x0 x1 x2 x3 x4 x5 b n g d := by
  have e : idx_main_v58 (idx_main_v59 (ix4 b n g d)) = ix5 b n d g 0 := funext fun a => match a with
    | ⟨0, _⟩ => Fin.ext (show (((b.val * 2 + n.val) * 4 + g.val) * 64 + d.val) / 512 = b.val by omega)
    | ⟨1, _⟩ => Fin.ext (show (((b.val * 2 + n.val) * 4 + g.val) * 64 + d.val) / 256 % 2 = n.val by omega)
    | ⟨2, _⟩ => Fin.ext (show (((b.val * 2 + n.val) * 4 + g.val) * 64 + d.val) % 64 = d.val by omega)
    | ⟨3, _⟩ => Fin.ext (show (((b.val * 2 + n.val) * 4 + g.val) * 64 + d.val) / 64 % 4 = g.val by omega)
    | ⟨4, _⟩ => rfl
  have el : ∀ j : Fin 129, lidx_main_v57 (ix5 b n d g 0) j = ix4 b j n d := fun j => funext fun a => match a with
    | ⟨0, _⟩ => rfl | ⟨1, _⟩ => rfl | ⟨2, _⟩ => rfl | ⟨3, _⟩ => rfl
  have er : ∀ j : Fin 129, ridx_main_v57 (ix5 b n d g 0) j = ix5 b n g 0 j := fun j => funext fun a => match a with
    | ⟨0, _⟩ => rfl | ⟨1, _⟩ => rfl | ⟨2, _⟩ => rfl | ⟨3, _⟩ => rfl | ⟨4, _⟩ => rfl
  rw [val_main_v60_apply, val_main_v59_apply, val_main_v58_apply, e, val_main_v57_apply]
  refine Eq.trans (b := ∑ j : Fin 129, val_main_v3 (F := Ideal) x2 x4 (lidx_main_v57 (ix5 b n d g 0) j)
    * val_main_v56 (F := Ideal) x0 x1 x3 x5 (ridx_main_v57 (ix5 b n d g 0) j)) rfl ?_
  simp only [el, er, prob_ref, values_ref]
  refine (Finset.sum_congr rfl fun j _ => mul_comm _ _).trans ?_
  rw [row129_eq]
  unfold rowAt stepAt
  refine congr (congr (congr (congr (congrArg stepRow (funext fun j => old_score_ref x0 x1 x3 b n g j)) ?_) rfl) (funext fun j => ?_)) ?_
  · exact new_score_ref x0 x1 x3 b n g
  · exact old_key_ref x2 x4 b j n d
  · exact new_key_ref x2 x4 b n d

end Cert.Step

end
-- ==== Proof.Step.lean ====
/-
  The kernel of the attention of one new token per sequence, and the reference, end with equal outputs.
-/
module

public import proofs.«01_k».proof.Defs
public import proofs.«01_k».proof.Proof.StepFinal
public import proofs.«01_k».proof.Proof.StepRef
public import proofs.«01_k».proof.Proof.Gen.Reference8Ideal.Run

@[expose] public section

set_option maxRecDepth 16384

noncomputable section

namespace Cert.Step

open Idealize.ShloMosaic Idealize.SL.Sem

/-- The reference ends with its arguments as they were, and every counter at zero. -/
theorem reference_frame : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run m ρ)

section
open Cert.Kernel8Ideal

/-- The reference's output, as an array of the arguments, is the kernel's. -/
theorem reference_eq (q : S128x512.Idx → EReal) (k v : S128x128.Idx → EReal) (ck cv : S128x128x2x64.Idx → EReal)
    (sinks : S8.Idx → EReal) : Cert.Reference8Ideal.Read.val_main_v60 (F := Ideal) q k v ck cv sinks = steps q k v ck cv sinks := by
  funext i
  have e : i = ix4 (i 0) (i 1) (i 2) (i 3) := funext fun a => match a with
    | ⟨0, _⟩ => rfl | ⟨1, _⟩ => rfl | ⟨2, _⟩ => rfl | ⟨3, _⟩ => rfl
  rw [e]
  exact result_at q k v ck cv sinks (i 0) (i 1) (i 2) (i 3)
end

/-- From memories that agree on the arguments, kernel and reference end with the same output. -/
theorem algebraic : Cert.algebraic_Kernel8Ideal_Reference8Ideal (hKernel8Ideal := Cert.Kernel8Ideal.Gen.facts)
    (hReference8Ideal := Cert.Reference8Ideal.Gen.facts) := by
  intro m ρ m' ρ' _ hagree
  refine ⟨fun c => (Cert.Kernel8Ideal.Gen.dats m 0 c).arrAt 6 Cert.Kernel8Ideal.cfg0.N, ?_, ?_⟩
  · exact Cert.Kernel8Ideal.Value.run_blocks m ρ
  · refine (θ_run Cert.Reference8Ideal.defs _ _).mono (fun r h c => ?_) (Cert.Reference8Ideal.Value.run m' ρ')
    obtain ⟨h0, h1, h2, h3, h4, h5⟩ := hagree c
    refine ⟨(h c).1.trans ?_, (h c).2⟩
    rw [Cert.Reference8Ideal.Read.val_main_v60_eq, h0, h1, h2, h3, h4, h5]
    exact (reference_eq _ _ _ _ _ _).trans (final m c).symm

end Cert.Step

end
-- ==== Proof.SampPay.lean ====
/-
  What the grid point of the input projection of the sample stores, at a row and a column, in the extended reals.
-/
module

public import proofs.«01_k».proof.Proof.ProjSpec
public import proofs.«01_k».proof.Proof.Gen.Kernel9Ideal.Frame
public import Idealize.ShloMosaic.Lib.Pipeline.ReadBack

@[expose] public section

set_option maxRecDepth 16384

noncomputable section

namespace Cert.Samp

open Cert.Kernel9Ideal Cert.Kernel9Ideal.Gen Idealize.ShloMosaic Idealize.ShloMosaic.TcCoe Idealize.SL.Sem Cert.Moe Cert.Ffn
open Cert.Proj (proj glu query key value headNorm headMean head_mean proj_real IsReal)

variable (x0 : Vec Ideal S128x1024 .f32) (x1 : Vec Ideal S1x1024 .f32) (x2 : Vec Ideal S1024x1792 .bf16) (x3 : Vec Ideal S1x512 .f32)
  (x4 : Vec Ideal S1x128 .f32) (x5 : Vec Ideal S512x512 .bf16)

/-- A row of a block against a column of the matrix. -/
def projAt (r : Fin 128) (j : Fin 1792) : EReal := proj (fun e => x0 (ix2 r e)) (fun e => x1 (ix2 0 e)) (fun e j => x2 (ix2 e j)) j

/-- The normed rows of a block against the matrix. -/
theorem proj_at (r : Fin 128) (j : Fin 1792) : k0_pay4 (F := Ideal) x0 x1 x2 (ix2 r j) = projAt x0 x1 x2 r j := by
  pointwise [k0_pay4]
  rfl

/-- The rows a point holds against the matrix, as the body's last two stores read them. -/
theorem again : k0_pay10 (F := Ideal) x0 x1 x2 x3 x4 x5 = k0_pay4 x0 x1 x2 := by
  unfold k0_pay10
  rw [View.ld_unit_zero (by decide), View.ld_unit_zero (by decide), View.ld_unit_zero (by decide)]

/-- The body's stores, as functions of the blocks: the gated channels, -/
theorem stored_a : out0_6 x0 x1 x2 x3 x4 x5 = k0_pay5 (F := Ideal) x0 x1 x2 := by
  frame_out
/-- the queries, -/
theorem stored_q : out0_7 x0 x1 x2 x3 x4 x5
    = k0_pay1 (F := Ideal) (k0_pay7 x0 x1 x2) (k0_pay8 x3) (k0_pay9 x0 x1 x2 x5) := by
  frame_out
/-- the keys, -/
theorem stored_k : out0_8 x0 x1 x2 x3 x4 x5 = k0_pay2 (F := Ideal) (k0_pay4 x0 x1 x2) (k0_pay6 x5) x4 := by
  frame_out
  rw [again]
/-- and the values. -/
theorem stored_v : out0_9 x0 x1 x2 x3 x4 x5 = k0_pay3 (F := Ideal) (k0_pay4 x0 x1 x2) := by
  frame_out
  rw [again]

/-- A gated channel of a block. -/
theorem a_at (r : Fin 128) (q : Fin 512) : out0_6 x0 x1 x2 x3 x4 x5 (ix2 r q)
    = glu (projAt x0 x1 x2 r) q := by
  rw [stored_a, glu, ← proj_at, ← proj_at]
  pointwise [k0_pay5]

/-- A value channel of a block. -/
theorem v_at (r : Fin 128) (q : Fin 128) : out0_9 x0 x1 x2 x3 x4 x5 (ix2 r q)
    = value (projAt x0 x1 x2 r) q := by
  rw [stored_v, value, ← proj_at]
  pointwise [k0_pay3]

/-- A query column of a block, before its norm. -/
theorem q_pre_at (r : Fin 128) (q : Fin 512) : k0_pay7 (F := Ideal) x0 x1 x2 (ix2 r q) = projAt x0 x1 x2 r ⟨1024 + q, by omega⟩ := by
  rw [← proj_at]
  pointwise [k0_pay7]

section
variable (hg : ∀ e, IsReal (x1 (ix2 0 e))) (hw : ∀ (e : Fin 1024) (j : Fin 1792), 1024 ≤ j.val → j.val < 1664 → IsReal (x2 (ix2 e j)))
  (hs : ∀ k c : Fin 512, x5 (ix2 k c) = if k.val / 64 = c.val / 64 then 1 else 0)
include hg hw hs

/-- The mean square of a query channel's head. -/
theorem q_mean_at (r : Fin 128) (q : Fin 512) : k0_pay9 (F := Ideal) x0 x1 x2 x5 (ix2 r q)
    = headMean fun e => projAt x0 x1 x2 r ⟨1024 + (64 * (q / 64) + e), by omega⟩ := by
  have hr : ∀ k : Fin 512, IsReal (projAt x0 x1 x2 r ⟨1024 + k, by omega⟩) := fun k =>
    proj_real _ _ _ _ hg fun e => hw e _ (Nat.le_add_right _ _) (by show 1024 + k.val < 1664; omega)
  rw [← head_mean (fun k : Fin 512 => projAt x0 x1 x2 r ⟨1024 + k, by omega⟩) hr (q / 64) (by omega)]
  pointwise [k0_pay9, k0_pay6]
  simp only [q_pre_at, hs]

/-- A query channel of a block. -/
theorem q_at (h : Fin 64 → EReal) (r : Fin 128) (q : Fin 512) (hq : x3 (ix2 0 q) = h ⟨q % 64, by omega⟩) : out0_7 x0 x1 x2 x3 x4 x5 (ix2 r q)
    = query (projAt x0 x1 x2 r) h q := by
  have hm := q_mean_at x0 x1 x2 x5 hg hw hs r q
  have hp := q_pre_at x0 x1 x2 r q
  have hi : (⟨1024 + (64 * (q / 64) + q % 64), by omega⟩ : Fin 1792) = ⟨1024 + q, by omega⟩ :=
    Fin.ext (by show 1024 + (64 * (q.val / 64) + q.val % 64) = 1024 + q.val; omega)
  rw [stored_q]
  unfold query headNorm
  beta_reduce
  rw [hi, ← hm, ← hp, ← hq]
  generalize k0_pay9 (F := Ideal) x0 x1 x2 x5 = v
  generalize k0_pay7 (F := Ideal) x0 x1 x2 = u
  pointwise [k0_pay1, k0_pay8]
  rfl

/-- A key channel of a block. -/
theorem k_at (h : Fin 64 → EReal) (r : Fin 128) (q : Fin 128) (hq : x4 (ix2 0 q) = h ⟨q % 64, by omega⟩) : out0_8 x0 x1 x2 x3 x4 x5 (ix2 r q)
    = key (projAt x0 x1 x2 r) h q := by
  have hr : ∀ k : Fin 128, IsReal (projAt x0 x1 x2 r ⟨1536 + k, by omega⟩) := fun k =>
    proj_real _ _ _ _ hg fun e => hw e _ (by show 1024 ≤ 1536 + k.val; omega) (by show 1536 + k.val < 1664; omega)
  have hp : ∀ k : Fin 128, k0_pay4 (F := Ideal) x0 x1 x2 (ix2 r ⟨1536 + k, by omega⟩) = projAt x0 x1 x2 r ⟨1536 + k, by omega⟩ :=
    fun k => proj_at x0 x1 x2 r _
  have hi : (⟨1536 + (64 * (q / 64) + q % 64), by omega⟩ : Fin 1792) = ⟨1536 + q, by omega⟩ :=
    Fin.ext (by show 1536 + (64 * (q.val / 64) + q.val % 64) = 1536 + q.val; omega)
  have hs' : ∀ k : Fin 128, x5 (ix2 ⟨k, by omega⟩ ⟨q, by omega⟩) = if k.val / 64 = q.val / 64 then 1 else 0 :=
    fun k => hs ⟨k, by omega⟩ ⟨q, by omega⟩
  rw [stored_k]
  unfold key headNorm
  beta_reduce
  rw [hi, ← head_mean (fun k : Fin 128 => projAt x0 x1 x2 r ⟨1536 + k, by omega⟩) hr (q / 64) (by omega), ← hq]
  simp only [← hp, ← hs']
  generalize k0_pay4 (F := Ideal) x0 x1 x2 = u
  pointwise [k0_pay2, k0_pay6]
  rfl

end

end Cert.Samp

end
-- ==== Proof.SampFinal.lean ====
/-
  The output arrays of the input projection of the sample: the one grid point stores all of each.
-/
module

public import proofs.«01_k».proof.Proof.SampPay
public import proofs.«01_k».proof.Proof.ProjFinal

@[expose] public section

set_option maxRecDepth 16384

noncomputable section

namespace Cert.Samp

open Cert.Kernel9Ideal Cert.Kernel9Ideal.Gen Idealize.ShloMosaic Idealize.ShloMosaic.TcCoe Idealize.SL.Sem Cert.Moe Cert.Ffn
open Cert.Proj (proj glu query key value IsReal headWord headWord_eq sign)
open Idealize.ShloMosaic.Pipeline (Dat)

/-- A token's columns, of the arguments. -/
def row (x : S128x1024.Idx → EReal) (g : S1024.Idx → EReal) (W : S1024x1792.Idx → EReal) (n : Fin 128) : Fin 1792 → EReal :=
  proj (fun e => x (ix2 n e)) (fun e => g (ix1 e)) (fun e j => W (ix2 e j))

/-- The gated channels as an array of the arguments, -/
def glus (x : S128x1024.Idx → EReal) (g : S1024.Idx → EReal) (W : S1024x1792.Idx → EReal) (i : S128x512.Idx) : EReal :=
  glu (row x g W (i 0)) (i 1)
/-- the queries, -/
def queries (x : S128x1024.Idx → EReal) (g : S1024.Idx → EReal) (W : S1024x1792.Idx → EReal) (h : S64.Idx → EReal) (i : S128x512.Idx) : EReal :=
  query (row x g W (i 0)) (fun e => h (ix1 e)) (i 1)
/-- the keys, -/
def keys (x : S128x1024.Idx → EReal) (g : S1024.Idx → EReal) (W : S1024x1792.Idx → EReal) (h : S64.Idx → EReal) (i : S128x128.Idx) : EReal :=
  key (row x g W (i 0)) (fun e => h (ix1 e)) (i 1)
/-- and the values. -/
def vals (x : S128x1024.Idx → EReal) (g : S1024.Idx → EReal) (W : S1024x1792.Idx → EReal) (i : S128x128.Idx) : EReal :=
  value (row x g W (i 0)) (i 1)

variable (m : (ℓ : Loc nD τ sig) → Buf (Elt Ideal) ℓ) (c : Dev nD)

/-- The grid point holds all of everything. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

/-- The matrix as the kernel reads it is the argument: a change of format changes no value. -/
theorem w_eq : V m c main_v9 = m ((c : Thread nD τ).loc main_arg5) := by
  unfold_abbrev_sides
  simp only [hostOps0, hostOps0_1, hostOps0_2, List.flatten_cons, List.flatten_nil, List.append_nil, List.cons_append, List.nil_append]
  after_results
  rfl
/-- The norm's weights, in one row. -/
theorem norm_eq (d : Fin 1024) : V m c main_v8 (ix2 0 d) = m ((c : Thread nD τ).loc main_arg4) (ix1 d) := by
  unfold_abbrev_sides
  simp only [hostOps0, hostOps0_1, hostOps0_2, List.flatten_cons, List.flatten_nil, List.append_nil, List.cons_append, List.nil_append]
  after_results
  pointwise
/-- The query norm's weights, once for every head, in one row. -/
theorem qnorm_eq (q : Fin 512) : V m c main_v13 (ix2 0 q) = m ((c : Thread nD τ).loc main_arg6) (ix1 ⟨q % 64, by omega⟩) := by
  unfold_abbrev_sides
  simp only [hostOps0, hostOps0_1, hostOps0_2, List.flatten_cons, List.flatten_nil, List.append_nil, List.cons_append, List.nil_append]
  after_results
  pointwise
/-- The key norm's weights, once for every head, in one row. -/
theorem knorm_eq (q : Fin 128) : V m c main_v17 (ix2 0 q) = m ((c : Thread nD τ).loc main_arg7) (ix1 ⟨q % 64, by omega⟩) := by
  unfold_abbrev_sides
  simp only [hostOps0, hostOps0_1, hostOps0_2, List.flatten_cons, List.flatten_nil, List.append_nil, List.cons_append, List.nil_append]
  after_results
  pointwise

/-- Every channel's head, as the kernel's host part leaves it. -/
theorem heads_eq (k : Fin 512) : V m c main_v1 (ix1 k) = headWord k := by
  unfold_abbrev_sides
  simp only [hostOps0, hostOps0_1, hostOps0_2, List.flatten_cons, List.flatten_nil, List.append_nil, List.cons_append, List.nil_append]
  after_results
  simp only [StableHlo.TRef.ofBuf_toBuf]
  rfl

/-- The matrix of heads is one where two channels' head words agree. -/
theorem same_word (k q : Fin 512) : V m c main_v7 (ix2 k q) = FloatOps.uitofp (F := Ideal) .bf16 (IntOp.cmpi .eq (headWord k) (headWord q)) := by
  rw [← heads_eq m c k, ← heads_eq m c q]
  unfold_abbrev_sides
  simp only [hostOps0, hostOps0_1, hostOps0_2, List.flatten_cons, List.flatten_nil, List.append_nil, List.cons_append, List.nil_append]
  after_results
  simp only [StableHlo.TRef.ofBuf_toBuf]
  rfl

/-- The matrix of heads: one for two channels of one head, zero for two of different heads. -/
theorem same_head (k q : Fin 512) : V m c main_v7 (ix2 k q) = if k.val / 64 = q.val / 64 then (1 : EReal) else 0 := by
  rw [same_word, headWord_eq, headWord_eq]
  have e : (BitVec.ofNat 32 (k.val / 64) = BitVec.ofNat 32 (q.val / 64)) ↔ k.val / 64 = q.val / 64 := by
    rw [← BitVec.toNat_inj, BitVec.toNat_ofNat, BitVec.toNat_ofNat, Nat.mod_eq_of_lt (by omega), Nat.mod_eq_of_lt (by omega)]
  show ((((BitVec.ofBool (BitVec.ofNat 32 (k.val / 64) == BitVec.ofNat 32 (q.val / 64))).toNat : ℝ)) : EReal) = _
  by_cases h : k.val / 64 = q.val / 64
  · rw [if_pos h, h]; simp
  · rw [if_neg h, beq_false_of_ne (fun he => h (e.mp he))]; simp

section
variable (t : Fin cfg0.N)

/-- The rows a point holds are all of them. -/
theorem x_at (r : Fin 128) (d : Fin 1024) : iblk m c 0 t (ix2 r d) = m ((c : Thread nD τ).loc main_arg0) (ix2 r d) := by
  blk_ext! [iblk, V_main_arg0 m c, idx t]
/-- The norm's weights a point holds are all of them; -/
theorem g_at (d : Fin 1024) : iblk m c 1 t (ix2 0 d) = m ((c : Thread nD τ).loc main_arg4) (ix1 d) := by
  refine Eq.trans ?_ (norm_eq m c d)
  blk_ext! [iblk, idx t]
/-- so is the matrix, -/
theorem w_at (e : Fin 1024) (j : Fin 1792) : iblk m c 2 t (ix2 e j) = m ((c : Thread nD τ).loc main_arg5) (ix2 e j) := by
  refine Eq.trans ?_ (congrFun (w_eq m c) (ix2 e j))
  blk_ext! [iblk, idx t]
/-- the query norm's weights, -/
theorem qg_at (q : Fin 512) : iblk m c 3 t (ix2 0 q) = m ((c : Thread nD τ).loc main_arg6) (ix1 ⟨q % 64, by omega⟩) := by
  refine Eq.trans ?_ (qnorm_eq m c q)
  blk_ext! [iblk, idx t]
/-- the key norm's weights, -/
theorem kg_at (q : Fin 128) : iblk m c 4 t (ix2 0 q) = m ((c : Thread nD τ).loc main_arg7) (ix1 ⟨q % 64, by omega⟩) := by
  refine Eq.trans ?_ (knorm_eq m c q)
  blk_ext! [iblk, idx t]
/-- and the matrix of heads. -/
theorem heads_at (k q : Fin 512) : iblk m c 5 t (ix2 k q) = if k.val / 64 = q.val / 64 then (1 : EReal) else 0 := by
  refine Eq.trans ?_ (same_head m c k q)
  blk_ext! [iblk, idx t]

/-- A row of a point's blocks against the matrix is the token's. -/
theorem row_at (r : Fin 128) : projAt (iblk m c 0 t) (iblk m c 1 t) (iblk m c 2 t) r
    = row (m ((c : Thread nD τ).loc main_arg0)) (m ((c : Thread nD τ).loc main_arg4)) (m ((c : Thread nD τ).loc main_arg5)) r := by
  funext j
  unfold projAt row
  simp only [x_at m c t, g_at m c t, w_at m c t]

end

/-- The array of gated channels after the run. -/
theorem final_a : (dats m 0 c).arrAt 6 cfg0.N
    = (glus (m ((c : Thread nD τ).loc main_arg0)) (m ((c : Thread nD τ).loc main_arg4)) (m ((c : Thread nD τ).loc main_arg5)) : Vec Ideal S128x512 .f32) := by
  refine (dats m 0 c).arrAt_eq_of_covers 6 _ (by decide +kernel) fun t _ y => ?_
  rw [after0_6]
  have hp := fun (r : Fin 128) (q : Fin 512) => a_at (iblk m c 0 t) (iblk m c 1 t) (iblk m c 2 t) (iblk m c 3 t) (iblk m c 4 t) (iblk m c 5 t) r q
  generalize out0_6 (iblk m c 0 t) (iblk m c 1 t) (iblk m c 2 t) (iblk m c 3 t) (iblk m c 4 t) (iblk m c 5 t) = o at hp ⊢
  have hy : ∀ y : S128x512.Idx, o y
      = glus (m ((c : Thread nD τ).loc main_arg0)) (m ((c : Thread nD τ).loc main_arg4)) (m ((c : Thread nD τ).loc main_arg5)) (((cfg0.win 6).blk t).view.emb y) := by
    intro y
    idx_vars y
    rw [hp, row_at m c t y0, glus]
    congr 1
    · congr 1
      apply Fin.ext
      show _ = ((((cfg0.win 6).blk t).view.emb (ix2 y0 y1) 0 : Fin _) : ℕ)
      blk_simp [idx t]
    · apply Fin.ext
      show _ = ((((cfg0.win 6).blk t).view.emb (ix2 y0 y1) 1 : Fin _) : ℕ)
      blk_simp [idx t]
  exact hy y

/-- The array of values after the run. -/
theorem final_v : (dats m 0 c).arrAt 9 cfg0.N
    = (vals (m ((c : Thread nD τ).loc main_arg0)) (m ((c : Thread nD τ).loc main_arg4)) (m ((c : Thread nD τ).loc main_arg5)) : Vec Ideal S128x128 .f32) := by
  refine (dats m 0 c).arrAt_eq_of_covers 9 _ (by decide +kernel) fun t _ y => ?_
  rw [after0_9]
  have hp := fun (r : Fin 128) (q : Fin 128) => v_at (iblk m c 0 t) (iblk m c 1 t) (iblk m c 2 t) (iblk m c 3 t) (iblk m c 4 t) (iblk m c 5 t) r q
  generalize out0_9 (iblk m c 0 t) (iblk m c 1 t) (iblk m c 2 t) (iblk m c 3 t) (iblk m c 4 t) (iblk m c 5 t) = o at hp ⊢
  have hy : ∀ y : S128x128.Idx, o y
      = vals (m ((c : Thread nD τ).loc main_arg0)) (m ((c : Thread nD τ).loc main_arg4)) (m ((c : Thread nD τ).loc main_arg5)) (((cfg0.win 9).blk t).view.emb y) := by
    intro y
    idx_vars y
    rw [hp, row_at m c t y0, vals]
    congr 1
    · congr 1
      apply Fin.ext
      show _ = ((((cfg0.win 9).blk t).view.emb (ix2 y0 y1) 0 : Fin _) : ℕ)
      blk_simp [idx t]
    · apply Fin.ext
      show _ = ((((cfg0.win 9).blk t).view.emb (ix2 y0 y1) 1 : Fin _) : ℕ)
      blk_simp [idx t]
  exact hy y

section
variable (hg : ∀ e : Fin 1024, IsReal (m ((c : Thread nD τ).loc main_arg4) (ix1 e)))
  (hw : ∀ (e : Fin 1024) (j : Fin 1792), 1024 ≤ j.val → j.val < 1664 → IsReal (m ((c : Thread nD τ).loc main_arg5) (ix2 e j)))
include hg hw

/-- The array of queries after the run. -/
theorem final_q : (dats m 0 c).arrAt 7 cfg0.N
    = (queries (m ((c : Thread nD τ).loc main_arg0)) (m ((c : Thread nD τ).loc main_arg4)) (m ((c : Thread nD τ).loc main_arg5))
        (m ((c : Thread nD τ).loc main_arg6)) : Vec Ideal S128x512 .bf16) := by
  refine (dats m 0 c).arrAt_eq_of_covers 7 _ (by decide +kernel) fun t _ y => ?_
  rw [after0_7]
  have hp := fun (r : Fin 128) (q : Fin 512) => q_at (iblk m c 0 t) (iblk m c 1 t) (iblk m c 2 t) (iblk m c 3 t) (iblk m c 4 t) (iblk m c 5 t)
    (fun e => by rw [g_at m c t]; exact hg e) (fun e j h₁ h₂ => by rw [w_at m c t]; exact hw e j h₁ h₂) (heads_at m c t)
    (fun e => m ((c : Thread nD τ).loc main_arg6) (ix1 e)) r q (qg_at m c t q)
  generalize out0_7 (iblk m c 0 t) (iblk m c 1 t) (iblk m c 2 t) (iblk m c 3 t) (iblk m c 4 t) (iblk m c 5 t) = o at hp ⊢
  have hy : ∀ y : S128x512.Idx, o y
      = queries (m ((c : Thread nD τ).loc main_arg0)) (m ((c : Thread nD τ).loc main_arg4)) (m ((c : Thread nD τ).loc main_arg5))
          (m ((c : Thread nD τ).loc main_arg6)) (((cfg0.win 7).blk t).view.emb y) := by
    intro y
    idx_vars y
    rw [hp, row_at m c t y0, queries]
    congr 1
    · congr 1
      apply Fin.ext
      show _ = ((((cfg0.win 7).blk t).view.emb (ix2 y0 y1) 0 : Fin _) : ℕ)
      blk_simp [idx t]
    · apply Fin.ext
      show _ = ((((cfg0.win 7).blk t).view.emb (ix2 y0 y1) 1 : Fin _) : ℕ)
      blk_simp [idx t]
  exact hy y

/-- The array of keys after the run. -/
theorem final_k : (dats m 0 c).arrAt 8 cfg0.N
    = (keys (m ((c : Thread nD τ).loc main_arg0)) (m ((c : Thread nD τ).loc main_arg4)) (m ((c : Thread nD τ).loc main_arg5))
        (m ((c : Thread nD τ).loc main_arg7)) : Vec Ideal S128x128 .f32) := by
  refine (dats m 0 c).arrAt_eq_of_covers 8 _ (by decide +kernel) fun t _ y => ?_
  rw [after0_8]
  have hp := fun (r : Fin 128) (q : Fin 128) => k_at (iblk m c 0 t) (iblk m c 1 t) (iblk m c 2 t) (iblk m c 3 t) (iblk m c 4 t) (iblk m c 5 t)
    (fun e => by rw [g_at m c t]; exact hg e) (fun e j h₁ h₂ => by rw [w_at m c t]; exact hw e j h₁ h₂) (heads_at m c t)
    (fun e => m ((c : Thread nD τ).loc main_arg7) (ix1 e)) r q (kg_at m c t q)
  generalize out0_8 (iblk m c 0 t) (iblk m c 1 t) (iblk m c 2 t) (iblk m c 3 t) (iblk m c 4 t) (iblk m c 5 t) = o at hp ⊢
  have hy : ∀ y : S128x128.Idx, o y
      = keys (m ((c : Thread nD τ).loc main_arg0)) (m ((c : Thread nD τ).loc main_arg4)) (m ((c : Thread nD τ).loc main_arg5))
          (m ((c : Thread nD τ).loc main_arg7)) (((cfg0.win 8).blk t).view.emb y) := by
    intro y
    idx_vars y
    rw [hp, row_at m c t y0, keys]
    congr 1
    · congr 1
      apply Fin.ext
      show _ = ((((cfg0.win 8).blk t).view.emb (ix2 y0 y1) 0 : Fin _) : ℕ)
      blk_simp [idx t]
    · apply Fin.ext
      show _ = ((((cfg0.win 8).blk t).view.emb (ix2 y0 y1) 1 : Fin _) : ℕ)
      blk_simp [idx t]
  exact hy y

end

end Cert.Samp

end
-- ==== Proof.SampMove.lean ====
/-
  The sample's carried rows moved on by one position: every row but the oldest, and the new one last.
-/
module

public import proofs.«01_k».proof.Proof.ProjSpec
public import proofs.«01_k».proof.Proof.Gen.Kernel9Ideal.Frame

@[expose] public section

set_option maxRecDepth 16384

noncomputable section

namespace Cert.Samp

open Cert.Kernel9Ideal Cert.Kernel9Ideal.Gen Idealize.ShloMosaic Idealize.SL.Sem

/-- The convolution's state moved on by one position. -/
def movedState (past : S128x30x512.Idx → EReal) (new : S128x512.Idx → EReal) (i : S128x30x512.Idx) : EReal :=
  if h : (i 1).val < 29 then past (ix3 (i 0) ⟨(i 1).val + 1, by omega⟩ (i 2)) else new (ix2 (i 0) (i 2))

/-- A cache of keys or values moved on by one position. -/
def movedCache (past : S128x128x2x64.Idx → EReal) (new : S128x128.Idx → EReal) (i : S128x128x2x64.Idx) : EReal :=
  if h : (i 1).val < 127 then past (ix4 (i 0) ⟨(i 1).val + 1, by omega⟩ (i 2) (i 3))
  else new (ix2 (i 0) ⟨64 * (i 2).val + (i 3).val, by have h2 : (i 2).val < 2 := (i 2).isLt; have h3 : (i 3).val < 64 := (i 3).isLt; omega⟩)

section
variable (past : S128x30x512.Idx → EReal) (new : S128x512.Idx → EReal) (i0 : Fin 128) (i1 : Fin 30) (i2 : Fin 512)
/-- A carried row of the state is the next one before, -/
theorem state_old (h : i1.val < 29) : movedState past new (ix3 i0 i1 i2) = past (ix3 i0 ⟨i1.val + 1, by omega⟩ i2) := dif_pos h
/-- and the last is the new one. -/
theorem state_new (h : ¬i1.val < 29) : movedState past new (ix3 i0 i1 i2) = new (ix2 i0 i2) := dif_neg h
end

section
variable (past : S128x128x2x64.Idx → EReal) (new : S128x128.Idx → EReal) (i0 : Fin 128) (i1 : Fin 128) (i2 : Fin 2) (i3 : Fin 64)
/-- A carried row of a cache is the next one before, -/
theorem cache_old (h : i1.val < 127) : movedCache past new (ix4 i0 i1 i2 i3) = past (ix4 i0 ⟨i1.val + 1, by omega⟩ i2 i3) := dif_pos h
/-- and the last is the new one. -/
theorem cache_new (h : ¬i1.val < 127) : movedCache past new (ix4 i0 i1 i2 i3) = new (ix2 i0 ⟨64 * i2.val + i3.val, by omega⟩) := dif_neg h
end

/-- Joining the state's rows but the oldest to the new row moves it on. -/
theorem joined_state (past : S128x30x512.Idx → EReal) (new : S128x512.Idx → EReal) :
    concatenate S128x30x512 1 [⟨S128x29x512, extractStridedSlice S128x29x512 ![0, 1, 0] past slices_S128x30x512_S128x29x512_0_1_0⟩,
      ⟨S128x1x512, broadcastInDim S128x1x512 ![0, 2] bcast_S128x512_S128x1x512_0_2 new⟩] concatenates_S128x29x512_S128x1x512_S128x30x512_d1
      = movedState past new := by
  funext i
  idx_vars i
  by_cases h : i1.val < 29
  · rw [state_old _ _ _ _ _ h]
    refine (concatenate_pair_apply_left 1 _ _ concatenates_S128x29x512_S128x1x512_S128x30x512_d1 _ rfl (ix3 i0 ⟨i1.val, h⟩ i2)
      fun b => match b with | ⟨0, _⟩ => rfl | ⟨1, _⟩ => rfl | ⟨2, _⟩ => rfl).trans ?_
    exact extractStridedSlice_apply ![0, 1, 0] past slices_S128x30x512_S128x29x512_0_1_0 _ (ix3 i0 ⟨i1.val + 1, by omega⟩ i2) (fun a => match a with
      | ⟨0, _⟩ => by show i0.val = 0 + i0.val; omega
      | ⟨1, _⟩ => by show i1.val + 1 = 1 + i1.val; omega
      | ⟨2, _⟩ => by show i2.val = 0 + i2.val; omega)
  · rw [state_new _ _ _ _ _ h]
    refine (concatenate_pair_apply_right 1 _ _ concatenates_S128x29x512_S128x1x512_S128x30x512_d1 _ rfl rfl (ix3 i0 0 i2)
      (fun b hb => match b with | ⟨0, _⟩ => rfl | ⟨1, _⟩ => absurd rfl hb | ⟨2, _⟩ => rfl)
      (by show 0 + 29 = i1.val; omega)).trans ?_
    exact broadcastInDim_apply _ bcast_S128x512_S128x1x512_0_2 new _ (ix2 i0 i2) (fun a => match a with
      | ⟨0, _⟩ => by show i0.val = if (128 : Nat) = 1 then 0 else i0.val; rw [if_neg (by decide)]
      | ⟨1, _⟩ => by show i2.val = if (512 : Nat) = 1 then 0 else i2.val; rw [if_neg (by decide)])

/-- Joining a cache's rows but the oldest to the new row moves it on. -/
theorem joined_cache (past : S128x128x2x64.Idx → EReal) (new : S128x128.Idx → EReal) :
    concatenate S128x128x2x64 1 [⟨S128x127x2x64, extractStridedSlice S128x127x2x64 ![0, 1, 0, 0] past slices_S128x128x2x64_S128x127x2x64_0_1_0_0⟩,
      ⟨S128x1x2x64, shapeCast S128x1x2x64 new shapeCasts_S128x128_S128x1x2x64⟩] concatenates_S128x127x2x64_S128x1x2x64_S128x128x2x64_d1
      = movedCache past new := by
  funext i
  idx_vars i
  by_cases h : i1.val < 127
  · rw [cache_old _ _ _ _ _ _ h]
    refine (concatenate_pair_apply_left 1 _ _ concatenates_S128x127x2x64_S128x1x2x64_S128x128x2x64_d1 _ rfl (ix4 i0 ⟨i1.val, h⟩ i2 i3)
      fun b => match b with | ⟨0, _⟩ => rfl | ⟨1, _⟩ => rfl | ⟨2, _⟩ => rfl | ⟨3, _⟩ => rfl).trans ?_
    exact extractStridedSlice_apply ![0, 1, 0, 0] past slices_S128x128x2x64_S128x127x2x64_0_1_0_0 _ (ix4 i0 ⟨i1.val + 1, by omega⟩ i2 i3) (fun a => match a with
      | ⟨0, _⟩ => by show i0.val = 0 + i0.val; omega
      | ⟨1, _⟩ => by show i1.val + 1 = 1 + i1.val; omega
      | ⟨2, _⟩ => by show i2.val = 0 + i2.val; omega
      | ⟨3, _⟩ => by show i3.val = 0 + i3.val; omega)
  · rw [cache_new _ _ _ _ _ _ h]
    refine (concatenate_pair_apply_right 1 _ _ concatenates_S128x127x2x64_S128x1x2x64_S128x128x2x64_d1 _ rfl rfl (ix4 i0 0 i2 i3)
      (fun b hb => match b with | ⟨0, _⟩ => rfl | ⟨1, _⟩ => absurd rfl hb | ⟨2, _⟩ => rfl | ⟨3, _⟩ => rfl)
      (by show 0 + 127 = i1.val; omega)).trans ?_
    pointwise
    exact congrArg new (congrArg (ix2 i0) (Fin.ext (by show i2.val * 64 + i3.val = 64 * i2.val + i3.val; omega)))

end Cert.Samp

end
-- ==== Proof.SampRun.lean ====
/-
  The run of the input projection of the sample with the host lines that join the new rows to the carried ones.
-/
module

public import proofs.«01_k».proof.Proof.SampMove
public import Idealize.ShloMosaic.Lib.Pipeline.Value

@[expose] public section

set_option maxRecDepth 16384

noncomputable section

namespace Cert.Samp

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The buffers as the call leaves them. -/
def atExit : Valuation τ sig (Elt Ideal) :=
  Pipeline.withArrays spec0 c (V0 m c) fun w => (dats m 0 c).arrAt w cfg0.N

/-- The call's arrays are distinct. -/
theorem arrays_distinct : Function.Injective (Pipeline.arrRef spec0) := by
  intro a b
  exact (by decide : ∀ a b, Pipeline.arrRef spec0 a = Pipeline.arrRef spec0 b → a = b) a b

/-- The call leaves an output's array as its grid points made it. -/
theorem exit_out (w : Fin 10) : atExit m c (Proc.devRef .tc (Pipeline.arrRef spec0 w)) = (dats m 0 c).arrAt w cfg0.N :=
  Pipeline.withArrays_arr spec0 arrays_distinct c (V0 m c) _ w

/-- The call leaves the state as it was, -/
theorem exit_state : atExit m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)
/-- the keys, -/
theorem exit_keys : atExit m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)
/-- and the values. -/
theorem exit_vals : atExit m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)

/-- The host lines after the call leave the state moved on by the call's gated channels, -/
theorem tail_state : Pipeline.afterTail₀ cfgs (dats m) 0 (V0 m) [hostOps1] c main_v21
    = movedState (m ((c : Thread nD τ).loc main_arg1)) ((dats m 0 c).arrAt 6 cfg0.N) := by
  have e1 := exit_state m c
  have e2 : atExit m c (Proc.devRef .tc main_v18_0) = _ := exit_out m c 6
  change StableHlo.after _ (atExit m c) _ = _
  generalize atExit m c = Wv at e1 e2 ⊢
  simp only [hostOps1, List.flatten_cons, List.flatten_nil, List.append_nil, List.cons_append, List.nil_append]
  after_results
  rw [e1, e2]
  exact joined_state _ _
/-- the keys by its keys, -/
theorem tail_keys : Pipeline.afterTail₀ cfgs (dats m) 0 (V0 m) [hostOps1] c main_v24
    = movedCache (m ((c : Thread nD τ).loc main_arg2)) ((dats m 0 c).arrAt 8 cfg0.N) := by
  have e1 := exit_keys m c
  have e2 : atExit m c (Proc.devRef .tc main_v18_2) = _ := exit_out m c 8
  change StableHlo.after _ (atExit m c) _ = _
  generalize atExit m c = Wv at e1 e2 ⊢
  simp only [hostOps1, List.flatten_cons, List.flatten_nil, List.append_nil, List.cons_append, List.nil_append]
  after_results
  rw [e1, e2]
  exact joined_cache _ _
/-- and the values by its values. -/
theorem tail_vals : Pipeline.afterTail₀ cfgs (dats m) 0 (V0 m) [hostOps1] c main_v27
    = movedCache (m ((c : Thread nD τ).loc main_arg3)) ((dats m 0 c).arrAt 9 cfg0.N) := by
  have e1 := exit_vals m c
  have e2 : atExit m c (Proc.devRef .tc main_v18_3) = _ := exit_out m c 9
  change StableHlo.after _ (atExit m c) _ = _
  generalize atExit m c = Wv at e1 e2 ⊢
  simp only [hostOps1, List.flatten_cons, List.flatten_nil, List.append_nil, List.cons_append, List.nil_append]
  after_results
  rw [e1, e2]
  exact joined_cache _ _

/-- The kernel ends with the call's queries, the state, keys and values moved on, and its arguments as they were. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v18_1) = (dats m 0 c).arrAt 7 cfg0.N
      ∧ r.2.mem ((c.tc : Thread nD τ).loc main_v21) = movedState (m ((c.tc : Thread nD τ).loc main_arg1)) ((dats m 0 c).arrAt 6 cfg0.N)
      ∧ r.2.mem ((c.tc : Thread nD τ).loc main_v24) = movedCache (m ((c.tc : Thread nD τ).loc main_arg2)) ((dats m 0 c).arrAt 8 cfg0.N)
      ∧ r.2.mem ((c.tc : Thread nD τ).loc main_v27) = movedCache (m ((c.tc : Thread nD τ).loc main_arg3)) ((dats m 0 c).arrAt 9 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1 7,
      ((h c).2 main_v21 (Pipeline.mem_restRefs_of main_v21 (by decide) (by decide))).trans (tail_state m c),
      ((h c).2 main_v24 (Pipeline.mem_restRefs_of main_v24 (by decide) (by decide))).trans (tail_keys m c),
      ((h c).2 main_v27 (Pipeline.mem_restRefs_of main_v27 (by decide) (by decide))).trans (tail_vals m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.Samp

end
-- ==== Proof.SampRef.lean ====
/-
  The reference of the input projection of the sample in plain mathematics, at every row and channel.
-/
module

public import proofs.«01_k».proof.Proof.ProjSpec
public import proofs.«01_k».proof.Proof.FfnRef
public import proofs.«01_k».proof.Proof.SampMove
public import proofs.«01_k».proof.Proof.Gen.Reference9Ideal.Read

@[expose] public section

set_option maxRecDepth 16384

noncomputable section

namespace Cert.Samp

open Cert.Reference9Ideal Cert.Reference9Ideal.Gen Cert.Reference9Ideal.Read Idealize.ShloMosaic Idealize.SL.Sem Cert.Moe Cert.Ffn
open Cert.Proj (proj glu query key value headNorm key_joined)

variable (x0 : FVec Ideal S128x1024 .f32) (x4 : FVec Ideal S1024 .f32) (x5 : FVec Ideal S1024x1792 .f32) (x6 x7 : FVec Ideal S64 .f32)
  (x1 : FVec Ideal S128x30x512 .f32) (x2 x3 : FVec Ideal S128x128x2x64 .f32)

/-- A row's columns: its normed row against the matrix. -/
def cols (n : Fin 128) : Fin 1792 → EReal :=
  proj (fun e => x0 (ix2 n e)) (fun e => x4 (ix1 e)) (fun e j => x5 (ix2 e j))

/-- The normed rows. -/
theorem normed_ref (n : Fin 128) (d : Fin 1024) : val_main_v12 (F := Ideal) x0 x4 (ix2 n d)
    = normed (fun e => x0 (ix2 n e)) (fun e => x4 (ix1 e)) d := by
  have hz : val_main_cst (F := Ideal) (Shape.Idx.first h_S_) = 0 := by
    rw [val_main_cst_apply]; exact Ideal.ofBits_zero _
  have hsq : val_main_v1 (F := Ideal) x0 (ix1 n) = ∑ e : Fin 1024, x0 (ix2 n e) * x0 (ix2 n e) := by
    rw [val_main_v1_apply, hz, zero_add]
    refine Finset.sum_congr rfl fun k _ => ?_
    have e : idx_main_v1 (ix1 n) k = ix2 n k := funext fun a => match a with | ⟨0, _⟩ => rfl | ⟨1, _⟩ => rfl
    rw [val_main_v0_apply, e]
    rfl
  have hi : idx_main_v2 (idx_main_v8 (ix2 n d)) = ix1 n := funext fun a => match a with | ⟨0, _⟩ => rfl
  have hg : idx_main_v10 (idx_main_v11 (ix2 n d)) = ix1 d := funext fun a => match a with | ⟨0, _⟩ => rfl
  rw [val_main_v12_apply, val_main_v9_apply, val_main_v8_apply, val_main_v7_apply, val_main_v6_apply, val_main_v4_apply, val_main_v2_apply,
    val_main_v3_apply, val_main_v5_apply, val_main_cst_0_apply, val_main_cst_1_apply, val_main_v11_apply, val_main_v10_apply, hi, hg, hsq]
  rfl

/-- The normed rows against the matrix. -/
theorem cols_ref (n : Fin 128) (j : Fin 1792) : val_main_v13 (F := Ideal) x0 x4 x5 (ix2 n j) = cols x0 x4 x5 n j := by
  rw [val_main_v13_apply]
  unfold cols proj against
  refine Finset.sum_congr rfl fun e _ => ?_
  have hl : lidx_main_v13 (ix2 n j) e = ix2 n e := funext fun a => match a with | ⟨0, _⟩ => rfl | ⟨1, _⟩ => rfl
  have hr : ridx_main_v13 (ix2 n j) e = ix2 e j := funext fun a => match a with | ⟨0, _⟩ => rfl | ⟨1, _⟩ => rfl
  rw [hl, hr, normed_ref]

/-- The gated channels. -/
theorem glu_ref (n : Fin 128) (q : Fin 512) : val_main_v22 (F := Ideal) x0 x4 x5 (ix2 n q) = glu (cols x0 x4 x5 n) q := by
  have ha : idx_main_v14 (ix2 n q) = ix2 n ⟨q, by omega⟩ := funext fun a => match a with | ⟨0, _⟩ => rfl | ⟨1, _⟩ => rfl
  have hb : idx_main_v15 (ix2 n q) = ix2 n ⟨512 + q, by omega⟩ := funext fun a => match a with | ⟨0, _⟩ => rfl | ⟨1, _⟩ => rfl
  rw [val_main_v22_apply, val_main_v21_apply, val_main_v20_apply, val_main_v19_apply, val_main_v18_apply, val_main_v17_apply, val_main_v16_apply,
    val_main_v15_apply, val_main_v14_apply, val_main_cst_2_apply, val_main_cst_3_apply, ha, hb, cols_ref, cols_ref]
  unfold glu
  generalize cols x0 x4 x5 n ⟨512 + q, _⟩ = h
  generalize cols x0 x4 x5 n ⟨q, _⟩ = u
  show u * Ideal.div (Ideal.ofBits .f32 0x3F800000#32) (Ideal.ofBits .f32 0x3F800000#32 + Ideal.exp (-h)) = _
  rw [one_word]
  rfl

/-- A value channel, by its head. -/
theorem value_ref (n : Fin 128) (h : Fin 2) (e : Fin 64) : val_main_v28 (F := Ideal) x0 x4 x5 (ix3 n h e)
    = cols x0 x4 x5 n ⟨1664 + (64 * h + e), by omega⟩ := by
  rw [val_main_v28_apply, val_main_v27_apply, ← cols_ref]
  refine congrArg (val_main_v13 (F := Ideal) x0 x4 x5) (funext fun a => match a with | ⟨0, _⟩ => Fin.ext ?_ | ⟨1, _⟩ => Fin.ext ?_)
  · show ((n.val * 2 + h.val) * 64 + e.val) / 128 = n.val
    omega
  · show 1664 + ((n.val * 2 + h.val) * 64 + e.val) % 128 = 1664 + (64 * h.val + e.val)
    omega

/-- A key column, by its head. -/
theorem key_pre_ref (n : Fin 128) (h : Fin 2) (e : Fin 64) : val_main_v26 (F := Ideal) x0 x4 x5 (ix3 n h e)
    = cols x0 x4 x5 n ⟨1536 + (64 * h + e), by omega⟩ := by
  rw [val_main_v26_apply, val_main_v25_apply, ← cols_ref]
  refine congrArg (val_main_v13 (F := Ideal) x0 x4 x5) (funext fun a => match a with | ⟨0, _⟩ => Fin.ext ?_ | ⟨1, _⟩ => Fin.ext ?_)
  · show ((n.val * 2 + h.val) * 64 + e.val) / 128 = n.val
    omega
  · show 1536 + ((n.val * 2 + h.val) * 64 + e.val) % 128 = 1536 + (64 * h.val + e.val)
    omega

/-- A query column, by its head. -/
theorem query_pre_ref (n : Fin 128) (h : Fin 8) (e : Fin 64) : val_main_v24 (F := Ideal) x0 x4 x5 (ix3 n h e)
    = cols x0 x4 x5 n ⟨1024 + (64 * h + e), by omega⟩ := by
  rw [val_main_v24_apply, val_main_v23_apply, ← cols_ref]
  refine congrArg (val_main_v13 (F := Ideal) x0 x4 x5) (funext fun a => match a with | ⟨0, _⟩ => Fin.ext ?_ | ⟨1, _⟩ => Fin.ext ?_)
  · show ((n.val * 8 + h.val) * 64 + e.val) / 512 = n.val
    omega
  · show 1024 + ((n.val * 8 + h.val) * 64 + e.val) % 512 = 1024 + (64 * h.val + e.val)
    omega

/-- The normed queries, by their head. -/
theorem query_ref (n : Fin 128) (h : Fin 8) (e : Fin 64) : val_main_v41 (F := Ideal) x0 x4 x5 x6 (ix3 n h e)
    = headNorm (fun e => cols x0 x4 x5 n ⟨1024 + (64 * h + e), by omega⟩) (fun e => x6 (ix1 e)) e := by
  have hz : val_main_cst_4 (F := Ideal) (Shape.Idx.first h_S_) = 0 := by
    rw [val_main_cst_4_apply]; exact Ideal.ofBits_zero _
  have hsq : val_main_v30 (F := Ideal) x0 x4 x5 (ix2 n h)
      = ∑ e : Fin 64, cols x0 x4 x5 n ⟨1024 + (64 * h + e), by omega⟩ * cols x0 x4 x5 n ⟨1024 + (64 * h + e), by omega⟩ := by
    rw [val_main_v30_apply, hz, zero_add]
    refine Finset.sum_congr rfl fun k _ => ?_
    have e : idx_main_v30 (ix2 n h) k = ix3 n h k :=
      funext fun a => match a with | ⟨0, _⟩ => rfl | ⟨1, _⟩ => rfl | ⟨2, _⟩ => rfl
    rw [val_main_v29_apply, e, query_pre_ref]
    rfl
  have hi : idx_main_v31 (idx_main_v37 (ix3 n h e)) = ix2 n h := funext fun a => match a with | ⟨0, _⟩ => rfl | ⟨1, _⟩ => rfl
  have hg : idx_main_v39 (idx_main_v40 (ix3 n h e)) = ix1 e := funext fun a => match a with | ⟨0, _⟩ => rfl
  rw [val_main_v41_apply, val_main_v38_apply, val_main_v37_apply, val_main_v36_apply, val_main_v35_apply, val_main_v33_apply,
    val_main_v31_apply, val_main_v32_apply, val_main_v34_apply, val_main_cst_5_apply, val_main_cst_6_apply, val_main_v40_apply,
    val_main_v39_apply, hi, hg, hsq, query_pre_ref]
  rfl

/-- The normed keys, by their head. -/
theorem key_ref (n : Fin 128) (h : Fin 2) (e : Fin 64) : val_main_v54 (F := Ideal) x0 x4 x5 x7 (ix3 n h e)
    = headNorm (fun e => cols x0 x4 x5 n ⟨1536 + (64 * h + e), by omega⟩) (fun e => x7 (ix1 e)) e := by
  have hz : val_main_cst_7 (F := Ideal) (Shape.Idx.first h_S_) = 0 := by
    rw [val_main_cst_7_apply]; exact Ideal.ofBits_zero _
  have hsq : val_main_v43 (F := Ideal) x0 x4 x5 (ix2 n h)
      = ∑ e : Fin 64, cols x0 x4 x5 n ⟨1536 + (64 * h + e), by omega⟩ * cols x0 x4 x5 n ⟨1536 + (64 * h + e), by omega⟩ := by
    rw [val_main_v43_apply, hz, zero_add]
    refine Finset.sum_congr rfl fun k _ => ?_
    have e : idx_main_v43 (ix2 n h) k = ix3 n h k :=
      funext fun a => match a with | ⟨0, _⟩ => rfl | ⟨1, _⟩ => rfl | ⟨2, _⟩ => rfl
    rw [val_main_v42_apply, e, key_pre_ref]
    rfl
  have hi : idx_main_v44 (idx_main_v50 (ix3 n h e)) = ix2 n h := funext fun a => match a with | ⟨0, _⟩ => rfl | ⟨1, _⟩ => rfl
  have hg : idx_main_v52 (idx_main_v53 (ix3 n h e)) = ix1 e := funext fun a => match a with | ⟨0, _⟩ => rfl
  rw [val_main_v54_apply, val_main_v51_apply, val_main_v50_apply, val_main_v49_apply, val_main_v48_apply, val_main_v46_apply,
    val_main_v44_apply, val_main_v45_apply, val_main_v47_apply, val_main_cst_8_apply, val_main_cst_9_apply, val_main_v53_apply,
    val_main_v52_apply, hi, hg, hsq, key_pre_ref]
  rfl

/-- The queries' result. -/
theorem result_q (n : Fin 128) (q : Fin 512) : val_main_v58 (F := Ideal) x0 x4 x5 x6 (ix2 n q) = query (cols x0 x4 x5 n) (fun e => x6 (ix1 e)) q := by
  have hi : idx_main_v57 (ix2 n q) = ix3 n ⟨q / 64, by omega⟩ ⟨q % 64, by omega⟩ :=
    funext fun a => match a with
      | ⟨0, _⟩ => Fin.ext (by show (n.val * 512 + q.val) / 512 = n.val; omega)
      | ⟨1, _⟩ => Fin.ext (by show (n.val * 512 + q.val) / 64 % 8 = q.val / 64; omega)
      | ⟨2, _⟩ => Fin.ext (by show (n.val * 512 + q.val) % 64 = q.val % 64; omega)
  rw [val_main_v58_apply, val_main_v57_apply, hi, val_main_v56_apply, val_main_v55_apply, val_main_cst_10_apply, query_ref]
  rfl

/-- The state moved on by one position, the new row last. -/
theorem result_state (i : S128x30x512.Idx) : val_main_v61 (F := Ideal) x0 x1 x4 x5 i
    = movedState x1 (fun i => glu (cols x0 x4 x5 (i 0)) (i 1)) i := by
  idx_vars i
  rw [val_main_v61_apply]
  unfold val_main_v60
  by_cases h : i1.val < 29
  · rw [state_old _ _ _ _ _ h]
    refine (concatenate_pair_apply_left 1 _ _ concatenates_S128x30x512_S128x1x512_S128x31x512_d1 _ rfl (ix3 i0 ⟨i1 + 1, by omega⟩ i2)
      fun b => match b with | ⟨0, _⟩ => rfl | ⟨1, _⟩ => (by show i1.val + 1 = 1 + i1.val; omega) | ⟨2, _⟩ => rfl)
  · rw [state_new _ _ _ _ _ h]
    refine (concatenate_pair_apply_right 1 _ _ concatenates_S128x30x512_S128x1x512_S128x31x512_d1 _ rfl rfl (ix3 i0 0 i2)
      (fun b hb => match b with | ⟨0, _⟩ => rfl | ⟨1, _⟩ => absurd rfl hb | ⟨2, _⟩ => rfl)
      (by show 0 + 30 = 1 + i1.val; omega)).trans ?_
    rw [val_main_v59_apply]
    refine Eq.trans ?_ (glu_ref x0 x4 x5 i0 i2)
    exact congrArg _ (funext fun a => match a with | ⟨0, _⟩ => rfl | ⟨1, _⟩ => rfl)

/-- The keys moved on by one position, the new row last. -/
theorem result_k (i : S128x128x2x64.Idx) : val_main_v64 (F := Ideal) x0 x2 x4 x5 x7 i
    = movedCache x2 (fun i => key (cols x0 x4 x5 (i 0)) (fun e => x7 (ix1 e)) (i 1)) i := by
  idx_vars i
  rw [val_main_v64_apply]
  unfold val_main_v63
  by_cases h : i1.val < 127
  · rw [cache_old _ _ _ _ _ _ h]
    refine (concatenate_pair_apply_left 1 _ _ concatenates_S128x128x2x64_S128x1x2x64_S128x129x2x64_d1 _ rfl (ix4 i0 ⟨i1 + 1, by omega⟩ i2 i3)
      fun b => match b with | ⟨0, _⟩ => rfl | ⟨1, _⟩ => (by show i1.val + 1 = 1 + i1.val; omega) | ⟨2, _⟩ => rfl | ⟨3, _⟩ => rfl)
  · rw [cache_new _ _ _ _ _ _ h]
    refine (concatenate_pair_apply_right 1 _ _ concatenates_S128x128x2x64_S128x1x2x64_S128x129x2x64_d1 _ rfl rfl (ix4 i0 0 i2 i3)
      (fun b hb => match b with | ⟨0, _⟩ => rfl | ⟨1, _⟩ => absurd rfl hb | ⟨2, _⟩ => rfl | ⟨3, _⟩ => rfl)
      (by show 0 + 128 = 1 + i1.val; omega)).trans ?_
    rw [val_main_v62_apply]
    refine Eq.trans ?_ (key_joined (cols x0 x4 x5 i0) (fun e => x7 (ix1 e)) i2 i3).symm
    refine Eq.trans ?_ (key_ref x0 x4 x5 x7 i0 i2 i3)
    exact congrArg _ (funext fun a => match a with | ⟨0, _⟩ => rfl | ⟨1, _⟩ => rfl | ⟨2, _⟩ => rfl)

/-- The values moved on by one position, the new row last. -/
theorem result_v (i : S128x128x2x64.Idx) : val_main_v67 (F := Ideal) x0 x3 x4 x5 i
    = movedCache x3 (fun i => value (cols x0 x4 x5 (i 0)) (i 1)) i := by
  idx_vars i
  rw [val_main_v67_apply]
  unfold val_main_v66
  by_cases h : i1.val < 127
  · rw [cache_old _ _ _ _ _ _ h]
    refine (concatenate_pair_apply_left 1 _ _ concatenates_S128x128x2x64_S128x1x2x64_S128x129x2x64_d1 _ rfl (ix4 i0 ⟨i1 + 1, by omega⟩ i2 i3)
      fun b => match b with | ⟨0, _⟩ => rfl | ⟨1, _⟩ => (by show i1.val + 1 = 1 + i1.val; omega) | ⟨2, _⟩ => rfl | ⟨3, _⟩ => rfl)
  · rw [cache_new _ _ _ _ _ _ h]
    refine (concatenate_pair_apply_right 1 _ _ concatenates_S128x128x2x64_S128x1x2x64_S128x129x2x64_d1 _ rfl rfl (ix4 i0 0 i2 i3)
      (fun b hb => match b with | ⟨0, _⟩ => rfl | ⟨1, _⟩ => absurd rfl hb | ⟨2, _⟩ => rfl | ⟨3, _⟩ => rfl)
      (by show 0 + 128 = 1 + i1.val; omega)).trans ?_
    rw [val_main_v65_apply]
    refine Eq.trans ?_ (value_ref x0 x4 x5 i0 i2 i3)
    exact congrArg _ (funext fun a => match a with | ⟨0, _⟩ => rfl | ⟨1, _⟩ => rfl | ⟨2, _⟩ => rfl)

end Cert.Samp

end
-- ==== Proof.Samp.lean ====
/-
  The kernel of the input projection of the sample, and the reference, end with equal outputs.
-/
module

public import proofs.«01_k».proof.Defs
public import proofs.«01_k».proof.Proof.Gen.Pre_finite9
public import proofs.«01_k».proof.Proof.Proj
public import proofs.«01_k».proof.Proof.SampFinal
public import proofs.«01_k».proof.Proof.SampRun
public import proofs.«01_k».proof.Proof.SampRef

@[expose] public section

set_option maxRecDepth 16384

noncomputable section

namespace Cert.Samp

open Idealize.ShloMosaic Idealize.SL.Sem
open Cert.Proj (IsReal)

section
open Cert.Pre_finite9
variable [Facts] (x : FVec Ideal S128x1024 .f32) (st : FVec Ideal S128x30x512 .f32) (ck cv : FVec Ideal S128x128x2x64 .f32)
  (g : FVec Ideal S1024 .f32) (W : FVec Ideal S1024x1792 .f32) (hq hk : FVec Ideal S64 .f32)
  (h : Cert.Pre_finite9.fn (F := Ideal) x st ck cv g W hq hk = fun _ => 1#1)
include h

/-- The precondition reads no row, so it is the one of the prompt's rows, whatever those are. -/
theorem same_condition (y : FVec Ideal Cert.Pre_finite.S16384x1024 .f32) :
    Cert.Pre_finite.fn (F := Ideal) y g W hq hk = fun _ => 1#1 := h

/-- So under it the norm's weights are real numbers, -/
theorem weights_real (e : Fin 1024) : IsReal (g (ix1 e)) :=
  Cert.Proj.weights_real (fun _ => 0) g W hq hk (same_condition x st ck cv g W hq hk h _) e

/-- and so are the matrix's columns of queries and keys. -/
theorem columns_real (e : Fin 1024) (j : Fin 1792) (h₁ : 1024 ≤ j.val) (h₂ : j.val < 1664) : IsReal (W (ix2 e j)) :=
  Cert.Proj.columns_real (fun _ => 0) g W hq hk (same_condition x st ck cv g W hq hk h _) e j h₁ h₂
end

/-- The reference ends with its arguments as they were, and every counter at zero, -/
theorem reference_frame : Cert.quiescent_Reference9Ideal (hReference9Ideal := Cert.Reference9Ideal.Gen.facts) := fun m ρ _ =>
  (θ_run Cert.Reference9Ideal.defs _ _).mono (fun r h => ⟨fun c => (h c).2.2.2.2, sem_eq_zero_of_no_sems (by decide) r.2⟩)
    (Cert.Reference9Ideal.Value.run m ρ)

/-- in particular under the precondition. -/
theorem reference_frame_pre : Cert.quiescent_Reference9Ideal_pre_finite9 (hReference9Ideal := Cert.Reference9Ideal.Gen.facts)
    (hPre_finite9 := Cert.Pre_finite9.Gen.facts) := fun m ρ _ => reference_frame m ρ trivial

section
variable (x : Cert.Kernel9Ideal.S128x1024.Idx → EReal) (g : Cert.Kernel9Ideal.S1024.Idx → EReal)
  (W : Cert.Kernel9Ideal.S1024x1792.Idx → EReal) (h : Cert.Kernel9Ideal.S64.Idx → EReal)
  (st : Cert.Kernel9Ideal.S128x30x512.Idx → EReal) (past : Cert.Kernel9Ideal.S128x128x2x64.Idx → EReal)

/-- The reference's queries, as an array of the arguments, are the kernel's; -/
theorem reference_q : Cert.Reference9Ideal.Read.val_main_v58 (F := Ideal) x g W h = queries x g W h := by
  funext i
  have e : i = ix2 (i 0) (i 1) := funext fun a => match a with | ⟨0, _⟩ => rfl | ⟨1, _⟩ => rfl
  rw [e]
  exact result_q x g W h (i 0) (i 1)
/-- so is its state moved on, -/
theorem reference_state : Cert.Reference9Ideal.Read.val_main_v61 (F := Ideal) x st g W = movedState st (glus x g W) :=
  funext fun i => result_state x g W st i
/-- so are its keys, -/
theorem reference_k : Cert.Reference9Ideal.Read.val_main_v64 (F := Ideal) x past g W h = movedCache past (keys x g W h) :=
  funext fun i => result_k x g W h past i
/-- and its values. -/
theorem reference_v : Cert.Reference9Ideal.Read.val_main_v67 (F := Ideal) x past g W = movedCache past (vals x g W) :=
  funext fun i => result_v x g W past i
end

/-- From memories that agree on the arguments, and finite weights of the norm and columns of queries and keys, kernel and
    reference end with the same queries and the same state, keys and values moved on. -/
theorem algebraic : Cert.algebraic_Kernel9Ideal_Reference9Ideal_pre_finite9 (hKernel9Ideal := Cert.Kernel9Ideal.Gen.facts)
    (hReference9Ideal := Cert.Reference9Ideal.Gen.facts) (hPre_finite9 := Cert.Pre_finite9.Gen.facts) := by
  intro m ρ m' ρ' hpre hagree
  refine ⟨_, _, _, _, kernel_run m ρ, ?_⟩
  refine (θ_run Cert.Reference9Ideal.defs _ _).mono (fun r h c => ?_) (Cert.Reference9Ideal.Value.run m' ρ')
  obtain ⟨h0, h1, h2, h3, h4, h5, h6, h7⟩ := hagree c
  have hg := weights_real _ _ _ _ _ _ _ _ (hpre c)
  have hw := columns_real _ _ _ _ _ _ _ _ (hpre c)
  refine ⟨(h c).1.trans ?_, (h c).2.1.trans ?_, (h c).2.2.1.trans ?_, (h c).2.2.2.1.trans ?_, (h c).2.2.2.2⟩
  · rw [Cert.Reference9Ideal.Read.val_main_v58_eq, h0, h4, h5, h6]
    exact (reference_q _ _ _ _).trans (final_q m c hg hw).symm
  · rw [Cert.Reference9Ideal.Read.val_main_v61_eq, h0, h1, h4, h5]
    exact (reference_state _ _ _ _).trans (congrArg (movedState _) (final_a m c).symm)
  · rw [Cert.Reference9Ideal.Read.val_main_v64_eq, h0, h2, h4, h5, h7]
    exact (reference_k _ _ _ _ _).trans (congrArg (movedCache _) (final_k m c hg hw).symm)
  · rw [Cert.Reference9Ideal.Read.val_main_v67_eq, h0, h3, h4, h5]
    exact (reference_v _ _ _ _).trans (congrArg (movedCache _) (final_v m c).symm)

end Cert.Samp

end
-- ==== Proof.TailPay.lean ====
/-
  What the grid point of the sample's output projection and gated network stores at an element, in the extended reals.
-/
module

public import proofs.«01_k».proof.Proof.FfnSpec
public import proofs.«01_k».proof.Proof.FfnBlock
public import proofs.«01_k».proof.Proof.Gen.Kernel10Ideal.Value
public import Idealize.ShloMosaic.Lib.Pipeline.ReadBack

@[expose] public section

set_option maxRecDepth 16384

noncomputable section

namespace Cert.Tail

open Cert.Kernel10Ideal Cert.Kernel10Ideal.Gen Idealize.ShloMosaic Idealize.ShloMosaic.TcCoe Idealize.SL.Sem Cert.Moe
open Cert.Ffn (streamAt normed ffnAt ffnAt_halves canon_whole)

/-- The stream the point stores first. -/
theorem stream_at (x : Vec Ideal S128x1024 .f32) (a b : Vec Ideal S128x512 .bf16) (wa wb : Vec Ideal S512x1024 .bf16) (r : Fin 128) (q : Fin 1024) :
    k0_pay3 (F := Ideal) x a wa b wb (ix2 r q)
      = streamAt (x (ix2 r q)) (fun k => a (ix2 r k)) (fun k => b (ix2 r k)) (fun k => wa (ix2 k q)) (fun k => wb (ix2 k q)) := by
  pointwise [k0_pay3]
  exact add_assoc _ _ _

/-- The normed rows. -/
theorem normed_at (s : Vec Ideal S128x1024 .f32) (g : Vec Ideal S1x1024 .f32) (r : Fin 128) (d : Fin 1024) :
    k0_pay4 (F := Ideal) s g (ix2 r d) = normed (fun d => s (ix2 r d)) (fun d => g (ix2 0 d)) d := by
  pointwise [k0_pay4]
  rfl

/-- The first half of the hidden units, added to the stream. -/
theorem half_at (h : FVec Ideal S128x1024 .bf16) (g u : Vec Ideal S1024x1408 .bf16) (s : Vec Ideal S128x1024 .f32) (dn : Vec Ideal S1408x1024 .bf16)
    (r : Fin 128) (q : Fin 1024) : k0_pay1 (F := Ideal) h g (constant S128x1408 .f32 0x00000000#32) u s dn (ix2 r q)
      = s (ix2 r q) + ∑ j : Fin 1408, gated (fun d => h (ix2 r d)) (fun d => g (ix2 d j)) (fun d => u (ix2 d j)) * dn (ix2 j q) := by
  pointwise [k0_pay1]
  rfl

/-- The second half, added to those before it. -/
theorem rest_at (h : FVec Ideal S128x1024 .bf16) (g u : Vec Ideal S1024x1408 .bf16) (s : Vec Ideal S128x1024 .f32) (dn : Vec Ideal S1408x1024 .bf16)
    (r : Fin 128) (q : Fin 1024) : k0_pay2 (F := Ideal) h g u s dn (ix2 r q)
      = s (ix2 r q) + ∑ j : Fin 1408, gated (fun d => h (ix2 r d)) (fun d => g (ix2 d j)) (fun d => u (ix2 d j)) * dn (ix2 j q) := by
  pointwise [k0_pay2]
  rfl

section
variable (x : Vec Ideal S128x1024 .f32) (a b : Vec Ideal S128x512 .bf16) (g : Vec Ideal S1x1024 .f32)
  (wo : Vec Ideal S1024x1024 .bf16) (wg wu : Vec Ideal S1024x2816 .bf16) (wd : Vec Ideal S2816x1024 .bf16)

/-- The residual stream of a block, after the output projection. -/
def stream : FVec Ideal S128x1024 .f32 :=
  k0_pay3 x a (View.ld wo (Rect.unit ![0, 0] ![512, 1024] inb_S1024x1024_S512x1024_0_0)) b
    (View.ld wo (Rect.unit ![512, 0] ![512, 1024] inb_S1024x1024_S512x1024_512_0))

/-- What a block stores last. -/
def stored : FVec Ideal S128x1024 .f32 :=
  k0_pay2 (k0_pay4 (stream x a b wo) g)
    (View.ld wg (Rect.unit ![0, 1408] ![1024, 1408] inb_S1024x2816_S1024x1408_0_1408))
    (View.ld wu (Rect.unit ![0, 1408] ![1024, 1408] inb_S1024x2816_S1024x1408_0_1408))
    (k0_pay1 (k0_pay4 (stream x a b wo) g)
      (View.ld wg (Rect.unit ![0, 0] ![1024, 1408] inb_S1024x2816_S1024x1408_0_0)) (constant S128x1408 .f32 0x00000000#32)
      (View.ld wu (Rect.unit ![0, 0] ![1024, 1408] inb_S1024x2816_S1024x1408_0_0)) (stream x a b wo)
      (View.ld wd (Rect.unit ![0, 0] ![1408, 1024] inb_S2816x1024_S1408x1024_0_0)))
    (View.ld wd (Rect.unit ![1408, 0] ![1408, 1024] inb_S2816x1024_S1408x1024_1408_0))

/-- A row of the stream. -/
def streamRow (r : Fin 128) (q : Fin 1024) : EReal :=
  streamAt (x (ix2 r q)) (fun k => a (ix2 r k)) (fun k => b (ix2 r k)) (fun k => wo (ix2 ⟨k, by omega⟩ q)) (fun k => wo (ix2 ⟨512 + k, by omega⟩ q))

theorem stream_row (r : Fin 128) (q : Fin 1024) : stream x a b wo (ix2 r q) = streamRow x a b wo r q := by
  unfold stream streamRow
  rw [stream_at]
  congr 1 <;> funext k <;> pointwise

/-- A block's last store at a row and a column: the row of the stream after the gated network. -/
theorem stored_at (r : Fin 128) (q : Fin 1024) : stored x a b g wo wg wu wd (ix2 r q)
    = ffnAt (streamRow x a b wo r) (fun d => g (ix2 0 d)) (fun k d => wg (ix2 d k)) (fun k d => wu (ix2 d k)) (fun k => wd (ix2 k q)) q := by
  have hs : (fun d => stream x a b wo (ix2 r d)) = streamRow x a b wo r := funext fun d => stream_row x a b wo r d
  have hn : (fun d => k0_pay4 (F := Ideal) (stream x a b wo) g (ix2 r d)) = normed (streamRow x a b wo r) (fun d => g (ix2 0 d)) :=
    funext fun d => (normed_at _ _ _ _).trans (by rw [hs])
  unfold stored
  rw [rest_at, half_at, hn, stream_row, ffnAt_halves]
  refine congrArg₂ (· + ·) (congrArg (_ + ·) (Finset.sum_congr rfl fun j _ => ?_)) (Finset.sum_congr rfl fun j _ => ?_)
  · refine congrArg₂ (· * ·) (congrArg₂ (gated _) (funext fun d => ?_) (funext fun d => ?_)) ?_ <;> pointwise
  · refine congrArg₂ (· * ·) (congrArg₂ (gated _) (funext fun d => ?_) (funext fun d => ?_)) ?_ <;> pointwise
end

variable (m : (ℓ : Loc nD τ sig) → Buf (Elt Ideal) ℓ) (c : Dev nD)

/-- A load from a buffer written whole reads what was written. -/
theorem load_whole {κ : Kind} {sp : Space} {s : Shape} {e : EltTy} (v : View sig κ sp s e) (z : s.Idx → Elt Ideal e) (r : Rect s) :
    v.readCov [(⟨Rect.whole s, z⟩ : View.Piece (Elt Ideal) s e)] r.toLoadRect = View.ld z r := by
  rw [View.readCov_eq_canon', canon_whole]

/-- The point stores its block's rows under the weights it copies into scratch. -/
theorem point_stores (t : Fin cfg0.N) : outsAt0 m c t
    = stored (iblk m c 0 t) (iblk m c 1 t) (iblk m c 2 t) (iblk m c 3 t) (V m c main_v0) (V m c main_v2) (V m c main_v3) (V m c main_v4) := by
  unfold outsAt0
  frame_out
  simp only [load_whole]
  rfl

end Cert.Tail

end
-- ==== Proof.TailFinal.lean ====
/-
  The output array of the sample's output projection and gated network: the one grid point stores all of it.
-/
module

public import proofs.«01_k».proof.Proof.TailPay

@[expose] public section

set_option maxRecDepth 16384

noncomputable section

namespace Cert.Tail

open Cert.Kernel10Ideal Cert.Kernel10Ideal.Gen Idealize.ShloMosaic Idealize.ShloMosaic.TcCoe Idealize.SL.Sem Cert.Moe
open Cert.Ffn (streamAt ffnAt)
open Idealize.ShloMosaic.Pipeline (Dat)

/-- The result at a row and a column, of the arguments. -/
def layerAt (x : S128x1024.Idx → EReal) (a b : S128x512.Idx → EReal) (wo : S1024x1024.Idx → EReal) (g : S1024.Idx → EReal)
    (wg wu : S1024x2816.Idx → EReal) (wd : S2816x1024.Idx → EReal) (n : Fin 128) (q : Fin 1024) : EReal :=
  ffnAt (fun d => streamAt (x (ix2 n d)) (fun k => a (ix2 n k)) (fun k => b (ix2 n k)) (fun k => wo (ix2 ⟨k, by omega⟩ d)) (fun k => wo (ix2 ⟨512 + k, by omega⟩ d)))
    (fun d => g (ix1 d)) (fun k d => wg (ix2 d k)) (fun k d => wu (ix2 d k)) (fun k => wd (ix2 k q)) q

variable (m : (ℓ : Loc nD τ sig) → Buf (Elt Ideal) ℓ) (c : Dev nD)

/-- The grid point holds all of everything. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The output projection as the kernel reads it is the argument: a change of format changes no value. -/
theorem wo_eq : V m c main_v0 = m ((c : Thread nD τ).loc main_arg3) := by
  unfold_abbrev_sides
  after_results
  rfl
/-- The gate's matrix. -/
theorem wg_eq : V m c main_v2 = m ((c : Thread nD τ).loc main_arg5) := by
  unfold_abbrev_sides
  after_results
  rfl
/-- The other matrix. -/
theorem wu_eq : V m c main_v3 = m ((c : Thread nD τ).loc main_arg6) := by
  unfold_abbrev_sides
  after_results
  rfl
/-- The last matrix. -/
theorem wd_eq : V m c main_v4 = m ((c : Thread nD τ).loc main_arg7) := by
  unfold_abbrev_sides
  after_results
  rfl
/-- The norm's weights, in one row. -/
theorem norm_eq (d : Fin 1024) : V m c main_v1 (ix2 0 d) = m ((c : Thread nD τ).loc main_arg4) (ix1 d) := by
  unfold_abbrev_sides
  after_results
  pointwise

section
variable (t : Fin cfg0.N)

/-- The rows of the stream a point holds are all of them; -/
theorem x_at (r : Fin 128) (d : Fin 1024) :
    iblk m c 0 t (ix2 r d) = m ((c : Thread nD τ).loc main_arg0) (ix2 r d) := by
  blk_ext! [iblk, V_main_arg0 m c, idx t]
/-- so are the rows of the first half of the heads, -/
theorem ca_at (r : Fin 128) (d : Fin 512) :
    iblk m c 1 t (ix2 r d) = m ((c : Thread nD τ).loc main_arg1) (ix2 r d) := by
  blk_ext! [iblk, V_main_arg1 m c, idx t]
/-- and of the second. -/
theorem ob_at (r : Fin 128) (d : Fin 512) :
    iblk m c 2 t (ix2 r d) = m ((c : Thread nD τ).loc main_arg2) (ix2 r d) := by
  blk_ext! [iblk, V_main_arg2 m c, idx t]
/-- The norm's weights a point holds are all of them. -/
theorem g_at (d : Fin 1024) : iblk m c 3 t (ix2 0 d) = m ((c : Thread nD τ).loc main_arg4) (ix1 d) := by
  refine Eq.trans ?_ (norm_eq m c d)
  blk_ext! [iblk, idx t]

/-- What a point stores at its row `r` and a column is the result there. -/
theorem block_eq (r : Fin 128) (q : Fin 1024) :
    stored (iblk m c 0 t) (iblk m c 1 t) (iblk m c 2 t) (iblk m c 3 t) (V m c main_v0) (V m c main_v2) (V m c main_v3) (V m c main_v4) (ix2 r q)
      = layerAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) r q := by
  rw [stored_at, wo_eq, wg_eq, wu_eq, wd_eq]
  have hg : (fun d => iblk m c 3 t (ix2 0 d)) = fun d => m ((c : Thread nD τ).loc main_arg4) (ix1 d) := funext (g_at m c t)
  have hs : streamRow (iblk m c 0 t) (iblk m c 1 t) (iblk m c 2 t) (m ((c : Thread nD τ).loc main_arg3)) r
      = fun d => streamAt (m ((c : Thread nD τ).loc main_arg0) (ix2 r d))
          (fun k => m ((c : Thread nD τ).loc main_arg1) (ix2 r k))
          (fun k => m ((c : Thread nD τ).loc main_arg2) (ix2 r k))
          (fun k => m ((c : Thread nD τ).loc main_arg3) (ix2 ⟨k, by omega⟩ d))
          (fun k => m ((c : Thread nD τ).loc main_arg3) (ix2 ⟨512 + k, by omega⟩ d)) := by
    funext d
    unfold streamRow
    rw [x_at m c t r d, show (fun k => iblk m c 1 t (ix2 r k)) = _ from funext fun k => ca_at m c t r k,
      show (fun k => iblk m c 2 t (ix2 r k)) = _ from funext fun k => ob_at m c t r k]
  rw [hg, hs]
  rfl

end

/-- The result as an array of the arguments. -/
def layer (x : S128x1024.Idx → EReal) (a b : S128x512.Idx → EReal) (wo : S1024x1024.Idx → EReal) (g : S1024.Idx → EReal)
    (wg wu : S1024x2816.Idx → EReal) (wd : S2816x1024.Idx → EReal) (i : S128x1024.Idx) : EReal :=
  layerAt x a b wo g wg wu wd (i 0) (i 1)

/-- The output array after the run is the result of the arguments. -/
theorem final : (dats m 0 c).arrAt 4 cfg0.N
    = (layer (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) : Vec Ideal S128x1024 .f32) := by
  refine (dats m 0 c).arrAt_eq_of_covers 4 _ (by decide +kernel) fun t _ y => ?_
  rw [after0_4]
  have hp : outsAt0 m c t
      = stored (iblk m c 0 t) (iblk m c 1 t) (iblk m c 2 t) (iblk m c 3 t) (V m c main_v0) (V m c main_v2) (V m c main_v3) (V m c main_v4) :=
    point_stores m c t
  generalize outsAt0 m c t = o at hp ⊢
  have hy : ∀ y : S128x1024.Idx, o y
      = layer (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (((cfg0.win 4).blk t).view.emb y) := by
    intro y
    rw [hp]
    idx_vars y
    rw [block_eq m c t y0 y1, layer]
    congr 1
    · apply Fin.ext
      show _ = ((((cfg0.win 4).blk t).view.emb (ix2 y0 y1) 0 : Fin _) : ℕ)
      blk_simp [idx t]
    · apply Fin.ext
      show _ = ((((cfg0.win 4).blk t).view.emb (ix2 y0 y1) 1 : Fin _) : ℕ)
      blk_simp [idx t]
  exact hy y

end Cert.Tail

end
-- ==== Proof.TailRef.lean ====
/-
  The reference of the sample's output projection and gated network in plain mathematics, at every row and column.
-/
module

public import proofs.«01_k».proof.Proof.FfnRef
public import proofs.«01_k».proof.Proof.Gen.Reference10Ideal.Read

@[expose] public section

set_option maxRecDepth 16384

noncomputable section

namespace Cert.Tail

open Cert.Reference10Ideal Cert.Reference10Ideal.Gen Cert.Reference10Ideal.Read Idealize.ShloMosaic Idealize.SL.Sem Cert.Moe
open Cert.Ffn (streamAt normed ffnAt joined_sum one_word)

variable (x0 : FVec Ideal S128x1024 .f32) (x1 x2 : FVec Ideal S128x512 .bf16) (x3 : FVec Ideal S1024x1024 .f32) (x4 : FVec Ideal S1024 .f32)
  (x5 x6 : FVec Ideal S1024x2816 .f32) (x7 : FVec Ideal S2816x1024 .f32)

/-- The joined heads: the first half, -/
theorem joined_lo (n : Fin 128) (k : Fin 512) : val_main_v2 (F := Ideal) x1 x2 (ix2 n ⟨k, by omega⟩) = x1 (ix2 n k) := by
  pointwise [val_main_v2, val_main_v0, val_main_v1]

/-- and the second. -/
theorem joined_hi (n : Fin 128) (k : Fin 512) : val_main_v2 (F := Ideal) x1 x2 (ix2 n ⟨512 + k, by omega⟩) = x2 (ix2 n k) := by
  pointwise [val_main_v2, val_main_v0, val_main_v1]

/-- The residual stream. -/
theorem stream_ref (n : Fin 128) (q : Fin 1024) : val_main_v4 (F := Ideal) x0 x1 x2 x3 (ix2 n q)
    = streamAt (x0 (ix2 n q)) (fun k => x1 (ix2 n k)) (fun k => x2 (ix2 n k)) (fun k => x3 (ix2 ⟨k, by omega⟩ q)) (fun k => x3 (ix2 ⟨512 + k, by omega⟩ q)) := by
  rw [val_main_v4_apply, val_main_v3_apply]
  have hj : (∑ k : Fin 1024, (val_main_v2 (F := Ideal) x1 x2) (lidx_main_v3 (ix2 n q) k) * x3 (ridx_main_v3 (ix2 n q) k))
      = ∑ k : Fin 1024, val_main_v2 (F := Ideal) x1 x2 (ix2 n k) * x3 (ix2 k q) :=
    Finset.sum_congr rfl fun k _ => congrArg₂ (· * ·)
      (congrArg (val_main_v2 (F := Ideal) x1 x2) (funext fun a => match a with | ⟨0, _⟩ => rfl | ⟨1, _⟩ => rfl))
      (congrArg x3 (funext fun a => match a with | ⟨0, _⟩ => rfl | ⟨1, _⟩ => rfl))
  rw [hj, joined_sum (fun k => val_main_v2 (F := Ideal) x1 x2 (ix2 n k)) (fun k => x3 (ix2 k q))]
  simp only [joined_lo, joined_hi]
  rfl

/-- The normed rows. -/
theorem normed_ref (n : Fin 128) (d : Fin 1024) : val_main_v17 (F := Ideal) x0 x1 x2 x3 x4 (ix2 n d)
    = normed (fun d => val_main_v4 (F := Ideal) x0 x1 x2 x3 (ix2 n d)) (fun d => x4 (ix1 d)) d := by
  have hz : val_main_cst (F := Ideal) (Shape.Idx.first h_S_) = 0 := by
    rw [val_main_cst_apply]; exact Ideal.ofBits_zero _
  have hsq : val_main_v6 (F := Ideal) x0 x1 x2 x3 (ix1 n)
      = ∑ d : Fin 1024, val_main_v4 (F := Ideal) x0 x1 x2 x3 (ix2 n d) * val_main_v4 (F := Ideal) x0 x1 x2 x3 (ix2 n d) := by
    rw [val_main_v6_apply, hz, zero_add]
    refine Finset.sum_congr rfl fun k _ => ?_
    rw [val_main_v5_apply]
    have e : idx_main_v6 (ix1 n) k = ix2 n k := funext fun a => match a with | ⟨0, _⟩ => rfl | ⟨1, _⟩ => rfl
    rw [e]
    rfl
  have hi : idx_main_v7 (idx_main_v13 (ix2 n d)) = ix1 n := funext fun a => match a with | ⟨0, _⟩ => rfl
  have hg : idx_main_v15 (idx_main_v16 (ix2 n d)) = ix1 d := funext fun a => match a with | ⟨0, _⟩ => rfl
  rw [val_main_v17_apply, val_main_v14_apply, val_main_v13_apply, val_main_v12_apply, val_main_v11_apply, val_main_v9_apply, val_main_v7_apply,
    val_main_v8_apply, val_main_v10_apply, val_main_cst_0_apply, val_main_cst_1_apply, val_main_v16_apply, val_main_v15_apply, hi, hg, hsq]
  rfl

/-- The gate's product. -/
theorem gate_ref (n : Fin 128) (k : Fin 2816) : val_main_v18 (F := Ideal) x0 x1 x2 x3 x4 x5 (ix2 n k)
    = against (fun d => val_main_v17 (F := Ideal) x0 x1 x2 x3 x4 (ix2 n d)) (fun d => x5 (ix2 d k)) := by
  rw [val_main_v18_apply]
  unfold against
  exact Finset.sum_congr rfl fun d _ => congrArg₂ (· * ·)
    (congrArg (val_main_v17 (F := Ideal) x0 x1 x2 x3 x4) (funext fun a => match a with | ⟨0, _⟩ => rfl | ⟨1, _⟩ => rfl))
    (congrArg x5 (funext fun a => match a with | ⟨0, _⟩ => rfl | ⟨1, _⟩ => rfl))

/-- The other product. -/
theorem up_ref (n : Fin 128) (k : Fin 2816) : val_main_v20 (F := Ideal) x0 x1 x2 x3 x4 x6 (ix2 n k)
    = against (fun d => val_main_v17 (F := Ideal) x0 x1 x2 x3 x4 (ix2 n d)) (fun d => x6 (ix2 d k)) := by
  rw [val_main_v20_apply]
  unfold against
  exact Finset.sum_congr rfl fun d _ => congrArg₂ (· * ·)
    (congrArg (val_main_v17 (F := Ideal) x0 x1 x2 x3 x4) (funext fun a => match a with | ⟨0, _⟩ => rfl | ⟨1, _⟩ => rfl))
    (congrArg x6 (funext fun a => match a with | ⟨0, _⟩ => rfl | ⟨1, _⟩ => rfl))

/-- A hidden unit. -/
theorem hidden_ref (n : Fin 128) (k : Fin 2816) : val_main_v21 (F := Ideal) x0 x1 x2 x3 x4 x5 x6 (ix2 n k)
    = gated (fun d => val_main_v17 (F := Ideal) x0 x1 x2 x3 x4 (ix2 n d)) (fun d => x5 (ix2 d k)) (fun d => x6 (ix2 d k)) := by
  rw [val_main_v21_apply, val_main_v19_apply, val_main_call0_v5_apply, val_main_call0_v4_apply, val_main_call0_v3_apply,
    val_main_call0_v2_apply, val_main_call0_v1_apply, val_main_call0_v0_apply, val_main_call0_cst_apply, val_main_call0_cst_0_apply,
    gate_ref, up_ref]
  unfold gated
  generalize against (fun d => val_main_v17 (F := Ideal) x0 x1 x2 x3 x4 (ix2 n d)) (fun d => x5 (ix2 d k)) = h
  show h * Ideal.div (Ideal.ofBits .f32 0x3F800000#32) (Ideal.ofBits .f32 0x3F800000#32 + Ideal.exp (-h)) * _ = _
  rw [one_word]
  rfl

/-- The reference's result at a row and a column. -/
theorem result_ref (n : Fin 128) (q : Fin 1024) : val_main_v23 (F := Ideal) x0 x1 x2 x3 x4 x5 x6 x7 (ix2 n q)
    = ffnAt (fun d => streamAt (x0 (ix2 n d)) (fun k => x1 (ix2 n k)) (fun k => x2 (ix2 n k)) (fun k => x3 (ix2 ⟨k, by omega⟩ d)) (fun k => x3 (ix2 ⟨512 + k, by omega⟩ d)))
      (fun d => x4 (ix1 d)) (fun k d => x5 (ix2 d k)) (fun k d => x6 (ix2 d k)) (fun k => x7 (ix2 k q)) q := by
  have hs : (fun d => val_main_v4 (F := Ideal) x0 x1 x2 x3 (ix2 n d)) = _ := funext fun d => stream_ref x0 x1 x2 x3 n d
  have hn : (fun d => val_main_v17 (F := Ideal) x0 x1 x2 x3 x4 (ix2 n d)) = _ := funext fun d => normed_ref x0 x1 x2 x3 x4 n d
  rw [val_main_v23_apply, val_main_v22_apply, ← hs]
  unfold ffnAt
  refine congrArg (val_main_v4 (F := Ideal) x0 x1 x2 x3 (ix2 n q) + ·) (Finset.sum_congr rfl fun k _ => congrArg₂ (· * ·) ?_ ?_)
  · refine Eq.trans (congrArg (val_main_v21 (F := Ideal) x0 x1 x2 x3 x4 x5 x6) ?_) ((hidden_ref x0 x1 x2 x3 x4 x5 x6 n k).trans ?_)
    · exact funext fun a => match a with | ⟨0, _⟩ => rfl | ⟨1, _⟩ => rfl
    · rw [hn]
  · exact congrArg x7 (funext fun a => match a with | ⟨0, _⟩ => rfl | ⟨1, _⟩ => rfl)

end Cert.Tail

end
-- ==== Proof.Tail.lean ====
/-
  The kernel of the sample's output projection and gated network, and the reference, end with equal outputs.
-/
module

public import proofs.«01_k».proof.Defs
public import proofs.«01_k».proof.Proof.TailFinal
public import proofs.«01_k».proof.Proof.TailRef

@[expose] public section

set_option maxRecDepth 16384

noncomputable section

namespace Cert.Tail

open Idealize.ShloMosaic Idealize.SL.Sem

/-- The reference ends with its arguments as they were, and every counter at zero. -/
theorem reference_frame : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run m ρ)

/-- The reference's result, as an array of the arguments, is the kernel's. -/
theorem reference_eq (x : Cert.Kernel10Ideal.S128x1024.Idx → EReal) (a b : Cert.Kernel10Ideal.S128x512.Idx → EReal)
    (wo : Cert.Kernel10Ideal.S1024x1024.Idx → EReal) (g : Cert.Kernel10Ideal.S1024.Idx → EReal) (wg wu : Cert.Kernel10Ideal.S1024x2816.Idx → EReal)
    (wd : Cert.Kernel10Ideal.S2816x1024.Idx → EReal) :
    Cert.Reference10Ideal.Read.val_main_v23 (F := Ideal) x a b wo g wg wu wd = layer x a b wo g wg wu wd := by
  funext i
  have e : i = ix2 (i 0) (i 1) := funext fun a => match a with | ⟨0, _⟩ => rfl | ⟨1, _⟩ => rfl
  rw [e]
  exact result_ref x a b wo g wg wu wd (i 0) (i 1)

/-- From memories that agree on the arguments, kernel and reference end with the same output. -/
theorem algebraic : Cert.algebraic_Kernel10Ideal_Reference10Ideal (hKernel10Ideal := Cert.Kernel10Ideal.Gen.facts)
    (hReference10Ideal := Cert.Reference10Ideal.Gen.facts) := by
  intro m ρ m' ρ' _ hagree
  refine ⟨fun c => (Cert.Kernel10Ideal.Gen.dats m 0 c).arrAt 4 Cert.Kernel10Ideal.cfg0.N, ?_, ?_⟩
  · exact Cert.Kernel10Ideal.Value.run_blocks m ρ
  · refine (θ_run Cert.Reference10Ideal.defs _ _).mono (fun r h c => ⟨(h c).1.trans ?_, (h c).2⟩)
      (Cert.Reference10Ideal.Value.run m' ρ')
    obtain ⟨h0, h1, h2, h3, h4, h5, h6, h7⟩ := hagree c
    rw [Cert.Reference10Ideal.Read.val_main_v23_eq, h0, h1, h2, h3, h4, h5, h6, h7]
    exact (reference_eq _ _ _ _ _ _ _ _).trans (final m c).symm

end Cert.Tail

end
-- ==== Proof.lean ====
/-
  The certificate: the attention's runs (generated) and its value claim (`Proof/Attention.lean`), the experts' runs
  (`Proof/ExpRuns.lean`) and their value claim (`Proof/Experts.lean`), the output projection and feed-forward network's
  (`Proof/Ffn.lean`), the chunked gating's (`Proof/Gate.lean`), the input projection's (`Proof/Proj.lean`), the
  sample's convolution's (`Proof/Conv.lean`), the sample's gating's (`Proof/Open.lean`), the sample's attention's
  (`Proof/Step.lean`), the sample's input projection's (`Proof/Samp.lean`), and the sample's output projection and
  feed-forward network's (`Proof/Tail.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_laid_out
public import proofs.«01_k».proof.Proof.Gen.On_in_busy_tile
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Pre_finite9
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Attention
public import proofs.«01_k».proof.Proof.ExpRuns
public import proofs.«01_k».proof.Proof.Experts
public import proofs.«01_k».proof.Proof.Ffn
public import proofs.«01_k».proof.Proof.Gate
public import proofs.«01_k».proof.Proof.Proj
public import proofs.«01_k».proof.Proof.Conv
public import proofs.«01_k».proof.Proof.Open
public import proofs.«01_k».proof.Proof.Step
public import proofs.«01_k».proof.Proof.Samp
public import proofs.«01_k».proof.Proof.Tail
public import Idealize.ShloMosaic.Adequacy
public import Idealize.ShloMosaic.Init

@[expose] public section

noncomputable section

namespace Cert.Proof

open Idealize.ShloMosaic Idealize.SL.Sem Cert.Kernel

/-- The certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_laid_out.Gen.facts, Cert.Pre_finite.Gen.facts, Cert.Pre_finite9.Gen.facts,
  Cert.On_in_busy_tile.Gen.facts,
  fun m ρ _ => Cert.Kernel.Gen.frame m ρ, fun m ρ _ => Cert.KernelIdeal.Gen.frame m ρ, Cert.Attn.reference_frame,
  Cert.Moe.kernel2_frame, Cert.Moe.kernel2Ideal_frame, Cert.Moe.reference2_frame, Cert.Moe.reference2_frame_pre,
  fun m ρ _ => Cert.Kernel3.Gen.frame m ρ, fun m ρ _ => Cert.Kernel3Ideal.Gen.frame m ρ, Cert.Ffn.reference_frame,
  fun m ρ _ => Cert.Kernel4.Gen.frame m ρ, fun m ρ _ => Cert.Kernel4Ideal.Gen.frame m ρ, Cert.Gate.reference_frame,
  fun m ρ _ => Cert.Kernel5.Gen.frame m ρ, fun m ρ _ => Cert.Kernel5Ideal.Gen.frame m ρ, fun m ρ _ => Cert.Kernel5Ideal.Gen.frame m ρ,
  Cert.Proj.reference_frame, Cert.Proj.reference_frame_pre,
  fun m ρ _ => Cert.Kernel6.Gen.frame m ρ, fun m ρ _ => Cert.Kernel6Ideal.Gen.frame m ρ, Cert.Conv.reference_frame,
  fun m ρ _ => Cert.Kernel7.Gen.frame m ρ, fun m ρ _ => Cert.Kernel7Ideal.Gen.frame m ρ, Cert.Open.reference_frame,
  fun m ρ _ => Cert.Kernel8.Gen.frame m ρ, fun m ρ _ => Cert.Kernel8Ideal.Gen.frame m ρ, Cert.Step.reference_frame,
  fun m ρ _ => Cert.Kernel9.Gen.frame m ρ, fun m ρ _ => Cert.Kernel9Ideal.Gen.frame m ρ, fun m ρ _ => Cert.Kernel9Ideal.Gen.frame m ρ,
  Cert.Samp.reference_frame, Cert.Samp.reference_frame_pre,
  fun m ρ _ => Cert.Kernel10.Gen.frame m ρ, fun m ρ _ => Cert.Kernel10Ideal.Gen.frame m ρ, Cert.Tail.reference_frame,
  trivial, Cert.Attn.algebraic, trivial, Cert.Moe.algebraic, trivial, Cert.Ffn.algebraic, trivial,
  Cert.Gate.algebraic, trivial, Cert.Proj.algebraic, trivial, Cert.Conv.algebraic,
  trivial, Cert.Open.algebraic, trivial, Cert.Step.algebraic, trivial, Cert.Samp.algebraic, trivial, Cert.Tail.algebraic⟩

end Cert.Proof

end
